-- ==== Defs.lean ====
def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruIdeal_finite_inputs [hPre_finite_inputs : Cert.Pre_finite_inputs.Facts] (m : (ℓ : Loc Cert.LruIdeal.nD Cert.LruIdeal.τ Cert.LruIdeal.sig) → Buf (Elt Ideal) ℓ) : Prop :=
  ∀ c : Dev Cert.LruIdeal.nD,
    (Cert.Pre_finite_inputs.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7))).1 = (fun _ => 1#1)
    ∧ (Cert.Pre_finite_inputs.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7))).2.1 = (fun _ => 1#1)
    ∧ (Cert.Pre_finite_inputs.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7))).2.2.1 = (fun _ => 1#1)
    ∧ (Cert.Pre_finite_inputs.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7))).2.2.2.1 = (fun _ => 1#1)
    ∧ (Cert.Pre_finite_inputs.fn (F := Ideal) (m ((c.tc : Thread Cert.LruIdeal.nD Cert.LruIdeal.τ).loc Cert.LruIdeal.main_arg0)) (m ((c.tc : Thread Cert.LruIdeal.nD Cert.LruIdeal.τ).loc Cert.LruIdeal.main_arg1)) (m ((c.tc : Thread Cert.LruIdeal.nD Cert.LruIdeal.τ).loc Cert.LruIdeal.main_arg2)) (m ((c.tc : Thread Cert.LruIdeal.nD Cert.LruIdeal.τ).loc Cert.LruIdeal.main_arg3)) (m ((c.tc : Thread Cert.LruIdeal.nD Cert.LruIdeal.τ).loc Cert.LruIdeal.main_arg4)) (m ((c.tc : Thread Cert.LruIdeal.nD Cert.LruIdeal.τ).loc Cert.LruIdeal.main_arg5)) (m ((c.tc : Thread Cert.LruIdeal.nD Cert.LruIdeal.τ).loc Cert.LruIdeal.main_arg6)) (m ((c.tc : Thread Cert.LruIdeal.nD Cert.LruIdeal.τ).loc Cert.LruIdeal.main_arg7))).2.2.2.2 = (fun _ => 1#1)

def Pre_LruRefIdeal (m : (ℓ : Loc Cert.LruRefIdeal.nD Cert.LruRefIdeal.τ Cert.LruRefIdeal.sig) → Buf (Elt Ideal) ℓ) : Prop :=
  True

def Pre_LruRefIdeal_finite_inputs [hPre_finite_inputs : Cert.Pre_finite_inputs.Facts] (m : (ℓ : Loc Cert.LruRefIdeal.nD Cert.LruRefIdeal.τ Cert.LruRefIdeal.sig) → Buf (Elt Ideal) ℓ) : Prop :=
  ∀ c : Dev Cert.LruRefIdeal.nD,
    (Cert.Pre_finite_inputs.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7))).1 = (fun _ => 1#1)
    ∧ (Cert.Pre_finite_inputs.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7))).2.1 = (fun _ => 1#1)
    ∧ (Cert.Pre_finite_inputs.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7))).2.2.1 = (fun _ => 1#1)
    ∧ (Cert.Pre_finite_inputs.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7))).2.2.2.1 = (fun _ => 1#1)
    ∧ (Cert.Pre_finite_inputs.fn (F := Ideal) (m ((c.tc : Thread Cert.LruRefIdeal.nD Cert.LruRefIdeal.τ).loc Cert.LruRefIdeal.main_arg0)) (m ((c.tc : Thread Cert.LruRefIdeal.nD Cert.LruRefIdeal.τ).loc Cert.LruRefIdeal.main_arg1)) (m ((c.tc : Thread Cert.LruRefIdeal.nD Cert.LruRefIdeal.τ).loc Cert.LruRefIdeal.main_arg2)) (m ((c.tc : Thread Cert.LruRefIdeal.nD Cert.LruRefIdeal.τ).loc Cert.LruRefIdeal.main_arg3)) (m ((c.tc : Thread Cert.LruRefIdeal.nD Cert.LruRefIdeal.τ).loc Cert.LruRefIdeal.main_arg4)) (m ((c.tc : Thread Cert.LruRefIdeal.nD Cert.LruRefIdeal.τ).loc Cert.LruRefIdeal.main_arg5)) (m ((c.tc : Thread Cert.LruRefIdeal.nD Cert.LruRefIdeal.τ).loc Cert.LruRefIdeal.main_arg6)) (m ((c.tc : Thread Cert.LruRefIdeal.nD Cert.LruRefIdeal.τ).loc Cert.LruRefIdeal.main_arg7))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnIdeal_finite_tokens [hPre_finite_tokens : Cert.Pre_finite_tokens.Facts] (m : (ℓ : Loc Cert.GdnIdeal.nD Cert.GdnIdeal.τ Cert.GdnIdeal.sig) → Buf (Elt Ideal) ℓ) : Prop :=
  ∀ c : Dev Cert.GdnIdeal.nD,
    (Cert.Pre_finite_tokens.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4))).1 = (fun _ => 1#1)
    ∧ (Cert.Pre_finite_tokens.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4))).2.1 = (fun _ => 1#1)
    ∧ (Cert.Pre_finite_tokens.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4))).2.2.1 = (fun _ => 1#1)
    ∧ (Cert.Pre_finite_tokens.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4))).2.2.2.1 = (fun _ => 1#1)
    ∧ (Cert.Pre_finite_tokens.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4))).2.2.2.2 = (fun _ => 1#1)

def Pre_GdnRefIdeal (m : (ℓ : Loc Cert.GdnRefIdeal.nD Cert.GdnRefIdeal.τ Cert.GdnRefIdeal.sig) → Buf (Elt Ideal) ℓ) : Prop :=
  True

def Pre_GdnRefIdeal_finite_tokens [hPre_finite_tokens : Cert.Pre_finite_tokens.Facts] (m : (ℓ : Loc Cert.GdnRefIdeal.nD Cert.GdnRefIdeal.τ Cert.GdnRefIdeal.sig) → Buf (Elt Ideal) ℓ) : Prop :=
  ∀ c : Dev Cert.GdnRefIdeal.nD,
    (Cert.Pre_finite_tokens.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4))).1 = (fun _ => 1#1)
    ∧ (Cert.Pre_finite_tokens.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4))).2.1 = (fun _ => 1#1)
    ∧ (Cert.Pre_finite_tokens.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4))).2.2.1 = (fun _ => 1#1)
    ∧ (Cert.Pre_finite_tokens.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4))).2.2.2.1 = (fun _ => 1#1)
    ∧ (Cert.Pre_finite_tokens.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4))).2.2.2.2 = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ r.2.sem = fun _ => 0)

def quiescent_LruIdeal_pre_finite_inputs [hLruIdeal : Cert.LruIdeal.Facts] [hPre_finite_inputs : Cert.Pre_finite_inputs.Facts] : Prop :=
  ∀ (m : (ℓ : Loc Cert.LruIdeal.nD Cert.LruIdeal.τ Cert.LruIdeal.sig) → Buf (Elt Ideal) ℓ) (g : Dev Cert.LruIdeal.nD → PrngReg), Pre_LruIdeal_finite_inputs m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7))
      ∧ r.2.sem = fun _ => 0)

def quiescent_LruRefIdeal_pre_finite_inputs [hLruRefIdeal : Cert.LruRefIdeal.Facts] [hPre_finite_inputs : Cert.Pre_finite_inputs.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal_finite_inputs m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4))
      ∧ r.2.sem = fun _ => 0)

def quiescent_GdnIdeal_pre_finite_tokens [hGdnIdeal : Cert.GdnIdeal.Facts] [hPre_finite_tokens : Cert.Pre_finite_tokens.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal_finite_tokens m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4))
      ∧ r.2.sem = fun _ => 0)

def quiescent_GdnRefIdeal [hGdnRefIdeal : Cert.GdnRefIdeal.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4))
      ∧ r.2.sem = fun _ => 0)

def quiescent_GdnRefIdeal_pre_finite_tokens [hGdnRefIdeal : Cert.GdnRefIdeal.Facts] [hPre_finite_tokens : Cert.Pre_finite_tokens.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal_finite_tokens m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def preserves_Lru_LruIdeal : Prop :=
  True

def algebraic_LruIdeal_LruRefIdeal_pre_finite_inputs [hLruIdeal : Cert.LruIdeal.Facts] [hLruRefIdeal : Cert.LruRefIdeal.Facts] [hPre_finite_inputs : Cert.Pre_finite_inputs.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal_finite_inputs m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)) →
    ∃ (v0 : (c : Dev Cert.LruIdeal.nD) → Buf (Elt Ideal) ((c.tc : Thread Cert.LruIdeal.nD Cert.LruIdeal.τ).loc Cert.LruIdeal.main_v27)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v27) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v109) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v10_0)) (v1 : (c : Dev Cert.InProjIdeal.nD) → Buf (Elt Ideal) ((c.tc : Thread Cert.InProjIdeal.nD Cert.InProjIdeal.τ).loc Cert.InProjIdeal.main_v10_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10_0) = v0 c
          ∧ r.2.mem ((c.tc : Thread Cert.InProjIdeal.nD Cert.InProjIdeal.τ).loc Cert.InProjIdeal.main_v10_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v8) = v0 c
          ∧ r.2.mem ((c.tc : Thread Cert.InProjRefIdeal.nD Cert.InProjRefIdeal.τ).loc Cert.InProjRefIdeal.main_v10) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Gdn_GdnIdeal : Prop :=
  True

def algebraic_GdnIdeal_GdnRefIdeal_pre_finite_tokens [hGdnIdeal : Cert.GdnIdeal.Facts] [hGdnRefIdeal : Cert.GdnRefIdeal.Facts] [hPre_finite_tokens : Cert.Pre_finite_tokens.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.GdnRefIdeal.nD Cert.GdnRefIdeal.τ Cert.GdnRefIdeal.sig) → Buf (Elt Ideal) ℓ) (g' : Dev Cert.GdnRefIdeal.nD → PrngReg), Pre_GdnIdeal_finite_tokens m →
    (∀ c : Dev Cert.GdnIdeal.nD,
      m' ((c.tc : Thread Cert.GdnRefIdeal.nD Cert.GdnRefIdeal.τ).loc Cert.GdnRefIdeal.main_arg0) = m ((c.tc : Thread Cert.GdnIdeal.nD Cert.GdnIdeal.τ).loc Cert.GdnIdeal.main_arg0)
      ∧ m' ((c.tc : Thread Cert.GdnRefIdeal.nD Cert.GdnRefIdeal.τ).loc Cert.GdnRefIdeal.main_arg1) = m ((c.tc : Thread Cert.GdnIdeal.nD Cert.GdnIdeal.τ).loc Cert.GdnIdeal.main_arg1)
      ∧ m' ((c.tc : Thread Cert.GdnRefIdeal.nD Cert.GdnRefIdeal.τ).loc Cert.GdnRefIdeal.main_arg2) = m ((c.tc : Thread Cert.GdnIdeal.nD Cert.GdnIdeal.τ).loc Cert.GdnIdeal.main_arg2)
      ∧ m' ((c.tc : Thread Cert.GdnRefIdeal.nD Cert.GdnRefIdeal.τ).loc Cert.GdnRefIdeal.main_arg3) = m ((c.tc : Thread Cert.GdnIdeal.nD Cert.GdnIdeal.τ).loc Cert.GdnIdeal.main_arg3)
      ∧ m' ((c.tc : Thread Cert.GdnRefIdeal.nD Cert.GdnRefIdeal.τ).loc Cert.GdnRefIdeal.main_arg4) = m ((c.tc : Thread Cert.GdnIdeal.nD Cert.GdnIdeal.τ).loc Cert.GdnIdeal.main_arg4)) →
    ∃ (v0 : (c : Dev Cert.GdnIdeal.nD) → Buf (Elt Ideal) ((c.tc : Thread Cert.GdnIdeal.nD Cert.GdnIdeal.τ).loc Cert.GdnIdeal.main_v7)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v7) = v0 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
          ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
          ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4))
      ∧ θ_run (Cert.GdnRefIdeal.defs (F := Ideal)) (onTc (τ := Cert.GdnRefIdeal.τ) (Cert.GdnRefIdeal.main (F := Ideal))) ⟨m', fun _ => 0, g'⟩ (fun r => ∀ c : Dev Cert.GdnRefIdeal.nD,
          r.2.mem ((c.tc : Thread Cert.GdnRefIdeal.nD Cert.GdnRefIdeal.τ).loc Cert.GdnRefIdeal.main_v107) = v0 c
          ∧ r.2.mem ((c.tc : Thread Cert.GdnRefIdeal.nD Cert.GdnRefIdeal.τ).loc Cert.GdnRefIdeal.main_arg0) = m' ((c.tc : Thread Cert.GdnRefIdeal.nD Cert.GdnRefIdeal.τ).loc Cert.GdnRefIdeal.main_arg0)
          ∧ r.2.mem ((c.tc : Thread Cert.GdnRefIdeal.nD Cert.GdnRefIdeal.τ).loc Cert.GdnRefIdeal.main_arg1) = m' ((c.tc : Thread Cert.GdnRefIdeal.nD Cert.GdnRefIdeal.τ).loc Cert.GdnRefIdeal.main_arg1)
          ∧ r.2.mem ((c.tc : Thread Cert.GdnRefIdeal.nD Cert.GdnRefIdeal.τ).loc Cert.GdnRefIdeal.main_arg2) = m' ((c.tc : Thread Cert.GdnRefIdeal.nD Cert.GdnRefIdeal.τ).loc Cert.GdnRefIdeal.main_arg2)
          ∧ r.2.mem ((c.tc : Thread Cert.GdnRefIdeal.nD Cert.GdnRefIdeal.τ).loc Cert.GdnRefIdeal.main_arg3) = m' ((c.tc : Thread Cert.GdnRefIdeal.nD Cert.GdnRefIdeal.τ).loc Cert.GdnRefIdeal.main_arg3)
          ∧ r.2.mem ((c.tc : Thread Cert.GdnRefIdeal.nD Cert.GdnRefIdeal.τ).loc Cert.GdnRefIdeal.main_arg4) = m' ((c.tc : Thread Cert.GdnRefIdeal.nD Cert.GdnRefIdeal.τ).loc Cert.GdnRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v5)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v62) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def Claim : Prop :=
  ∃ (hLru : Cert.Lru.Facts) (hLruIdeal : Cert.LruIdeal.Facts) (hLruRefIdeal : Cert.LruRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hGdn : Cert.Gdn.Facts) (hGdnIdeal : Cert.GdnIdeal.Facts) (hGdnRefIdeal : Cert.GdnRefIdeal.Facts) (hOutProj : Cert.OutProj.Facts) (hOutProjIdeal : Cert.OutProjIdeal.Facts) (hOutProjRefIdeal : Cert.OutProjRefIdeal.Facts) (hPre_finite_inputs : Cert.Pre_finite_inputs.Facts) (hPre_finite_tokens : Cert.Pre_finite_tokens.Facts),
    quiescent_Lru (hLru := hLru)
    ∧ quiescent_LruIdeal (hLruIdeal := hLruIdeal)
    ∧ quiescent_LruIdeal_pre_finite_inputs (hLruIdeal := hLruIdeal) (hPre_finite_inputs := hPre_finite_inputs)
    ∧ quiescent_LruRefIdeal (hLruRefIdeal := hLruRefIdeal)
    ∧ quiescent_LruRefIdeal_pre_finite_inputs (hLruRefIdeal := hLruRefIdeal) (hPre_finite_inputs := hPre_finite_inputs)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Gdn (hGdn := hGdn)
    ∧ quiescent_GdnIdeal (hGdnIdeal := hGdnIdeal)
    ∧ quiescent_GdnIdeal_pre_finite_tokens (hGdnIdeal := hGdnIdeal) (hPre_finite_tokens := hPre_finite_tokens)
    ∧ quiescent_GdnRefIdeal (hGdnRefIdeal := hGdnRefIdeal)
    ∧ quiescent_GdnRefIdeal_pre_finite_tokens (hGdnRefIdeal := hGdnRefIdeal) (hPre_finite_tokens := hPre_finite_tokens)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_Lru_LruIdeal
    ∧ algebraic_LruIdeal_LruRefIdeal_pre_finite_inputs (hLruIdeal := hLruIdeal) (hLruRefIdeal := hLruRefIdeal) (hPre_finite_inputs := hPre_finite_inputs)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Gdn_GdnIdeal
    ∧ algebraic_GdnIdeal_GdnRefIdeal_pre_finite_tokens (hGdnIdeal := hGdnIdeal) (hGdnRefIdeal := hGdnRefIdeal) (hPre_finite_tokens := hPre_finite_tokens)
    ∧ preserves_OutProj_OutProjIdeal
    ∧ algebraic_OutProjIdeal_OutProjRefIdeal (hOutProjIdeal := hOutProjIdeal) (hOutProjRefIdeal := hOutProjRefIdeal)
-- ==== Pre_finite_inputs.lean ====
abbrev S16384x5376 : Shape := ⟨2, ![16384, 5376]⟩
abbrev S4x4x512 : Shape := ⟨3, ![4, 4, 512]⟩
abbrev S4x512 : Shape := ⟨2, ![4, 512]⟩
abbrev S4x8x64x64 : Shape := ⟨4, ![4, 8, 64, 64]⟩
abbrev S16384x512 : Shape := ⟨2, ![16384, 512]⟩
abbrev S1x4x512 : Shape := ⟨3, ![1, 4, 512]⟩
abbrev S1x512 : Shape := ⟨2, ![1, 512]⟩
abbrev S512 : Shape := ⟨1, ![512]⟩
abbrev S1x8x64x64 : Shape := ⟨4, ![1, 8, 64, 64]⟩
abbrev S8x64x64 : Shape := ⟨3, ![8, 64, 64]⟩
abbrev S_ : Shape := ⟨0, ![]⟩

class Facts : Prop where
  slices_S16384x5376_S16384x512_0_4096 : S16384x5376.Slices ![0, 4096] S16384x512
  slices_S4x4x512_S1x4x512_0_0_0 : S4x4x512.Slices ![0, 0, 0] S1x4x512
  shapeCasts_S1x4x512_S4x512 : S1x4x512.ShapeCasts S4x512
  slices_S4x512_S1x512_0_0 : S4x512.Slices ![0, 0] S1x512
  shapeCasts_S1x512_S512 : S1x512.ShapeCasts S512
  slices_S4x8x64x64_S1x8x64x64_0_0_0_0 : S4x8x64x64.Slices ![0, 0, 0, 0] S1x8x64x64
  shapeCasts_S1x8x64x64_S8x64x64 : S1x8x64x64.ShapeCasts S8x64x64
  bcast_S_S16384x512 : S_.BroadcastsInDim S16384x512 (![] : Fin 0 → Fin S16384x512.rank)
  bcast_S_S4x512 : S_.BroadcastsInDim S4x512 (![] : Fin 0 → Fin S4x512.rank)
  bcast_S_S512 : S_.BroadcastsInDim S512 (![] : Fin 0 → Fin S512.rank)
  bcast_S_S8x64x64 : S_.BroadcastsInDim S8x64x64 (![] : Fin 0 → Fin S8x64x64.rank)

variable [Facts]

def fn_part1 {F : FTy → Type} [FloatOps F] (main_v8 : FVec F S8x64x64 .f32) (main_v11 : IVec S16384x512 1) (main_v14 : IVec S4x512 1) (main_v17 : IVec S512 1) (main_v18 : FVec F S8x64x64 .f32) (main_v19 : FVec F S8x64x64 .f32) : IVec S16384x512 1 × IVec S4x512 1 × IVec S512 1 × IVec S8x64x64 1 × IVec S8x64x64 1 :=
  let main_v20 : IVec S8x64x64 1 := cmpf .oeq main_v18 main_v19
  let main_v21 : FVec F S8x64x64 .f32 := subf main_v8 main_v8
  let main_cst_3 : FVec F S_ .f32 := constant S_ .f32 0x00000000#32
  let main_v22 : FVec F S8x64x64 .f32 := broadcastInDim S8x64x64 ![] bcast_S_S8x64x64 main_cst_3
  let main_v23 : IVec S8x64x64 1 := cmpf .oeq main_v21 main_v22
  (main_v11, main_v14, main_v17, main_v20, main_v23)

def fn {F : FTy → Type} [FloatOps F] (main_arg0 : FVec F S16384x5376 .f32) (main_arg1 : FVec F S4x4x512 .f32) (main_arg2 : FVec F S4x512 .f32) (main_arg3 : FVec F S4x8x64x64 .f32) (main_arg4 : FVec F S4x512 .f32) (main_arg5 : FVec F S4x8x64x64 .f32) (main_arg6 : FVec F S4x512 .f32) (main_arg7 : FVec F S4x512 .f32) : IVec S16384x512 1 × IVec S4x512 1 × IVec S512 1 × IVec S8x64x64 1 × IVec S8x64x64 1 :=
  let main_v0 : FVec F S16384x512 .f32 := (extractStridedSlice S16384x512 ![0, 4096] · slices_S16384x5376_S16384x512_0_4096) main_arg0
  let main_v1 : FVec F S1x4x512 .f32 := (extractStridedSlice S1x4x512 ![0, 0, 0] · slices_S4x4x512_S1x4x512_0_0_0) main_arg1
  let main_v2 : FVec F S4x512 .f32 := shapeCast S4x512 main_v1 shapeCasts_S1x4x512_S4x512
  let main_v3 : FVec F S1x512 .f32 := (extractStridedSlice S1x512 ![0, 0] · slices_S4x512_S1x512_0_0) main_arg2
  let main_v4 : FVec F S512 .f32 := shapeCast S512 main_v3 shapeCasts_S1x512_S512
  let main_v5 : FVec F S1x8x64x64 .f32 := (extractStridedSlice S1x8x64x64 ![0, 0, 0, 0] · slices_S4x8x64x64_S1x8x64x64_0_0_0_0) main_arg3
  let main_v6 : FVec F S8x64x64 .f32 := shapeCast S8x64x64 main_v5 shapeCasts_S1x8x64x64_S8x64x64
  let main_v7 : FVec F S1x8x64x64 .f32 := (extractStridedSlice S1x8x64x64 ![0, 0, 0, 0] · slices_S4x8x64x64_S1x8x64x64_0_0_0_0) main_arg5
  let main_v8 : FVec F S8x64x64 .f32 := shapeCast S8x64x64 main_v7 shapeCasts_S1x8x64x64_S8x64x64
  let main_v9 : FVec F S16384x512 .f32 := subf main_v0 main_v0
  let main_cst : FVec F S_ .f32 := constant S_ .f32 0x00000000#32
  let main_v10 : FVec F S16384x512 .f32 := broadcastInDim S16384x512 ![] bcast_S_S16384x512 main_cst
  let main_v11 : IVec S16384x512 1 := cmpf .oeq main_v9 main_v10
  let main_v12 : FVec F S4x512 .f32 := subf main_v2 main_v2
  let main_cst_0 : FVec F S_ .f32 := constant S_ .f32 0x00000000#32
  let main_v13 : FVec F S4x512 .f32 := broadcastInDim S4x512 ![] bcast_S_S4x512 main_cst_0
  let main_v14 : IVec S4x512 1 := cmpf .oeq main_v12 main_v13
  let main_v15 : FVec F S512 .f32 := subf main_v4 main_v4
  let main_cst_1 : FVec F S_ .f32 := constant S_ .f32 0x00000000#32
  let main_v16 : FVec F S512 .f32 := broadcastInDim S512 ![] bcast_S_S512 main_cst_1
  let main_v17 : IVec S512 1 := cmpf .oeq main_v15 main_v16
  let main_v18 : FVec F S8x64x64 .f32 := subf main_v6 main_v6
  let main_cst_2 : FVec F S_ .f32 := constant S_ .f32 0x00000000#32
  let main_v19 : FVec F S8x64x64 .f32 := broadcastInDim S8x64x64 ![] bcast_S_S8x64x64 main_cst_2
  fn_part1 (F := F) main_v8 main_v11 main_v14 main_v17 main_v18 main_v19
-- ==== Pre_finite_tokens.lean ====
abbrev S16384x5376 : Shape := ⟨2, ![16384, 5376]⟩
abbrev S4x4x3072 : Shape := ⟨3, ![4, 4, 3072]⟩
abbrev S4x8 : Shape := ⟨2, ![4, 8]⟩
abbrev S4x128 : Shape := ⟨2, ![4, 128]⟩
abbrev S16384x1024 : Shape := ⟨2, ![16384, 1024]⟩
abbrev S16384x8 : Shape := ⟨2, ![16384, 8]⟩
abbrev S1x4x3072 : Shape := ⟨3, ![1, 4, 3072]⟩
abbrev S4x3072 : Shape := ⟨2, ![4, 3072]⟩
abbrev S4x1024 : Shape := ⟨2, ![4, 1024]⟩
abbrev S1x8 : Shape := ⟨2, ![1, 8]⟩
abbrev S8 : Shape := ⟨1, ![8]⟩
abbrev S_ : Shape := ⟨0, ![]⟩

class Facts : Prop where
  slices_S16384x5376_S16384x1024_0_2048 : S16384x5376.Slices ![0, 2048] S16384x1024
  slices_S16384x5376_S16384x8_0_5120 : S16384x5376.Slices ![0, 5120] S16384x8
  slices_S4x4x3072_S1x4x3072_0_0_0 : S4x4x3072.Slices ![0, 0, 0] S1x4x3072
  shapeCasts_S1x4x3072_S4x3072 : S1x4x3072.ShapeCasts S4x3072
  slices_S4x3072_S4x1024_0_2048 : S4x3072.Slices ![0, 2048] S4x1024
  slices_S4x8_S1x8_0_0 : S4x8.Slices ![0, 0] S1x8
  shapeCasts_S1x8_S8 : S1x8.ShapeCasts S8
  bcast_S_S16384x1024 : S_.BroadcastsInDim S16384x1024 (![] : Fin 0 → Fin S16384x1024.rank)
  bcast_S_S16384x8 : S_.BroadcastsInDim S16384x8 (![] : Fin 0 → Fin S16384x8.rank)
  bcast_S_S4x1024 : S_.BroadcastsInDim S4x1024 (![] : Fin 0 → Fin S4x1024.rank)
  bcast_S_S8 : S_.BroadcastsInDim S8 (![] : Fin 0 → Fin S8.rank)

variable [Facts]

def fn_part1 {F : FTy → Type} [FloatOps F] (main_v8 : FVec F S8 .f32) (main_v11 : IVec S16384x1024 1) (main_v14 : IVec S16384x8 1) (main_v17 : IVec S4x1024 1) (main_v18 : FVec F S8 .f32) (main_v19 : FVec F S8 .f32) : IVec S16384x1024 1 × IVec S16384x8 1 × IVec S4x1024 1 × IVec S8 1 × IVec S8 1 :=
  let main_v20 : IVec S8 1 := cmpf .oeq main_v18 main_v19
  let main_v21 : FVec F S8 .f32 := subf main_v8 main_v8
  let main_cst_3 : FVec F S_ .f32 := constant S_ .f32 0x00000000#32
  let main_v22 : FVec F S8 .f32 := broadcastInDim S8 ![] bcast_S_S8 main_cst_3
  let main_v23 : IVec S8 1 := cmpf .oeq main_v21 main_v22
  (main_v11, main_v14, main_v17, main_v20, main_v23)

def fn {F : FTy → Type} [FloatOps F] (main_arg0 : FVec F S16384x5376 .f32) (main_arg1 : FVec F S4x4x3072 .f32) (main_arg2 : FVec F S4x8 .f32) (main_arg3 : FVec F S4x8 .f32) (main_arg4 : FVec F S4x128 .f32) : IVec S16384x1024 1 × IVec S16384x8 1 × IVec S4x1024 1 × IVec S8 1 × IVec S8 1 :=
  let main_v0 : FVec F S16384x1024 .f32 := (extractStridedSlice S16384x1024 ![0, 2048] · slices_S16384x5376_S16384x1024_0_2048) main_arg0
  let main_v1 : FVec F S16384x8 .f32 := (extractStridedSlice S16384x8 ![0, 5120] · slices_S16384x5376_S16384x8_0_5120) main_arg0
  let main_v2 : FVec F S1x4x3072 .f32 := (extractStridedSlice S1x4x3072 ![0, 0, 0] · slices_S4x4x3072_S1x4x3072_0_0_0) main_arg1
  let main_v3 : FVec F S4x3072 .f32 := shapeCast S4x3072 main_v2 shapeCasts_S1x4x3072_S4x3072
  let main_v4 : FVec F S4x1024 .f32 := (extractStridedSlice S4x1024 ![0, 2048] · slices_S4x3072_S4x1024_0_2048) main_v3
  let main_v5 : FVec F S1x8 .f32 := (extractStridedSlice S1x8 ![0, 0] · slices_S4x8_S1x8_0_0) main_arg2
  let main_v6 : FVec F S8 .f32 := shapeCast S8 main_v5 shapeCasts_S1x8_S8
  let main_v7 : FVec F S1x8 .f32 := (extractStridedSlice S1x8 ![0, 0] · slices_S4x8_S1x8_0_0) main_arg3
  let main_v8 : FVec F S8 .f32 := shapeCast S8 main_v7 shapeCasts_S1x8_S8
  let main_v9 : FVec F S16384x1024 .f32 := subf main_v0 main_v0
  let main_cst : FVec F S_ .f32 := constant S_ .f32 0x00000000#32
  let main_v10 : FVec F S16384x1024 .f32 := broadcastInDim S16384x1024 ![] bcast_S_S16384x1024 main_cst
  let main_v11 : IVec S16384x1024 1 := cmpf .oeq main_v9 main_v10
  let main_v12 : FVec F S16384x8 .f32 := subf main_v1 main_v1
  let main_cst_0 : FVec F S_ .f32 := constant S_ .f32 0x00000000#32
  let main_v13 : FVec F S16384x8 .f32 := broadcastInDim S16384x8 ![] bcast_S_S16384x8 main_cst_0
  let main_v14 : IVec S16384x8 1 := cmpf .oeq main_v12 main_v13
  let main_v15 : FVec F S4x1024 .f32 := subf main_v4 main_v4
  let main_cst_1 : FVec F S_ .f32 := constant S_ .f32 0x00000000#32
  let main_v16 : FVec F S4x1024 .f32 := broadcastInDim S4x1024 ![] bcast_S_S4x1024 main_cst_1
  let main_v17 : IVec S4x1024 1 := cmpf .oeq main_v15 main_v16
  let main_v18 : FVec F S8 .f32 := subf main_v6 main_v6
  let main_cst_2 : FVec F S_ .f32 := constant S_ .f32 0x00000000#32
  let main_v19 : FVec F S8 .f32 := broadcastInDim S8 ![] bcast_S_S8 main_cst_2
  fn_part1 (F := F) main_v8 main_v11 main_v14 main_v17 main_v18 main_v19
-- ==== Lru.lean ====
abbrev S16384x5376 : Shape := ⟨2, ![16384, 5376]⟩
abbrev S4x4x512 : Shape := ⟨3, ![4, 4, 512]⟩
abbrev S4x512 : Shape := ⟨2, ![4, 512]⟩
abbrev S4x8x64x64 : Shape := ⟨4, ![4, 8, 64, 64]⟩
abbrev S8x8 : Shape := ⟨2, ![8, 8]⟩
abbrev S_ : Shape := ⟨0, ![]⟩
abbrev S4x8x64x1x64 : Shape := ⟨5, ![4, 8, 64, 1, 64]⟩
abbrev S1x8x1x8x1 : Shape := ⟨5, ![1, 8, 1, 8, 1]⟩
abbrev S4x8x64x8x64 : Shape := ⟨5, ![4, 8, 64, 8, 64]⟩
abbrev S4x512x512 : Shape := ⟨3, ![4, 512, 512]⟩
abbrev S4x512x1024 : Shape := ⟨3, ![4, 512, 1024]⟩
abbrev S4x1024 : Shape := ⟨2, ![4, 1024]⟩
abbrev S4x1x1024 : Shape := ⟨3, ![4, 1, 1024]⟩
abbrev S4x1x512 : Shape := ⟨3, ![4, 1, 512]⟩
abbrev S16384x512 : Shape := ⟨2, ![16384, 512]⟩
abbrev S512x512 : Shape := ⟨2, ![512, 512]⟩
abbrev S1x4x512 : Shape := ⟨3, ![1, 4, 512]⟩
abbrev S1x1x512 : Shape := ⟨3, ![1, 1, 512]⟩
abbrev S1x512x1024 : Shape := ⟨3, ![1, 512, 1024]⟩
abbrev S1x1x1024 : Shape := ⟨3, ![1, 1, 1024]⟩
abbrev S8x512 : Shape := ⟨2, ![8, 512]⟩
abbrev S520x512 : Shape := ⟨2, ![520, 512]⟩
abbrev S1x512 : Shape := ⟨2, ![1, 512]⟩
abbrev S512x1024 : Shape := ⟨2, ![512, 1024]⟩
abbrev S1x1024 : Shape := ⟨2, ![1, 1024]⟩

abbrev nBuf : Space → Nat
  | .hbm => 37
  | .vmem => 14
  | .smem => 0
  | _ => 0

abbrev bufTy : (tb : Table) → Fin (tcTables nBuf tb) → BufTy
  | .hbm, ⟨0, _⟩ => ⟨S16384x5376, .f32⟩
  | .hbm, ⟨1, _⟩ => ⟨S4x4x512, .f32⟩
  | .hbm, ⟨2, _⟩ => ⟨S4x512, .f32⟩
  | .hbm, ⟨3, _⟩ => ⟨S4x8x64x64, .f32⟩
  | .hbm, ⟨4, _⟩ => ⟨S4x512, .f32⟩
  | .hbm, ⟨5, _⟩ => ⟨S4x8x64x64, .f32⟩
  | .hbm, ⟨6, _⟩ => ⟨S4x512, .f32⟩
  | .hbm, ⟨7, _⟩ => ⟨S4x512, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S4x8x64x1x64, .f32⟩
  | .hbm, ⟨16, _⟩ => ⟨S1x8x1x8x1, .f32⟩
  | .hbm, ⟨17, _⟩ => ⟨S4x8x64x8x64, .f32⟩
  | .hbm, ⟨18, _⟩ => ⟨S4x8x64x8x64, .f32⟩
  | .hbm, ⟨19, _⟩ => ⟨S4x8x64x8x64, .f32⟩
  | .hbm, ⟨20, _⟩ => ⟨S4x512x512, .f32⟩
  | .hbm, ⟨21, _⟩ => ⟨S4x8x64x1x64, .f32⟩
  | .hbm, ⟨22, _⟩ => ⟨S1x8x1x8x1, .f32⟩
  | .hbm, ⟨23, _⟩ => ⟨S4x8x64x8x64, .f32⟩
  | .hbm, ⟨24, _⟩ => ⟨S4x8x64x8x64, .f32⟩
  | .hbm, ⟨25, _⟩ => ⟨S4x8x64x8x64, .f32⟩
  | .hbm, ⟨26, _⟩ => ⟨S4x512x512, .f32⟩
  | .hbm, ⟨27, _⟩ => ⟨S4x512x1024, .f32⟩
  | .hbm, ⟨28, _⟩ => ⟨S4x512x1024, .bf16⟩
  | .hbm, ⟨29, _⟩ => ⟨S4x512x1024, .f32⟩
  | .hbm, ⟨30, _⟩ => ⟨S4x512x1024, .f32⟩
  | .hbm, ⟨31, _⟩ => ⟨S4x512x1024, .bf16⟩
  | .hbm, ⟨32, _⟩ => ⟨S4x1024, .f32⟩
  | .hbm, ⟨33, _⟩ => ⟨S4x1x1024, .f32⟩
  | .hbm, ⟨34, _⟩ => ⟨S4x1x512, .f32⟩
  | .hbm, ⟨35, _⟩ => ⟨S4x1x512, .f32⟩
  | .hbm, ⟨36, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x4x512, .f32⟩
  | .local _ .vmem, ⟨5, _⟩ => ⟨S1x1x512, .f32⟩
  | .local _ .vmem, ⟨6, _⟩ => ⟨S1x512x1024, .bf16⟩
  | .local _ .vmem, ⟨7, _⟩ => ⟨S1x512x1024, .bf16⟩
  | .local _ .vmem, ⟨8, _⟩ => ⟨S1x1x1024, .f32⟩
  | .local _ .vmem, ⟨9, _⟩ => ⟨S1x1x512, .f32⟩
  | .local _ .vmem, ⟨10, _⟩ => ⟨S512x512, .f32⟩
  | .local _ .vmem, ⟨11, _⟩ => ⟨S512x512, .f32⟩
  | .local _ .vmem, ⟨12, _⟩ => ⟨S8x512, .f32⟩
  | .local _ .vmem, ⟨13, _⟩ => ⟨S8x512, .f32⟩
  | _, _ => ⟨S16384x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c9_i32 : BitVec 32 := 9#32
  let c0_i32 : BitVec 32 := 0#32
  ![v1.toNat, c9_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== LruRefIdeal.lean ====
abbrev S16384x5376 : Shape := ⟨2, ![16384, 5376]⟩
abbrev S4x4x512 : Shape := ⟨3, ![4, 4, 512]⟩
abbrev S4x512 : Shape := ⟨2, ![4, 512]⟩
abbrev S4x8x64x64 : Shape := ⟨4, ![4, 8, 64, 64]⟩
abbrev S16384x512 : Shape := ⟨2, ![16384, 512]⟩
abbrev S2x8192x512 : Shape := ⟨3, ![2, 8192, 512]⟩
abbrev S1x4x512 : Shape := ⟨3, ![1, 4, 512]⟩
abbrev S_ : Shape := ⟨0, ![]⟩
abbrev S2x8195x512 : Shape := ⟨3, ![2, 8195, 512]⟩
abbrev S1x512 : Shape := ⟨2, ![1, 512]⟩
abbrev S512 : Shape := ⟨1, ![512]⟩
abbrev S1x1x512 : Shape := ⟨3, ![1, 1, 512]⟩
abbrev S2x8192x8x64 : Shape := ⟨4, ![2, 8192, 8, 64]⟩
abbrev S1x8x64x64 : Shape := ⟨4, ![1, 8, 64, 64]⟩
abbrev S8x64x64 : Shape := ⟨3, ![8, 64, 64]⟩
abbrev S8x64x2x8192 : Shape := ⟨4, ![8, 64, 2, 8192]⟩
abbrev S2x512 : Shape := ⟨2, ![2, 512]⟩
abbrev S8192x2x512 : Shape := ⟨3, ![8192, 2, 512]⟩
abbrev S1x2x512 : Shape := ⟨3, ![1, 2, 512]⟩

abbrev nBuf : Space → Nat
  | .hbm => 168
  | .vmem => 0
  | .smem => 0
  | _ => 0

abbrev hbmTy0_0 (i : Nat) : BufTy := match i % 128 with
  | 0 => ⟨S16384x5376, .f32⟩
  | 1 => ⟨S4x4x512, .f32⟩
  | 2 => ⟨S4x512, .f32⟩
  | 3 => ⟨S4x8x64x64, .f32⟩
  | 4 => ⟨S4x512, .f32⟩
  | 5 => ⟨S4x8x64x64, .f32⟩
  | 6 => ⟨S4x512, .f32⟩
  | 7 => ⟨S4x512, .f32⟩
  | 8 => ⟨S16384x512, .f32⟩
  | 9 => ⟨S2x8192x512, .f32⟩
  | 10 => ⟨S1x4x512, .f32⟩
  | 11 => ⟨S4x512, .f32⟩
  | 12 => ⟨S_, .i32⟩
  | 13 => ⟨S_, .f32⟩
  | 14 => ⟨S2x8195x512, .f32⟩
  | 15 => ⟨S2x8192x512, .f32⟩
  | 16 => ⟨S1x512, .f32⟩
  | 17 => ⟨S512, .f32⟩
  | 18 => ⟨S1x1x512, .f32⟩
  | 19 => ⟨S2x8192x512, .f32⟩
  | 20 => ⟨S2x8192x512, .f32⟩
  | 21 => ⟨S2x8192x512, .f32⟩
  | 22 => ⟨S1x512, .f32⟩
  | 23 => ⟨S512, .f32⟩
  | 24 => ⟨S1x1x512, .f32⟩
  | 25 => ⟨S2x8192x512, .f32⟩
  | 26 => ⟨S2x8192x512, .f32⟩
  | 27 => ⟨S2x8192x512, .f32⟩
  | 28 => ⟨S2x8192x512, .f32⟩
  | 29 => ⟨S1x512, .f32⟩
  | 30 => ⟨S512, .f32⟩
  | 31 => ⟨S1x1x512, .f32⟩
  | 32 => ⟨S2x8192x512, .f32⟩
  | 33 => ⟨S2x8192x512, .f32⟩
  | 34 => ⟨S2x8192x512, .f32⟩
  | 35 => ⟨S2x8192x512, .f32⟩
  | 36 => ⟨S1x512, .f32⟩
  | 37 => ⟨S512, .f32⟩
  | 38 => ⟨S1x1x512, .f32⟩
  | 39 => ⟨S2x8192x512, .f32⟩
  | 40 => ⟨S2x8192x512, .f32⟩
  | 41 => ⟨S2x8192x512, .f32⟩
  | 42 => ⟨S1x512, .f32⟩
  | 43 => ⟨S512, .f32⟩
  | 44 => ⟨S1x1x512, .f32⟩
  | 45 => ⟨S2x8192x512, .f32⟩
  | 46 => ⟨S2x8192x512, .f32⟩
  | 47 => ⟨S2x8192x8x64, .f32⟩
  | 48 => ⟨S1x8x64x64, .f32⟩
  | 49 => ⟨S8x64x64, .f32⟩
  | 50 => ⟨S8x64x2x8192, .f32⟩
  | 51 => ⟨S2x8192x8x64, .f32⟩
  | 52 => ⟨S2x8192x512, .f32⟩
  | 53 => ⟨S1x512, .f32⟩
  | 54 => ⟨S512, .f32⟩
  | 55 => ⟨S1x1x512, .f32⟩
  | 56 => ⟨S2x8192x512, .f32⟩
  | 57 => ⟨S2x8192x512, .f32⟩
  | 58 => ⟨S2x8192x512, .f32⟩
  | 59 => ⟨S2x8192x512, .f32⟩
  | 60 => ⟨S_, .f32⟩
  | 61 => ⟨S2x8192x512, .f32⟩
  | 62 => ⟨S2x8192x512, .f32⟩
  | 63 => ⟨S_, .f32⟩
  | 64 => ⟨S2x8192x512, .f32⟩
  | 65 => ⟨S2x8192x512, .f32⟩
  | 66 => ⟨S1x8x64x64, .f32⟩
  | 67 => ⟨S8x64x64, .f32⟩
  | 68 => ⟨S8x64x2x8192, .f32⟩
  | 69 => ⟨S2x8192x8x64, .f32⟩
  | 70 => ⟨S2x8192x512, .f32⟩
  | 71 => ⟨S1x512, .f32⟩
  | 72 => ⟨S512, .f32⟩
  | 73 => ⟨S1x1x512, .f32⟩
  | 74 => ⟨S2x8192x512, .f32⟩
  | 75 => ⟨S2x8192x512, .f32⟩
  | 76 => ⟨S2x8192x512, .f32⟩
  | 77 => ⟨S2x8192x512, .f32⟩
  | 78 => ⟨S_, .f32⟩
  | 79 => ⟨S2x8192x512, .f32⟩
  | 80 => ⟨S2x8192x512, .f32⟩
  | 81 => ⟨S_, .f32⟩
  | 82 => ⟨S2x8192x512, .f32⟩
  | 83 => ⟨S2x8192x512, .f32⟩
  | 84 => ⟨S_, .f32⟩
  | 85 => ⟨S2x8192x512, .f32⟩
  | 86 => ⟨S2x8192x512, .f32⟩
  | 87 => ⟨S1x512, .f32⟩
  | 88 => ⟨S512, .f32⟩
  | 89 => ⟨S512, .f32⟩
  | 90 => ⟨S_, .f32⟩
  | 91 => ⟨S512, .f32⟩
  | 92 => ⟨S512, .f32⟩
  | 93 => ⟨S512, .f32⟩
  | 94 => ⟨S512, .f32⟩
  | 95 => ⟨S512, .i1⟩
  | 96 => ⟨S512, .f32⟩
  | 97 => ⟨S512, .f32⟩
  | 98 => ⟨S512, .f32⟩
  | 99 => ⟨S512, .f32⟩
  | 100 => ⟨S512, .f32⟩
  | 101 => ⟨S512, .f32⟩
  | 102 => ⟨S512, .f32⟩
  | 103 => ⟨S512, .f32⟩
  | 104 => ⟨S1x1x512, .f32⟩
  | 105 => ⟨S2x8192x512, .f32⟩
  | 106 => ⟨S2x8192x512, .f32⟩
  | 107 => ⟨S2x8192x512, .f32⟩
  | 108 => ⟨S_, .f32⟩
  | 109 => ⟨S2x8192x512, .f32⟩
  | 110 => ⟨S2x8192x512, .f32⟩
  | 111 => ⟨S2x8192x512, .f32⟩
  | 112 => ⟨S2x8192x512, .f32⟩
  | 113 => ⟨S2x8192x512, .f32⟩
  | 114 => ⟨S2x8192x512, .f32⟩
  | 115 => ⟨S2x8192x512, .f32⟩
  | 116 => ⟨S_, .f32⟩
  | 117 => ⟨S2x512, .f32⟩
  | 118 => ⟨S8192x2x512, .f32⟩
  | 119 => ⟨S8192x2x512, .f32⟩
  | 120 => ⟨S_, .f32⟩
  | 121 => ⟨S8192x2x512, .f32⟩
  | 122 => ⟨S_, .i32⟩
  | 123 => ⟨S8192x2x512, .f32⟩
  | 124 => ⟨S8192x2x512, .f32⟩
  | 125 => ⟨S_, .i32⟩
  | 126 => ⟨S2x512, .f32⟩
  | 127 => ⟨S8192x2x512, .f32⟩
  | _ => ⟨S16384x5376, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S1x2x512, .f32⟩
  | 5 => ⟨S2x512, .f32⟩
  | 6 => ⟨S_, .i32⟩
  | 7 => ⟨S_, .i32⟩
  | 8 => ⟨S1x2x512, .f32⟩
  | 9 => ⟨S2x512, .f32⟩
  | 10 => ⟨S2x512, .f32⟩
  | 11 => ⟨S2x512, .f32⟩
  | 12 => ⟨S1x2x512, .f32⟩
  | 13 => ⟨S_, .i32⟩
  | 14 => ⟨S_, .i32⟩
  | 15 => ⟨S8192x2x512, .f32⟩
  | 16 => ⟨S_, .i32⟩
  | 17 => ⟨S_, .i32⟩
  | 18 => ⟨S16384x512, .f32⟩
  | 19 => ⟨S2x8192x512, .f32⟩
  | 20 => ⟨S2x8192x512, .f32⟩
  | 21 => ⟨S2x8192x512, .f32⟩
  | 22 => ⟨S2x8192x512, .f32⟩
  | 23 => ⟨S_, .f32⟩
  | 24 => ⟨S2x8192x512, .f32⟩
  | 25 => ⟨S2x8192x512, .f32⟩
  | 26 => ⟨S2x8192x512, .f32⟩
  | 27 => ⟨S_, .f32⟩
  | 28 => ⟨S2x8192x512, .f32⟩
  | 29 => ⟨S2x8192x512, .f32⟩
  | 30 => ⟨S2x8192x512, .f32⟩
  | 31 => ⟨S_, .f32⟩
  | 32 => ⟨S2x8192x512, .f32⟩
  | 33 => ⟨S2x8192x512, .f32⟩
  | 34 => ⟨S_, .f32⟩
  | 35 => ⟨S2x8192x512, .f32⟩
  | 36 => ⟨S2x8192x512, .f32⟩
  | 37 => ⟨S2x8192x512, .f32⟩
  | 38 => ⟨S2x8192x512, .f32⟩
  | 39 => ⟨S16384x512, .f32⟩
  | _ => ⟨S16384x5376, .f32⟩

abbrev hbmTy (i : Nat) : BufTy := match i / 128 with
  | 0 => hbmTy0_0 i
  | 1 => hbmTy0_1 i
  | _ => ⟨S16384x5376, .f32⟩

abbrev bufTy : (tb : Table) → Fin (tcTables nBuf tb) → BufTy
  | .hbm, ⟨i, _⟩ => hbmTy i
  | _, _ => ⟨S16384x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst : Ref sig .tc := ⟨.hbm, 60, rfl⟩
abbrev main_v50 : Ref sig .tc := ⟨.hbm, 61, rfl⟩
abbrev main_v51 : Ref sig .tc := ⟨.hbm, 62, rfl⟩
abbrev main_cst_0 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_1 : Ref sig .tc := ⟨.hbm, 78, rfl⟩
abbrev main_v66 : Ref sig .tc := ⟨.hbm, 79, rfl⟩
abbrev main_v67 : Ref sig .tc := ⟨.hbm, 80, rfl⟩
abbrev main_cst_2 : Ref sig .tc := ⟨.hbm, 81, rfl⟩
abbrev main_v68 : Ref sig .tc := ⟨.hbm, 82, rfl⟩
abbrev main_v69 : Ref sig .tc := ⟨.hbm, 83, rfl⟩
abbrev main_cst_3 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_4 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_5 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_6 : Ref sig .tc := ⟨.hbm, 120, rfl⟩
abbrev main_v90 : Ref sig .tc := ⟨.hbm, 121, rfl⟩
abbrev main_c_7 : Ref sig .tc := ⟨.hbm, 122, rfl⟩
abbrev main_v91_0 : Ref sig .tc := ⟨.hbm, 123, rfl⟩
abbrev main_v91_1 : Ref sig .tc := ⟨.hbm, 124, rfl⟩
abbrev main_v91_2 : Ref sig .tc := ⟨.hbm, 125, rfl⟩
abbrev main_v91_3 : Ref sig .tc := ⟨.hbm, 126, rfl⟩
abbrev main_v91_4 : Ref sig .tc := ⟨.hbm, 127, rfl⟩
abbrev main_while0c_c_16 : Ref sig .tc := ⟨.hbm, 128, rfl⟩
abbrev main_while0c_v110 : Ref sig .tc := ⟨.hbm, 129, rfl⟩
abbrev main_while0b_call2_c : Ref sig .tc := ⟨.hbm, 130, rfl⟩
abbrev main_while0b_call2_c_0 : Ref sig .tc := ⟨.hbm, 131, rfl⟩
abbrev main_while0b_call2_v0 : Ref sig .tc := ⟨.hbm, 132, rfl⟩
abbrev main_while0b_v110 : Ref sig .tc := ⟨.hbm, 133, rfl⟩
abbrev main_while0b_call3_c : Ref sig .tc := ⟨.hbm, 134, rfl⟩
abbrev main_while0b_call3_c_0 : Ref sig .tc := ⟨.hbm, 135, rfl⟩
abbrev main_while0b_call3_v0 : Ref sig .tc := ⟨.hbm, 136, rfl⟩
abbrev main_while0b_v111 : Ref sig .tc := ⟨.hbm, 137, rfl⟩
abbrev main_while0b_v112 : Ref sig .tc := ⟨.hbm, 138, rfl⟩
abbrev main_while0b_v113 : Ref sig .tc := ⟨.hbm, 139, rfl⟩
abbrev main_while0b_call4_v0 : Ref sig .tc := ⟨.hbm, 140, rfl⟩
abbrev main_while0b_call4_c : Ref sig .tc := ⟨.hbm, 141, rfl⟩
abbrev main_while0b_call4_c_0 : Ref sig .tc := ⟨.hbm, 142, rfl⟩
abbrev main_while0b_v114 : Ref sig .tc := ⟨.hbm, 143, rfl⟩
abbrev main_while0b_c_16 : Ref sig .tc := ⟨.hbm, 144, rfl⟩
abbrev main_while0b_v115 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_8 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_9 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_10 : Ref sig .tc := ⟨.hbm, 159, rfl⟩
abbrev main_v103 : Ref sig .tc := ⟨.hbm, 160, rfl⟩
abbrev main_v104 : Ref sig .tc := ⟨.hbm, 161, rfl⟩
abbrev main_cst_11 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩

abbrev nD : Nat := 1
abbrev τ : Topo := Topo.v7x

variable {F : FTy → Type} [FloatOps F]

abbrev main_while0_count : Scf.Loop 32 := ⟨0#32, 8192#32, 1#32⟩
-- ==== Ffn.lean ====
abbrev S16384x2048 : Shape := ⟨2, ![16384, 2048]⟩
abbrev S4x2048x5632 : Shape := ⟨3, ![4, 2048, 5632]⟩
abbrev S4x5632x2048 : Shape := ⟨3, ![4, 5632, 2048]⟩
abbrev S4x2048 : Shape := ⟨2, ![4, 2048]⟩
abbrev S4x1x2048 : Shape := ⟨3, ![4, 1, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S1x1x2048 : Shape := ⟨3, ![1, 1, 2048]⟩
abbrev S2048x256 : Shape := ⟨2, ![2048, 256]⟩
abbrev S1024x256 : Shape := ⟨2, ![1024, 256]⟩
abbrev S256x2048 : Shape := ⟨2, ![256, 2048]⟩
abbrev S1x2048 : Shape := ⟨2, ![1, 2048]⟩
abbrev S1024 : Shape := ⟨1, ![1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S4x2048x5632, .f32⟩
  | .hbm, ⟨2, _⟩ => ⟨S4x2048x5632, .f32⟩
  | .hbm, ⟨3, _⟩ => ⟨S4x5632x2048, .f32⟩
  | .hbm, ⟨4, _⟩ => ⟨S4x2048, .f32⟩
  | .hbm, ⟨5, _⟩ => ⟨S4x2048, .f32⟩
  | .hbm, ⟨6, _⟩ => ⟨S4x2048x5632, .bf16⟩
  | .hbm, ⟨7, _⟩ => ⟨S4x2048x5632, .bf16⟩
  | .hbm, ⟨8, _⟩ => ⟨S4x5632x2048, .bf16⟩
  | .hbm, ⟨9, _⟩ => ⟨S4x1x2048, .f32⟩
  | .hbm, ⟨10, _⟩ => ⟨S4x1x2048, .f32⟩
  | .hbm, ⟨11, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S4x2048x5632 : Shape := ⟨3, ![4, 2048, 5632]⟩
abbrev S4x5632x2048 : Shape := ⟨3, ![4, 5632, 2048]⟩
abbrev S4x2048 : Shape := ⟨2, ![4, 2048]⟩
abbrev S1x2048x5632 : Shape := ⟨3, ![1, 2048, 5632]⟩
abbrev S2048x5632 : Shape := ⟨2, ![2048, 5632]⟩
abbrev S16384x5632 : Shape := ⟨2, ![16384, 5632]⟩
abbrev S_ : Shape := ⟨0, ![]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S16384 : Shape := ⟨1, ![16384]⟩
abbrev S16384x1 : Shape := ⟨2, ![16384, 1]⟩

abbrev nBuf : Space → Nat
  | .hbm => 63
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x2048x5632, .f32⟩
  | .hbm, ⟨2, _⟩ => ⟨S4x2048x5632, .f32⟩
  | .hbm, ⟨3, _⟩ => ⟨S4x5632x2048, .f32⟩
  | .hbm, ⟨4, _⟩ => ⟨S4x2048, .f32⟩
  | .hbm, ⟨5, _⟩ => ⟨S4x2048, .f32⟩
  | .hbm, ⟨6, _⟩ => ⟨S1x2048x5632, .f32⟩
  | .hbm, ⟨7, _⟩ => ⟨S2048x5632, .f32⟩
  | .hbm, ⟨8, _⟩ => ⟨S16384x5632, .f32⟩
  | .hbm, ⟨9, _⟩ => ⟨S16384x5632, .f32⟩
  | .hbm, ⟨10, _⟩ => ⟨S16384x5632, .f32⟩
  | .hbm, ⟨11, _⟩ => ⟨S_, .f32⟩
  | .hbm, ⟨12, _⟩ => ⟨S16384x5632, .f32⟩
  | .hbm, ⟨13, _⟩ => ⟨S16384x5632, .f32⟩
  | .hbm, ⟨14, _⟩ => ⟨S_, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S1x2048x5632, .f32⟩
  | .hbm, ⟨19, _⟩ => ⟨S2048x5632, .f32⟩
  | .hbm, ⟨20, _⟩ => ⟨S16384x5632, .f32⟩
  | .hbm, ⟨21, _⟩ => ⟨S16384x5632, .f32⟩
  | .hbm, ⟨22, _⟩ => ⟨S1x5632x2048, .f32⟩
  | .hbm, ⟨23, _⟩ => ⟨S5632x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S2048, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | .hbm, ⟨60, _⟩ => ⟨S1x2048, .f32⟩
  | .hbm, ⟨61, _⟩ => ⟨S16384x2048, .f32⟩
  | .hbm, ⟨62, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== InProj.lean ====
abbrev S16384x2048 : Shape := ⟨2, ![16384, 2048]⟩
abbrev S4x2048x5648 : Shape := ⟨3, ![4, 2048, 5648]⟩
abbrev S4x2048x4096 : Shape := ⟨3, ![4, 2048, 4096]⟩
abbrev S4x2048x1024 : Shape := ⟨3, ![4, 2048, 1024]⟩
abbrev S4x2048x5120 : Shape := ⟨3, ![4, 2048, 5120]⟩
abbrev S4x2048x8 : Shape := ⟨3, ![4, 2048, 8]⟩
abbrev S_ : Shape := ⟨0, ![]⟩
abbrev S4x2048x112 : Shape := ⟨3, ![4, 2048, 112]⟩
abbrev S4x2048x384 : Shape := ⟨3, ![4, 2048, 384]⟩
abbrev S4x2048x512 : Shape := ⟨3, ![4, 2048, 512]⟩
abbrev S4x2048x6144 : Shape := ⟨3, ![4, 2048, 6144]⟩
abbrev S16384x5376 : Shape := ⟨2, ![16384, 5376]⟩
abbrev S4x16384x128 : Shape := ⟨3, ![4, 16384, 128]⟩
abbrev S1024x2048 : Shape := ⟨2, ![1024, 2048]⟩
abbrev S1x2048x768 : Shape := ⟨3, ![1, 2048, 768]⟩
abbrev S1x2048x512 : Shape := ⟨3, ![1, 2048, 512]⟩
abbrev S1024x768 : Shape := ⟨2, ![1024, 768]⟩
abbrev S4x1024x128 : Shape := ⟨3, ![4, 1024, 128]⟩
abbrev S2048x512 : Shape := ⟨2, ![2048, 512]⟩
abbrev S1024x512 : Shape := ⟨2, ![1024, 512]⟩
abbrev S1024x128 : Shape := ⟨2, ![1024, 128]⟩
abbrev S1x1024x128 : Shape := ⟨3, ![1, 1024, 128]⟩
abbrev S2048x768 : Shape := ⟨2, ![2048, 768]⟩

abbrev nBuf : Space → Nat
  | .hbm => 16
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S4x2048x5648, .f32⟩
  | .hbm, ⟨2, _⟩ => ⟨S4x2048x4096, .f32⟩
  | .hbm, ⟨3, _⟩ => ⟨S4x2048x1024, .f32⟩
  | .hbm, ⟨4, _⟩ => ⟨S4x2048x5120, .f32⟩
  | .hbm, ⟨5, _⟩ => ⟨S4x2048x8, .f32⟩
  | .hbm, ⟨6, _⟩ => ⟨S4x2048x8, .f32⟩
  | .hbm, ⟨7, _⟩ => ⟨S_, .f32⟩
  | .hbm, ⟨8, _⟩ => ⟨S4x2048x112, .f32⟩
  | .hbm, ⟨9, _⟩ => ⟨S_, .f32⟩
  | .hbm, ⟨10, _⟩ => ⟨S4x2048x384, .f32⟩
  | .hbm, ⟨11, _⟩ => ⟨S4x2048x512, .f32⟩
  | .hbm, ⟨12, _⟩ => ⟨S4x2048x6144, .f32⟩
  | .hbm, ⟨13, _⟩ => ⟨S4x2048x6144, .bf16⟩
  | .hbm, ⟨14, _⟩ => ⟨S16384x5376, .f32⟩
  | .hbm, ⟨15, _⟩ => ⟨S4x16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048x768, .bf16⟩
  | .local _ .vmem, ⟨3, _⟩ => ⟨S1x2048x768, .bf16⟩
  | .local _ .vmem, ⟨4, _⟩ => ⟨S1x2048x512, .bf16⟩
  | .local _ .vmem, ⟨5, _⟩ => ⟨S1024x768, .f32⟩
  | .local _ .vmem, ⟨6, _⟩ => ⟨S1024x768, .f32⟩
  | .local _ .vmem, ⟨7, _⟩ => ⟨S4x1024x128, .f32⟩
  | .local _ .vmem, ⟨8, _⟩ => ⟨S4x1024x128, .f32⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c11_i32 : BitVec 32 := 11#32
  let c0_i32_1 : BitVec 32 := 0#32
  ![c0_i32.toNat, c0_i32_0.toNat, c11_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InProjRefIdeal.lean ====
abbrev S16384x2048 : Shape := ⟨2, ![16384, 2048]⟩
abbrev S4x2048x5648 : Shape := ⟨3, ![4, 2048, 5648]⟩
abbrev S1x2048x5648 : Shape := ⟨3, ![1, 2048, 5648]⟩
abbrev S2048x5648 : Shape := ⟨2, ![2048, 5648]⟩
abbrev S16384x5648 : Shape := ⟨2, ![16384, 5648]⟩
abbrev S16384x512 : Shape := ⟨2, ![16384, 512]⟩
abbrev S16384x4096 : Shape := ⟨2, ![16384, 4096]⟩
abbrev S16384x16 : Shape := ⟨2, ![16384, 16]⟩
abbrev S16384x1024 : Shape := ⟨2, ![16384, 1024]⟩
abbrev S_ : Shape := ⟨0, ![]⟩
abbrev S16384x240 : Shape := ⟨2, ![16384, 240]⟩
abbrev S16384x5376 : Shape := ⟨2, ![16384, 5376]⟩
abbrev S16384x4x128 : Shape := ⟨3, ![16384, 4, 128]⟩
abbrev S4x16384x128 : Shape := ⟨3, ![4, 16384, 128]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x2048x5648, .f32⟩
  | .hbm, ⟨2, _⟩ => ⟨S1x2048x5648, .f32⟩
  | .hbm, ⟨3, _⟩ => ⟨S2048x5648, .f32⟩
  | .hbm, ⟨4, _⟩ => ⟨S16384x5648, .f32⟩
  | .hbm, ⟨5, _⟩ => ⟨S16384x512, .f32⟩
  | .hbm, ⟨6, _⟩ => ⟨S16384x4096, .f32⟩
  | .hbm, ⟨7, _⟩ => ⟨S16384x16, .f32⟩
  | .hbm, ⟨8, _⟩ => ⟨S16384x1024, .f32⟩
  | .hbm, ⟨9, _⟩ => ⟨S_, .f32⟩
  | .hbm, ⟨10, _⟩ => ⟨S16384x240, .f32⟩
  | .hbm, ⟨11, _⟩ => ⟨S16384x5376, .f32⟩
  | .hbm, ⟨12, _⟩ => ⟨S16384x4x128, .f32⟩
  | .hbm, ⟨13, _⟩ => ⟨S4x16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Gdn.lean ====
abbrev S16384x5376 : Shape := ⟨2, ![16384, 5376]⟩
abbrev S4x4x3072 : Shape := ⟨3, ![4, 4, 3072]⟩
abbrev S4x8 : Shape := ⟨2, ![4, 8]⟩
abbrev S4x128 : Shape := ⟨2, ![4, 128]⟩
abbrev S4x1x8 : Shape := ⟨3, ![4, 1, 8]⟩
abbrev S_ : Shape := ⟨0, ![]⟩
abbrev S4x1x112 : Shape := ⟨3, ![4, 1, 112]⟩
abbrev S4x1x128 : Shape := ⟨3, ![4, 1, 128]⟩
abbrev S16384x1024 : Shape := ⟨2, ![16384, 1024]⟩
abbrev S128x1024 : Shape := ⟨2, ![128, 1024]⟩
abbrev S128x128 : Shape := ⟨2, ![128, 128]⟩
abbrev S1x4x1024 : Shape := ⟨3, ![1, 4, 1024]⟩
abbrev S1x1x128 : Shape := ⟨3, ![1, 1, 128]⟩
abbrev S8x128x128 : Shape := ⟨3, ![8, 128, 128]⟩
abbrev S8x1024 : Shape := ⟨2, ![8, 1024]⟩
abbrev S4x1024 : Shape := ⟨2, ![4, 1024]⟩
abbrev S136x1024 : Shape := ⟨2, ![136, 1024]⟩
abbrev S1x1024 : Shape := ⟨2, ![1, 1024]⟩
abbrev S1x128 : Shape := ⟨2, ![1, 128]⟩
abbrev S64x64 : Shape := ⟨2, ![64, 64]⟩
abbrev S128 : Shape := ⟨1, ![128]⟩
abbrev S128x1 : Shape := ⟨2, ![128, 1]⟩
abbrev S64x128 : Shape := ⟨2, ![64, 128]⟩
abbrev S64x1 : Shape := ⟨2, ![64, 1]⟩
abbrev S1x64 : Shape := ⟨2, ![1, 64]⟩
abbrev S64x256 : Shape := ⟨2, ![64, 256]⟩
abbrev S1x1 : Shape := ⟨2, ![1, 1]⟩
abbrev S1x128x128 : Shape := ⟨3, ![1, 128, 128]⟩
abbrev S64 : Shape := ⟨1, ![64]⟩

abbrev nBuf : Space → Nat
  | .hbm => 15
  | .vmem => 22
  | .smem => 0
  | _ => 0

abbrev bufTy : (tb : Table) → Fin (tcTables nBuf tb) → BufTy
  | .hbm, ⟨0, _⟩ => ⟨S16384x5376, .f32⟩
  | .hbm, ⟨1, _⟩ => ⟨S4x4x3072, .f32⟩
  | .hbm, ⟨2, _⟩ => ⟨S4x8, .f32⟩
  | .hbm, ⟨3, _⟩ => ⟨S4x8, .f32⟩
  | .hbm, ⟨4, _⟩ => ⟨S4x128, .f32⟩
  | .hbm, ⟨5, _⟩ => ⟨S4x1x8, .f32⟩
  | .hbm, ⟨6, _⟩ => ⟨S_, .f32⟩
  | .hbm, ⟨7, _⟩ => ⟨S4x1x112, .f32⟩
  | .hbm, ⟨8, _⟩ => ⟨S4x1x128, .f32⟩
  | .hbm, ⟨9, _⟩ => ⟨S4x1x8, .f32⟩
  | .hbm, ⟨10, _⟩ => ⟨S_, .f32⟩
  | .hbm, ⟨11, _⟩ => ⟨S4x1x112, .f32⟩
  | .hbm, ⟨12, _⟩ => ⟨S4x1x128, .f32⟩
  | .hbm, ⟨13, _⟩ => ⟨S4x1x128, .f32⟩
  | .hbm, ⟨14, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S1x4x1024, .f32⟩
  | .local _ .vmem, ⟨11, _⟩ => ⟨S1x4x1024, .f32⟩
  | .local _ .vmem, ⟨12, _⟩ => ⟨S1x4x1024, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S128x1024, .f32⟩
  | .local _ .vmem, ⟨17, _⟩ => ⟨S128x1024, .f32⟩
  | .local _ .vmem, ⟨18, _⟩ => ⟨S8x128x128, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | _, _ => ⟨S16384x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨3, ![2, 1, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c40_i32 : BitVec 32 := 40#32
  let v2 : BitVec 32 := Scalar.addi c40_i32 arg1
  let c0_i32 : BitVec 32 := 0#32
  ![v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S1x4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 1 → Memref sig .tc .vmem S1x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== GdnRefIdeal.lean ====
abbrev S16384x5376 : Shape := ⟨2, ![16384, 5376]⟩
abbrev S4x4x3072 : Shape := ⟨3, ![4, 4, 3072]⟩
abbrev S4x8 : Shape := ⟨2, ![4, 8]⟩
abbrev S4x128 : Shape := ⟨2, ![4, 128]⟩
abbrev S2x8192x5376 : Shape := ⟨3, ![2, 8192, 5376]⟩
abbrev S2x8192x3072 : Shape := ⟨3, ![2, 8192, 3072]⟩
abbrev S_ : Shape := ⟨0, ![]⟩
abbrev S2x8195x3072 : Shape := ⟨3, ![2, 8195, 3072]⟩
abbrev S1x4x3072 : Shape := ⟨3, ![1, 4, 3072]⟩
abbrev S4x3072 : Shape := ⟨2, ![4, 3072]⟩
abbrev S1x3072 : Shape := ⟨2, ![1, 3072]⟩
abbrev S3072 : Shape := ⟨1, ![3072]⟩
abbrev S1x1x3072 : Shape := ⟨3, ![1, 1, 3072]⟩
abbrev S2x8192x3x8x128 : Shape := ⟨5, ![2, 8192, 3, 8, 128]⟩
abbrev S2x8192x1x8x128 : Shape := ⟨5, ![2, 8192, 1, 8, 128]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S1x8 : Shape := ⟨2, ![1, 8]⟩
abbrev S8 : Shape := ⟨1, ![8]⟩
abbrev S1x1x8 : Shape := ⟨3, ![1, 1, 8]⟩
abbrev S2x8x128x128 : Shape := ⟨4, ![2, 8, 128, 128]⟩
abbrev S8192x2x8x128 : Shape := ⟨4, ![8192, 2, 8, 128]⟩
abbrev S8192x2x8 : Shape := ⟨3, ![8192, 2, 8]⟩
abbrev S1x2x8x128 : Shape := ⟨4, ![1, 2, 8, 128]⟩
abbrev S2x8x128 : Shape := ⟨3, ![2, 8, 128]⟩
abbrev S1x2x8 : Shape := ⟨3, ![1, 2, 8]⟩
abbrev S2x8 : Shape := ⟨2, ![2, 8]⟩
abbrev S2x8x1x1 : Shape := ⟨4, ![2, 8, 1, 1]⟩
abbrev S2x8x128x1 : Shape := ⟨4, ![2, 8, 128, 1]⟩
abbrev S2x8x1 : Shape := ⟨3, ![2, 8, 1]⟩
abbrev S2x8x1x128 : Shape := ⟨4, ![2, 8, 1, 128]⟩
abbrev S1x128 : Shape := ⟨2, ![1, 128]⟩
abbrev S128 : Shape := ⟨1, ![128]⟩
abbrev S1x1x1x128 : Shape := ⟨4, ![1, 1, 1, 128]⟩
abbrev S16384x1024 : Shape := ⟨2, ![16384, 1024]⟩

abbrev nBuf : Space → Nat
  | .hbm => 219
  | .vmem => 0
  | .smem => 0
  | _ => 0

abbrev hbmTy0_0 (i : Nat) : BufTy := match i % 128 with
  | 0 => ⟨S16384x5376, .f32⟩
  | 1 => ⟨S4x4x3072, .f32⟩
  | 2 => ⟨S4x8, .f32⟩
  | 3 => ⟨S4x8, .f32⟩
  | 4 => ⟨S4x128, .f32⟩
  | 5 => ⟨S2x8192x5376, .f32⟩
  | 6 => ⟨S2x8192x3072, .f32⟩
  | 7 => ⟨S_, .i32⟩
  | 8 => ⟨S_, .f32⟩
  | 9 => ⟨S2x8195x3072, .f32⟩
  | 10 => ⟨S1x4x3072, .f32⟩
  | 11 => ⟨S4x3072, .f32⟩
  | 12 => ⟨S2x8192x3072, .f32⟩
  | 13 => ⟨S1x3072, .f32⟩
  | 14 => ⟨S3072, .f32⟩
  | 15 => ⟨S1x1x3072, .f32⟩
  | 16 => ⟨S2x8192x3072, .f32⟩
  | 17 => ⟨S2x8192x3072, .f32⟩
  | 18 => ⟨S2x8192x3072, .f32⟩
  | 19 => ⟨S1x3072, .f32⟩
  | 20 => ⟨S3072, .f32⟩
  | 21 => ⟨S1x1x3072, .f32⟩
  | 22 => ⟨S2x8192x3072, .f32⟩
  | 23 => ⟨S2x8192x3072, .f32⟩
  | 24 => ⟨S2x8192x3072, .f32⟩
  | 25 => ⟨S2x8192x3072, .f32⟩
  | 26 => ⟨S1x3072, .f32⟩
  | 27 => ⟨S3072, .f32⟩
  | 28 => ⟨S1x1x3072, .f32⟩
  | 29 => ⟨S2x8192x3072, .f32⟩
  | 30 => ⟨S2x8192x3072, .f32⟩
  | 31 => ⟨S2x8192x3072, .f32⟩
  | 32 => ⟨S2x8192x3072, .f32⟩
  | 33 => ⟨S1x3072, .f32⟩
  | 34 => ⟨S3072, .f32⟩
  | 35 => ⟨S1x1x3072, .f32⟩
  | 36 => ⟨S2x8192x3072, .f32⟩
  | 37 => ⟨S2x8192x3072, .f32⟩
  | 38 => ⟨S2x8192x3072, .f32⟩
  | 39 => ⟨S2x8192x3072, .f32⟩
  | 40 => ⟨S2x8192x3072, .f32⟩
  | 41 => ⟨S_, .f32⟩
  | 42 => ⟨S2x8192x3072, .f32⟩
  | 43 => ⟨S2x8192x3072, .f32⟩
  | 44 => ⟨S_, .f32⟩
  | 45 => ⟨S2x8192x3072, .f32⟩
  | 46 => ⟨S2x8192x3072, .f32⟩
  | 47 => ⟨S2x8192x3072, .f32⟩
  | 48 => ⟨S2x8192x3x8x128, .f32⟩
  | 49 => ⟨S2x8192x1x8x128, .f32⟩
  | 50 => ⟨S2x8192x8x128, .f32⟩
  | 51 => ⟨S2x8192x8x128, .f32⟩
  | 52 => ⟨S_, .f32⟩
  | 53 => ⟨S2x8192x8, .f32⟩
  | 54 => ⟨S2x8192x8x1, .f32⟩
  | 55 => ⟨S_, .f32⟩
  | 56 => ⟨S2x8192x8x1, .f32⟩
  | 57 => ⟨S2x8192x8x1, .f32⟩
  | 58 => ⟨S2x8192x8x1, .f32⟩
  | 59 => ⟨S2x8192x8x128, .f32⟩
  | 60 => ⟨S2x8192x8x128, .f32⟩
  | 61 => ⟨S_, .f32⟩
  | 62 => ⟨S2x8192x8x128, .f32⟩
  | 63 => ⟨S2x8192x8x128, .f32⟩
  | 64 => ⟨S2x8192x1x8x128, .f32⟩
  | 65 => ⟨S2x8192x8x128, .f32⟩
  | 66 => ⟨S2x8192x8x128, .f32⟩
  | 67 => ⟨S_, .f32⟩
  | 68 => ⟨S2x8192x8, .f32⟩
  | 69 => ⟨S2x8192x8x1, .f32⟩
  | 70 => ⟨S_, .f32⟩
  | 71 => ⟨S2x8192x8x1, .f32⟩
  | 72 => ⟨S2x8192x8x1, .f32⟩
  | 73 => ⟨S2x8192x8x1, .f32⟩
  | 74 => ⟨S2x8192x8x128, .f32⟩
  | 75 => ⟨S2x8192x8x128, .f32⟩
  | 76 => ⟨S2x8192x1x8x128, .f32⟩
  | 77 => ⟨S2x8192x8x128, .f32⟩
  | 78 => ⟨S2x8192x8, .f32⟩
  | 79 => ⟨S2x8192x8, .f32⟩
  | 80 => ⟨S2x8192x8, .f32⟩
  | 81 => ⟨S2x8192x8, .f32⟩
  | 82 => ⟨S_, .f32⟩
  | 83 => ⟨S2x8192x8, .f32⟩
  | 84 => ⟨S2x8192x8, .f32⟩
  | 85 => ⟨S_, .f32⟩
  | 86 => ⟨S2x8192x8, .f32⟩
  | 87 => ⟨S2x8192x8, .f32⟩
  | 88 => ⟨S1x8, .f32⟩
  | 89 => ⟨S8, .f32⟩
  | 90 => ⟨S8, .f32⟩
  | 91 => ⟨S8, .f32⟩
  | 92 => ⟨S1x8, .f32⟩
  | 93 => ⟨S8, .f32⟩
  | 94 => ⟨S1x1x8, .f32⟩
  | 95 => ⟨S2x8192x8, .f32⟩
  | 96 => ⟨S2x8192x8, .f32⟩
  | 97 => ⟨S_, .f32⟩
  | 98 => ⟨S2x8192x8, .f32⟩
  | 99 => ⟨S2x8192x8, .f32⟩
  | 100 => ⟨S2x8192x8, .f32⟩
  | 101 => ⟨S2x8192x8, .f32⟩
  | 102 => ⟨S2x8192x8, .i1⟩
  | 103 => ⟨S2x8192x8, .f32⟩
  | 104 => ⟨S2x8192x8, .f32⟩
  | 105 => ⟨S2x8192x8, .f32⟩
  | 106 => ⟨S2x8192x8, .f32⟩
  | 107 => ⟨S2x8192x8, .f32⟩
  | 108 => ⟨S2x8192x8, .f32⟩
  | 109 => ⟨S2x8192x8, .f32⟩
  | 110 => ⟨S2x8192x8, .f32⟩
  | 111 => ⟨S1x1x8, .f32⟩
  | 112 => ⟨S2x8192x8, .f32⟩
  | 113 => ⟨S2x8192x8, .f32⟩
  | 114 => ⟨S2x8192x8, .f32⟩
  | 115 => ⟨S_, .f32⟩
  | 116 => ⟨S2x8x128x128, .f32⟩
  | 117 => ⟨S8192x2x8x128, .f32⟩
  | 118 => ⟨S8192x2x8x128, .f32⟩
  | 119 => ⟨S8192x2x8x128, .f32⟩
  | 120 => ⟨S8192x2x8, .f32⟩
  | 121 => ⟨S8192x2x8, .f32⟩
  | 122 => ⟨S_, .f32⟩
  | 123 => ⟨S8192x2x8x128, .f32⟩
  | 124 => ⟨S_, .i32⟩
  | 125 => ⟨S8192x2x8x128, .f32⟩
  | 126 => ⟨S8192x2x8x128, .f32⟩
  | 127 => ⟨S8192x2x8x128, .f32⟩
  | _ => ⟨S16384x5376, .f32⟩

abbrev hbmTy0_1 (i : Nat) : BufTy := match i % 128 with
  | 0 => ⟨S8192x2x8, .f32⟩
  | 1 => ⟨S8192x2x8, .f32⟩
  | 2 => ⟨S_, .i32⟩
  | 3 => ⟨S2x8x128x128, .f32⟩
  | 4 => ⟨S8192x2x8x128, .f32⟩
  | 5 => ⟨S_, .i32⟩
  | 6 => ⟨S_, .i1⟩
  | 7 => ⟨S_, .i32⟩
  | 8 => ⟨S_, .i32⟩
  | 9 => ⟨S_, .i32⟩
  | 10 => ⟨S1x2x8x128, .f32⟩
  | 11 => ⟨S2x8x128, .f32⟩
  | 12 => ⟨S_, .i32⟩
  | 13 => ⟨S_, .i32⟩
  | 14 => ⟨S_, .i32⟩
  | 15 => ⟨S1x2x8x128, .f32⟩
  | 16 => ⟨S2x8x128, .f32⟩
  | 17 => ⟨S_, .i32⟩
  | 18 => ⟨S_, .i32⟩
  | 19 => ⟨S_, .i32⟩
  | 20 => ⟨S1x2x8x128, .f32⟩
  | 21 => ⟨S2x8x128, .f32⟩
  | 22 => ⟨S_, .i32⟩
  | 23 => ⟨S_, .i32⟩
  | 24 => ⟨S1x2x8, .f32⟩
  | 25 => ⟨S2x8, .f32⟩
  | 26 => ⟨S_, .i32⟩
  | 27 => ⟨S_, .i32⟩
  | 28 => ⟨S1x2x8, .f32⟩
  | 29 => ⟨S2x8, .f32⟩
  | 30 => ⟨S2x8x1x1, .f32⟩
  | 31 => ⟨S2x8x128x128, .f32⟩
  | 32 => ⟨S2x8x128x128, .f32⟩
  | 33 => ⟨S2x8x128x1, .f32⟩
  | 34 => ⟨S2x8x128x128, .f32⟩
  | 35 => ⟨S2x8x128x128, .f32⟩
  | 36 => ⟨S_, .f32⟩
  | 37 => ⟨S2x8x128, .f32⟩
  | 38 => ⟨S2x8x128, .f32⟩
  | 39 => ⟨S2x8x1, .f32⟩
  | 40 => ⟨S2x8x128, .f32⟩
  | 41 => ⟨S2x8x128, .f32⟩
  | 42 => ⟨S2x8x128x1, .f32⟩
  | 43 => ⟨S2x8x1x128, .f32⟩
  | 44 => ⟨S2x8x128x128, .f32⟩
  | 45 => ⟨S2x8x128x128, .f32⟩
  | 46 => ⟨S2x8x128x128, .f32⟩
  | 47 => ⟨S2x8x128x128, .f32⟩
  | 48 => ⟨S2x8x128x1, .f32⟩
  | 49 => ⟨S2x8x128x128, .f32⟩
  | 50 => ⟨S2x8x128x128, .f32⟩
  | 51 => ⟨S_, .f32⟩
  | 52 => ⟨S2x8x128, .f32⟩
  | 53 => ⟨S1x2x8x128, .f32⟩
  | 54 => ⟨S_, .i32⟩
  | 55 => ⟨S_, .i32⟩
  | 56 => ⟨S_, .i32⟩
  | 57 => ⟨S8192x2x8x128, .f32⟩
  | 58 => ⟨S_, .i32⟩
  | 59 => ⟨S_, .i32⟩
  | 60 => ⟨S2x8192x8x128, .f32⟩
  | 61 => ⟨S2x8192x8x128, .f32⟩
  | 62 => ⟨S_, .f32⟩
  | 63 => ⟨S2x8192x8, .f32⟩
  | 64 => ⟨S2x8192x8x1, .f32⟩
  | 65 => ⟨S_, .f32⟩
  | 66 => ⟨S2x8192x8x1, .f32⟩
  | 67 => ⟨S2x8192x8x1, .f32⟩
  | 68 => ⟨S_, .f32⟩
  | 69 => ⟨S2x8192x8x1, .f32⟩
  | 70 => ⟨S2x8192x8x1, .f32⟩
  | 71 => ⟨S2x8192x8x1, .f32⟩
  | 72 => ⟨S2x8192x8x128, .f32⟩
  | 73 => ⟨S2x8192x8x128, .f32⟩
  | 74 => ⟨S1x128, .f32⟩
  | 75 => ⟨S128, .f32⟩
  | 76 => ⟨S1x1x1x128, .f32⟩
  | 77 => ⟨S2x8192x8x128, .f32⟩
  | 78 => ⟨S2x8192x8x128, .f32⟩
  | 79 => ⟨S16384x1024, .f32⟩
  | 80 => ⟨S16384x1024, .f32⟩
  | 81 => ⟨S16384x1024, .f32⟩
  | 82 => ⟨S16384x1024, .f32⟩
  | 83 => ⟨S_, .f32⟩
  | 84 => ⟨S16384x1024, .f32⟩
  | 85 => ⟨S16384x1024, .f32⟩
  | 86 => ⟨S_, .f32⟩
  | 87 => ⟨S16384x1024, .f32⟩
  | 88 => ⟨S16384x1024, .f32⟩
  | 89 => ⟨S16384x1024, .f32⟩
  | 90 => ⟨S16384x1024, .f32⟩
  | _ => ⟨S16384x5376, .f32⟩

abbrev hbmTy (i : Nat) : BufTy := match i / 128 with
  | 0 => hbmTy0_0 i
  | 1 => hbmTy0_1 i
  | _ => ⟨S16384x5376, .f32⟩

abbrev bufTy : (tb : Table) → Fin (tcTables nBuf tb) → BufTy
  | .hbm, ⟨i, _⟩ => hbmTy i
  | _, _ => ⟨S16384x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_v38 : Ref sig .tc := ⟨.hbm, 54, rfl⟩
abbrev main_cst_0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_1 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_2 : Ref sig .tc := ⟨.hbm, 67, rfl⟩
abbrev main_v49 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_4 : Ref sig .tc := ⟨.hbm, 82, rfl⟩
abbrev main_v62 : Ref sig .tc := ⟨.hbm, 83, rfl⟩
abbrev main_v63 : Ref sig .tc := ⟨.hbm, 84, rfl⟩
abbrev main_cst_5 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_6 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_7 : Ref sig .tc := ⟨.hbm, 122, rfl⟩
abbrev main_v86 : Ref sig .tc := ⟨.hbm, 123, rfl⟩
abbrev main_c_8 : Ref sig .tc := ⟨.hbm, 124, rfl⟩
abbrev main_v87_0 : Ref sig .tc := ⟨.hbm, 125, rfl⟩
abbrev main_v87_1 : Ref sig .tc := ⟨.hbm, 126, rfl⟩
abbrev main_v87_2 : Ref sig .tc := ⟨.hbm, 127, rfl⟩
abbrev main_v87_3 : Ref sig .tc := ⟨.hbm, 128, rfl⟩
abbrev main_v87_4 : Ref sig .tc := ⟨.hbm, 129, rfl⟩
abbrev main_v87_5 : Ref sig .tc := ⟨.hbm, 130, rfl⟩
abbrev main_v87_6 : Ref sig .tc := ⟨.hbm, 131, rfl⟩
abbrev main_v87_7 : Ref sig .tc := ⟨.hbm, 132, rfl⟩
abbrev main_while0c_c_19 : Ref sig .tc := ⟨.hbm, 133, rfl⟩
abbrev main_while0c_v108 : Ref sig .tc := ⟨.hbm, 134, rfl⟩
abbrev main_while0b_call3_c : Ref sig .tc := ⟨.hbm, 135, rfl⟩
abbrev main_while0b_call3_c_0 : Ref sig .tc := ⟨.hbm, 136, rfl⟩
abbrev main_while0b_call3_c_1 : Ref sig .tc := ⟨.hbm, 137, rfl⟩
abbrev main_while0b_call3_v0 : Ref sig .tc := ⟨.hbm, 138, rfl⟩
abbrev main_while0b_v108 : Ref sig .tc := ⟨.hbm, 139, rfl⟩
abbrev main_while0b_call4_c : Ref sig .tc := ⟨.hbm, 140, rfl⟩
abbrev main_while0b_call4_c_0 : Ref sig .tc := ⟨.hbm, 141, rfl⟩
abbrev main_while0b_call4_c_1 : Ref sig .tc := ⟨.hbm, 142, rfl⟩
abbrev main_while0b_call4_v0 : Ref sig .tc := ⟨.hbm, 143, rfl⟩
abbrev main_while0b_v109 : Ref sig .tc := ⟨.hbm, 144, rfl⟩
abbrev main_while0b_call5_c : Ref sig .tc := ⟨.hbm, 145, rfl⟩
abbrev main_while0b_call5_c_0 : Ref sig .tc := ⟨.hbm, 146, rfl⟩
abbrev main_while0b_call5_c_1 : Ref sig .tc := ⟨.hbm, 147, rfl⟩
abbrev main_while0b_call5_v0 : Ref sig .tc := ⟨.hbm, 148, rfl⟩
abbrev main_while0b_v110 : Ref sig .tc := ⟨.hbm, 149, rfl⟩
abbrev main_while0b_call6_c : Ref sig .tc := ⟨.hbm, 150, rfl⟩
abbrev main_while0b_call6_c_0 : Ref sig .tc := ⟨.hbm, 151, rfl⟩
abbrev main_while0b_call6_v0 : Ref sig .tc := ⟨.hbm, 152, rfl⟩
abbrev main_while0b_v111 : Ref sig .tc := ⟨.hbm, 153, rfl⟩
abbrev main_while0b_call7_c : Ref sig .tc := ⟨.hbm, 154, rfl⟩
abbrev main_while0b_call7_c_0 : Ref sig .tc := ⟨.hbm, 155, rfl⟩
abbrev main_while0b_call7_v0 : Ref sig .tc := ⟨.hbm, 156, rfl⟩
abbrev main_while0b_v112 : Ref sig .tc := ⟨.hbm, 157, rfl⟩
abbrev main_while0b_v113 : Ref sig .tc := ⟨.hbm, 158, rfl⟩
abbrev main_while0b_v114 : Ref sig .tc := ⟨.hbm, 159, rfl⟩
abbrev main_while0b_v115 : Ref sig .tc := ⟨.hbm, 160, rfl⟩
abbrev main_while0b_v116 : Ref sig .tc := ⟨.hbm, 161, rfl⟩
abbrev main_while0b_v117 : Ref sig .tc := ⟨.hbm, 162, rfl⟩
abbrev main_while0b_v118 : Ref sig .tc := ⟨.hbm, 163, rfl⟩
abbrev main_while0b_cst_19 : Ref sig .tc := ⟨.hbm, 164, rfl⟩
abbrev main_while0b_v119 : Ref sig .tc := ⟨.hbm, 165, rfl⟩
abbrev main_while0b_v120 : Ref sig .tc := ⟨.hbm, 166, rfl⟩
abbrev main_while0b_v121 : Ref sig .tc := ⟨.hbm, 167, rfl⟩
abbrev main_while0b_v122 : Ref sig .tc := ⟨.hbm, 168, rfl⟩
abbrev main_while0b_v123 : Ref sig .tc := ⟨.hbm, 169, rfl⟩
abbrev main_while0b_v124 : Ref sig .tc := ⟨.hbm, 170, rfl⟩
abbrev main_while0b_v125 : Ref sig .tc := ⟨.hbm, 171, rfl⟩
abbrev main_while0b_v126 : Ref sig .tc := ⟨.hbm, 172, rfl⟩
abbrev main_while0b_v127 : Ref sig .tc := ⟨.hbm, 173, rfl⟩
abbrev main_while0b_v128 : Ref sig .tc := ⟨.hbm, 174, rfl⟩
abbrev main_while0b_v129 : Ref sig .tc := ⟨.hbm, 175, rfl⟩
abbrev main_while0b_v130 : Ref sig .tc := ⟨.hbm, 176, rfl⟩
abbrev main_while0b_v131 : Ref sig .tc := ⟨.hbm, 177, rfl⟩
abbrev main_while0b_v132 : Ref sig .tc := ⟨.hbm, 178, rfl⟩
abbrev main_while0b_cst_20 : Ref sig .tc := ⟨.hbm, 179, rfl⟩
abbrev main_while0b_v133 : Ref sig .tc := ⟨.hbm, 180, rfl⟩
abbrev main_while0b_call8_v0 : Ref sig .tc := ⟨.hbm, 181, rfl⟩
abbrev main_while0b_call8_c : Ref sig .tc := ⟨.hbm, 182, rfl⟩
abbrev main_while0b_call8_c_0 : Ref sig .tc := ⟨.hbm, 183, rfl⟩
abbrev main_while0b_call8_c_1 : Ref sig .tc := ⟨.hbm, 184, rfl⟩
abbrev main_while0b_v134 : Ref sig .tc := ⟨.hbm, 185, rfl⟩
abbrev main_while0b_c_21 : Ref sig .tc := ⟨.hbm, 186, rfl⟩
abbrev main_while0b_v135 : Ref sig .tc := ⟨.hbm, 187, rfl⟩
abbrev main_v88 : Ref sig .tc := ⟨.hbm, 188, rfl⟩
abbrev main_v89 : Ref sig .tc := ⟨.hbm, 189, rfl⟩
abbrev main_cst_9 : Ref sig .tc := ⟨.hbm, 190, rfl⟩
abbrev main_v90 : Ref sig .tc := ⟨.hbm, 191, rfl⟩
abbrev main_v91 : Ref sig .tc := ⟨.hbm, 192, rfl⟩
abbrev main_cst_10 : Ref sig .tc := ⟨.hbm, 193, rfl⟩
abbrev main_v92 : Ref sig .tc := ⟨.hbm, 194, rfl⟩
abbrev main_v93 : Ref sig .tc := ⟨.hbm, 195, rfl⟩
abbrev main_cst_11 : Ref sig .tc := ⟨.hbm, 196, rfl⟩
abbrev main_v94 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_call9_v0 : Ref sig .tc := ⟨.hbm, 209, rfl⟩
abbrev main_call9_v1 : Ref sig .tc := ⟨.hbm, 210, rfl⟩
abbrev main_call9_cst : Ref sig .tc := ⟨.hbm, 211, rfl⟩
abbrev main_call9_v2 : Ref sig .tc := ⟨.hbm, 212, rfl⟩
abbrev main_call9_v3 : Ref sig .tc := ⟨.hbm, 213, rfl⟩
abbrev main_call9_cst_0 : Ref sig .tc := ⟨.hbm, 214, rfl⟩
abbrev main_call9_v4 : Ref sig .tc := ⟨.hbm, 215, rfl⟩
abbrev main_call9_v5 : Ref sig .tc := ⟨.hbm, 216, rfl⟩
abbrev main_v106 : Ref sig .tc := ⟨.hbm, 217, rfl⟩
abbrev main_v107 : Ref sig .tc := ⟨.hbm, 218, rfl⟩

abbrev nD : Nat := 1
abbrev τ : Topo := Topo.v7x

variable {F : FTy → Type} [FloatOps F]

abbrev main_while0_count : Scf.Loop 32 := ⟨0#32, 8192#32, 1#32⟩
-- ==== OutProj.lean ====
abbrev S16384x2048 : Shape := ⟨2, ![16384, 2048]⟩
abbrev S4x16384x128 : Shape := ⟨3, ![4, 16384, 128]⟩
abbrev S16384x1024 : Shape := ⟨2, ![16384, 1024]⟩
abbrev S16384x512 : Shape := ⟨2, ![16384, 512]⟩
abbrev S4x512x512 : Shape := ⟨3, ![4, 512, 512]⟩
abbrev S4x512 : Shape := ⟨2, ![4, 512]⟩
abbrev S4x2048x2048 : Shape := ⟨3, ![4, 2048, 2048]⟩
abbrev S4x2048 : Shape := ⟨2, ![4, 2048]⟩
abbrev S4x1x512 : Shape := ⟨3, ![4, 1, 512]⟩
abbrev S4x1x2048 : Shape := ⟨3, ![4, 1, 2048]⟩
abbrev S512x2048 : Shape := ⟨2, ![512, 2048]⟩
abbrev S4x512x128 : Shape := ⟨3, ![4, 512, 128]⟩
abbrev S512x512 : Shape := ⟨2, ![512, 512]⟩
abbrev S1x512x512 : Shape := ⟨3, ![1, 512, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S1x512x128 : Shape := ⟨3, ![1, 512, 128]⟩
abbrev S512x128 : Shape := ⟨2, ![512, 128]⟩
abbrev S1x512 : Shape := ⟨2, ![1, 512]⟩
abbrev S1x2048 : Shape := ⟨2, ![1, 2048]⟩
abbrev S512 : Shape := ⟨1, ![512]⟩
abbrev S512x1 : Shape := ⟨2, ![512, 1]⟩

abbrev nBuf : Space → Nat
  | .hbm => 15
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S4x16384x128, .f32⟩
  | .hbm, ⟨2, _⟩ => ⟨S16384x1024, .f32⟩
  | .hbm, ⟨3, _⟩ => ⟨S16384x512, .f32⟩
  | .hbm, ⟨4, _⟩ => ⟨S4x512x512, .f32⟩
  | .hbm, ⟨5, _⟩ => ⟨S4x512, .f32⟩
  | .hbm, ⟨6, _⟩ => ⟨S4x2048x2048, .f32⟩
  | .hbm, ⟨7, _⟩ => ⟨S4x2048, .f32⟩
  | .hbm, ⟨8, _⟩ => ⟨S4x2048, .f32⟩
  | .hbm, ⟨9, _⟩ => ⟨S4x512x512, .bf16⟩
  | .hbm, ⟨10, _⟩ => ⟨S4x1x512, .f32⟩
  | .hbm, ⟨11, _⟩ => ⟨S4x2048x2048, .bf16⟩
  | .hbm, ⟨12, _⟩ => ⟨S4x1x2048, .f32⟩
  | .hbm, ⟨13, _⟩ => ⟨S4x1x2048, .f32⟩
  | .hbm, ⟨14, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S4x512x128, .f32⟩
  | .local _ .vmem, ⟨3, _⟩ => ⟨S4x512x128, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x512, .bf16⟩
  | .local _ .vmem, ⟨11, _⟩ => ⟨S1x1x512, .f32⟩
  | .local _ .vmem, ⟨12, _⟩ => ⟨S1x512x2048, .bf16⟩
  | .local _ .vmem, ⟨13, _⟩ => ⟨S1x512x2048, .bf16⟩
  | .local _ .vmem, ⟨14, _⟩ => ⟨S1x512x2048, .bf16⟩
  | .local _ .vmem, ⟨15, _⟩ => ⟨S1x512x2048, .bf16⟩
  | .local _ .vmem, ⟨16, _⟩ => ⟨S1x1x2048, .f32⟩
  | .local _ .vmem, ⟨17, _⟩ => ⟨S1x1x2048, .f32⟩
  | .local _ .vmem, ⟨18, _⟩ => ⟨S512x2048, .f32⟩
  | .local _ .vmem, ⟨19, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_9 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_10 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== OutProjRefIdeal.lean ====
abbrev S16384x2048 : Shape := ⟨2, ![16384, 2048]⟩
abbrev S4x16384x128 : Shape := ⟨3, ![4, 16384, 128]⟩
abbrev S16384x1024 : Shape := ⟨2, ![16384, 1024]⟩
abbrev S16384x512 : Shape := ⟨2, ![16384, 512]⟩
abbrev S4x512x512 : Shape := ⟨3, ![4, 512, 512]⟩
abbrev S4x512 : Shape := ⟨2, ![4, 512]⟩
abbrev S4x2048x2048 : Shape := ⟨3, ![4, 2048, 2048]⟩
abbrev S4x2048 : Shape := ⟨2, ![4, 2048]⟩
abbrev S16384x4x128 : Shape := ⟨3, ![16384, 4, 128]⟩
abbrev S_ : Shape := ⟨0, ![]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S16384 : Shape := ⟨1, ![16384]⟩
abbrev S16384x1 : Shape := ⟨2, ![16384, 1]⟩

abbrev nBuf : Space → Nat
  | .hbm => 84
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x16384x128, .f32⟩
  | .hbm, ⟨2, _⟩ => ⟨S16384x1024, .f32⟩
  | .hbm, ⟨3, _⟩ => ⟨S16384x512, .f32⟩
  | .hbm, ⟨4, _⟩ => ⟨S4x512x512, .f32⟩
  | .hbm, ⟨5, _⟩ => ⟨S4x512, .f32⟩
  | .hbm, ⟨6, _⟩ => ⟨S4x2048x2048, .f32⟩
  | .hbm, ⟨7, _⟩ => ⟨S4x2048, .f32⟩
  | .hbm, ⟨8, _⟩ => ⟨S4x2048, .f32⟩
  | .hbm, ⟨9, _⟩ => ⟨S16384x4x128, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S1x512x512, .f32⟩
  | .hbm, ⟨29, _⟩ => ⟨S512x512, .f32⟩
  | .hbm, ⟨30, _⟩ => ⟨S16384x512, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x2048, .f32⟩
  | .hbm, ⟨46, _⟩ => ⟨S1x2048x2048, .f32⟩
  | .hbm, ⟨47, _⟩ => ⟨S2048x2048, .f32⟩
  | .hbm, ⟨48, _⟩ => ⟨S16384x2048, .f32⟩
  | .hbm, ⟨49, _⟩ => ⟨S_, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S1x2048, .f32⟩
  | .hbm, ⟨54, _⟩ => ⟨S2048, .f32⟩
  | .hbm, ⟨55, _⟩ => ⟨S1x2048, .f32⟩
  | .hbm, ⟨56, _⟩ => ⟨S2048, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x2048, .f32⟩
  | .hbm, ⟨64, _⟩ => ⟨S16384x2048, .f32⟩
  | .hbm, ⟨65, _⟩ => ⟨S16384x2048, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x2048, .f32⟩
  | .hbm, ⟨77, _⟩ => ⟨S16384x2048, .f32⟩
  | .hbm, ⟨78, _⟩ => ⟨S1x2048, .f32⟩
  | .hbm, ⟨79, _⟩ => ⟨S16384x2048, .f32⟩
  | .hbm, ⟨80, _⟩ => ⟨S16384x2048, .f32⟩
  | .hbm, ⟨81, _⟩ => ⟨S1x2048, .f32⟩
  | .hbm, ⟨82, _⟩ => ⟨S16384x2048, .f32⟩
  | .hbm, ⟨83, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Proof.Scalar.lean ====
/- Scalar facts over the extended reals shared by the calls: the exact values of the literals, the logistic
   function in its hyperbolic-tangent form, and the layer normalisation of one row. -/
module

public import Idealize.ShloMosaic.Lib.Pointwise
public import Idealize.ShloMosaic.Lib.IdealHost

@[expose] public section

noncomputable section

namespace Cert.Scalar

open Idealize.ShloMosaic
open scoped BigOperators

/-! ## Literals -/

/-- The f32 word of one half. -/
theorem half_word : Ideal.ofBits .f32 0x3F000000#32 = (((1 : ℝ) / 2 : ℝ) : EReal) := by
  simp [Ideal.ofBits, Ideal.ieee, -EReal.coe_mul]; norm_num

/-- The f32 word of the residual weight α = 8^(1/4): a dyadic rational. -/
theorem alpha_word : Ideal.ofBits .f32 0x3FD744FD#32 = (((14107901 : ℝ) / 8388608 : ℝ) : EReal) := by
  simp [Ideal.ofBits, Ideal.ieee, -EReal.coe_mul]; norm_num

/-- The f32 word of 2α: exactly twice the word of α. -/
theorem two_alpha_word : Ideal.ofBits .f32 0x405744FD#32 = (((14107901 : ℝ) / 4194304 : ℝ) : EReal) := by
  simp [Ideal.ofBits, Ideal.ieee, -EReal.coe_mul]; norm_num

/-! ## Products with a real number -/

/-- A real factor distributes over every sum of extended reals when it is positive. -/
theorem coe_mul_add (r : ℝ) (h : 0 < r) (x y : EReal) : (r : EReal) * (x + y) = r * x + r * y :=
  EReal.left_distrib_of_nonneg_of_ne_top (by exact_mod_cast h.le) (EReal.coe_ne_top r) x y

/-- Halving an accumulator that began at 2α·x and was added `s` to. -/
theorem half_acc (x s : EReal) :
    Ideal.ofBits .f32 0x3F000000#32 * (Ideal.ofBits .f32 0x405744FD#32 * x + s)
      = Ideal.ofBits .f32 0x3FD744FD#32 * x + Ideal.ofBits .f32 0x3F000000#32 * s := by
  rw [half_word, two_alpha_word, alpha_word, coe_mul_add _ (by norm_num), ← mul_assoc, ← EReal.coe_mul]
  norm_num

/-! ## The logistic function -/

/-- `½ tanh(½x) + ½` is the logistic function, at the infinities too. -/
theorem half_tanh (x : EReal) :
    Ideal.ofBits .f32 0x3F000000#32 * Ideal.tanh (Ideal.ofBits .f32 0x3F000000#32 * x)
      + Ideal.ofBits .f32 0x3F000000#32 = Ideal.logistic x := by
  rw [half_word]
  induction x with
  | bot =>
    rw [EReal.coe_mul_bot_of_pos (by norm_num), Ideal.tanh_bot, Ideal.logistic_bot,
      show (-1 : EReal) = ((-1 : ℝ) : EReal) by norm_num, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, Ideal.logistic_coe]
    congr 1
    rw [Real.tanh_eq_sinh_div_cosh, Real.sinh_eq, Real.cosh_eq]
    have h1 : Real.exp (-r) = Real.exp (-(1 / 2 * r)) * Real.exp (-(1 / 2 * r)) := by
      rw [← Real.exp_add]; congr 1; ring
    have h2 : Real.exp (1 / 2 * r) * Real.exp (-(1 / 2 * r)) = 1 := by
      rw [← Real.exp_add]; simp
    rw [h1]
    have hp := Real.exp_pos (-(1 / 2 * r))
    have hq := Real.exp_pos (1 / 2 * r)
    generalize Real.exp (-(1 / 2 * r)) = p at *
    generalize Real.exp (1 / 2 * r) = q at *
    have : (0 : ℝ) < 1 + p * p := by positivity
    have hs : (0 : ℝ) < (q + p) / 2 := by positivity
    have hqp : q = 1 / p := by field_simp; linarith
    subst hqp
    field_simp
    ring

/-- The quotient form of the logistic function. -/
theorem logistic_eq (x : EReal) : Ideal.div 1 (1 + Ideal.exp (-x)) = Ideal.logistic x := rfl

/-! ## Layer normalisation of one row -/

/-- The mean of a row of 2048 entries. -/
def mean (u : Fin 2048 → EReal) : EReal := Ideal.div (∑ k, u k) (Ideal.ofBits .f32 0x45000000#32)

/-- A row of 2048 entries, centred, divided by the root of its variance, scaled by `g` and shifted by `b`. -/
def layerNorm (u : Fin 2048 → EReal) (g b : EReal) (j : Fin 2048) : EReal :=
  (u j - mean u) * Ideal.rsqrt (mean (fun k => (u k - mean u) * (u k - mean u)) + Ideal.ofBits .f32 0x3727C5AC#32) * g + b

end Cert.Scalar

end

end
-- ==== Proof.LruMath.lean ====
/- A linear recurrence in the extended reals, and its evaluation in tiles of eight steps by doubling. -/
module

public import proofs.«01_k».proof.Proof.Scalar
public import Idealize.ShloMosaic.Lib.Pointwise.Sums

@[expose] public section

noncomputable section

namespace Cert.LruMath

open Idealize.ShloMosaic Cert.Scalar
open scoped BigOperators

/-! ## The recurrence -/

/-- `n` steps of `h ↦ a h + b` from `c`. -/
def steps (a b : ℕ → EReal) (c : EReal) : ℕ → EReal
  | 0 => c
  | n + 1 => a n * steps a b c n + b n

/-- Steps after steps. -/
theorem steps_add (a b : ℕ → EReal) (c : EReal) (m n : ℕ) :
    steps a b c (m + n) = steps (fun k => a (m + k)) (fun k => b (m + k)) (steps a b c m) n := by
  induction n with
  | zero => rfl
  | succ n ih =>
    show a (m + n) * steps a b c (m + n) + b (m + n) = _
    rw [ih]
    rfl

/-- Equal coefficients give equal states. -/
theorem steps_congr (a b a' b' : ℕ → EReal) (c : EReal) (n : ℕ) (ha : ∀ k, k < n → a k = a' k) (hb : ∀ k, k < n → b k = b' k) :
    steps a b c n = steps a' b' c n := by
  induction n with
  | zero => rfl
  | succ n ih =>
    show a n * steps a b c n + b n = a' n * steps a' b' c n + b' n
    rw [ih (fun k h => ha k (by omega)) (fun k h => hb k (by omega)), ha n (by omega), hb n (by omega)]

/-! ## Doubling -/

/-- The product coefficient after a doubling by `s`. -/
def dblP (s : ℕ) (p : Fin 8 → EReal) (k : Fin 8) : EReal :=
  p k * (if s ≤ k.val then p ⟨k.val - s, by omega⟩ else 1)

/-- The additive coefficient after a doubling by `s`. -/
def dblQ (s : ℕ) (p q : Fin 8 → EReal) (k : Fin 8) : EReal :=
  p k * (if s ≤ k.val then q ⟨k.val - s, by omega⟩ else 0) + q k

/-- `p k · c + q k` is the last `s` steps (or all of them) up to step `k` of the tile. -/
structure Spans (a b : ℕ → EReal) (s : ℕ) (p q : Fin 8 → EReal) : Prop where
  nonneg : ∀ k, 0 ≤ p k
  le_one : ∀ k, p k ≤ 1
  eq : ∀ (k : Fin 8) (c : EReal), p k * c + q k
    = steps (fun n => a (k.val + 1 - s + n)) (fun n => b (k.val + 1 - s + n)) c (k.val + 1 - (k.val + 1 - s))

theorem ne_top_of_le_one {x : EReal} (h : x ≤ 1) : x ≠ ⊤ :=
  ne_top_of_le_ne_top (by decide : (1 : EReal) ≠ ⊤) h

theorem compose (p q p' q' c : EReal) (h0 : 0 ≤ p) (h1 : p ≤ 1) :
    p * p' * c + (p * q' + q) = p * (p' * c + q') + q := by
  rw [EReal.left_distrib_of_nonneg_of_ne_top h0 (ne_top_of_le_one h1), mul_assoc, add_assoc]

theorem Spans.base (a b : ℕ → EReal) (p q : Fin 8 → EReal) (h0 : ∀ k, 0 ≤ p k) (h1 : ∀ k, p k ≤ 1)
    (ha : ∀ k : Fin 8, p k = a k.val) (hb : ∀ k : Fin 8, q k = b k.val) : Spans a b 1 p q where
  nonneg := h0
  le_one := h1
  eq := fun k c => by
    have e : k.val + 1 - (k.val + 1 - 1) = 1 := by omega
    rw [e]
    show _ = a (k.val + 1 - 1 + 0) * c + b (k.val + 1 - 1 + 0)
    rw [ha, hb, Nat.add_sub_cancel, Nat.add_zero]

theorem Spans.double {a b : ℕ → EReal} {s : ℕ} {p q : Fin 8 → EReal} (h : Spans a b s p q) (hs : 0 < s) :
    Spans a b (s + s) (dblP s p) (dblQ s p q) where
  nonneg := fun k => by
    unfold dblP
    split
    · exact mul_nonneg (h.nonneg _) (h.nonneg _)
    · exact mul_nonneg (h.nonneg _) zero_le_one
  le_one := fun k => by
    unfold dblP
    split
    · exact mul_le_one₀ (h.le_one _) (h.nonneg _) (h.le_one _)
    · rw [mul_one]; exact h.le_one _
  eq := fun k c => by
    unfold dblP dblQ
    by_cases hk : s ≤ k.val
    · rw [if_pos hk, if_pos hk, compose _ _ _ _ _ (h.nonneg _) (h.le_one _), h.eq ⟨k.val - s, by omega⟩ c, h.eq k]
      have e1 : k.val + 1 - (k.val + 1 - (s + s)) = (k.val - s + 1 - (k.val - s + 1 - s)) + (k.val + 1 - (k.val + 1 - s)) := by omega
      rw [e1, steps_add]
      have e2 : k.val - s + 1 - s = k.val + 1 - (s + s) := by omega
      refine congr (congr (congr (congrArg steps ?_) ?_) ?_) rfl
      · funext n; exact congrArg a (by omega)
      · funext n; exact congrArg b (by omega)
      · show steps _ _ c (k.val - s + 1 - (k.val - s + 1 - s)) = _
        simp only [e2]
    · rw [if_neg hk, if_neg hk, mul_one, mul_zero, zero_add, h.eq k]
      have e1 : k.val + 1 - s = 0 := by omega
      have e2 : k.val + 1 - (s + s) = 0 := by omega
      rw [e1, e2]

/-- Three doublings give every step of the tile from its start. -/
theorem tile_eq (a b : ℕ → EReal) (p q : Fin 8 → EReal) (h0 : ∀ k, 0 ≤ p k) (h1 : ∀ k, p k ≤ 1)
    (ha : ∀ k : Fin 8, p k = a k.val) (hb : ∀ k : Fin 8, q k = b k.val) (k : Fin 8) (c : EReal) :
    dblP 4 (dblP 2 (dblP 1 p)) k * c + dblQ 4 (dblP 2 (dblP 1 p)) (dblQ 2 (dblP 1 p) (dblQ 1 p q)) k = steps a b c (k.val + 1) := by
  have h := ((Spans.base a b p q h0 h1 ha hb).double (by decide)).double (by decide)
  have h' := (h.double (by decide)).eq k c
  have e : k.val + 1 - (1 + 1 + (1 + 1) + (1 + 1 + (1 + 1))) = 0 := by omega
  rw [e] at h'
  simp only [Nat.zero_add, Nat.sub_zero] at h'
  exact h'

/-! ## The decay and its complement -/

theorem zero_le_logistic (x : EReal) : 0 ≤ Ideal.logistic x := by
  induction x using EReal.rec with
  | bot => rw [Ideal.logistic_bot]
  | top => rw [Ideal.logistic_top]; exact zero_le_one
  | coe r =>
    rw [Ideal.logistic_coe]
    exact EReal.coe_nonneg.mpr (by positivity)

/-- The soft-plus function. -/
def softplus (v : EReal) : EReal := max v 0 + Ideal.log1p (Ideal.exp (-(max v (-v))))

theorem exp_nonneg (x : EReal) : 0 ≤ Ideal.exp x := by
  induction x using EReal.rec with
  | bot => simp
  | top => simp
  | coe r => rw [Ideal.exp_coe]; exact EReal.coe_nonneg.mpr (Real.exp_pos r).le

theorem exp_le_one {x : EReal} (h : x ≤ 0) : Ideal.exp x ≤ 1 := by
  induction x using EReal.rec with
  | bot => simp
  | top => exact absurd h (not_le.mpr EReal.zero_lt_top)
  | coe r =>
    rw [Ideal.exp_coe, ← EReal.coe_one]
    exact EReal.coe_le_coe_iff.mpr (Real.exp_le_one_iff.mpr (by exact_mod_cast h))

theorem log1p_nonneg {x : EReal} (h : 0 ≤ x) : 0 ≤ Ideal.log1p x := by
  unfold Ideal.log1p
  induction x using EReal.rec with
  | bot => exact absurd h (not_le.mpr EReal.bot_lt_zero)
  | top =>
    rw [EReal.add_top_of_ne_bot (by rw [← EReal.coe_one]; exact EReal.coe_ne_bot 1), Ideal.log_top]
    exact le_top
  | coe r =>
    have hr : (0 : ℝ) ≤ r := by exact_mod_cast h
    rw [← EReal.coe_one, ← EReal.coe_add, Ideal.log_coe, if_neg (by linarith)]
    exact EReal.coe_nonneg.mpr (Real.log_nonneg (by linarith))

theorem softplus_nonneg (v : EReal) : 0 ≤ softplus v :=
  add_nonneg (le_max_right _ _) (log1p_nonneg (exp_nonneg _))

theorem two_word : Ideal.ofBits .f32 0x40000000#32 = ((2 : ℝ) : EReal) := by
  simp [Ideal.ofBits, Ideal.ieee, -EReal.coe_mul]; norm_num

theorem neg_eight_word : Ideal.ofBits .f32 0xC1000000#32 = ((-8 : ℝ) : EReal) := by
  simp [Ideal.ofBits, Ideal.ieee, -EReal.coe_mul]; norm_num

/-- The logarithm of a decay is never positive. -/
theorem logDecay_nonpos (x v : EReal) : Ideal.ofBits .f32 0xC1000000#32 * Ideal.logistic x * softplus v ≤ 0 := by
  refine mul_nonpos_of_nonpos_of_nonneg ?_ (softplus_nonneg v)
  refine mul_nonpos_of_nonpos_of_nonneg ?_ (zero_le_logistic x)
  rw [neg_eight_word]
  exact_mod_cast (by norm_num : (-8 : ℝ) ≤ 0)

/-- `1 - e^{2L}` by the hyperbolic tangent. -/
theorem complement (L : EReal) (h : L ≤ 0) :
    (0 - Ideal.tanh L) * (Ideal.exp L * Ideal.exp L + 1) = -(Ideal.exp (Ideal.ofBits .f32 0x40000000#32 * L) - 1) := by
  rw [two_word]
  induction L using EReal.rec with
  | bot =>
    rw [EReal.coe_mul_bot_of_pos (by norm_num)]
    simp
  | top => exact absurd h (not_le.mpr EReal.zero_lt_top)
  | coe r =>
    rw [← EReal.coe_mul, Ideal.exp_coe, Ideal.exp_coe, Ideal.tanh_coe, ← EReal.coe_zero, ← EReal.coe_one, ← EReal.coe_sub, ← EReal.coe_mul,
      ← EReal.coe_add, ← EReal.coe_mul, ← EReal.coe_sub, ← EReal.coe_neg]
    refine congrArg _ ?_
    rw [Real.tanh_eq_sinh_div_cosh, Real.sinh_eq, Real.cosh_eq, two_mul, Real.exp_add, Real.exp_neg]
    have hp := Real.exp_pos r
    field_simp
    ring

/-! ## Finite values -/

/-- A value whose difference with itself vanishes is a real number. -/
theorem exists_coe {x : EReal} (h : x - x = 0) : ∃ r : ℝ, x = (r : EReal) := by
  induction x using EReal.rec with
  | bot => simp at h
  | top => simp at h
  | coe r => exact ⟨r, rfl⟩

theorem sub_self_add {x y : EReal} (hx : x - x = 0) (hy : y - y = 0) : (x + y) - (x + y) = 0 := by
  obtain ⟨a, rfl⟩ := exists_coe hx
  obtain ⟨b, rfl⟩ := exists_coe hy
  rw [← EReal.coe_add, ← EReal.coe_sub, sub_self, EReal.coe_zero]

theorem sub_self_mul {x y : EReal} (hx : x - x = 0) (hy : y - y = 0) : (x * y) - (x * y) = 0 := by
  obtain ⟨a, rfl⟩ := exists_coe hx
  obtain ⟨b, rfl⟩ := exists_coe hy
  rw [← EReal.coe_mul, ← EReal.coe_sub, sub_self, EReal.coe_zero]

/-! ## The block-diagonal product -/

/-- A product with a block-diagonal column is the product with its block. -/
theorem block_sum (x w : Fin 512 → EReal) (j : Fin 512) (h : ∀ i : Fin 512, i.val / 64 ≠ j.val / 64 → w i = 0) :
    ∑ i, x i * w i = ∑ i : Fin 64, x ⟨j.val / 64 * 64 + i.val, by omega⟩ * w ⟨j.val / 64 * 64 + i.val, by omega⟩ := by
  rw [Fin.sum_univ_tiles 8 64 rfl (fun i => x i * w i)]
  refine (Finset.sum_eq_single (⟨j.val / 64, by omega⟩ : Fin 8) (fun b _ hb => ?_) (fun hn => absurd (Finset.mem_univ _) hn)).trans rfl
  refine Finset.sum_eq_zero fun i _ => ?_
  rw [h _ (fun e => hb (Fin.ext ?_)), mul_zero]
  have e' : (b.val * 64 + i.val) / 64 = j.val / 64 := e
  show b.val = j.val / 64
  omega

end Cert.LruMath

end

end
-- ==== Proof.OutSpec.lean ====
/- The output call's mathematics at one entry: the gated linear unit over the first branch, the product of the three
   branches with the output weight in four runs of 512 columns, and the normalised residual sum. -/
module

public import proofs.«01_k».proof.Proof.Scalar
public import Idealize.ShloMosaic.Lib.Pointwise.Sums

@[expose] public section

noncomputable section

namespace Cert.OutSpec

open Idealize.ShloMosaic Cert.Scalar
open scoped BigOperators

/-- The hyperbolic-tangent form of the Gaussian error linear unit. -/
def gelu (v : EReal) : EReal :=
  v * (Ideal.ofBits .f32 0x3F000000#32 * (1 + Ideal.tanh (Ideal.ofBits .f32 0x3F4C422A#32 * (v + Ideal.ofBits .f32 0x3D372713#32 * (v * v * v)))))

/-- The same with the half taken first. -/
theorem gelu_half (v : EReal) :
    Ideal.ofBits .f32 0x3F000000#32 * v * (1 + Ideal.tanh (Ideal.ofBits .f32 0x3F4C422A#32 * (v + Ideal.ofBits .f32 0x3D372713#32 * (v * v * v)))) = gelu v := by
  unfold gelu
  ac_rfl

/-- The gated unit at one column, from the activated row, the column's weights and its bias. -/
def gated (y w : Fin 512 → EReal) (b : EReal) (c : Fin 512) : EReal :=
  y c * Ideal.logistic ((∑ k, y k * w k) + b)

/-- The residual sum at one column: the four runs of 512 columns of the concatenated branches. -/
def preNorm (x : EReal) (y g0 g1 l w0 w1 w2 w3 : Fin 512 → EReal) : EReal :=
  Ideal.ofBits .f32 0x3FD744FD#32 * x
    + ((∑ k, y k * w0 k) + (∑ k, g0 k * w1 k) + (∑ k, g1 k * w2 k) + ∑ k, l k * w3 k)

/-- The activated row from the first branch's four channel groups. -/
def activated (s : Fin 4 → Fin 128 → EReal) (k : Fin 512) : EReal :=
  gelu (s ⟨k.val / 128, by omega⟩ ⟨k.val % 128, by omega⟩)

/-- The call's result for one row at one column. -/
def outProj (x : Fin 2048 → EReal) (s : Fin 4 → Fin 128 → EReal) (g : Fin 1024 → EReal) (l : Fin 512 → EReal)
    (wg : Fin 512 → Fin 512 → EReal) (bg : Fin 512 → EReal) (w : Fin 2048 → Fin 2048 → EReal) (ga be : EReal) (j : Fin 2048) : EReal :=
  layerNorm (fun j => preNorm (x j) (fun k => gated (activated s) (fun l => wg l k) (bg k) k)
    (fun k => g ⟨k.val, by omega⟩) (fun k => g ⟨512 + k.val, by omega⟩) l
    (fun k => w ⟨k.val, by omega⟩ j) (fun k => w ⟨512 + k.val, by omega⟩ j)
    (fun k => w ⟨1024 + k.val, by omega⟩ j) (fun k => w ⟨1536 + k.val, by omega⟩ j)) ga be j

/-- A sum over 2048 columns in its four runs of 512. -/
theorem sum_runs (f : Fin 2048 → EReal) :
    ∑ k, f k = (∑ k : Fin 512, f ⟨k.val, by omega⟩) + (∑ k : Fin 512, f ⟨512 + k.val, by omega⟩)
      + (∑ k : Fin 512, f ⟨1024 + k.val, by omega⟩) + ∑ k : Fin 512, f ⟨1536 + k.val, by omega⟩ := by
  rw [Fin.sum_univ_tiles 4 512 rfl f, Fin.sum_univ_four]
  refine congrArg₂ (· + ·) (congrArg₂ (· + ·) (congrArg₂ (· + ·) ?_ ?_) ?_) ?_ <;>
    refine Finset.sum_congr rfl fun k _ => congrArg f (Fin.ext ?_)
  · show 0 * 512 + k.val = k.val; omega
  · show 1 * 512 + k.val = 512 + k.val; omega
  · show 2 * 512 + k.val = 1024 + k.val; omega
  · show 3 * 512 + k.val = 1536 + k.val; omega

end Cert.OutSpec

end

end
-- ==== Proof.LruSpec.lean ====
/- The recurrent unit's mathematics at one entry: the causal convolution of four taps, the two block gates, the decay and
   the drive of each channel, and the gated state. -/
module

public import proofs.«01_k».proof.Proof.LruMath
public import proofs.«01_k».proof.Proof.OutSpec

@[expose] public section

noncomputable section

namespace Cert.LruSpec

open Idealize.ShloMosaic Cert.Scalar Cert.LruMath
open scoped BigOperators

/-- The unit's parameters. -/
structure Params where
  /-- The four taps. -/
  tap : Fin 4 → Fin 512 → EReal
  /-- The convolution's bias. -/
  cbias : Fin 512 → EReal
  /-- The recurrence gate's blocks. -/
  wa : Fin 8 → Fin 64 → Fin 64 → EReal
  /-- The recurrence gate's bias. -/
  ba : Fin 512 → EReal
  /-- The input gate's blocks. -/
  wx : Fin 8 → Fin 64 → Fin 64 → EReal
  /-- The input gate's bias. -/
  bx : Fin 512 → EReal
  /-- The decay parameter. -/
  lam : Fin 512 → EReal

/-- The row `3 - k` before row `l`, zero before the start. -/
def back (x : ℕ → Fin 512 → EReal) (k l : ℕ) (j : Fin 512) : EReal := if k + l < 3 then 0 else x (k + l - 3) j

/-- The causal convolution. -/
def conv (p : Params) (x : ℕ → Fin 512 → EReal) (l : ℕ) (j : Fin 512) : EReal :=
  back x 0 l j * p.tap 0 j + back x 1 l j * p.tap 1 j + back x 2 l j * p.tap 2 j + back x 3 l j * p.tap 3 j + p.cbias j

/-- A block gate's argument on a row `v`. -/
def blockLin (W : Fin 8 → Fin 64 → Fin 64 → EReal) (b : Fin 512 → EReal) (v : Fin 512 → EReal) (j : Fin 512) : EReal :=
  (∑ i : Fin 64, W ⟨j.val / 64, by omega⟩ i ⟨j.val % 64, by omega⟩ * v ⟨j.val / 64 * 64 + i.val, by omega⟩) + b j

/-- The logarithm of the decay of a row `v`. -/
def logDecay (p : Params) (v : Fin 512 → EReal) (j : Fin 512) : EReal :=
  Ideal.ofBits .f32 0xC1000000#32 * Ideal.logistic (blockLin p.wa p.ba v j) * softplus (-(p.lam j))

/-- The decay. -/
def decay (p : Params) (v : Fin 512 → EReal) (j : Fin 512) : EReal := Ideal.exp (logDecay p v j)

/-- The drive. -/
def drive (p : Params) (v : Fin 512 → EReal) (j : Fin 512) : EReal :=
  Ideal.sqrt (-(Ideal.exp (Ideal.ofBits .f32 0x40000000#32 * logDecay p v j) - 1)) * (Ideal.logistic (blockLin p.wx p.bx v j) * v j)

/-- The state after `n` rows. -/
def state (p : Params) (x : ℕ → Fin 512 → EReal) (j : Fin 512) (n : ℕ) : EReal :=
  steps (fun l => decay p (conv p x l) j) (fun l => drive p (conv p x l) j) 0 n

/-- The unit's result at row `l`. -/
def unit (p : Params) (x : ℕ → Fin 512 → EReal) (g : EReal) (l : ℕ) (j : Fin 512) : EReal :=
  state p x j (l + 1) * OutSpec.gelu g

theorem decay_nonneg (p : Params) (v : Fin 512 → EReal) (j : Fin 512) : 0 ≤ decay p v j := exp_nonneg _

theorem decay_le_one (p : Params) (v : Fin 512 → EReal) (j : Fin 512) : decay p v j ≤ 1 := exp_le_one (logDecay_nonpos _ _)

/-- The drive with its complement by the hyperbolic tangent. -/
theorem drive_eq (p : Params) (v : Fin 512 → EReal) (j : Fin 512) :
    Ideal.sqrt ((0 - Ideal.tanh (logDecay p v j)) * (decay p v j * decay p v j + 1)) * (Ideal.logistic (blockLin p.wx p.bx v j) * v j)
      = drive p v j := by
  unfold decay drive
  rw [complement (logDecay p v j) (logDecay_nonpos _ _)]

/-- A convolved row is finite when the rows and the parameters are. -/
theorem conv_finite (p : Params) (x : ℕ → Fin 512 → EReal) (l : ℕ) (j : Fin 512) (hx : ∀ n j, x n j - x n j = 0)
    (ht : ∀ k j, p.tap k j - p.tap k j = 0) (hc : ∀ j, p.cbias j - p.cbias j = 0) : conv p x l j - conv p x l j = 0 := by
  have hb : ∀ k, back x k l j - back x k l j = 0 := fun k => by
    unfold back
    split
    · rw [← EReal.coe_zero, ← EReal.coe_sub, sub_self]
    · exact hx _ _
  exact sub_self_add (sub_self_add (sub_self_add (sub_self_add (sub_self_mul (hb _) (ht _ _)) (sub_self_mul (hb _) (ht _ _)))
    (sub_self_mul (hb _) (ht _ _))) (sub_self_mul (hb _) (ht _ _))) (hc _)

end Cert.LruSpec

end

end
-- ==== Proof.LruRef.lean ====
/- The recurrent unit's reference: what it computes before its loop, read at one entry. -/
module

public import proofs.«01_k».proof.Proof.Gen.LruRefIdeal.Run
public import proofs.«01_k».proof.Proof.LruSpec
public import Idealize.ShloMosaic.Lib.Claim

@[expose] public section

set_option maxRecDepth 16384

noncomputable section

namespace Cert.LruRefIdeal.Value

open Cert.LruRefIdeal Cert.LruRefIdeal.Gen Idealize.ShloMosaic Idealize.ShloMosaic.TcCoe Idealize.SL.Sem
open Cert.Scalar Cert.LruMath Cert.LruSpec
open scoped BigOperators

/-- The unit's columns of the projection, a batch at a time, with three rows of zeros in front. -/
def padded (P : FVec Ideal S16384x5376 .f32) : FVec Ideal S2x8195x512 .f32 :=
  pad S2x8195x512 ![0, 3, 0] ![0, 0, 0] ![0, 0, 0]
    (shapeCast S2x8192x512 (extractStridedSlice S16384x512 ![0, 4096] P slices_S16384x5376_S16384x512_0_4096) shapeCasts_S16384x512_S2x8192x512)
    (sitofp (F := Ideal) .f32 (constantI S_ 32 0#32)) pads_S2x8192x512_S2x8195x512_000_300_000 h_S_

/-- A row of 512 numbers for every position. -/
def spread (B : FVec Ideal S512 .f32) : FVec Ideal S2x8192x512 .f32 :=
  broadcastInDim S2x8192x512 ![0, 1, 2] bcast_S1x1x512_S2x8192x512_0_1_2 (broadcastInDim S1x1x512 ![2] bcast_S512_S1x1x512_2 B)

/-- The first layer's row of an array of four. -/
def first (B : FVec Ideal S4x512 .f32) : FVec Ideal S512 .f32 :=
  shapeCast S512 (extractStridedSlice S1x512 ![0, 0] B slices_S4x512_S1x512_0_0) shapeCasts_S1x512_S512

/-- The first layer's taps. -/
def taps (C : FVec Ideal S4x4x512 .f32) : FVec Ideal S4x512 .f32 :=
  shapeCast S4x512 (extractStridedSlice S1x4x512 ![0, 0, 0] C slices_S4x4x512_S1x4x512_0_0_0) shapeCasts_S1x4x512_S4x512

/-- The convolution. -/
def convolved (X : FVec Ideal S2x8195x512 .f32) (T : FVec Ideal S4x512 .f32) (B : FVec Ideal S512 .f32) : FVec Ideal S2x8192x512 .f32 :=
  addf (addf (addf (addf
    (mulf (extractStridedSlice S2x8192x512 ![0, 0, 0] X slices_S2x8195x512_S2x8192x512_0_0_0)
      (spread (shapeCast S512 (extractStridedSlice S1x512 ![0, 0] T slices_S4x512_S1x512_0_0) shapeCasts_S1x512_S512)))
    (mulf (extractStridedSlice S2x8192x512 ![0, 1, 0] X slices_S2x8195x512_S2x8192x512_0_1_0)
      (spread (shapeCast S512 (extractStridedSlice S1x512 ![1, 0] T slices_S4x512_S1x512_1_0) shapeCasts_S1x512_S512))))
    (mulf (extractStridedSlice S2x8192x512 ![0, 2, 0] X slices_S2x8195x512_S2x8192x512_0_2_0)
      (spread (shapeCast S512 (extractStridedSlice S1x512 ![2, 0] T slices_S4x512_S1x512_2_0) shapeCasts_S1x512_S512))))
    (mulf (extractStridedSlice S2x8192x512 ![0, 3, 0] X slices_S2x8195x512_S2x8192x512_0_3_0)
      (spread (shapeCast S512 (extractStridedSlice S1x512 ![3, 0] T slices_S4x512_S1x512_3_0) shapeCasts_S1x512_S512))))
    (spread B)

/-- A gate. -/
def gate (V : FVec Ideal S2x8192x512 .f32) (W : FVec Ideal S4x8x64x64 .f32) (B : FVec Ideal S4x512 .f32) : FVec Ideal S2x8192x512 .f32 :=
  Host.divf (broadcastInDim S2x8192x512 ![] bcast_S_S2x8192x512 (constant S_ .f32 0x3F800000#32))
    (addf (broadcastInDim S2x8192x512 ![] bcast_S_S2x8192x512 (constant S_ .f32 0x3F800000#32)) (Host.exp (Host.negf
      (addf (shapeCast S2x8192x512 (transpose S2x8192x8x64 [2, 3, 0, 1]
        (Host.dotGeneral dot_S8x64x64_S2x8192x8x64_S8x64x2x8192_1_3_2_01_0_2 none
          (shapeCast S8x64x64 (extractStridedSlice S1x8x64x64 ![0, 0, 0, 0] W slices_S4x8x64x64_S1x8x64x64_0_0_0_0) shapeCasts_S1x8x64x64_S8x64x64)
          (shapeCast S2x8192x8x64 V shapeCasts_S2x8192x512_S2x8192x8x64))
        transposes_S8x64x2x8192_S2x8192x8x64_2_3_0_1) shapeCasts_S2x8192x8x64_S2x8192x512) (spread (first B))))))

/-- The soft-plus of the negated decay parameter. -/
def soft (L : FVec Ideal S512 .f32) : FVec Ideal S512 .f32 :=
  select (cmpf .une (subf L (broadcastInDim S512 ![] bcast_S_S512 (constant S_ .f32 0x00000000#32))) (subf L (broadcastInDim S512 ![] bcast_S_S512 (constant S_ .f32 0x00000000#32))))
    (addf L (broadcastInDim S512 ![] bcast_S_S512 (constant S_ .f32 0x00000000#32)))
    (addf (maximumf L (broadcastInDim S512 ![] bcast_S_S512 (constant S_ .f32 0x00000000#32)))
      (Host.log1p (Host.exp (Host.negf (Host.absf (subf L (broadcastInDim S512 ![] bcast_S_S512 (constant S_ .f32 0x00000000#32))))))))

/-- The logarithm of the decay. -/
def logA (V : FVec Ideal S2x8192x512 .f32) (W : FVec Ideal S4x8x64x64 .f32) (B L : FVec Ideal S4x512 .f32) : FVec Ideal S2x8192x512 .f32 :=
  mulf (mulf (broadcastInDim S2x8192x512 ![] bcast_S_S2x8192x512 (constant S_ .f32 0xC1000000#32)) (gate V W B)) (spread (soft (Host.negf (first L))))

/-- The drive. -/
def driveA (V A : FVec Ideal S2x8192x512 .f32) (W : FVec Ideal S4x8x64x64 .f32) (B : FVec Ideal S4x512 .f32) : FVec Ideal S2x8192x512 .f32 :=
  mulf (Host.sqrt (Host.negf (Host.expm1 (mulf (broadcastInDim S2x8192x512 ![] bcast_S_S2x8192x512 (constant S_ .f32 0x40000000#32)) A))))
    (mulf (gate V W B) V)

/-- The parameters of the arguments. -/
def params (C : FVec Ideal S4x4x512 .f32) (CB : FVec Ideal S4x512 .f32) (WA : FVec Ideal S4x8x64x64 .f32) (BA : FVec Ideal S4x512 .f32)
    (WX : FVec Ideal S4x8x64x64 .f32) (BX L : FVec Ideal S4x512 .f32) : Params where
  tap k j := C (ix3 0 k j)
  cbias j := CB (ix2 0 j)
  wa h i k := WA (ix4 0 h i k)
  ba j := BA (ix2 0 j)
  wx h i k := WX (ix4 0 h i k)
  bx j := BX (ix2 0 j)
  lam j := L (ix2 0 j)

/-- The rows of one batch. -/
def rows (P : FVec Ideal S16384x5376 .f32) (b : Fin 2) (n : ℕ) (j : Fin 512) : EReal :=
  if h : n < 8192 then P (ix2 ⟨b.val * 8192 + n, by omega⟩ ⟨4096 + j.val, by omega⟩) else 0

theorem padded_at (P : FVec Ideal S16384x5376 .f32) (b : Fin 2) (k : Fin 4) (l : Fin 8192) (j : Fin 512) :
    padded P (ix3 b ⟨k.val + l.val, by omega⟩ j) = back (rows P b) k.val l.val j := by
  unfold back rows
  pointwise [padded]
  by_cases h : k.val + l.val < 3
  · rw [if_pos h, dif_neg (by omega)]
    show (((0#32 : BitVec 32).toInt : ℝ) : EReal) = 0
    simp
  · rw [if_neg h, dif_pos (by omega), dif_pos (by omega)]

theorem spread_at (B : FVec Ideal S512 .f32) (b : Fin 2) (l : Fin 8192) (j : Fin 512) : spread B (ix3 b l j) = B (ix1 j) := by
  pointwise [spread]

theorem first_at (B : FVec Ideal S4x512 .f32) (j : Fin 512) : first B (ix1 j) = B (ix2 0 j) := by
  pointwise [first]

theorem taps_at (C : FVec Ideal S4x4x512 .f32) (k : Fin 4) (j : Fin 512) : taps C (ix2 k j) = C (ix3 0 k j) := by
  pointwise [taps]

theorem gate_at (V : FVec Ideal S2x8192x512 .f32) (W : FVec Ideal S4x8x64x64 .f32) (B : FVec Ideal S4x512 .f32) (b : Fin 2) (l : Fin 8192) (j : Fin 512) :
    gate V W B (ix3 b l j) = Ideal.logistic (blockLin (fun h i k => W (ix4 0 h i k)) (fun j => B (ix2 0 j)) (fun j => V (ix3 b l j)) j) := by
  pointwise [gate, spread, first]
  rfl

theorem soft_at (L : FVec Ideal S512 .f32) (j : Fin 512) : soft L (ix1 j) = softplus (L (ix1 j)) := by
  pointwise [soft]
  rw [if_neg (fun h => h rfl)]
  rfl

theorem logA_at (V : FVec Ideal S2x8192x512 .f32) (W : FVec Ideal S4x8x64x64 .f32) (B L : FVec Ideal S4x512 .f32) (b : Fin 2) (l : Fin 8192) (j : Fin 512) :
    logA V W B L (ix3 b l j) = Ideal.ofBits .f32 0xC1000000#32 * gate V W B (ix3 b l j) * softplus (-(L (ix2 0 j))) := by
  pointwise [logA, spread_at, soft_at, first_at]

theorem driveA_at (V A : FVec Ideal S2x8192x512 .f32) (W : FVec Ideal S4x8x64x64 .f32) (B : FVec Ideal S4x512 .f32) (b : Fin 2) (l : Fin 8192) (j : Fin 512) :
    driveA V A W B (ix3 b l j) = Ideal.sqrt (-(Ideal.exp (Ideal.ofBits .f32 0x40000000#32 * A (ix3 b l j)) - 1)) * (gate V W B (ix3 b l j) * V (ix3 b l j)) := by
  pointwise [driveA]

theorem convolved_at (X : FVec Ideal S2x8195x512 .f32) (T : FVec Ideal S4x512 .f32) (B : FVec Ideal S512 .f32) (b : Fin 2) (l : Fin 8192) (j : Fin 512) :
    convolved X T B (ix3 b l j) = X (ix3 b ⟨l.val, by omega⟩ j) * T (ix2 0 j) + X (ix3 b ⟨1 + l.val, by omega⟩ j) * T (ix2 1 j)
      + X (ix3 b ⟨2 + l.val, by omega⟩ j) * T (ix2 2 j) + X (ix3 b ⟨3 + l.val, by omega⟩ j) * T (ix2 3 j) + B (ix1 j) := by
  pointwise [convolved, spread_at]

end Cert.LruRefIdeal.Value

end

end
-- ==== Proof.LruTrip.lean ====
/- The recurrent unit's reference: its loop, trip by trip. -/
module

public import proofs.«01_k».proof.Proof.LruRef
public import proofs.«01_k».proof.Proof.Gen.LruRefIdeal.Step

@[expose] public section

set_option maxRecDepth 16384

noncomputable section

namespace Cert.LruRefIdeal.Value

open Cert.LruRefIdeal Cert.LruRefIdeal.Gen Idealize.ShloMosaic Idealize.ShloMosaic.TcCoe Idealize.SL.Sem Idealize.ShloMosaic.StableHlo
open Cert.Scalar Cert.LruMath Cert.LruSpec
open scoped BigOperators

/-- Where trip `j` reads and writes: its own row. -/
def start (j : ℕ) : Fin 3 → Int := fun k =>
  ((![constantI S_ 32 (BitVec.ofNat 32 j), constantI S_ 32 0#32, constantI S_ 32 0#32] : Fin 3 → IVec S_ 32) k (Shape.Idx.first h_S_)).toInt

theorem start_zero (j : ℕ) (hj : j < 8192) : start j 0 = (j : Int) := by
  show (BitVec.ofNat 32 j).toInt = j
  rw [BitVec.toInt_eq_toNat_cond, BitVec.toNat_ofNat]
  omega

theorem clamp_zero (ht : S1x2x512.rank = S8192x2x512.rank) (j : ℕ) (hj : j < 8192) :
    Host.clampedStart S8192x2x512 S1x2x512 ht (start j) 0 = j :=
  Host.clampedStart_of_le ht (start j) 0 j (start_zero j hj) (by show j + 1 ≤ 8192; omega)

theorem clamp_one (ht : S1x2x512.rank = S8192x2x512.rank) (j : ℕ) : Host.clampedStart S8192x2x512 S1x2x512 ht (start j) 1 = 0 :=
  Host.clampedStart_of_le ht (start j) 1 0 rfl (by show 0 + 2 ≤ 2; omega)

theorem clamp_two (ht : S1x2x512.rank = S8192x2x512.rank) (j : ℕ) : Host.clampedStart S8192x2x512 S1x2x512 ht (start j) 2 = 0 :=
  Host.clampedStart_of_le ht (start j) 2 0 rfl (by show 0 + 512 ≤ 512; omega)

/-- One row of an array of rows. -/
def cut (A : FVec Ideal S8192x2x512 .f32) (j : ℕ) : FVec Ideal S2x512 .f32 :=
  shapeCast S2x512 (Host.dynamicSlice S1x2x512 A (start j) sliceFits_S8192x2x512_S1x2x512) shapeCasts_S1x2x512_S2x512

theorem cut_at (A : FVec Ideal S8192x2x512 .f32) (j : ℕ) (hj : j < 8192) (b : Fin 2) (k : Fin 512) :
    cut A j (ix2 b k) = A (ix3 ⟨j, hj⟩ b k) := by
  pointwise [cut]
  simp only [clamp_zero _ j hj, clamp_one, clamp_two, Nat.zero_add]

/-- An array of rows with one row replaced. -/
def put (Y : FVec Ideal S8192x2x512 .f32) (H : FVec Ideal S2x512 .f32) (j : ℕ) : FVec Ideal S8192x2x512 .f32 :=
  Host.dynamicUpdateSlice Y (broadcastInDim S1x2x512 ![1, 2] bcast_S2x512_S1x2x512_1_2 H) (start j) updateFits_S8192x2x512_S1x2x512

theorem put_at (Y : FVec Ideal S8192x2x512 .f32) (H : FVec Ideal S2x512 .f32) (j : ℕ) (hj : j < 8192) (l : Fin 8192) (b : Fin 2) (k : Fin 512) :
    put Y H j (ix3 l b k) = if l.val = j then H (ix2 b k) else Y (ix3 l b k) := by
  pointwise [put]
  simp only [clamp_zero _ j hj, clamp_one, clamp_two, Nat.sub_zero, Nat.zero_le, and_true]
  by_cases h : l.val = j
  · rw [if_pos h, dif_pos (by omega)]
  · rw [if_neg h, dif_neg (by omega)]

/-! ## The loop -/

/-- Row `n` of an array of rows at one entry, nothing past the end. -/
def at' (A : FVec Ideal S8192x2x512 .f32) (b : Fin 2) (k : Fin 512) (n : ℕ) : EReal :=
  if h : n < 8192 then A (ix3 ⟨n, h⟩ b k) else 0

/-- What the loop's values are before trip `j`: the decays `A` and drives `D` unchanged, the state after `j` steps, and every
    earlier state in its row. -/
structure Before (A D : FVec Ideal S8192x2x512 .f32) (j : ℕ) (V : Valuation τ sig (Elt Ideal)) : Prop where
  decays : V (Proc.devRef .tc main_v91_0) = A
  drives : V (Proc.devRef .tc main_v91_1) = D
  trip : V (Proc.devRef .tc main_v91_2) = constantI S_ 32 (BitVec.ofNat 32 j)
  now : ∀ b k, (V (Proc.devRef .tc main_v91_3) : FVec Ideal S2x512 .f32) (ix2 b k) = steps (at' A b k) (at' D b k) 0 j
  past : ∀ (l : Fin 8192) b k, l.val < j → (V (Proc.devRef .tc main_v91_4) : FVec Ideal S8192x2x512 .f32) (ix3 l b k) = steps (at' A b k) (at' D b k) 0 (l.val + 1)

/-- The state one trip makes. -/
def next (A D : FVec Ideal S8192x2x512 .f32) (H : FVec Ideal S2x512 .f32) (j : ℕ) : FVec Ideal S2x512 .f32 :=
  addf (mulf (cut A j) H) (cut D j)

theorem next_at (A D : FVec Ideal S8192x2x512 .f32) (H : FVec Ideal S2x512 .f32) (j : ℕ) (hj : j < 8192) (b : Fin 2) (k : Fin 512) :
    next A D H j (ix2 b k) = at' A b k j * H (ix2 b k) + at' D b k j := by
  pointwise [next, cut_at _ j hj]
  unfold at'
  rw [dif_pos hj, dif_pos hj]

theorem made (A D : FVec Ideal S8192x2x512 .f32) (j : ℕ) (V : Valuation τ sig (Elt Ideal)) (h0 : V (Proc.devRef .tc main_v91_0) = A)
    (h1 : V (Proc.devRef .tc main_v91_1) = D) (h2 : V (Proc.devRef .tc main_v91_2) = constantI S_ 32 (BitVec.ofNat 32 j)) :
    res_main_while0b_v113 V = next A D (V (Proc.devRef .tc main_v91_3)) j := by
  unfold res_main_while0b_v113
  rw [h0, h1, h2]
  rfl

theorem stored (A D : FVec Ideal S8192x2x512 .f32) (j : ℕ) (V : Valuation τ sig (Elt Ideal)) (h0 : V (Proc.devRef .tc main_v91_0) = A)
    (h1 : V (Proc.devRef .tc main_v91_1) = D) (h2 : V (Proc.devRef .tc main_v91_2) = constantI S_ 32 (BitVec.ofNat 32 j)) :
    step_main_v91_4 V = put (V (Proc.devRef .tc main_v91_4)) (next A D (V (Proc.devRef .tc main_v91_3)) j) j := by
  unfold step_main_v91_4
  rw [made A D j V h0 h1 h2, h2]
  rfl

/-- One trip. -/
theorem Before.trip_next {A D : FVec Ideal S8192x2x512 .f32} {j : ℕ} {V : Valuation τ sig (Elt Ideal)} (h : Before A D j V) (hj : j < 8192) :
    Before A D (j + 1) (STEP V) where
  decays := (STEP_main_v91_0 V).trans h.decays
  drives := (STEP_main_v91_1 V).trans h.drives
  trip := by
    rw [STEP_main_v91_2]
    unfold step_main_v91_2
    rw [h.trip]
    funext i
    show BitVec.ofNat 32 j + 1#32 = BitVec.ofNat 32 (j + 1)
    rw [BitVec.ofNat_add]
  now := fun b k => by
    rw [STEP_main_v91_3]
    have e : step_main_v91_3 V = next A D (V (Proc.devRef .tc main_v91_3)) j := made A D j V h.decays h.drives h.trip
    rw [e]
    refine (next_at A D _ j hj b k).trans ?_
    rw [h.now b k]
    rfl
  past := fun l b k hl => by
    rw [STEP_main_v91_4, stored A D j V h.decays h.drives h.trip]
    refine (put_at _ _ j hj l b k).trans ?_
    by_cases e : l.val = j
    · rw [if_pos e, next_at A D _ j hj b k, h.now b k, e]
      rfl
    · rw [if_neg e]
      exact h.past l b k (by omega)

/-- All trips up to `j`. -/
theorem Before.iterate {A D : FVec Ideal S8192x2x512 .f32} {V : Valuation τ sig (Elt Ideal)} (h : Before A D 0 V) :
    ∀ j, j ≤ 8192 → Before A D j (STEP^[j] V)
  | 0, _ => h
  | j + 1, hj => by
    rw [Function.iterate_succ_apply']
    exact (Before.iterate h j (by omega)).trip_next (by omega)

variable (m : (ℓ : Loc nD τ sig) → Buf (Elt Ideal) ℓ) (c : Dev nD)

/-- Argument 0: the projection. -/
abbrev A0 : FVec Ideal S16384x5376 .f32 := m ((c.tc : Thread nD τ).loc main_arg0)
/-- Argument 1: the taps. -/
abbrev A1 : FVec Ideal S4x4x512 .f32 := m ((c.tc : Thread nD τ).loc main_arg1)
/-- Argument 2: the convolution's bias. -/
abbrev A2 : FVec Ideal S4x512 .f32 := m ((c.tc : Thread nD τ).loc main_arg2)
/-- Argument 3: the recurrence gate's blocks. -/
abbrev A3 : FVec Ideal S4x8x64x64 .f32 := m ((c.tc : Thread nD τ).loc main_arg3)
/-- Argument 4: the recurrence gate's bias. -/
abbrev A4 : FVec Ideal S4x512 .f32 := m ((c.tc : Thread nD τ).loc main_arg4)
/-- Argument 5: the input gate's blocks. -/
abbrev A5 : FVec Ideal S4x8x64x64 .f32 := m ((c.tc : Thread nD τ).loc main_arg5)
/-- Argument 6: the input gate's bias. -/
abbrev A6 : FVec Ideal S4x512 .f32 := m ((c.tc : Thread nD τ).loc main_arg6)
/-- Argument 7: the decay parameter. -/
abbrev A7 : FVec Ideal S4x512 .f32 := m ((c.tc : Thread nD τ).loc main_arg7)

/-- The convolved rows. -/
def conved : FVec Ideal S2x8192x512 .f32 := convolved (padded (A0 m c)) (taps (A1 m c)) (first (A2 m c))

/-- The decays, row by row. -/
def decays : FVec Ideal S8192x2x512 .f32 :=
  transpose S8192x2x512 [1, 0, 2] (Host.exp (logA (conved m c) (A3 m c) (A4 m c) (A7 m c))) transposes_S2x8192x512_S8192x2x512_1_0_2

/-- The drives, row by row. -/
def drives : FVec Ideal S8192x2x512 .f32 :=
  transpose S8192x2x512 [1, 0, 2] (driveA (conved m c) (logA (conved m c) (A3 m c) (A4 m c) (A7 m c)) (A5 m c) (A6 m c)) transposes_S2x8192x512_S8192x2x512_1_0_2

section Generic

variable {F : FTy → Type} [FloatOps F] (M : (ℓ : Loc nD τ sig) → Buf (Elt F) ℓ) (d : Dev nD)

set_option maxRecDepth 65536 in
set_option maxHeartbeats 600000 in
/-- The decays handed to the loop, whatever the arithmetic. -/
theorem entry_decays : entryContents preI M d (Proc.devRef .tc main_v91_0) = Step.A_main_v88 (M ((d.tc : Thread nD τ).loc main_arg0)) (M ((d.tc : Thread nD τ).loc main_arg1)) (M ((d.tc : Thread nD τ).loc main_arg2)) (M ((d.tc : Thread nD τ).loc main_arg3)) (M ((d.tc : Thread nD τ).loc main_arg4)) (M ((d.tc : Thread nD τ).loc main_arg5)) (M ((d.tc : Thread nD τ).loc main_arg6)) (M ((d.tc : Thread nD τ).loc main_arg7)) := by
  (simp only [entryContents, afterL_cons, afterL_nil]; after_reads_simp); rfl

set_option maxRecDepth 65536 in
set_option maxHeartbeats 600000 in
/-- The drives handed to the loop, whatever the arithmetic. -/
theorem entry_drives : entryContents preI M d (Proc.devRef .tc main_v91_1) = Step.A_main_v89 (M ((d.tc : Thread nD τ).loc main_arg0)) (M ((d.tc : Thread nD τ).loc main_arg1)) (M ((d.tc : Thread nD τ).loc main_arg2)) (M ((d.tc : Thread nD τ).loc main_arg3)) (M ((d.tc : Thread nD τ).loc main_arg4)) (M ((d.tc : Thread nD τ).loc main_arg5)) (M ((d.tc : Thread nD τ).loc main_arg6)) (M ((d.tc : Thread nD τ).loc main_arg7)) := by
  (simp only [entryContents, afterL_cons, afterL_nil]; after_reads_simp); rfl

end Generic

theorem conved_eq : Step.A_main_v36 (F := Ideal) (A0 m c) (A1 m c) (A2 m c) (A3 m c) (A4 m c) (A5 m c) (A6 m c) (A7 m c) = conved m c := rfl

theorem gateA_eq : Step.A_main_v53 (F := Ideal) (A0 m c) (A1 m c) (A2 m c) (A3 m c) (A4 m c) (A5 m c) (A6 m c) (A7 m c) = gate (conved m c) (A3 m c) (A4 m c) := by
  rw [← conved_eq]
  rfl

theorem gateX_eq : Step.A_main_v69 (F := Ideal) (A0 m c) (A1 m c) (A2 m c) (A3 m c) (A4 m c) (A5 m c) (A6 m c) (A7 m c) = gate (conved m c) (A5 m c) (A6 m c) := by
  rw [← conved_eq]
  rfl

theorem soft_eq : Step.A_main_v75 (F := Ideal) (A0 m c) (A1 m c) (A2 m c) (A3 m c) (A4 m c) (A5 m c) (A6 m c) (A7 m c) = soft (Host.negf (first (A7 m c))) := rfl

theorem logA_made : Step.A_main_v78 (F := Ideal) (A0 m c) (A1 m c) (A2 m c) (A3 m c) (A4 m c) (A5 m c) (A6 m c) (A7 m c) = logA (conved m c) (A3 m c) (A4 m c) (A7 m c) := by
  unfold logA
  rw [← gateA_eq, ← soft_eq]
  rfl

theorem decays_eq : Step.A_main_v88 (F := Ideal) (A0 m c) (A1 m c) (A2 m c) (A3 m c) (A4 m c) (A5 m c) (A6 m c) (A7 m c) = decays m c := by
  unfold decays
  rw [← logA_made]
  rfl

theorem drives_eq : Step.A_main_v89 (F := Ideal) (A0 m c) (A1 m c) (A2 m c) (A3 m c) (A4 m c) (A5 m c) (A6 m c) (A7 m c) = drives m c := by
  unfold drives driveA
  rw [← logA_made, ← gateX_eq, ← conved_eq]
  rfl

/-- Before the first trip. -/
theorem entry : Before (decays m c) (drives m c) 0 (entryContents preI m c) where
  decays := (entry_decays m c).trans (decays_eq m c)
  drives := (entry_drives m c).trans (drives_eq m c)
  trip := by (simp only [entryContents, afterL_cons, afterL_nil]; after_reads_simp); rfl
  now := fun b k => by
    have e : entryContents preI m c (Proc.devRef .tc main_v91_3) = (broadcastInDim S2x512 ![] bcast_S_S2x512 (constant (F := Ideal) S_ .f32 0x00000000#32) : FVec Ideal S2x512 .f32) := by
      (simp only [entryContents, afterL_cons, afterL_nil]; after_reads_simp); rfl
    rw [e]
    pointwise
    rfl
  past := fun l b k h => absurd h (Nat.not_lt_zero _)

/-- The unit's parameters of the memory. -/
abbrev prm : Params := params (A1 m c) (A2 m c) (A3 m c) (A4 m c) (A5 m c) (A6 m c) (A7 m c)

theorem conved_at (b : Fin 2) (l : Fin 8192) (j : Fin 512) : conved m c (ix3 b l j) = conv (prm m c) (rows (A0 m c) b) l.val j := by
  unfold conved conv
  rw [convolved_at, taps_at, taps_at, taps_at, taps_at, first_at]
  have h := padded_at (A0 m c) b
  have h0 := h 0 l j
  have h1 := h 1 l j
  have h2 := h 2 l j
  have h3 := h 3 l j
  simp only [Fin.val_zero, Nat.zero_add] at h0
  exact congrArg (· + _) (congrArg₂ (· + ·) (congrArg₂ (· + ·) (congrArg₂ (· + ·) (congrArg (· * _) h0) (congrArg (· * _) h1)) (congrArg (· * _) h2)) (congrArg (· * _) h3))

theorem logA_eq (b : Fin 2) (l : Fin 8192) (j : Fin 512) :
    logA (conved m c) (A3 m c) (A4 m c) (A7 m c) (ix3 b l j) = logDecay (prm m c) (conv (prm m c) (rows (A0 m c) b) l.val) j := by
  rw [logA_at, gate_at]
  simp only [conved_at]
  rfl

theorem decays_at (b : Fin 2) (l : Fin 8192) (j : Fin 512) :
    decays m c (ix3 l b j) = decay (prm m c) (conv (prm m c) (rows (A0 m c) b) l.val) j := by
  pointwise [decays]
  rw [logA_eq]
  rfl

theorem drives_at (b : Fin 2) (l : Fin 8192) (j : Fin 512) :
    drives m c (ix3 l b j) = drive (prm m c) (conv (prm m c) (rows (A0 m c) b) l.val) j := by
  pointwise [drives]
  rw [driveA_at, logA_eq, gate_at]
  simp only [conved_at]
  rfl

/-- The result at one entry. -/
theorem ref_at (i : Fin 16384) (j : Fin 512) :
    out_main_v109 (STEP^[8192] (entryContents preI m c)) (ix2 i j)
      = unit (prm m c) (rows (A0 m c) ⟨i.val / 8192, by omega⟩) (A0 m c (ix2 i ⟨4608 + j.val, by omega⟩)) (i.val % 8192) j := by
  have h := (entry m c).iterate 8192 (le_refl _)
  have hp := h.past ⟨i.val % 8192, by omega⟩ ⟨i.val / 8192, by omega⟩ j (by show i.val % 8192 < 8192; omega)
  unfold out_main_v109
  rw [iter_main_arg0]
  pointwise
  rw [hp]
  unfold unit state
  refine congrArg (· * _) (steps_congr _ _ _ _ _ _ (fun n hn => ?_) (fun n hn => ?_))
  · have h' : n < 8192 := by omega
    unfold at'
    rw [dif_pos h', decays_at]
  · have h' : n < 8192 := by omega
    unfold at'
    rw [dif_pos h', drives_at]

end Cert.LruRefIdeal.Value

end

end
-- ==== Proof.LruScan.lean ====
/- The recurrent kernel's scan of a block of 512 rows: eight-row tiles by doubling, then the tiles one after another. -/
module

public import proofs.«01_k».proof.Proof.Gen.LruIdeal.Value
public import proofs.«01_k».proof.Proof.LruSpec
public import Idealize.ShloMosaic.Lib.Pipeline.ValueKit
public import Idealize.ShloMosaic.Lib.Claim

@[expose] public section

set_option maxRecDepth 16384

noncomputable section

namespace Cert.LruIdeal.Value

open Cert.LruIdeal Cert.LruIdeal.Gen Idealize.ShloMosaic Idealize.ShloMosaic.TcCoe Idealize.SL.Sem
open Cert.Scalar Cert.LruMath Cert.LruSpec
open scoped BigOperators

/-- Row `k` of tile `q`. -/
def trow (q : Fin 64) (k : Fin 8) : Fin 512 := ⟨8 * q.val + k.val, by omega⟩

/-- The position of a row in its tile, compared. -/
theorem mask_one : ∀ r : Fin 512, IntOp.cmpi CmpIPredicate.sge (IntOp.andi (BitVec.ofNat 32 r.val) 7#32) 1#32 = if 1 ≤ r.val % 8 then 1#1 else 0#1 := by
  decide +kernel

theorem mask_two : ∀ r : Fin 512, IntOp.cmpi CmpIPredicate.sge (IntOp.andi (BitVec.ofNat 32 r.val) 7#32) 2#32 = if 2 ≤ r.val % 8 then 1#1 else 0#1 := by
  decide +kernel

theorem mask_four : ∀ r : Fin 512, IntOp.cmpi CmpIPredicate.sge (IntOp.andi (BitVec.ofNat 32 r.val) 7#32) 4#32 = if 4 ≤ r.val % 8 then 1#1 else 0#1 := by
  decide +kernel

/-- A row of the tile `s` above, or `e` where the tile has none. -/
theorem pick (s : ℕ) (M : BitVec 1) (Y : FVec Ideal S512x512 .f32) (e : EReal) (q : Fin 64) (k : Fin 8) (j : Fin 512) (hs : s < 512)
    (hM : M = if s ≤ (8 * q.val + k.val) % 8 then 1#1 else 0#1) (h : (8 * q.val + k.val + 512 - s) % 512 < 512) :
    Scalar.select M (Y (ix2 ⟨(8 * q.val + k.val + 512 - s) % 512, h⟩ j)) e
      = if s ≤ k.val then Y (ix2 (trow q ⟨k.val - s, by omega⟩) j) else e := by
  have e8 : (8 * q.val + k.val) % 8 = k.val := by omega
  rw [hM, e8]
  by_cases hk : s ≤ k.val
  · rw [if_pos hk, if_pos hk]
    show Y _ = Y _
    refine congrArg (fun r => Y (ix2 r j)) (Fin.ext ?_)
    show (8 * q.val + k.val + 512 - s) % 512 = 8 * q.val + (k.val - s)
    omega
  · rw [if_neg hk, if_neg hk]
    rfl

variable (x g u : FVec Ideal S512x512 .f32) (v w : FVec Ideal S1x512 .f32) (q : Fin 64) (k : Fin 8) (j : Fin 512)

/-- The drive of a row. -/
def driveV : FVec Ideal S512x512 .f32 :=
  mulf (sqrt (mulf (subf (broadcast S512x512 (Scalar.ofBits (F := Ideal) .f32 0x00000000#32)) (tanh (k0_pay11 (F := Ideal) u v w)))
    (addf (mulf (k0_pay12 (F := Ideal) u v w) (k0_pay12 (F := Ideal) u v w)) (broadcast S512x512 (Scalar.ofBits (F := Ideal) .f32 0x3F800000#32))))) (mulf g x)

theorem pay16_at : k0_pay16 (F := Ideal) u v w (ix2 (trow q k) j) = dblP 1 (fun k => k0_pay12 (F := Ideal) u v w (ix2 (trow q k) j)) k := by
  unfold dblP
  rw [← pick 1 _ (k0_pay12 (F := Ideal) u v w) 1 q k j (by decide) (mask_one (trow q k)) (by omega)]
  unfold trow
  pointwise [k0_pay16, k0_pay14, k0_pay13]

theorem pay15_at : k0_pay15 (F := Ideal) x g u v w (ix2 (trow q k) j)
    = dblQ 1 (fun k => k0_pay12 (F := Ideal) u v w (ix2 (trow q k) j)) (fun k => driveV x g u v w (ix2 (trow q k) j)) k := by
  unfold dblQ
  rw [← pick 1 _ (driveV x g u v w) 0 q k j (by decide) (mask_one (trow q k)) (by omega)]
  unfold trow
  pointwise [k0_pay15, k0_pay14, k0_pay13, driveV]

theorem pay18_at : k0_pay18 (F := Ideal) u v w (ix2 (trow q k) j)
    = if 2 ≤ k.val then k0_pay16 (F := Ideal) u v w (ix2 (trow q ⟨k.val - 2, by omega⟩) j) else 1 := by
  rw [← pick 2 _ (k0_pay16 (F := Ideal) u v w) 1 q k j (by decide) (mask_two (trow q k)) (by omega)]
  unfold trow
  pointwise [k0_pay18, k0_pay17, k0_pay13]

theorem pay19_at : k0_pay19 (F := Ideal) x g u v w (ix2 (trow q k) j)
    = k0_pay16 (F := Ideal) u v w (ix2 (trow q k) j) * (if 2 ≤ k.val then k0_pay15 (F := Ideal) x g u v w (ix2 (trow q ⟨k.val - 2, by omega⟩) j) else 0) := by
  rw [← pick 2 _ (k0_pay15 (F := Ideal) x g u v w) 0 q k j (by decide) (mask_two (trow q k)) (by omega)]
  unfold trow
  pointwise [k0_pay19, k0_pay17, k0_pay13]

theorem pay20_at : k0_pay20 (F := Ideal) (k0_pay16 (F := Ideal) u v w) (k0_pay18 (F := Ideal) u v w) (ix2 (trow q k) j)
    = dblP 2 (dblP 1 (fun k => k0_pay12 (F := Ideal) u v w (ix2 (trow q k) j))) k := by
  have e : k0_pay20 (F := Ideal) (k0_pay16 (F := Ideal) u v w) (k0_pay18 (F := Ideal) u v w) (ix2 (trow q k) j)
      = k0_pay16 (F := Ideal) u v w (ix2 (trow q k) j) * k0_pay18 (F := Ideal) u v w (ix2 (trow q k) j) := by pointwise [k0_pay20]
  rw [e, pay18_at, pay16_at, pay16_at]
  rfl

theorem sum2_at : addf (k0_pay19 (F := Ideal) x g u v w) (k0_pay15 (F := Ideal) x g u v w) (ix2 (trow q k) j)
    = dblQ 2 (dblP 1 (fun k => k0_pay12 (F := Ideal) u v w (ix2 (trow q k) j)))
        (dblQ 1 (fun k => k0_pay12 (F := Ideal) u v w (ix2 (trow q k) j)) (fun k => driveV x g u v w (ix2 (trow q k) j))) k := by
  have e : addf (k0_pay19 (F := Ideal) x g u v w) (k0_pay15 (F := Ideal) x g u v w) (ix2 (trow q k) j)
      = k0_pay19 (F := Ideal) x g u v w (ix2 (trow q k) j) + k0_pay15 (F := Ideal) x g u v w (ix2 (trow q k) j) := by pointwise
  rw [e, pay19_at, pay16_at, pay15_at, pay15_at]
  rfl

/-- The tile's product coefficients. -/
theorem pay23_at : k0_pay23 (F := Ideal) (k0_pay13) (k0_pay16 (F := Ideal) u v w) (k0_pay18 (F := Ideal) u v w) (ix2 (trow q k) j)
    = dblP 4 (dblP 2 (dblP 1 (fun k => k0_pay12 (F := Ideal) u v w (ix2 (trow q k) j)))) k := by
  rw [dblP, ← pay20_at u v w q k j]
  simp only [← pay20_at]
  rw [← pick 4 _ (k0_pay20 (F := Ideal) (k0_pay16 (F := Ideal) u v w) (k0_pay18 (F := Ideal) u v w)) 1 q k j (by decide) (mask_four (trow q k)) (by omega)]
  unfold trow
  pointwise [k0_pay23, k0_pay21, k0_pay13]

/-- The tile's additive coefficients. -/
theorem pay22_at : k0_pay22 (F := Ideal) (k0_pay13) (k0_pay15 (F := Ideal) x g u v w) (k0_pay16 (F := Ideal) u v w) (k0_pay18 (F := Ideal) u v w)
      (k0_pay19 (F := Ideal) x g u v w) (ix2 (trow q k) j)
    = dblQ 4 (dblP 2 (dblP 1 (fun k => k0_pay12 (F := Ideal) u v w (ix2 (trow q k) j))))
        (dblQ 2 (dblP 1 (fun k => k0_pay12 (F := Ideal) u v w (ix2 (trow q k) j)))
          (dblQ 1 (fun k => k0_pay12 (F := Ideal) u v w (ix2 (trow q k) j)) (fun k => driveV x g u v w (ix2 (trow q k) j)))) k := by
  rw [dblQ, ← pay20_at u v w q k j]
  simp only [← sum2_at]
  rw [← pick 4 _ (addf (k0_pay19 (F := Ideal) x g u v w) (k0_pay15 (F := Ideal) x g u v w)) 0 q k j (by decide) (mask_four (trow q k)) (by omega)]
  unfold trow
  pointwise [k0_pay22, k0_pay21, k0_pay13]

end Cert.LruIdeal.Value

end

end
-- ==== Proof.LruTiles.lean ====
/- The recurrent kernel's sixty-four tiles, one after another: each from the last row of the tile before it. -/
module

public import proofs.«01_k».proof.Proof.LruScan

@[expose] public section

set_option maxRecDepth 16384

noncomputable section

namespace Cert.LruIdeal.Value

open Cert.LruIdeal Cert.LruIdeal.Gen Idealize.ShloMosaic Idealize.ShloMosaic.TcCoe Idealize.SL.Sem
open Cert.Scalar Cert.LruMath Cert.LruSpec
open scoped BigOperators

/-- The tiles of `A` and `B` take the state `S` from a multiple of eight to each of the eight states after it. -/
def Ladder (A B : FVec Ideal S512x512 .f32) (S : Fin 512 → ℕ → EReal) : Prop :=
  ∀ (q : Fin 64) (k : Fin 8) (j : Fin 512), A (ix2 (trow q k) j) * S j (8 * q.val) + B (ix2 (trow q k) j) = S j (8 * q.val + (k.val + 1))

/-- `V` is the states of tile `n`. -/
def Full (S : Fin 512 → ℕ → EReal) (n : ℕ) (V : FVec Ideal S8x512 .f32) : Prop :=
  ∀ (k : Fin 8) (j : Fin 512), V (ix2 k j) = S j (8 * n + (k.val + 1))

/-- `H` is tile `n` of `A` times the state before it. -/
def Half (A : FVec Ideal S512x512 .f32) (S : Fin 512 → ℕ → EReal) (n : ℕ) (hn : n < 64) (H : FVec Ideal S8x512 .f32) : Prop :=
  ∀ (k : Fin 8) (j : Fin 512), H (ix2 k j) = A (ix2 (trow ⟨n, hn⟩ k) j) * S j (8 * n)

section
variable {A B : FVec Ideal S512x512 .f32} {S : Fin 512 → ℕ → EReal} {V H : FVec Ideal S8x512 .f32}

theorem slice_at (Y : FVec Ideal S512x512 .f32) (o n : ℕ) (hn : n < 64) (ho : o = 8 * n) (h : S512x512.Slices ![o, 0] S8x512) (k : Fin 8) (j : Fin 512) :
    extractStridedSlice S8x512 ![o, 0] Y h (ix2 k j) = Y (ix2 (trow ⟨n, hn⟩ k) j) := by
  subst ho
  pointwise
  rfl

theorem first_tile (L : Ladder A B S) (c : FVec Ideal S1x512 .f32) (hc : ∀ j, c (ix2 0 j) = S j 0)
    (h : S512x512.Slices ![0, 0] S8x512) (hb : S1x512.Broadcasts S8x512) :
    Full S 0 (addf (mulf (extractStridedSlice S8x512 ![0, 0] A h) (broadcastTo S8x512 c hb)) (extractStridedSlice S8x512 ![0, 0] B h)) := by
  intro k j
  have e1 := slice_at A 0 0 (by decide) rfl h k j
  have e2 := slice_at B 0 0 (by decide) rfl h k j
  have e3 : broadcastTo S8x512 c hb (ix2 k j) = S j 0 := by
    pointwise
    exact hc j
  show extractStridedSlice S8x512 ![0, 0] A h (ix2 k j) * broadcastTo S8x512 c hb (ix2 k j) + extractStridedSlice S8x512 ![0, 0] B h (ix2 k j) = _
  rw [e1, e2, e3]
  exact L ⟨0, by decide⟩ k j

theorem half_tile (n o : ℕ) (hn : n + 1 < 64) (ho : o = 8 * (n + 1)) (hV : Full S n V) (h : S512x512.Slices ![o, 0] S8x512)
    (h7 : S8x512.Slices ![7, 0] S1x512) (hb : S1x512.Broadcasts S8x512) :
    Half A S (n + 1) hn (mulf (extractStridedSlice S8x512 ![o, 0] A h) (broadcastTo S8x512 (extractStridedSlice S1x512 ![7, 0] V h7) hb)) := by
  intro k j
  have e1 := slice_at A o (n + 1) hn ho h k j
  have e3 : broadcastTo S8x512 (extractStridedSlice S1x512 ![7, 0] V h7) hb (ix2 k j) = S j (8 * (n + 1)) := by
    pointwise
    exact hV ⟨7, by decide⟩ j
  show extractStridedSlice S8x512 ![o, 0] A h (ix2 k j) * broadcastTo S8x512 (extractStridedSlice S1x512 ![7, 0] V h7) hb (ix2 k j) = _
  rw [e1, e3]

theorem whole_tile (L : Ladder A B S) (n o : ℕ) (hn : n < 64) (ho : o = 8 * n) (hH : Half A S n hn H) (h : S512x512.Slices ![o, 0] S8x512) :
    Full S n (addf H (extractStridedSlice S8x512 ![o, 0] B h)) := by
  intro k j
  have e2 := slice_at B o n hn ho h k j
  show H (ix2 k j) + extractStridedSlice S8x512 ![o, 0] B h (ix2 k j) = _
  rw [hH k j, e2]
  exact L ⟨n, hn⟩ k j

theorem next_tile (L : Ladder A B S) (n o : ℕ) (hn : n + 1 < 64) (ho : o = 8 * (n + 1)) (hV : Full S n V) (h : S512x512.Slices ![o, 0] S8x512)
    (h7 : S8x512.Slices ![7, 0] S1x512) (hb : S1x512.Broadcasts S8x512) :
    Full S (n + 1) (addf (mulf (extractStridedSlice S8x512 ![o, 0] A h) (broadcastTo S8x512 (extractStridedSlice S1x512 ![7, 0] V h7) hb))
      (extractStridedSlice S8x512 ![o, 0] B h)) :=
  whole_tile L (n + 1) o hn ho (half_tile n o hn ho hV h h7 hb) h

/-- Sixty-four tiles of eight rows, one under another. -/
theorem stack_at (T : List (FVec Ideal S8x512 .f32)) (hT : T.length = 64)
    (h : Shape.Concatenates ((T.map fun v => (⟨S8x512, v⟩ : (s : Shape) × (s.Idx → Ideal .f32))).map (·.1)) S512x512 0)
    (q : Fin 64) (k : Fin 8) (j : Fin 512) :
    concatenate S512x512 0 (T.map fun v => (⟨S8x512, v⟩ : (s : Shape) × (s.Idx → Ideal .f32))) h (ix2 (trow q k) j)
      = (T[q.val]'(by omega)) (ix2 k j) := by
  have e : (T.map fun v => (⟨S8x512, v⟩ : (s : Shape) × (s.Idx → Ideal .f32)))
      = List.ofFn fun n : Fin 64 => (⟨S8x512, T[n.val]'(by omega)⟩ : (s : Shape) × (s.Idx → Ideal .f32)) := by
    refine List.ext_getElem (by rw [List.length_map, List.length_ofFn, hT]) fun i h1 h2 => ?_
    rw [List.getElem_map, List.getElem_ofFn]
  have hq : (8 * q.val + k.val) / 8 = q.val := by omega
  have hk : (8 * q.val + k.val) % 8 = k.val := by omega
  revert h
  rw [e]
  intro h
  exact concatenate_ofFn_apply (α := Ideal .f32) (t := S512x512) (s₁ := S8x512) 0 (fun n : Fin 64 => T[n.val]'(by omega)) h rfl 8 rfl (ix2 (trow q k) j) q
    hq (ix2 k j) hk.symm (by intro b hb; fin_cases b <;> first | rfl | exact absurd rfl hb)

end

section
variable (v100 : IVec S512x512 32) (d1 d3 d4 d2 : FVec Ideal S512x512 .f32) (c : FVec Ideal S1x512 .f32) (S : Fin 512 → ℕ → EReal)
  (L : Ladder (k0_pay23 (F := Ideal) v100 d3 d4) (k0_pay22 (F := Ideal) v100 d1 d3 d4 d2) S) (hc : ∀ j, c (ix2 0 j) = S j 0)
include L hc

theorem tile0 : Full S 0 (k0_pay24 (F := Ideal) v100 d1 d3 d4 d2 c) := by
  unfold k0_pay24
  exact first_tile L c hc _ _

theorem tile1 : Full S 1 (k0_pay25 (F := Ideal) v100 d1 d3 d4 d2 c) := by
  unfold k0_pay25
  exact next_tile L 0 8 (by decide) rfl (tile0 v100 d1 d3 d4 d2 c S L hc) _ _ _

theorem tile2 : Full S 2 (k0_pay26 (F := Ideal) v100 d1 d3 d4 d2 c) := by
  unfold k0_pay26
  exact next_tile L 1 16 (by decide) rfl (tile1 v100 d1 d3 d4 d2 c S L hc) _ _ _

theorem tile3 : Full S 3 (k0_pay27 (F := Ideal) v100 d1 d3 d4 d2 c) := by
  unfold k0_pay27
  exact next_tile L 2 24 (by decide) rfl (tile2 v100 d1 d3 d4 d2 c S L hc) _ _ _

theorem tile4 : Full S 4 (k0_pay28 (F := Ideal) v100 d1 d3 d4 d2 c) := by
  unfold k0_pay28
  exact next_tile L 3 32 (by decide) rfl (tile3 v100 d1 d3 d4 d2 c S L hc) _ _ _

theorem tile5 : Full S 5 (k0_pay29 (F := Ideal) v100 d1 d3 d4 d2 c) := by
  unfold k0_pay29
  exact next_tile L 4 40 (by decide) rfl (tile4 v100 d1 d3 d4 d2 c S L hc) _ _ _

theorem half6 : Half (k0_pay23 (F := Ideal) v100 d3 d4) S 6 (by decide) (k0_pay30 (F := Ideal) v100 d1 d3 d4 d2 c) := by
  unfold k0_pay30
  exact half_tile 5 48 (by decide) rfl (tile5 v100 d1 d3 d4 d2 c S L hc) _ _ _

end

section
variable (A B : FVec Ideal S512x512 .f32) (S : Fin 512 → ℕ → EReal) (L : Ladder A B S)
include L

theorem tile6 (H : FVec Ideal S8x512 .f32) (hH : Half A S 6 (by decide) H) : Full S 6 (k0_pay31 (F := Ideal) B H) := by
  unfold k0_pay31
  exact whole_tile L 6 48 (by decide) rfl hH _

theorem tile7 (H : FVec Ideal S8x512 .f32) (hH : Half A S 6 (by decide) H) : Full S 7 (k0_pay32 (F := Ideal) B A H) := by
  unfold k0_pay32
  exact next_tile L 6 56 (by decide) rfl (tile6 A B S L H hH) _ _ _

theorem tile8 (H : FVec Ideal S8x512 .f32) (hH : Half A S 6 (by decide) H) : Full S 8 (k0_pay33 (F := Ideal) B A H) := by
  unfold k0_pay33
  exact next_tile L 7 64 (by decide) rfl (tile7 A B S L H hH) _ _ _

theorem tile9 (H : FVec Ideal S8x512 .f32) (hH : Half A S 6 (by decide) H) : Full S 9 (k0_pay34 (F := Ideal) B A H) := by
  unfold k0_pay34
  exact next_tile L 8 72 (by decide) rfl (tile8 A B S L H hH) _ _ _

theorem tile10 (H : FVec Ideal S8x512 .f32) (hH : Half A S 6 (by decide) H) : Full S 10 (k0_pay35 (F := Ideal) B A H) := by
  unfold k0_pay35
  exact next_tile L 9 80 (by decide) rfl (tile9 A B S L H hH) _ _ _

theorem tile11 (H : FVec Ideal S8x512 .f32) (hH : Half A S 6 (by decide) H) : Full S 11 (k0_pay36 (F := Ideal) B A H) := by
  unfold k0_pay36
  exact next_tile L 10 88 (by decide) rfl (tile10 A B S L H hH) _ _ _

theorem tile12 (H : FVec Ideal S8x512 .f32) (hH : Half A S 6 (by decide) H) : Full S 12 (k0_pay37 (F := Ideal) B A H) := by
  unfold k0_pay37
  exact next_tile L 11 96 (by decide) rfl (tile11 A B S L H hH) _ _ _

theorem tile13 (H : FVec Ideal S8x512 .f32) (hH : Half A S 6 (by decide) H) : Full S 13 (k0_pay38 (F := Ideal) B A H) := by
  unfold k0_pay38
  exact next_tile L 12 104 (by decide) rfl (tile12 A B S L H hH) _ _ _

theorem tile14 (H : FVec Ideal S8x512 .f32) (hH : Half A S 6 (by decide) H) : Full S 14 (k0_pay39 (F := Ideal) B A H) := by
  unfold k0_pay39
  exact next_tile L 13 112 (by decide) rfl (tile13 A B S L H hH) _ _ _

theorem tile15 (H : FVec Ideal S8x512 .f32) (hH : Half A S 6 (by decide) H) : Full S 15 (k0_pay40 (F := Ideal) B A H) := by
  unfold k0_pay40
  exact next_tile L 14 120 (by decide) rfl (tile14 A B S L H hH) _ _ _

theorem half16 (H : FVec Ideal S8x512 .f32) (hH : Half A S 6 (by decide) H) : Half A S 16 (by decide) (k0_pay41 (F := Ideal) B A H) := by
  unfold k0_pay41
  exact half_tile 15 128 (by decide) rfl (tile15 A B S L H hH) _ _ _

theorem tile16 (H : FVec Ideal S8x512 .f32) (hH : Half A S 16 (by decide) H) : Full S 16 (k0_pay42 (F := Ideal) B H) := by
  unfold k0_pay42
  exact whole_tile L 16 128 (by decide) rfl hH _

theorem tile17 (H : FVec Ideal S8x512 .f32) (hH : Half A S 16 (by decide) H) : Full S 17 (k0_pay43 (F := Ideal) B A H) := by
  unfold k0_pay43
  exact next_tile L 16 136 (by decide) rfl (tile16 A B S L H hH) _ _ _

theorem tile18 (H : FVec Ideal S8x512 .f32) (hH : Half A S 16 (by decide) H) : Full S 18 (k0_pay44 (F := Ideal) B A H) := by
  unfold k0_pay44
  exact next_tile L 17 144 (by decide) rfl (tile17 A B S L H hH) _ _ _

theorem tile19 (H : FVec Ideal S8x512 .f32) (hH : Half A S 16 (by decide) H) : Full S 19 (k0_pay45 (F := Ideal) B A H) := by
  unfold k0_pay45
  exact next_tile L 18 152 (by decide) rfl (tile18 A B S L H hH) _ _ _

theorem tile20 (H : FVec Ideal S8x512 .f32) (hH : Half A S 16 (by decide) H) : Full S 20 (k0_pay46 (F := Ideal) B A H) := by
  unfold k0_pay46
  exact next_tile L 19 160 (by decide) rfl (tile19 A B S L H hH) _ _ _

theorem tile21 (H : FVec Ideal S8x512 .f32) (hH : Half A S 16 (by decide) H) : Full S 21 (k0_pay47 (F := Ideal) B A H) := by
  unfold k0_pay47
  exact next_tile L 20 168 (by decide) rfl (tile20 A B S L H hH) _ _ _

theorem tile22 (H : FVec Ideal S8x512 .f32) (hH : Half A S 16 (by decide) H) : Full S 22 (k0_pay48 (F := Ideal) B A H) := by
  unfold k0_pay48
  exact next_tile L 21 176 (by decide) rfl (tile21 A B S L H hH) _ _ _

theorem tile23 (H : FVec Ideal S8x512 .f32) (hH : Half A S 16 (by decide) H) : Full S 23 (k0_pay49 (F := Ideal) B A H) := by
  unfold k0_pay49
  exact next_tile L 22 184 (by decide) rfl (tile22 A B S L H hH) _ _ _

theorem tile24 (H : FVec Ideal S8x512 .f32) (hH : Half A S 16 (by decide) H) : Full S 24 (k0_pay50 (F := Ideal) B A H) := by
  unfold k0_pay50
  exact next_tile L 23 192 (by decide) rfl (tile23 A B S L H hH) _ _ _

theorem tile25 (H : FVec Ideal S8x512 .f32) (hH : Half A S 16 (by decide) H) : Full S 25 (k0_pay51 (F := Ideal) B A H) := by
  unfold k0_pay51
  exact next_tile L 24 200 (by decide) rfl (tile24 A B S L H hH) _ _ _

theorem half26 (H : FVec Ideal S8x512 .f32) (hH : Half A S 16 (by decide) H) : Half A S 26 (by decide) (k0_pay52 (F := Ideal) B A H) := by
  unfold k0_pay52
  exact half_tile 25 208 (by decide) rfl (tile25 A B S L H hH) _ _ _

theorem tile26 (H : FVec Ideal S8x512 .f32) (hH : Half A S 26 (by decide) H) : Full S 26 (k0_pay53 (F := Ideal) B H) := by
  unfold k0_pay53
  exact whole_tile L 26 208 (by decide) rfl hH _

theorem tile27 (H : FVec Ideal S8x512 .f32) (hH : Half A S 26 (by decide) H) : Full S 27 (k0_pay54 (F := Ideal) B A H) := by
  unfold k0_pay54
  exact next_tile L 26 216 (by decide) rfl (tile26 A B S L H hH) _ _ _

theorem tile28 (H : FVec Ideal S8x512 .f32) (hH : Half A S 26 (by decide) H) : Full S 28 (k0_pay55 (F := Ideal) B A H) := by
  unfold k0_pay55
  exact next_tile L 27 224 (by decide) rfl (tile27 A B S L H hH) _ _ _

theorem tile29 (H : FVec Ideal S8x512 .f32) (hH : Half A S 26 (by decide) H) : Full S 29 (k0_pay56 (F := Ideal) B A H) := by
  unfold k0_pay56
  exact next_tile L 28 232 (by decide) rfl (tile28 A B S L H hH) _ _ _

theorem tile30 (H : FVec Ideal S8x512 .f32) (hH : Half A S 26 (by decide) H) : Full S 30 (k0_pay57 (F := Ideal) B A H) := by
  unfold k0_pay57
  exact next_tile L 29 240 (by decide) rfl (tile29 A B S L H hH) _ _ _

theorem tile31 (H : FVec Ideal S8x512 .f32) (hH : Half A S 26 (by decide) H) : Full S 31 (k0_pay58 (F := Ideal) B A H) := by
  unfold k0_pay58
  exact next_tile L 30 248 (by decide) rfl (tile30 A B S L H hH) _ _ _

theorem tile32 (H : FVec Ideal S8x512 .f32) (hH : Half A S 26 (by decide) H) : Full S 32 (k0_pay59 (F := Ideal) B A H) := by
  unfold k0_pay59
  exact next_tile L 31 256 (by decide) rfl (tile31 A B S L H hH) _ _ _

theorem tile33 (H : FVec Ideal S8x512 .f32) (hH : Half A S 26 (by decide) H) : Full S 33 (k0_pay60 (F := Ideal) B A H) := by
  unfold k0_pay60
  exact next_tile L 32 264 (by decide) rfl (tile32 A B S L H hH) _ _ _

theorem tile34 (H : FVec Ideal S8x512 .f32) (hH : Half A S 26 (by decide) H) : Full S 34 (k0_pay61 (F := Ideal) B A H) := by
  unfold k0_pay61
  exact next_tile L 33 272 (by decide) rfl (tile33 A B S L H hH) _ _ _

theorem tile35 (H : FVec Ideal S8x512 .f32) (hH : Half A S 26 (by decide) H) : Full S 35 (k0_pay62 (F := Ideal) B A H) := by
  unfold k0_pay62
  exact next_tile L 34 280 (by decide) rfl (tile34 A B S L H hH) _ _ _

theorem half36 (H : FVec Ideal S8x512 .f32) (hH : Half A S 26 (by decide) H) : Half A S 36 (by decide) (k0_pay63 (F := Ideal) B A H) := by
  unfold k0_pay63
  exact half_tile 35 288 (by decide) rfl (tile35 A B S L H hH) _ _ _

theorem tile36 (H : FVec Ideal S8x512 .f32) (hH : Half A S 36 (by decide) H) : Full S 36 (k0_pay64 (F := Ideal) B H) := by
  unfold k0_pay64
  exact whole_tile L 36 288 (by decide) rfl hH _

theorem tile37 (H : FVec Ideal S8x512 .f32) (hH : Half A S 36 (by decide) H) : Full S 37 (k0_pay65 (F := Ideal) B A H) := by
  unfold k0_pay65
  exact next_tile L 36 296 (by decide) rfl (tile36 A B S L H hH) _ _ _

theorem tile38 (H : FVec Ideal S8x512 .f32) (hH : Half A S 36 (by decide) H) : Full S 38 (k0_pay66 (F := Ideal) B A H) := by
  unfold k0_pay66
  exact next_tile L 37 304 (by decide) rfl (tile37 A B S L H hH) _ _ _

theorem tile39 (H : FVec Ideal S8x512 .f32) (hH : Half A S 36 (by decide) H) : Full S 39 (k0_pay67 (F := Ideal) B A H) := by
  unfold k0_pay67
  exact next_tile L 38 312 (by decide) rfl (tile38 A B S L H hH) _ _ _

theorem tile40 (H : FVec Ideal S8x512 .f32) (hH : Half A S 36 (by decide) H) : Full S 40 (k0_pay68 (F := Ideal) B A H) := by
  unfold k0_pay68
  exact next_tile L 39 320 (by decide) rfl (tile39 A B S L H hH) _ _ _

theorem tile41 (H : FVec Ideal S8x512 .f32) (hH : Half A S 36 (by decide) H) : Full S 41 (k0_pay69 (F := Ideal) B A H) := by
  unfold k0_pay69
  exact next_tile L 40 328 (by decide) rfl (tile40 A B S L H hH) _ _ _

theorem tile42 (H : FVec Ideal S8x512 .f32) (hH : Half A S 36 (by decide) H) : Full S 42 (k0_pay70 (F := Ideal) B A H) := by
  unfold k0_pay70
  exact next_tile L 41 336 (by decide) rfl (tile41 A B S L H hH) _ _ _

theorem tile43 (H : FVec Ideal S8x512 .f32) (hH : Half A S 36 (by decide) H) : Full S 43 (k0_pay71 (F := Ideal) B A H) := by
  unfold k0_pay71
  exact next_tile L 42 344 (by decide) rfl (tile42 A B S L H hH) _ _ _

theorem tile44 (H : FVec Ideal S8x512 .f32) (hH : Half A S 36 (by decide) H) : Full S 44 (k0_pay72 (F := Ideal) B A H) := by
  unfold k0_pay72
  exact next_tile L 43 352 (by decide) rfl (tile43 A B S L H hH) _ _ _

theorem tile45 (H : FVec Ideal S8x512 .f32) (hH : Half A S 36 (by decide) H) : Full S 45 (k0_pay73 (F := Ideal) B A H) := by
  unfold k0_pay73
  exact next_tile L 44 360 (by decide) rfl (tile44 A B S L H hH) _ _ _

theorem half46 (H : FVec Ideal S8x512 .f32) (hH : Half A S 36 (by decide) H) : Half A S 46 (by decide) (k0_pay74 (F := Ideal) B A H) := by
  unfold k0_pay74
  exact half_tile 45 368 (by decide) rfl (tile45 A B S L H hH) _ _ _

theorem tile46 (H : FVec Ideal S8x512 .f32) (hH : Half A S 46 (by decide) H) : Full S 46 (k0_pay75 (F := Ideal) B H) := by
  unfold k0_pay75
  exact whole_tile L 46 368 (by decide) rfl hH _

theorem tile47 (H : FVec Ideal S8x512 .f32) (hH : Half A S 46 (by decide) H) : Full S 47 (k0_pay76 (F := Ideal) B A H) := by
  unfold k0_pay76
  exact next_tile L 46 376 (by decide) rfl (tile46 A B S L H hH) _ _ _

theorem tile48 (H : FVec Ideal S8x512 .f32) (hH : Half A S 46 (by decide) H) : Full S 48 (k0_pay77 (F := Ideal) B A H) := by
  unfold k0_pay77
  exact next_tile L 47 384 (by decide) rfl (tile47 A B S L H hH) _ _ _

theorem tile49 (H : FVec Ideal S8x512 .f32) (hH : Half A S 46 (by decide) H) : Full S 49 (k0_pay78 (F := Ideal) B A H) := by
  unfold k0_pay78
  exact next_tile L 48 392 (by decide) rfl (tile48 A B S L H hH) _ _ _

theorem tile50 (H : FVec Ideal S8x512 .f32) (hH : Half A S 46 (by decide) H) : Full S 50 (k0_pay79 (F := Ideal) B A H) := by
  unfold k0_pay79
  exact next_tile L 49 400 (by decide) rfl (tile49 A B S L H hH) _ _ _

theorem tile51 (H : FVec Ideal S8x512 .f32) (hH : Half A S 46 (by decide) H) : Full S 51 (k0_pay80 (F := Ideal) B A H) := by
  unfold k0_pay80
  exact next_tile L 50 408 (by decide) rfl (tile50 A B S L H hH) _ _ _

theorem tile52 (H : FVec Ideal S8x512 .f32) (hH : Half A S 46 (by decide) H) : Full S 52 (k0_pay81 (F := Ideal) B A H) := by
  unfold k0_pay81
  exact next_tile L 51 416 (by decide) rfl (tile51 A B S L H hH) _ _ _

theorem tile53 (H : FVec Ideal S8x512 .f32) (hH : Half A S 46 (by decide) H) : Full S 53 (k0_pay82 (F := Ideal) B A H) := by
  unfold k0_pay82
  exact next_tile L 52 424 (by decide) rfl (tile52 A B S L H hH) _ _ _

theorem tile54 (H : FVec Ideal S8x512 .f32) (hH : Half A S 46 (by decide) H) : Full S 54 (k0_pay83 (F := Ideal) B A H) := by
  unfold k0_pay83
  exact next_tile L 53 432 (by decide) rfl (tile53 A B S L H hH) _ _ _

theorem tile55 (H : FVec Ideal S8x512 .f32) (hH : Half A S 46 (by decide) H) : Full S 55 (k0_pay84 (F := Ideal) B A H) := by
  unfold k0_pay84
  exact next_tile L 54 440 (by decide) rfl (tile54 A B S L H hH) _ _ _

theorem half56 (H : FVec Ideal S8x512 .f32) (hH : Half A S 46 (by decide) H) : Half A S 56 (by decide) (k0_pay85 (F := Ideal) B A H) := by
  unfold k0_pay85
  exact half_tile 55 448 (by decide) rfl (tile55 A B S L H hH) _ _ _

theorem tile56 (H : FVec Ideal S8x512 .f32) (hH : Half A S 56 (by decide) H) : Full S 56 (k0_pay86 (F := Ideal) B H) := by
  unfold k0_pay86
  exact whole_tile L 56 448 (by decide) rfl hH _

theorem tile57 (H : FVec Ideal S8x512 .f32) (hH : Half A S 56 (by decide) H) : Full S 57 (k0_pay87 (F := Ideal) B A H) := by
  unfold k0_pay87
  exact next_tile L 56 456 (by decide) rfl (tile56 A B S L H hH) _ _ _

theorem tile58 (H : FVec Ideal S8x512 .f32) (hH : Half A S 56 (by decide) H) : Full S 58 (k0_pay88 (F := Ideal) B A H) := by
  unfold k0_pay88
  exact next_tile L 57 464 (by decide) rfl (tile57 A B S L H hH) _ _ _

theorem tile59 (H : FVec Ideal S8x512 .f32) (hH : Half A S 56 (by decide) H) : Full S 59 (k0_pay89 (F := Ideal) B A H) := by
  unfold k0_pay89
  exact next_tile L 58 472 (by decide) rfl (tile58 A B S L H hH) _ _ _

theorem tile60 (H : FVec Ideal S8x512 .f32) (hH : Half A S 56 (by decide) H) : Full S 60 (k0_pay90 (F := Ideal) B A H) := by
  unfold k0_pay90
  exact next_tile L 59 480 (by decide) rfl (tile59 A B S L H hH) _ _ _

theorem tile61 (H : FVec Ideal S8x512 .f32) (hH : Half A S 56 (by decide) H) : Full S 61 (k0_pay91 (F := Ideal) B A H) := by
  unfold k0_pay91
  exact next_tile L 60 488 (by decide) rfl (tile60 A B S L H hH) _ _ _

theorem tile62 (H : FVec Ideal S8x512 .f32) (hH : Half A S 56 (by decide) H) : Full S 62 (k0_pay92 (F := Ideal) B A H) := by
  unfold k0_pay92
  exact next_tile L 61 496 (by decide) rfl (tile61 A B S L H hH) _ _ _

theorem tile63 (H : FVec Ideal S8x512 .f32) (hH : Half A S 56 (by decide) H) : Full S 63 (k0_pay93 (F := Ideal) B A H) := by
  unfold k0_pay93
  exact next_tile L 62 504 (by decide) rfl (tile62 A B S L H hH) _ _ _

/-- The last state of the block. -/
theorem last_at (H : FVec Ideal S8x512 .f32) (hH : Half A S 56 (by decide) H) (j : Fin 512) : k0_pay94 (F := Ideal) B A H (ix2 0 j) = S j 512 := by
  pointwise [k0_pay94]
  exact tile63 A B S L H hH ⟨7, by decide⟩ j

end

section
variable (v100 : IVec S512x512 32) (d1 d3 d4 d2 : FVec Ideal S512x512 .f32) (c : FVec Ideal S1x512 .f32)

/-- The products the kernel carries from one group of tiles to the next. -/
def cut6 : FVec Ideal S8x512 .f32 := k0_pay30 (F := Ideal) v100 d1 d3 d4 d2 c
def cut16 : FVec Ideal S8x512 .f32 := k0_pay41 (F := Ideal) (k0_pay22 (F := Ideal) v100 d1 d3 d4 d2) (k0_pay23 (F := Ideal) v100 d3 d4) (cut6 v100 d1 d3 d4 d2 c)
def cut26 : FVec Ideal S8x512 .f32 := k0_pay52 (F := Ideal) (k0_pay22 (F := Ideal) v100 d1 d3 d4 d2) (k0_pay23 (F := Ideal) v100 d3 d4) (cut16 v100 d1 d3 d4 d2 c)
def cut36 : FVec Ideal S8x512 .f32 := k0_pay63 (F := Ideal) (k0_pay22 (F := Ideal) v100 d1 d3 d4 d2) (k0_pay23 (F := Ideal) v100 d3 d4) (cut26 v100 d1 d3 d4 d2 c)
def cut46 : FVec Ideal S8x512 .f32 := k0_pay74 (F := Ideal) (k0_pay22 (F := Ideal) v100 d1 d3 d4 d2) (k0_pay23 (F := Ideal) v100 d3 d4) (cut36 v100 d1 d3 d4 d2 c)
def cut56 : FVec Ideal S8x512 .f32 := k0_pay85 (F := Ideal) (k0_pay22 (F := Ideal) v100 d1 d3 d4 d2) (k0_pay23 (F := Ideal) v100 d3 d4) (cut46 v100 d1 d3 d4 d2 c)

/-- The block of states the kernel stacks. -/
def stacked : FVec Ideal S512x512 .f32 :=
  k0_pay95 (F := Ideal) (k0_pay22 (F := Ideal) v100 d1 d3 d4 d2) (k0_pay23 (F := Ideal) v100 d3 d4)
    (k0_pay24 (F := Ideal) v100 d1 d3 d4 d2 c)
    (k0_pay25 (F := Ideal) v100 d1 d3 d4 d2 c)
    (k0_pay26 (F := Ideal) v100 d1 d3 d4 d2 c)
    (k0_pay27 (F := Ideal) v100 d1 d3 d4 d2 c)
    (k0_pay28 (F := Ideal) v100 d1 d3 d4 d2 c)
    (k0_pay29 (F := Ideal) v100 d1 d3 d4 d2 c)
    (k0_pay31 (F := Ideal) (k0_pay22 (F := Ideal) v100 d1 d3 d4 d2) (cut6 v100 d1 d3 d4 d2 c))
    (k0_pay32 (F := Ideal) (k0_pay22 (F := Ideal) v100 d1 d3 d4 d2) (k0_pay23 (F := Ideal) v100 d3 d4) (cut6 v100 d1 d3 d4 d2 c))
    (k0_pay33 (F := Ideal) (k0_pay22 (F := Ideal) v100 d1 d3 d4 d2) (k0_pay23 (F := Ideal) v100 d3 d4) (cut6 v100 d1 d3 d4 d2 c))
    (k0_pay34 (F := Ideal) (k0_pay22 (F := Ideal) v100 d1 d3 d4 d2) (k0_pay23 (F := Ideal) v100 d3 d4) (cut6 v100 d1 d3 d4 d2 c))
    (k0_pay35 (F := Ideal) (k0_pay22 (F := Ideal) v100 d1 d3 d4 d2) (k0_pay23 (F := Ideal) v100 d3 d4) (cut6 v100 d1 d3 d4 d2 c))
    (k0_pay36 (F := Ideal) (k0_pay22 (F := Ideal) v100 d1 d3 d4 d2) (k0_pay23 (F := Ideal) v100 d3 d4) (cut6 v100 d1 d3 d4 d2 c))
    (k0_pay37 (F := Ideal) (k0_pay22 (F := Ideal) v100 d1 d3 d4 d2) (k0_pay23 (F := Ideal) v100 d3 d4) (cut6 v100 d1 d3 d4 d2 c))
    (k0_pay38 (F := Ideal) (k0_pay22 (F := Ideal) v100 d1 d3 d4 d2) (k0_pay23 (F := Ideal) v100 d3 d4) (cut6 v100 d1 d3 d4 d2 c))
    (k0_pay39 (F := Ideal) (k0_pay22 (F := Ideal) v100 d1 d3 d4 d2) (k0_pay23 (F := Ideal) v100 d3 d4) (cut6 v100 d1 d3 d4 d2 c))
    (k0_pay40 (F := Ideal) (k0_pay22 (F := Ideal) v100 d1 d3 d4 d2) (k0_pay23 (F := Ideal) v100 d3 d4) (cut6 v100 d1 d3 d4 d2 c))
    (k0_pay42 (F := Ideal) (k0_pay22 (F := Ideal) v100 d1 d3 d4 d2) (cut16 v100 d1 d3 d4 d2 c))
    (k0_pay43 (F := Ideal) (k0_pay22 (F := Ideal) v100 d1 d3 d4 d2) (k0_pay23 (F := Ideal) v100 d3 d4) (cut16 v100 d1 d3 d4 d2 c))
    (k0_pay44 (F := Ideal) (k0_pay22 (F := Ideal) v100 d1 d3 d4 d2) (k0_pay23 (F := Ideal) v100 d3 d4) (cut16 v100 d1 d3 d4 d2 c))
    (k0_pay45 (F := Ideal) (k0_pay22 (F := Ideal) v100 d1 d3 d4 d2) (k0_pay23 (F := Ideal) v100 d3 d4) (cut16 v100 d1 d3 d4 d2 c))
    (k0_pay46 (F := Ideal) (k0_pay22 (F := Ideal) v100 d1 d3 d4 d2) (k0_pay23 (F := Ideal) v100 d3 d4) (cut16 v100 d1 d3 d4 d2 c))
    (k0_pay47 (F := Ideal) (k0_pay22 (F := Ideal) v100 d1 d3 d4 d2) (k0_pay23 (F := Ideal) v100 d3 d4) (cut16 v100 d1 d3 d4 d2 c))
    (k0_pay48 (F := Ideal) (k0_pay22 (F := Ideal) v100 d1 d3 d4 d2) (k0_pay23 (F := Ideal) v100 d3 d4) (cut16 v100 d1 d3 d4 d2 c))
    (k0_pay49 (F := Ideal) (k0_pay22 (F := Ideal) v100 d1 d3 d4 d2) (k0_pay23 (F := Ideal) v100 d3 d4) (cut16 v100 d1 d3 d4 d2 c))
    (k0_pay50 (F := Ideal) (k0_pay22 (F := Ideal) v100 d1 d3 d4 d2) (k0_pay23 (F := Ideal) v100 d3 d4) (cut16 v100 d1 d3 d4 d2 c))
    (k0_pay51 (F := Ideal) (k0_pay22 (F := Ideal) v100 d1 d3 d4 d2) (k0_pay23 (F := Ideal) v100 d3 d4) (cut16 v100 d1 d3 d4 d2 c))
    (k0_pay53 (F := Ideal) (k0_pay22 (F := Ideal) v100 d1 d3 d4 d2) (cut26 v100 d1 d3 d4 d2 c))
    (k0_pay54 (F := Ideal) (k0_pay22 (F := Ideal) v100 d1 d3 d4 d2) (k0_pay23 (F := Ideal) v100 d3 d4) (cut26 v100 d1 d3 d4 d2 c))
    (k0_pay55 (F := Ideal) (k0_pay22 (F := Ideal) v100 d1 d3 d4 d2) (k0_pay23 (F := Ideal) v100 d3 d4) (cut26 v100 d1 d3 d4 d2 c))
    (k0_pay56 (F := Ideal) (k0_pay22 (F := Ideal) v100 d1 d3 d4 d2) (k0_pay23 (F := Ideal) v100 d3 d4) (cut26 v100 d1 d3 d4 d2 c))
    (k0_pay57 (F := Ideal) (k0_pay22 (F := Ideal) v100 d1 d3 d4 d2) (k0_pay23 (F := Ideal) v100 d3 d4) (cut26 v100 d1 d3 d4 d2 c))
    (k0_pay58 (F := Ideal) (k0_pay22 (F := Ideal) v100 d1 d3 d4 d2) (k0_pay23 (F := Ideal) v100 d3 d4) (cut26 v100 d1 d3 d4 d2 c))
    (k0_pay59 (F := Ideal) (k0_pay22 (F := Ideal) v100 d1 d3 d4 d2) (k0_pay23 (F := Ideal) v100 d3 d4) (cut26 v100 d1 d3 d4 d2 c))
    (k0_pay60 (F := Ideal) (k0_pay22 (F := Ideal) v100 d1 d3 d4 d2) (k0_pay23 (F := Ideal) v100 d3 d4) (cut26 v100 d1 d3 d4 d2 c))
    (k0_pay61 (F := Ideal) (k0_pay22 (F := Ideal) v100 d1 d3 d4 d2) (k0_pay23 (F := Ideal) v100 d3 d4) (cut26 v100 d1 d3 d4 d2 c))
    (k0_pay62 (F := Ideal) (k0_pay22 (F := Ideal) v100 d1 d3 d4 d2) (k0_pay23 (F := Ideal) v100 d3 d4) (cut26 v100 d1 d3 d4 d2 c))
    (k0_pay64 (F := Ideal) (k0_pay22 (F := Ideal) v100 d1 d3 d4 d2) (cut36 v100 d1 d3 d4 d2 c))
    (k0_pay65 (F := Ideal) (k0_pay22 (F := Ideal) v100 d1 d3 d4 d2) (k0_pay23 (F := Ideal) v100 d3 d4) (cut36 v100 d1 d3 d4 d2 c))
    (k0_pay66 (F := Ideal) (k0_pay22 (F := Ideal) v100 d1 d3 d4 d2) (k0_pay23 (F := Ideal) v100 d3 d4) (cut36 v100 d1 d3 d4 d2 c))
    (k0_pay67 (F := Ideal) (k0_pay22 (F := Ideal) v100 d1 d3 d4 d2) (k0_pay23 (F := Ideal) v100 d3 d4) (cut36 v100 d1 d3 d4 d2 c))
    (k0_pay68 (F := Ideal) (k0_pay22 (F := Ideal) v100 d1 d3 d4 d2) (k0_pay23 (F := Ideal) v100 d3 d4) (cut36 v100 d1 d3 d4 d2 c))
    (k0_pay69 (F := Ideal) (k0_pay22 (F := Ideal) v100 d1 d3 d4 d2) (k0_pay23 (F := Ideal) v100 d3 d4) (cut36 v100 d1 d3 d4 d2 c))
    (k0_pay70 (F := Ideal) (k0_pay22 (F := Ideal) v100 d1 d3 d4 d2) (k0_pay23 (F := Ideal) v100 d3 d4) (cut36 v100 d1 d3 d4 d2 c))
    (k0_pay71 (F := Ideal) (k0_pay22 (F := Ideal) v100 d1 d3 d4 d2) (k0_pay23 (F := Ideal) v100 d3 d4) (cut36 v100 d1 d3 d4 d2 c))
    (k0_pay72 (F := Ideal) (k0_pay22 (F := Ideal) v100 d1 d3 d4 d2) (k0_pay23 (F := Ideal) v100 d3 d4) (cut36 v100 d1 d3 d4 d2 c))
    (k0_pay73 (F := Ideal) (k0_pay22 (F := Ideal) v100 d1 d3 d4 d2) (k0_pay23 (F := Ideal) v100 d3 d4) (cut36 v100 d1 d3 d4 d2 c))
    (k0_pay75 (F := Ideal) (k0_pay22 (F := Ideal) v100 d1 d3 d4 d2) (cut46 v100 d1 d3 d4 d2 c))
    (k0_pay76 (F := Ideal) (k0_pay22 (F := Ideal) v100 d1 d3 d4 d2) (k0_pay23 (F := Ideal) v100 d3 d4) (cut46 v100 d1 d3 d4 d2 c))
    (k0_pay77 (F := Ideal) (k0_pay22 (F := Ideal) v100 d1 d3 d4 d2) (k0_pay23 (F := Ideal) v100 d3 d4) (cut46 v100 d1 d3 d4 d2 c))
    (k0_pay78 (F := Ideal) (k0_pay22 (F := Ideal) v100 d1 d3 d4 d2) (k0_pay23 (F := Ideal) v100 d3 d4) (cut46 v100 d1 d3 d4 d2 c))
    (k0_pay79 (F := Ideal) (k0_pay22 (F := Ideal) v100 d1 d3 d4 d2) (k0_pay23 (F := Ideal) v100 d3 d4) (cut46 v100 d1 d3 d4 d2 c))
    (k0_pay80 (F := Ideal) (k0_pay22 (F := Ideal) v100 d1 d3 d4 d2) (k0_pay23 (F := Ideal) v100 d3 d4) (cut46 v100 d1 d3 d4 d2 c))
    (k0_pay81 (F := Ideal) (k0_pay22 (F := Ideal) v100 d1 d3 d4 d2) (k0_pay23 (F := Ideal) v100 d3 d4) (cut46 v100 d1 d3 d4 d2 c))
    (k0_pay82 (F := Ideal) (k0_pay22 (F := Ideal) v100 d1 d3 d4 d2) (k0_pay23 (F := Ideal) v100 d3 d4) (cut46 v100 d1 d3 d4 d2 c))
    (k0_pay83 (F := Ideal) (k0_pay22 (F := Ideal) v100 d1 d3 d4 d2) (k0_pay23 (F := Ideal) v100 d3 d4) (cut46 v100 d1 d3 d4 d2 c))
    (k0_pay84 (F := Ideal) (k0_pay22 (F := Ideal) v100 d1 d3 d4 d2) (k0_pay23 (F := Ideal) v100 d3 d4) (cut46 v100 d1 d3 d4 d2 c))
    (cut56 v100 d1 d3 d4 d2 c)

/-- The last row of it. -/
def lastRow : FVec Ideal S1x512 .f32 := k0_pay94 (F := Ideal) (k0_pay22 (F := Ideal) v100 d1 d3 d4 d2) (k0_pay23 (F := Ideal) v100 d3 d4) (cut56 v100 d1 d3 d4 d2 c)

variable (S : Fin 512 → ℕ → EReal)
  (L : Ladder (k0_pay23 (F := Ideal) v100 d3 d4) (k0_pay22 (F := Ideal) v100 d1 d3 d4 d2) S) (hc : ∀ j, c (ix2 0 j) = S j 0)
include L hc

theorem cut6_half : Half (k0_pay23 (F := Ideal) v100 d3 d4) S 6 (by decide) (cut6 v100 d1 d3 d4 d2 c) := half6 v100 d1 d3 d4 d2 c S L hc

theorem cut16_half : Half (k0_pay23 (F := Ideal) v100 d3 d4) S 16 (by decide) (cut16 v100 d1 d3 d4 d2 c) := half16 _ _ S L _ (cut6_half v100 d1 d3 d4 d2 c S L hc)

theorem cut26_half : Half (k0_pay23 (F := Ideal) v100 d3 d4) S 26 (by decide) (cut26 v100 d1 d3 d4 d2 c) := half26 _ _ S L _ (cut16_half v100 d1 d3 d4 d2 c S L hc)

theorem cut36_half : Half (k0_pay23 (F := Ideal) v100 d3 d4) S 36 (by decide) (cut36 v100 d1 d3 d4 d2 c) := half36 _ _ S L _ (cut26_half v100 d1 d3 d4 d2 c S L hc)

theorem cut46_half : Half (k0_pay23 (F := Ideal) v100 d3 d4) S 46 (by decide) (cut46 v100 d1 d3 d4 d2 c) := half46 _ _ S L _ (cut36_half v100 d1 d3 d4 d2 c S L hc)

theorem cut56_half : Half (k0_pay23 (F := Ideal) v100 d3 d4) S 56 (by decide) (cut56 v100 d1 d3 d4 d2 c) := half56 _ _ S L _ (cut46_half v100 d1 d3 d4 d2 c S L hc)

theorem lastRow_at (j : Fin 512) : lastRow v100 d1 d3 d4 d2 c (ix2 0 j) = S j 512 :=
  last_at _ _ S L _ (cut56_half v100 d1 d3 d4 d2 c S L hc) j

theorem stacked_at (q : Fin 64) (k : Fin 8) (j : Fin 512) : stacked v100 d1 d3 d4 d2 c (ix2 (trow q k) j) = S j (8 * q.val + (k.val + 1)) := by
  have c6 := cut6_half v100 d1 d3 d4 d2 c S L hc
  have c16 := cut16_half v100 d1 d3 d4 d2 c S L hc
  have c26 := cut26_half v100 d1 d3 d4 d2 c S L hc
  have c36 := cut36_half v100 d1 d3 d4 d2 c S L hc
  have c46 := cut46_half v100 d1 d3 d4 d2 c S L hc
  have c56 := cut56_half v100 d1 d3 d4 d2 c S L hc
  unfold stacked k0_pay95
  refine (stack_at [
    k0_pay24 (F := Ideal) v100 d1 d3 d4 d2 c,
    k0_pay25 (F := Ideal) v100 d1 d3 d4 d2 c,
    k0_pay26 (F := Ideal) v100 d1 d3 d4 d2 c,
    k0_pay27 (F := Ideal) v100 d1 d3 d4 d2 c,
    k0_pay28 (F := Ideal) v100 d1 d3 d4 d2 c,
    k0_pay29 (F := Ideal) v100 d1 d3 d4 d2 c,
    k0_pay31 (F := Ideal) (k0_pay22 (F := Ideal) v100 d1 d3 d4 d2) (cut6 v100 d1 d3 d4 d2 c),
    k0_pay32 (F := Ideal) (k0_pay22 (F := Ideal) v100 d1 d3 d4 d2) (k0_pay23 (F := Ideal) v100 d3 d4) (cut6 v100 d1 d3 d4 d2 c),
    k0_pay33 (F := Ideal) (k0_pay22 (F := Ideal) v100 d1 d3 d4 d2) (k0_pay23 (F := Ideal) v100 d3 d4) (cut6 v100 d1 d3 d4 d2 c),
    k0_pay34 (F := Ideal) (k0_pay22 (F := Ideal) v100 d1 d3 d4 d2) (k0_pay23 (F := Ideal) v100 d3 d4) (cut6 v100 d1 d3 d4 d2 c),
    k0_pay35 (F := Ideal) (k0_pay22 (F := Ideal) v100 d1 d3 d4 d2) (k0_pay23 (F := Ideal) v100 d3 d4) (cut6 v100 d1 d3 d4 d2 c),
    k0_pay36 (F := Ideal) (k0_pay22 (F := Ideal) v100 d1 d3 d4 d2) (k0_pay23 (F := Ideal) v100 d3 d4) (cut6 v100 d1 d3 d4 d2 c),
    k0_pay37 (F := Ideal) (k0_pay22 (F := Ideal) v100 d1 d3 d4 d2) (k0_pay23 (F := Ideal) v100 d3 d4) (cut6 v100 d1 d3 d4 d2 c),
    k0_pay38 (F := Ideal) (k0_pay22 (F := Ideal) v100 d1 d3 d4 d2) (k0_pay23 (F := Ideal) v100 d3 d4) (cut6 v100 d1 d3 d4 d2 c),
    k0_pay39 (F := Ideal) (k0_pay22 (F := Ideal) v100 d1 d3 d4 d2) (k0_pay23 (F := Ideal) v100 d3 d4) (cut6 v100 d1 d3 d4 d2 c),
    k0_pay40 (F := Ideal) (k0_pay22 (F := Ideal) v100 d1 d3 d4 d2) (k0_pay23 (F := Ideal) v100 d3 d4) (cut6 v100 d1 d3 d4 d2 c),
    k0_pay42 (F := Ideal) (k0_pay22 (F := Ideal) v100 d1 d3 d4 d2) (cut16 v100 d1 d3 d4 d2 c),
    k0_pay43 (F := Ideal) (k0_pay22 (F := Ideal) v100 d1 d3 d4 d2) (k0_pay23 (F := Ideal) v100 d3 d4) (cut16 v100 d1 d3 d4 d2 c),
    k0_pay44 (F := Ideal) (k0_pay22 (F := Ideal) v100 d1 d3 d4 d2) (k0_pay23 (F := Ideal) v100 d3 d4) (cut16 v100 d1 d3 d4 d2 c),
    k0_pay45 (F := Ideal) (k0_pay22 (F := Ideal) v100 d1 d3 d4 d2) (k0_pay23 (F := Ideal) v100 d3 d4) (cut16 v100 d1 d3 d4 d2 c),
    k0_pay46 (F := Ideal) (k0_pay22 (F := Ideal) v100 d1 d3 d4 d2) (k0_pay23 (F := Ideal) v100 d3 d4) (cut16 v100 d1 d3 d4 d2 c),
    k0_pay47 (F := Ideal) (k0_pay22 (F := Ideal) v100 d1 d3 d4 d2) (k0_pay23 (F := Ideal) v100 d3 d4) (cut16 v100 d1 d3 d4 d2 c),
    k0_pay48 (F := Ideal) (k0_pay22 (F := Ideal) v100 d1 d3 d4 d2) (k0_pay23 (F := Ideal) v100 d3 d4) (cut16 v100 d1 d3 d4 d2 c),
    k0_pay49 (F := Ideal) (k0_pay22 (F := Ideal) v100 d1 d3 d4 d2) (k0_pay23 (F := Ideal) v100 d3 d4) (cut16 v100 d1 d3 d4 d2 c),
    k0_pay50 (F := Ideal) (k0_pay22 (F := Ideal) v100 d1 d3 d4 d2) (k0_pay23 (F := Ideal) v100 d3 d4) (cut16 v100 d1 d3 d4 d2 c),
    k0_pay51 (F := Ideal) (k0_pay22 (F := Ideal) v100 d1 d3 d4 d2) (k0_pay23 (F := Ideal) v100 d3 d4) (cut16 v100 d1 d3 d4 d2 c),
    k0_pay53 (F := Ideal) (k0_pay22 (F := Ideal) v100 d1 d3 d4 d2) (cut26 v100 d1 d3 d4 d2 c),
    k0_pay54 (F := Ideal) (k0_pay22 (F := Ideal) v100 d1 d3 d4 d2) (k0_pay23 (F := Ideal) v100 d3 d4) (cut26 v100 d1 d3 d4 d2 c),
    k0_pay55 (F := Ideal) (k0_pay22 (F := Ideal) v100 d1 d3 d4 d2) (k0_pay23 (F := Ideal) v100 d3 d4) (cut26 v100 d1 d3 d4 d2 c),
    k0_pay56 (F := Ideal) (k0_pay22 (F := Ideal) v100 d1 d3 d4 d2) (k0_pay23 (F := Ideal) v100 d3 d4) (cut26 v100 d1 d3 d4 d2 c),
    k0_pay57 (F := Ideal) (k0_pay22 (F := Ideal) v100 d1 d3 d4 d2) (k0_pay23 (F := Ideal) v100 d3 d4) (cut26 v100 d1 d3 d4 d2 c),
    k0_pay58 (F := Ideal) (k0_pay22 (F := Ideal) v100 d1 d3 d4 d2) (k0_pay23 (F := Ideal) v100 d3 d4) (cut26 v100 d1 d3 d4 d2 c),
    k0_pay59 (F := Ideal) (k0_pay22 (F := Ideal) v100 d1 d3 d4 d2) (k0_pay23 (F := Ideal) v100 d3 d4) (cut26 v100 d1 d3 d4 d2 c),
    k0_pay60 (F := Ideal) (k0_pay22 (F := Ideal) v100 d1 d3 d4 d2) (k0_pay23 (F := Ideal) v100 d3 d4) (cut26 v100 d1 d3 d4 d2 c),
    k0_pay61 (F := Ideal) (k0_pay22 (F := Ideal) v100 d1 d3 d4 d2) (k0_pay23 (F := Ideal) v100 d3 d4) (cut26 v100 d1 d3 d4 d2 c),
    k0_pay62 (F := Ideal) (k0_pay22 (F := Ideal) v100 d1 d3 d4 d2) (k0_pay23 (F := Ideal) v100 d3 d4) (cut26 v100 d1 d3 d4 d2 c),
    k0_pay64 (F := Ideal) (k0_pay22 (F := Ideal) v100 d1 d3 d4 d2) (cut36 v100 d1 d3 d4 d2 c),
    k0_pay65 (F := Ideal) (k0_pay22 (F := Ideal) v100 d1 d3 d4 d2) (k0_pay23 (F := Ideal) v100 d3 d4) (cut36 v100 d1 d3 d4 d2 c),
    k0_pay66 (F := Ideal) (k0_pay22 (F := Ideal) v100 d1 d3 d4 d2) (k0_pay23 (F := Ideal) v100 d3 d4) (cut36 v100 d1 d3 d4 d2 c),
    k0_pay67 (F := Ideal) (k0_pay22 (F := Ideal) v100 d1 d3 d4 d2) (k0_pay23 (F := Ideal) v100 d3 d4) (cut36 v100 d1 d3 d4 d2 c),
    k0_pay68 (F := Ideal) (k0_pay22 (F := Ideal) v100 d1 d3 d4 d2) (k0_pay23 (F := Ideal) v100 d3 d4) (cut36 v100 d1 d3 d4 d2 c),
    k0_pay69 (F := Ideal) (k0_pay22 (F := Ideal) v100 d1 d3 d4 d2) (k0_pay23 (F := Ideal) v100 d3 d4) (cut36 v100 d1 d3 d4 d2 c),
    k0_pay70 (F := Ideal) (k0_pay22 (F := Ideal) v100 d1 d3 d4 d2) (k0_pay23 (F := Ideal) v100 d3 d4) (cut36 v100 d1 d3 d4 d2 c),
    k0_pay71 (F := Ideal) (k0_pay22 (F := Ideal) v100 d1 d3 d4 d2) (k0_pay23 (F := Ideal) v100 d3 d4) (cut36 v100 d1 d3 d4 d2 c),
    k0_pay72 (F := Ideal) (k0_pay22 (F := Ideal) v100 d1 d3 d4 d2) (k0_pay23 (F := Ideal) v100 d3 d4) (cut36 v100 d1 d3 d4 d2 c),
    k0_pay73 (F := Ideal) (k0_pay22 (F := Ideal) v100 d1 d3 d4 d2) (k0_pay23 (F := Ideal) v100 d3 d4) (cut36 v100 d1 d3 d4 d2 c),
    k0_pay75 (F := Ideal) (k0_pay22 (F := Ideal) v100 d1 d3 d4 d2) (cut46 v100 d1 d3 d4 d2 c),
    k0_pay76 (F := Ideal) (k0_pay22 (F := Ideal) v100 d1 d3 d4 d2) (k0_pay23 (F := Ideal) v100 d3 d4) (cut46 v100 d1 d3 d4 d2 c),
    k0_pay77 (F := Ideal) (k0_pay22 (F := Ideal) v100 d1 d3 d4 d2) (k0_pay23 (F := Ideal) v100 d3 d4) (cut46 v100 d1 d3 d4 d2 c),
    k0_pay78 (F := Ideal) (k0_pay22 (F := Ideal) v100 d1 d3 d4 d2) (k0_pay23 (F := Ideal) v100 d3 d4) (cut46 v100 d1 d3 d4 d2 c),
    k0_pay79 (F := Ideal) (k0_pay22 (F := Ideal) v100 d1 d3 d4 d2) (k0_pay23 (F := Ideal) v100 d3 d4) (cut46 v100 d1 d3 d4 d2 c),
    k0_pay80 (F := Ideal) (k0_pay22 (F := Ideal) v100 d1 d3 d4 d2) (k0_pay23 (F := Ideal) v100 d3 d4) (cut46 v100 d1 d3 d4 d2 c),
    k0_pay81 (F := Ideal) (k0_pay22 (F := Ideal) v100 d1 d3 d4 d2) (k0_pay23 (F := Ideal) v100 d3 d4) (cut46 v100 d1 d3 d4 d2 c),
    k0_pay82 (F := Ideal) (k0_pay22 (F := Ideal) v100 d1 d3 d4 d2) (k0_pay23 (F := Ideal) v100 d3 d4) (cut46 v100 d1 d3 d4 d2 c),
    k0_pay83 (F := Ideal) (k0_pay22 (F := Ideal) v100 d1 d3 d4 d2) (k0_pay23 (F := Ideal) v100 d3 d4) (cut46 v100 d1 d3 d4 d2 c),
    k0_pay84 (F := Ideal) (k0_pay22 (F := Ideal) v100 d1 d3 d4 d2) (k0_pay23 (F := Ideal) v100 d3 d4) (cut46 v100 d1 d3 d4 d2 c),
    k0_pay86 (F := Ideal) (k0_pay22 (F := Ideal) v100 d1 d3 d4 d2) (cut56 v100 d1 d3 d4 d2 c),
    k0_pay87 (F := Ideal) (k0_pay22 (F := Ideal) v100 d1 d3 d4 d2) (k0_pay23 (F := Ideal) v100 d3 d4) (cut56 v100 d1 d3 d4 d2 c),
    k0_pay88 (F := Ideal) (k0_pay22 (F := Ideal) v100 d1 d3 d4 d2) (k0_pay23 (F := Ideal) v100 d3 d4) (cut56 v100 d1 d3 d4 d2 c),
    k0_pay89 (F := Ideal) (k0_pay22 (F := Ideal) v100 d1 d3 d4 d2) (k0_pay23 (F := Ideal) v100 d3 d4) (cut56 v100 d1 d3 d4 d2 c),
    k0_pay90 (F := Ideal) (k0_pay22 (F := Ideal) v100 d1 d3 d4 d2) (k0_pay23 (F := Ideal) v100 d3 d4) (cut56 v100 d1 d3 d4 d2 c),
    k0_pay91 (F := Ideal) (k0_pay22 (F := Ideal) v100 d1 d3 d4 d2) (k0_pay23 (F := Ideal) v100 d3 d4) (cut56 v100 d1 d3 d4 d2 c),
    k0_pay92 (F := Ideal) (k0_pay22 (F := Ideal) v100 d1 d3 d4 d2) (k0_pay23 (F := Ideal) v100 d3 d4) (cut56 v100 d1 d3 d4 d2 c),
    k0_pay93 (F := Ideal) (k0_pay22 (F := Ideal) v100 d1 d3 d4 d2) (k0_pay23 (F := Ideal) v100 d3 d4) (cut56 v100 d1 d3 d4 d2 c)] rfl _ q k j).trans ?_
  revert k j
  fin_cases q
  exacts [
    tile0 v100 d1 d3 d4 d2 c S L hc,
    tile1 v100 d1 d3 d4 d2 c S L hc,
    tile2 v100 d1 d3 d4 d2 c S L hc,
    tile3 v100 d1 d3 d4 d2 c S L hc,
    tile4 v100 d1 d3 d4 d2 c S L hc,
    tile5 v100 d1 d3 d4 d2 c S L hc,
    tile6 _ _ S L _ c6,
    tile7 _ _ S L _ c6,
    tile8 _ _ S L _ c6,
    tile9 _ _ S L _ c6,
    tile10 _ _ S L _ c6,
    tile11 _ _ S L _ c6,
    tile12 _ _ S L _ c6,
    tile13 _ _ S L _ c6,
    tile14 _ _ S L _ c6,
    tile15 _ _ S L _ c6,
    tile16 _ _ S L _ c16,
    tile17 _ _ S L _ c16,
    tile18 _ _ S L _ c16,
    tile19 _ _ S L _ c16,
    tile20 _ _ S L _ c16,
    tile21 _ _ S L _ c16,
    tile22 _ _ S L _ c16,
    tile23 _ _ S L _ c16,
    tile24 _ _ S L _ c16,
    tile25 _ _ S L _ c16,
    tile26 _ _ S L _ c26,
    tile27 _ _ S L _ c26,
    tile28 _ _ S L _ c26,
    tile29 _ _ S L _ c26,
    tile30 _ _ S L _ c26,
    tile31 _ _ S L _ c26,
    tile32 _ _ S L _ c26,
    tile33 _ _ S L _ c26,
    tile34 _ _ S L _ c26,
    tile35 _ _ S L _ c26,
    tile36 _ _ S L _ c36,
    tile37 _ _ S L _ c36,
    tile38 _ _ S L _ c36,
    tile39 _ _ S L _ c36,
    tile40 _ _ S L _ c36,
    tile41 _ _ S L _ c36,
    tile42 _ _ S L _ c36,
    tile43 _ _ S L _ c36,
    tile44 _ _ S L _ c36,
    tile45 _ _ S L _ c36,
    tile46 _ _ S L _ c46,
    tile47 _ _ S L _ c46,
    tile48 _ _ S L _ c46,
    tile49 _ _ S L _ c46,
    tile50 _ _ S L _ c46,
    tile51 _ _ S L _ c46,
    tile52 _ _ S L _ c46,
    tile53 _ _ S L _ c46,
    tile54 _ _ S L _ c46,
    tile55 _ _ S L _ c46,
    tile56 _ _ S L _ c56,
    tile57 _ _ S L _ c56,
    tile58 _ _ S L _ c56,
    tile59 _ _ S L _ c56,
    tile60 _ _ S L _ c56,
    tile61 _ _ S L _ c56,
    tile62 _ _ S L _ c56,
    tile63 _ _ S L _ c56]

end

end Cert.LruIdeal.Value

end

end
-- ==== Proof.LruGates.lean ====
/- The recurrent kernel's vectors before the scan, at an entry: the convolved row, the two gates, the decay and the drive. -/
module

public import proofs.«01_k».proof.Proof.LruTiles

@[expose] public section

set_option maxRecDepth 16384

noncomputable section

namespace Cert.LruIdeal.Value

open Cert.LruIdeal Cert.LruIdeal.Gen Idealize.ShloMosaic Idealize.ShloMosaic.TcCoe Idealize.SL.Sem
open Cert.Scalar Cert.LruMath Cert.LruSpec
open scoped BigOperators

variable (p : Params) (x : ℕ → Fin 512 → EReal) (l : ℕ)
variable (X : FVec Ideal S512x512 .f32) (H : FVec Ideal S8x512 .f32) (CW : FVec Ideal S1x4x512 .f32) (CB : FVec Ideal S1x1x512 .f32)
variable (WH WL : FVec Ideal S1x512x1024 .bf16) (BI : FVec Ideal S1x1x1024 .f32) (LM : FVec Ideal S1x1x512 .f32)

/-- The block's rows are rows `l`, `l + 1`, … of the sequence, and the halo's last three rows are the three before them. -/
structure Rows : Prop where
  block : ∀ r j : Fin 512, X (ix2 r j) = x (l + r.val) j
  halo : ∀ (k : Fin 8) (j : Fin 512), 5 ≤ k.val → H (ix2 k j) = if l + k.val < 8 then 0 else x (l + k.val - 8) j

/-- The staged parameters are the parameters. -/
structure Staged : Prop where
  tap : ∀ (k : Fin 4) (j : Fin 512), CW (ix3 0 k j) = p.tap k j
  cbias : ∀ j : Fin 512, CB (ix3 0 0 j) = p.cbias j
  wa : ∀ i j : Fin 512, WH (ix3 0 i ⟨j.val, by omega⟩)
    = if i.val / 64 = j.val / 64 then p.wa ⟨i.val / 64, by omega⟩ ⟨i.val % 64, by omega⟩ ⟨j.val % 64, by omega⟩ else 0
  wx : ∀ i j : Fin 512, WH (ix3 0 i ⟨512 + j.val, by omega⟩)
    = if i.val / 64 = j.val / 64 then p.wx ⟨i.val / 64, by omega⟩ ⟨i.val % 64, by omega⟩ ⟨j.val % 64, by omega⟩ else 0
  low : ∀ (i : Fin 512) (n : Fin 1024), WL (ix3 0 i n) = 0
  ba : ∀ j : Fin 512, BI (ix3 0 0 ⟨j.val, by omega⟩) = p.ba j
  bx : ∀ j : Fin 512, BI (ix3 0 0 ⟨512 + j.val, by omega⟩) = p.bx j
  lam : ∀ j : Fin 512, LM (ix3 0 0 j) = p.lam j

/-- The row `s` above row `r` of the block under its halo. -/
theorem above (h : Rows x l X H) (r j : Fin 512) (s : ℕ) (hs : s ≤ 3)
    (h1 : (8 + r.val + 520 - s) % 520 < 8 → (8 + r.val + 520 - s) % 520 < 8) (h2 : ¬ (8 + r.val + 520 - s) % 520 < 8 → (8 + r.val + 520 - s) % 520 - 8 < 512) :
    (if h : (8 + r.val + 520 - s) % 520 < 8 then H (ix2 ⟨(8 + r.val + 520 - s) % 520, h1 h⟩ j)
      else X (ix2 ⟨(8 + r.val + 520 - s) % 520 - 8, h2 h⟩ j)) = back x (3 - s) (l + r.val) j := by
  have hr := r.isLt
  unfold back
  by_cases hk : (8 + r.val + 520 - s) % 520 < 8
  · rw [dif_pos hk, h.halo _ _ (by show 5 ≤ (8 + r.val + 520 - s) % 520; omega)]
    show (if l + (8 + r.val + 520 - s) % 520 < 8 then 0 else x (l + (8 + r.val + 520 - s) % 520 - 8) j) = _
    have e : (8 + r.val + 520 - s) % 520 = 8 + r.val - s := by omega
    rw [e]
    by_cases hc : l + (8 + r.val - s) < 8
    · rw [if_pos hc, if_pos (by omega)]
    · rw [if_neg hc, if_neg (by omega)]
      exact congrArg (fun n => x n j) (by omega)
  · rw [dif_neg hk, h.block, if_neg (by omega)]
    exact congrArg (fun n => x n j) (by show l + ((8 + r.val + 520 - s) % 520 - 8) = _; omega)

/-- The convolved row. -/
theorem pay4_at (h : Rows x l X H) (hp : Staged p CW CB WH WL BI LM) (r j : Fin 512) :
    k0_pay4 (F := Ideal) X H CW CB (ix2 r j) = conv p x (l + r.val) j := by
  pointwise [k0_pay4]
  rw [above x l X H h r j 1 (by decide) id, above x l X H h r j 2 (by decide) id, above x l X H h r j 3 (by decide) id, h.block r j, hp.tap, hp.tap, hp.tap, hp.tap, hp.cbias]
  have e : back x 3 (l + r.val) j = x (l + r.val) j := by
    unfold back
    rw [if_neg (by omega)]
    exact congrArg (fun n => x n j) (by omega)
  unfold conv
  rw [e]
  show p.tap 3 j * x (l + r.val) j + p.tap 2 j * back x 2 (l + r.val) j + p.tap 1 j * back x 1 (l + r.val) j + p.tap 0 j * back x 0 (l + r.val) j + p.cbias j = _
  ac_rfl

variable (v : Fin 512 → EReal) (Y : FVec Ideal S512x512 .f32)

/-- The gates' argument at a column of the recurrence gate's half, -/
theorem pay6_a (hp : Staged p CW CB WH WL BI LM) (r j : Fin 512) (hY : ∀ i, Y (ix2 r i) = v i) (hv : ∀ i, v i - v i = 0) :
    k0_pay6 (F := Ideal) Y WH WL BI (ix2 r ⟨j.val, by omega⟩) = blockLin p.wa p.ba v j := by
  pointwise [k0_pay6]
  simp only [hY, hv, hp.low, zero_mul, mul_zero, Finset.sum_const_zero, add_zero, hp.wa, hp.ba]
  unfold blockLin
  rw [block_sum v (fun i => if i.val / 64 = j.val / 64 then p.wa ⟨i.val / 64, by omega⟩ ⟨i.val % 64, by omega⟩ ⟨j.val % 64, by omega⟩ else 0) j
    (fun i hi => if_neg hi)]
  refine congrArg (· + p.ba j) (Finset.sum_congr rfl fun i _ => ?_)
  have hi := i.isLt
  have e1 : (j.val / 64 * 64 + i.val) / 64 = j.val / 64 := by omega
  have e2 : (j.val / 64 * 64 + i.val) % 64 = i.val := by omega
  simp only [e1, e2, if_true]
  exact mul_comm _ _

/-- and of the input gate's. -/
theorem pay6_x (hp : Staged p CW CB WH WL BI LM) (r j : Fin 512) (hY : ∀ i, Y (ix2 r i) = v i) (hv : ∀ i, v i - v i = 0) :
    k0_pay6 (F := Ideal) Y WH WL BI (ix2 r ⟨512 + j.val, by omega⟩) = blockLin p.wx p.bx v j := by
  pointwise [k0_pay6]
  simp only [hY, hv, hp.low, zero_mul, mul_zero, Finset.sum_const_zero, add_zero, hp.wx, hp.bx]
  unfold blockLin
  rw [block_sum v (fun i => if i.val / 64 = j.val / 64 then p.wx ⟨i.val / 64, by omega⟩ ⟨i.val % 64, by omega⟩ ⟨j.val % 64, by omega⟩ else 0) j
    (fun i hi => if_neg hi)]
  refine congrArg (· + p.bx j) (Finset.sum_congr rfl fun i _ => ?_)
  have hi := i.isLt
  have e1 : (j.val / 64 * 64 + i.val) / 64 = j.val / 64 := by omega
  have e2 : (j.val / 64 * 64 + i.val) % 64 = i.val := by omega
  simp only [e1, e2, if_true]
  exact mul_comm _ _

theorem pay7_at (hp : Staged p CW CB WH WL BI LM) (r j : Fin 512) (hY : ∀ i, Y (ix2 r i) = v i) (hv : ∀ i, v i - v i = 0) :
    k0_pay7 (F := Ideal) Y WH WL BI (ix2 r j) = Ideal.logistic (blockLin p.wx p.bx v j) := by
  pointwise [k0_pay7]
  rw [pay6_x p CW CB WH WL BI LM v Y hp r j hY hv]
  exact half_tanh _

theorem pay8_at (hp : Staged p CW CB WH WL BI LM) (r j : Fin 512) (hY : ∀ i, Y (ix2 r i) = v i) (hv : ∀ i, v i - v i = 0) :
    k0_pay8 (F := Ideal) Y WH WL BI (ix2 r j) = Ideal.ofBits .f32 0xC1000000#32 * Ideal.logistic (blockLin p.wa p.ba v j) := by
  pointwise [k0_pay8]
  refine congrArg (Ideal.ofBits .f32 0xC1000000#32 * ·) ?_
  refine Eq.trans ?_ (half_tanh (blockLin p.wa p.ba v j))
  rw [← pay6_a p CW CB WH WL BI LM v Y hp r j hY hv]

theorem pay11_at (hp : Staged p CW CB WH WL BI LM) (r j : Fin 512) (hY : ∀ i, Y (ix2 r i) = v i) (hv : ∀ i, v i - v i = 0) :
    k0_pay11 (F := Ideal) (k0_pay8 (F := Ideal) Y WH WL BI) (k0_pay9 (F := Ideal) LM) (k0_pay10 (F := Ideal)) (ix2 r j) = logDecay p v j := by
  pointwise [k0_pay11, k0_pay9, k0_pay10]
  rw [pay8_at p CW CB WH WL BI LM v Y hp r j hY hv, hp.lam]
  unfold logDecay softplus
  simp only [zero_sub]
  rfl

theorem pay12_at (hp : Staged p CW CB WH WL BI LM) (r j : Fin 512) (hY : ∀ i, Y (ix2 r i) = v i) (hv : ∀ i, v i - v i = 0) :
    k0_pay12 (F := Ideal) (k0_pay8 (F := Ideal) Y WH WL BI) (k0_pay9 (F := Ideal) LM) (k0_pay10 (F := Ideal)) (ix2 r j) = decay p v j :=
  congrArg Ideal.exp (pay11_at p CW CB WH WL BI LM v Y hp r j hY hv)

theorem driveV_at (hp : Staged p CW CB WH WL BI LM) (r j : Fin 512) (hY : ∀ i, Y (ix2 r i) = v i) (hv : ∀ i, v i - v i = 0) :
    driveV Y (k0_pay7 (F := Ideal) Y WH WL BI) (k0_pay8 (F := Ideal) Y WH WL BI) (k0_pay9 (F := Ideal) LM) (k0_pay10 (F := Ideal)) (ix2 r j) = drive p v j := by
  pointwise [driveV]
  rw [pay11_at p CW CB WH WL BI LM v Y hp r j hY hv, pay12_at p CW CB WH WL BI LM v Y hp r j hY hv, pay7_at p CW CB WH WL BI LM v Y hp r j hY hv, hY j]
  exact drive_eq p v j

/-- The gated states. -/
theorem pay1_at (h g : FVec Ideal S512x512 .f32) (r j : Fin 512) :
    k0_pay1 (F := Ideal) h g (k0_pay96 (F := Ideal) g) (k0_pay97 (F := Ideal) g) (ix2 r j) = h (ix2 r j) * Cert.OutSpec.gelu (g (ix2 r j)) := by
  pointwise [k0_pay1, k0_pay96, k0_pay97]
  exact congrArg (h (ix2 r j) * ·) (Cert.OutSpec.gelu_half _)

/-! ## The scan of one block -/

/-- The stacked states of a block from its rows, its halo, the parameters and the state before it. -/
def blockStates (c : FVec Ideal S1x512 .f32) : FVec Ideal S512x512 .f32 :=
  stacked (k0_pay13) (k0_pay15 (F := Ideal) (k0_pay4 (F := Ideal) X H CW CB) (k0_pay7 (F := Ideal) (k0_pay4 (F := Ideal) X H CW CB) WH WL BI) (k0_pay8 (F := Ideal) (k0_pay4 (F := Ideal) X H CW CB) WH WL BI) (k0_pay9 (F := Ideal) LM) (k0_pay10 (F := Ideal)))
    (k0_pay16 (F := Ideal) (k0_pay8 (F := Ideal) (k0_pay4 (F := Ideal) X H CW CB) WH WL BI) (k0_pay9 (F := Ideal) LM) (k0_pay10 (F := Ideal)))
    (k0_pay18 (F := Ideal) (k0_pay8 (F := Ideal) (k0_pay4 (F := Ideal) X H CW CB) WH WL BI) (k0_pay9 (F := Ideal) LM) (k0_pay10 (F := Ideal)))
    (k0_pay19 (F := Ideal) (k0_pay4 (F := Ideal) X H CW CB) (k0_pay7 (F := Ideal) (k0_pay4 (F := Ideal) X H CW CB) WH WL BI) (k0_pay8 (F := Ideal) (k0_pay4 (F := Ideal) X H CW CB) WH WL BI) (k0_pay9 (F := Ideal) LM) (k0_pay10 (F := Ideal))) c

/-- The last of them. -/
def blockLast (c : FVec Ideal S1x512 .f32) : FVec Ideal S1x512 .f32 :=
  lastRow (k0_pay13) (k0_pay15 (F := Ideal) (k0_pay4 (F := Ideal) X H CW CB) (k0_pay7 (F := Ideal) (k0_pay4 (F := Ideal) X H CW CB) WH WL BI) (k0_pay8 (F := Ideal) (k0_pay4 (F := Ideal) X H CW CB) WH WL BI) (k0_pay9 (F := Ideal) LM) (k0_pay10 (F := Ideal)))
    (k0_pay16 (F := Ideal) (k0_pay8 (F := Ideal) (k0_pay4 (F := Ideal) X H CW CB) WH WL BI) (k0_pay9 (F := Ideal) LM) (k0_pay10 (F := Ideal)))
    (k0_pay18 (F := Ideal) (k0_pay8 (F := Ideal) (k0_pay4 (F := Ideal) X H CW CB) WH WL BI) (k0_pay9 (F := Ideal) LM) (k0_pay10 (F := Ideal)))
    (k0_pay19 (F := Ideal) (k0_pay4 (F := Ideal) X H CW CB) (k0_pay7 (F := Ideal) (k0_pay4 (F := Ideal) X H CW CB) WH WL BI) (k0_pay8 (F := Ideal) (k0_pay4 (F := Ideal) X H CW CB) WH WL BI) (k0_pay9 (F := Ideal) LM) (k0_pay10 (F := Ideal))) c

/-- The tiles of a block take the state through its rows. -/
theorem ladder (h : Rows x l X H) (hp : Staged p CW CB WH WL BI LM) (hf : ∀ n j, conv p x n j - conv p x n j = 0) :
    Ladder (k0_pay23 (F := Ideal) (k0_pay13) (k0_pay16 (F := Ideal) (k0_pay8 (F := Ideal) (k0_pay4 (F := Ideal) X H CW CB) WH WL BI) (k0_pay9 (F := Ideal) LM) (k0_pay10 (F := Ideal)))
        (k0_pay18 (F := Ideal) (k0_pay8 (F := Ideal) (k0_pay4 (F := Ideal) X H CW CB) WH WL BI) (k0_pay9 (F := Ideal) LM) (k0_pay10 (F := Ideal))))
      (k0_pay22 (F := Ideal) (k0_pay13) (k0_pay15 (F := Ideal) (k0_pay4 (F := Ideal) X H CW CB) (k0_pay7 (F := Ideal) (k0_pay4 (F := Ideal) X H CW CB) WH WL BI) (k0_pay8 (F := Ideal) (k0_pay4 (F := Ideal) X H CW CB) WH WL BI) (k0_pay9 (F := Ideal) LM) (k0_pay10 (F := Ideal)))
        (k0_pay16 (F := Ideal) (k0_pay8 (F := Ideal) (k0_pay4 (F := Ideal) X H CW CB) WH WL BI) (k0_pay9 (F := Ideal) LM) (k0_pay10 (F := Ideal)))
        (k0_pay18 (F := Ideal) (k0_pay8 (F := Ideal) (k0_pay4 (F := Ideal) X H CW CB) WH WL BI) (k0_pay9 (F := Ideal) LM) (k0_pay10 (F := Ideal)))
        (k0_pay19 (F := Ideal) (k0_pay4 (F := Ideal) X H CW CB) (k0_pay7 (F := Ideal) (k0_pay4 (F := Ideal) X H CW CB) WH WL BI) (k0_pay8 (F := Ideal) (k0_pay4 (F := Ideal) X H CW CB) WH WL BI) (k0_pay9 (F := Ideal) LM) (k0_pay10 (F := Ideal))))
      (fun j n => state p x j (l + n)) := by
  intro q k j
  rw [pay23_at, pay22_at]
  have e1 : ∀ k : Fin 8, k0_pay12 (F := Ideal) (k0_pay8 (F := Ideal) (k0_pay4 (F := Ideal) X H CW CB) WH WL BI) (k0_pay9 (F := Ideal) LM) (k0_pay10 (F := Ideal)) (ix2 (trow q k) j)
      = decay p (conv p x (l + 8 * q.val + k.val)) j := fun k => by
    refine (pay12_at p CW CB WH WL BI LM (conv p x (l + (8 * q.val + k.val))) _ hp (trow q k) j (fun i => pay4_at p x l X H CW CB WH WL BI LM h hp (trow q k) i) (hf _)).trans ?_
    rw [Nat.add_assoc]
  have e2 : ∀ k : Fin 8, driveV (k0_pay4 (F := Ideal) X H CW CB) (k0_pay7 (F := Ideal) (k0_pay4 (F := Ideal) X H CW CB) WH WL BI) (k0_pay8 (F := Ideal) (k0_pay4 (F := Ideal) X H CW CB) WH WL BI) (k0_pay9 (F := Ideal) LM) (k0_pay10 (F := Ideal)) (ix2 (trow q k) j)
      = drive p (conv p x (l + 8 * q.val + k.val)) j := fun k => by
    refine (driveV_at p CW CB WH WL BI LM (conv p x (l + (8 * q.val + k.val))) _ hp (trow q k) j (fun i => pay4_at p x l X H CW CB WH WL BI LM h hp (trow q k) i) (hf _)).trans ?_
    rw [Nat.add_assoc]
  refine (tile_eq (fun n => decay p (conv p x (l + 8 * q.val + n)) j) (fun n => drive p (conv p x (l + 8 * q.val + n)) j) _ _
    (fun k => by rw [e1 k]; exact decay_nonneg _ _ _) (fun k => by rw [e1 k]; exact decay_le_one _ _ _) e1 e2 k _).trans ?_
  show steps _ _ (state p x j (l + 8 * q.val)) (k.val + 1) = state p x j (l + (8 * q.val + (k.val + 1)))
  rw [← Nat.add_assoc l]
  unfold state
  exact (steps_add (fun l => decay p (conv p x l) j) (fun l => drive p (conv p x l) j) 0 (l + 8 * q.val) (k.val + 1)).symm

/-- The block's states, -/
theorem blockStates_at (c : FVec Ideal S1x512 .f32) (h : Rows x l X H) (hp : Staged p CW CB WH WL BI LM) (hf : ∀ n j, conv p x n j - conv p x n j = 0)
    (hc : ∀ j, c (ix2 0 j) = state p x j l) (r j : Fin 512) :
    blockStates X H CW CB WH WL BI LM c (ix2 r j) = state p x j (l + r.val + 1) := by
  have e : r = trow ⟨r.val / 8, by omega⟩ ⟨r.val % 8, by omega⟩ := Fin.ext (by show r.val = 8 * (r.val / 8) + r.val % 8; omega)
  conv_lhs => rw [e]
  refine (stacked_at _ _ _ _ _ c (fun j n => state p x j (l + n)) (ladder p x l X H CW CB WH WL BI LM h hp hf) hc _ _ j).trans ?_
  exact congrArg (state p x j) (by show l + (8 * (r.val / 8) + (r.val % 8 + 1)) = _; omega)

/-- and the last of them. -/
theorem blockLast_at (c : FVec Ideal S1x512 .f32) (h : Rows x l X H) (hp : Staged p CW CB WH WL BI LM) (hf : ∀ n j, conv p x n j - conv p x n j = 0)
    (hc : ∀ j, c (ix2 0 j) = state p x j l) (j : Fin 512) :
    blockLast X H CW CB WH WL BI LM c (ix2 0 j) = state p x j (l + 512) :=
  lastRow_at _ _ _ _ _ c (fun j n => state p x j (l + n)) (ladder p x l X H CW CB WH WL BI LM h hp hf) hc j

end Cert.LruIdeal.Value

end

end
-- ==== Proof.LruValue.lean ====
/- The recurrent kernel's result array: what its two carried scratches hold after each point, and the rows each point stores. -/
module

public import proofs.«01_k».proof.Proof.LruGates
public import Idealize.ShloMosaic.Lib.Pipeline.ReadBack
public import Idealize.ShloMosaic.Lib.WritesUnit

@[expose] public section

set_option maxRecDepth 16384

noncomputable section

namespace Cert.LruIdeal.Value

open Cert.LruIdeal Cert.LruIdeal.Gen Idealize.ShloMosaic Idealize.ShloMosaic.TcCoe Idealize.SL.Sem
open Idealize.ShloMosaic.Pipeline (Dat)
open Cert.Scalar Cert.LruMath Cert.LruSpec
open scoped BigOperators

variable (m : (ℓ : Loc nD τ sig) → Buf (Elt Ideal) ℓ)

/-! ## The arguments and the staged blocks -/

/-- The projected rows, -/
abbrev A0 (c : Dev nD) : FVec Ideal S16384x5376 .f32 := m ((c.tc : Thread nD τ).loc main_arg0)
/-- the taps, -/
abbrev A1 (c : Dev nD) : FVec Ideal S4x4x512 .f32 := m ((c.tc : Thread nD τ).loc main_arg1)
/-- the convolution's bias, -/
abbrev A2 (c : Dev nD) : FVec Ideal S4x512 .f32 := m ((c.tc : Thread nD τ).loc main_arg2)
/-- the recurrence gate's weights -/
abbrev A3 (c : Dev nD) : FVec Ideal S4x8x64x64 .f32 := m ((c.tc : Thread nD τ).loc main_arg3)
/-- and bias, -/
abbrev A4 (c : Dev nD) : FVec Ideal S4x512 .f32 := m ((c.tc : Thread nD τ).loc main_arg4)
/-- the input gate's weights -/
abbrev A5 (c : Dev nD) : FVec Ideal S4x8x64x64 .f32 := m ((c.tc : Thread nD τ).loc main_arg5)
/-- and bias, -/
abbrev A6 (c : Dev nD) : FVec Ideal S4x512 .f32 := m ((c.tc : Thread nD τ).loc main_arg6)
/-- and the decay parameter. -/
abbrev A7 (c : Dev nD) : FVec Ideal S4x512 .f32 := m ((c.tc : Thread nD τ).loc main_arg7)

/-- The windows' block indices at a point of the grid. -/
theorem idx : ∀ t : Fin cfg0.N, win0_0.index t = ![t.val, 8] ∧ win0_1.index t = ![t.val, 9] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![t.val, 0] :=
  (by decide +kernel : ∀ t : Fin grid0.N, _)

/-- Row `r` of the block of point `t`. -/
def row (t : Fin cfg0.N) (r : Fin 512) : Fin 16384 :=
  ⟨t.val * 512 + r.val, by have h := lt_of_lt_of_eq t.isLt N_0; omega⟩

theorem blk0 (c : Dev nD) (t : Fin cfg0.N) (r j : Fin 512) :
    (X0_0 m c t : FVec Ideal S512x512 .f32) (ix2 r j) = A0 m c (ix2 (row t r) ⟨4096 + j.val, by omega⟩) := by
  unfold X0_0 Pipeline.Window.fill
  rw [dif_pos (moved0_0 t _)]
  unfold row iblk
  entry_read
  blk_point [idx t]

theorem blk1 (c : Dev nD) (t : Fin cfg0.N) (r j : Fin 512) :
    (X0_1 m c t : FVec Ideal S512x512 .f32) (ix2 r j) = A0 m c (ix2 (row t r) ⟨4608 + j.val, by omega⟩) := by
  unfold X0_1 Pipeline.Window.fill
  rw [dif_pos (moved0_1 t _)]
  unfold row iblk
  entry_read
  blk_point [idx t]

theorem blk2 (c : Dev nD) (t : Fin cfg0.N) (k : Fin 4) (j : Fin 512) :
    (iblk m c 2 t : FVec Ideal S1x4x512 .f32) (ix3 0 k j) = A1 m c (ix3 0 k j) := by
  unfold iblk
  entry_read
  blk_point [idx t]

theorem blk3 (c : Dev nD) (t : Fin cfg0.N) (j : Fin 512) :
    (iblk m c 3 t : FVec Ideal S1x1x512 .f32) (ix3 0 0 j) = A2 m c (ix2 0 j) := by
  unfold iblk
  entry_read
  blk_simp [idx t]
  pointwise
  blk_point [idx t]

theorem blk7 (c : Dev nD) (t : Fin cfg0.N) (j : Fin 512) :
    (iblk m c 7 t : FVec Ideal S1x1x512 .f32) (ix3 0 0 j) = A7 m c (ix2 0 j) := by
  unfold iblk
  entry_read
  blk_simp [idx t]
  pointwise
  blk_point [idx t]

/-- Both gates' biases side by side. -/
def biases (BA BX : FVec Ideal S4x512 .f32) : FVec Ideal S4x1x1024 .f32 :=
  shapeCast S4x1x1024 (concatenate S4x1024 1 [⟨S4x512, BA⟩, ⟨S4x512, BX⟩] concatenates_S4x512_S4x512_S4x1024_d1) shapeCasts_S4x1024_S4x1x1024

theorem biases_a (BA BX : FVec Ideal S4x512 .f32) (j : Fin 512) : biases BA BX (ix3 0 0 ⟨j.val, by omega⟩) = BA (ix2 0 j) := by
  pointwise [biases]

theorem biases_x (BA BX : FVec Ideal S4x512 .f32) (j : Fin 512) : biases BA BX (ix3 0 0 ⟨512 + j.val, by omega⟩) = BX (ix2 0 j) := by
  pointwise [biases]

theorem blk6 (c : Dev nD) (t : Fin cfg0.N) (n : Fin 1024) :
    (iblk m c 6 t : FVec Ideal S1x1x1024 .f32) (ix3 0 0 n) = biases (A4 m c) (A6 m c) (ix3 0 0 n) := by
  unfold iblk
  entry_read
  have e : (win0_6.blk t).view.emb (ix3 0 0 n) = ix3 0 0 n := by blk_ext [idx t]
  blk_simp [idx t]
  exact congrArg (biases (A4 m c) (A6 m c)) e

/-- Which of two block numbers are equal, as numbers. -/
def equalBlocks : FVec Ideal S8x8 .f32 :=
  uitofp .f32 (cmpi CmpIPredicate.eq (addi (iotaInDim S8x8 32 0) (broadcastInDim S8x8 ![] bcast_S_S8x8 (constantI S_ 32 0#32))) (iotaInDim S8x8 32 1))

/-- The blocks of a gate's weights along the diagonal. -/
def diagonal (W : FVec Ideal S4x8x64x64 .f32) : FVec Ideal S4x512x512 .f32 :=
  shapeCast S4x512x512 (mulf
      (broadcastInDim S4x8x64x8x64 ![0, 1, 2, 3, 4] bcast_S4x8x64x1x64_S4x8x64x8x64_0_1_2_3_4
        (broadcastInDim S4x8x64x1x64 ![0, 1, 2, 4] bcast_S4x8x64x64_S4x8x64x1x64_0_1_2_4 W))
      (broadcastInDim S4x8x64x8x64 ![0, 1, 2, 3, 4] bcast_S1x8x1x8x1_S4x8x64x8x64_0_1_2_3_4
        (broadcastInDim S1x8x1x8x1 ![1, 3] bcast_S8x8_S1x8x1x8x1_1_3 equalBlocks)))
    shapeCasts_S4x8x64x8x64_S4x512x512

/-- Both gates' side by side. -/
def wide (WA WX : FVec Ideal S4x8x64x64 .f32) : FVec Ideal S4x512x1024 .f32 :=
  concatenate S4x512x1024 2 [⟨S4x512x512, diagonal WA⟩, ⟨S4x512x512, diagonal WX⟩] concatenates_S4x512x512_S4x512x512_S4x512x1024_d2

theorem same_block : ∀ a b : Fin 8, IntOp.cmpi CmpIPredicate.eq (IntOp.addi (BitVec.ofNat 32 a.val) 0#32) (BitVec.ofNat 32 b.val) = if a = b then 1#1 else 0#1 := by
  decide +kernel

theorem equalBlocks_at (a b : Fin 8) : equalBlocks (ix2 a b) = if a = b then 1 else 0 := by
  pointwise [equalBlocks]
  rw [same_block a b]
  by_cases h : a = b
  · rw [if_pos h, if_pos h]
    show (((1#1).toNat : ℝ) : EReal) = 1
    simp
  · rw [if_neg h, if_neg h]
    show (((0#1).toNat : ℝ) : EReal) = 0
    simp

theorem diagonal_at (W : FVec Ideal S4x8x64x64 .f32) (i j : Fin 512) :
    diagonal W (ix3 0 i j) = if i.val / 64 = j.val / 64 then W (ix4 0 ⟨i.val / 64, by omega⟩ ⟨i.val % 64, by omega⟩ ⟨j.val % 64, by omega⟩) else 0 := by
  pointwise [diagonal]
  rw [equalBlocks_at]
  by_cases h : i.val / 64 = j.val / 64
  · rw [if_pos h, if_pos (Fin.ext h), mul_one]
  · rw [if_neg h, if_neg (fun e => h (congrArg Fin.val e)), mul_zero]

theorem wide_a (WA WX : FVec Ideal S4x8x64x64 .f32) (i j : Fin 512) : wide WA WX (ix3 0 i ⟨j.val, by omega⟩) = diagonal WA (ix3 0 i j) := by
  pointwise [wide]

theorem wide_x (WA WX : FVec Ideal S4x8x64x64 .f32) (i j : Fin 512) : wide WA WX (ix3 0 i ⟨512 + j.val, by omega⟩) = diagonal WX (ix3 0 i j) := by
  pointwise [wide]

theorem blk4 (c : Dev nD) (t : Fin cfg0.N) (i : Fin 512) (n : Fin 1024) :
    (iblk m c 4 t : FVec Ideal S1x512x1024 .bf16) (ix3 0 i n) = wide (A3 m c) (A5 m c) (ix3 0 i n) := by
  unfold iblk
  entry_read
  have e : (win0_4.blk t).view.emb (ix3 0 i n) = ix3 0 i n := by blk_ext [idx t]
  blk_simp [idx t]
  exact congrArg (wide (A3 m c) (A5 m c)) e

theorem blk5 (c : Dev nD) (t : Fin cfg0.N) (i : Fin 512) (n : Fin 1024) :
    (iblk m c 5 t : FVec Ideal S1x512x1024 .bf16) (ix3 0 i n) = (wide (A3 m c) (A5 m c) (ix3 0 i n) - wide (A3 m c) (A5 m c) (ix3 0 i n) : EReal) := by
  unfold iblk
  entry_read
  have e : (win0_5.blk t).view.emb (ix3 0 i n) = ix3 0 i n := by blk_ext [idx t]
  blk_simp [idx t]
  exact congrArg (fun i => (wide (A3 m c) (A5 m c) i - wide (A3 m c) (A5 m c) i : EReal)) e

/-! ## The rows and the parameters -/

/-- The call's parameters: those of its first layer. -/
def prm (c : Dev nD) : Params where
  tap k j := A1 m c (ix3 0 k j)
  cbias j := A2 m c (ix2 0 j)
  wa h i k := A3 m c (ix4 0 h i k)
  ba j := A4 m c (ix2 0 j)
  wx h i k := A5 m c (ix4 0 h i k)
  bx j := A6 m c (ix2 0 j)
  lam j := A7 m c (ix2 0 j)

/-- Row `n` of sequence `b`, zero past its end. -/
def seq (c : Dev nD) (b : Fin 2) (n : ℕ) (j : Fin 512) : EReal :=
  if h : n < 8192 then A0 m c (ix2 ⟨b.val * 8192 + n, by omega⟩ ⟨4096 + j.val, by omega⟩) else 0

/-- The numbers the kernel splits in two are finite: zero when taken from themselves. -/
structure Finite (c : Dev nD) : Prop where
  rows : ∀ (i : Fin 16384) (j : Fin 512), A0 m c (ix2 i ⟨4096 + j.val, by omega⟩) - A0 m c (ix2 i ⟨4096 + j.val, by omega⟩) = 0
  tap : ∀ (k : Fin 4) (j : Fin 512), A1 m c (ix3 0 k j) - A1 m c (ix3 0 k j) = 0
  cbias : ∀ j : Fin 512, A2 m c (ix2 0 j) - A2 m c (ix2 0 j) = 0
  wa : ∀ (h : Fin 8) (i k : Fin 64), A3 m c (ix4 0 h i k) - A3 m c (ix4 0 h i k) = 0
  wx : ∀ (h : Fin 8) (i k : Fin 64), A5 m c (ix4 0 h i k) - A5 m c (ix4 0 h i k) = 0

theorem zero_sub_zero : (0 : EReal) - 0 = 0 := by rw [← EReal.coe_zero, ← EReal.coe_sub, sub_self]

theorem diagonal_finite (W : FVec Ideal S4x8x64x64 .f32) (h : ∀ (h : Fin 8) (i k : Fin 64), W (ix4 0 h i k) - W (ix4 0 h i k) = (0 : EReal)) (i j : Fin 512) :
    (diagonal W (ix3 0 i j) - diagonal W (ix3 0 i j) : EReal) = 0 := by
  rw [diagonal_at]
  split
  · exact h _ _ _
  · exact zero_sub_zero

theorem wide_finite (c : Dev nD) (hf : Finite m c) (i : Fin 512) (n : Fin 1024) :
    (wide (A3 m c) (A5 m c) (ix3 0 i n) - wide (A3 m c) (A5 m c) (ix3 0 i n) : EReal) = 0 := by
  by_cases hn : n.val < 512
  · have e := wide_a (A3 m c) (A5 m c) i ⟨n.val, hn⟩
    have e' : wide (A3 m c) (A5 m c) (ix3 0 i n) = diagonal (A3 m c) (ix3 0 i ⟨n.val, hn⟩) := e
    rw [e']
    exact diagonal_finite _ hf.wa _ _
  · have hn' : n.val - 512 < 512 := by omega
    have e := wide_x (A3 m c) (A5 m c) i ⟨n.val - 512, hn'⟩
    have en : (⟨512 + (n.val - 512), by omega⟩ : Fin 1024) = n := Fin.ext (by show 512 + (n.val - 512) = n.val; omega)
    have e' : wide (A3 m c) (A5 m c) (ix3 0 i n) = diagonal (A5 m c) (ix3 0 i ⟨n.val - 512, hn'⟩) :=
      (congrArg (fun n => wide (A3 m c) (A5 m c) (ix3 0 i n)) en.symm).trans e
    rw [e']
    exact diagonal_finite _ hf.wx _ _

theorem staged (c : Dev nD) (t : Fin cfg0.N) (hf : Finite m c) :
    Staged (prm m c) (iblk m c 2 t) (iblk m c 3 t) (iblk m c 4 t) (iblk m c 5 t) (iblk m c 6 t) (iblk m c 7 t) where
  tap k j := blk2 m c t k j
  cbias j := blk3 m c t j
  wa i j := (blk4 m c t i _).trans ((wide_a _ _ i j).trans (diagonal_at _ i j))
  wx i j := (blk4 m c t i _).trans ((wide_x _ _ i j).trans (diagonal_at _ i j))
  low i n := (blk5 m c t i n).trans (wide_finite m c hf i n)
  ba j := (blk6 m c t _).trans (biases_a _ _ j)
  bx j := (blk6 m c t _).trans (biases_x _ _ j)
  lam j := blk7 m c t j

theorem finite_conv (c : Dev nD) (b : Fin 2) (hf : Finite m c) (n : ℕ) (j : Fin 512) :
    conv (prm m c) (seq m c b) n j - conv (prm m c) (seq m c b) n j = 0 := by
  refine conv_finite _ _ _ _ (fun n j => ?_) hf.tap hf.cbias
  unfold seq
  split
  · exact hf.rows _ _
  · exact zero_sub_zero

/-- The sequence of point `t` -/
def batch (t : Fin cfg0.N) : Fin 2 := ⟨t.val / 16, by have h := lt_of_lt_of_eq t.isLt N_0; omega⟩

/-- and the row it begins at. -/
def start (t : Fin cfg0.N) : ℕ := t.val % 16 * 512

theorem block_row (c : Dev nD) (t : Fin cfg0.N) (r j : Fin 512) :
    (X0_0 m c t : FVec Ideal S512x512 .f32) (ix2 r j) = seq m c (batch t) (start t + r.val) j := by
  have hr := r.isLt
  have ht := lt_of_lt_of_eq t.isLt N_0
  rw [blk0]
  unfold seq start batch row
  rw [dif_pos (by omega)]
  exact congrArg (fun i => A0 m c (ix2 i ⟨4096 + j.val, by omega⟩)) (Fin.ext (by show t.val * 512 + r.val = t.val / 16 * 8192 + (t.val % 16 * 512 + r.val); omega))

/-! ## The carried scratches -/

/-- The first row of a carried scratch. -/
abbrev firstRow : Rect S8x512 := Rect.unit ![0, 0] ![1, 512] inb_S8x512_S1x512_0_0

/-- All of it. -/
abbrev allRows : Rect S8x512 := Rect.unit ![0, 0] ![8, 512] inb_S8x512_S8x512_0_0

theorem firstRow_emb (j : Fin 512) : firstRow.emb (ix2 (0 : Fin 1) j : S1x512.Idx) = (ix2 (0 : Fin 8) j : S8x512.Idx) := by
  funext a
  refine Fin.ext ?_
  fin_cases a
  · rfl
  · show 0 + 1 * j.val = j.val
    omega

theorem canon_row (Y : FVec Ideal S1x512 .f32) (L : List (View.Piece (Elt Ideal) S8x512 .f32)) (j : Fin 512) :
    View.canon (Val := Elt Ideal) (s := S8x512) (e := .f32) (⟨firstRow, Y⟩ :: L) (ix2 0 j) = Y (ix2 0 j) := by
  rw [← firstRow_emb j]
  exact View.canon_cons_emb (Val := Elt Ideal) (s := S8x512) (e := .f32) firstRow Y L _

theorem ld_row (Z : FVec Ideal S8x512 .f32) (j : Fin 512) :
    (View.ld (Val := Elt Ideal) (e' := .f32) Z firstRow : S1x512.Idx → Elt Ideal .f32) (ix2 0 j) = Z (ix2 0 j) := by
  rw [← firstRow_emb j]
  rfl

theorem cov_row (Z : FVec Ideal S8x512 .f32) (j : Fin 512) :
    ((View.whole cc0_scratch1).readCov (Val := Elt Ideal) [⟨Rect.unit ![0, 0] ![8, 512] inb_S8x512_S8x512_0_0, Z⟩] firstRow.toLoadRect : S1x512.Idx → Elt Ideal .f32) (ix2 0 j) = Z (ix2 0 j) := by
  rw [View.readCov_eq_canon']
  have e := View.canon_cons_unit_lit (Val := Elt Ideal) (S := S8x512) (e := .f32) (off := ![0, 0]) inb_S8x512_S8x512_0_0 Z [] (by decide)
  show View.canon (Val := Elt Ideal) (s := S8x512) (e := .f32) [⟨Rect.unit ![0, 0] ![8, 512] inb_S8x512_S8x512_0_0, Z⟩] (firstRow.emb _) = _
  rw [firstRow_emb]
  exact congrFun e _

theorem written_row (Y : FVec Ideal S1x512 .f32) (f) (j : Fin 512) :
    (View.read (Elt Ideal) (View.whole cc0_scratch1) ((View.whole cc0_scratch1).writes (Elt Ideal) f [⟨firstRow, Y⟩]) : S8x512.Idx → Elt Ideal .f32) (ix2 0 j) = Y (ix2 0 j) :=
  View.read_writes_cons_unit_of_mem (View.whole cc0_scratch1) f inb_S8x512_S1x512_0_0 Y [] (ix2 0 j) (ix2 0 j) rfl (fun a => by
    fin_cases a
    · rfl
    · show j.val = 0 + j.val
      omega)

theorem pay5_at (X : FVec Ideal S512x512 .f32) (k : Fin 8) (j : Fin 512) : k0_pay5 (F := Ideal) X (ix2 k j) = X (ix2 ⟨504 + k.val, by omega⟩ j) := by
  pointwise [k0_pay5]

theorem left_halo (c : Dev nD) (t : Fin cfg0.N) (k : Fin 8) (j : Fin 512) :
    (outsAt0 m c t.val t.isLt).2.1 (ix2 k j) = seq m c (batch t) (start t + 504 + k.val) j := by
  by_cases h0 : t.val % 16 = 0
  · rw [outsAt0_A m c t h0]
    frame_out
    rw [pay5_at, block_row, Nat.add_assoc]
  · rw [outsAt0_B m c t h0]
    frame_out
    rw [pay5_at, block_row, Nat.add_assoc]

/-- The halo of the first block of a sequence: zeros. -/
abbrev haloA : FVec Ideal S8x512 .f32 := k0_pay2 (F := Ideal)

/-- The state before it: zeros. -/
abbrev carryA : FVec Ideal S1x512 .f32 := ((View.whole cc0_scratch1).readCov (Val := Elt Ideal) [⟨allRows, (k0_pay3 (F := Ideal))⟩] firstRow.toLoadRect)

theorem haloA_at (k : Fin 8) (j : Fin 512) : haloA (ix2 k j) = 0 := by
  pointwise [k0_pay2]

theorem carryA_at (j : Fin 512) : carryA (ix2 0 j) = 0 := by
  refine (cov_row _ j).trans ?_
  pointwise [k0_pay3]

theorem rows_A (c : Dev nD) (t : Fin cfg0.N) (h0 : t.val % 16 = 0) : Rows (seq m c (batch t)) (start t) (X0_0 m c t) haloA where
  block r j := block_row m c t r j
  halo k j _ := by
    have e : start t = 0 := by unfold start; omega
    rw [haloA_at, e, if_pos (by omega)]

theorem before_lt (t : Fin cfg0.N) : t.val - 1 < cfg0.N := Nat.lt_of_le_of_lt (Nat.sub_le _ _) t.isLt

theorem batch_before (t : Fin cfg0.N) (h0 : ¬ t.val % 16 = 0) : batch ⟨t.val - 1, before_lt t⟩ = batch t :=
  Fin.ext (by show (t.val - 1) / 16 = t.val / 16; omega)

theorem start_before (t : Fin cfg0.N) (h0 : ¬ t.val % 16 = 0) : start ⟨t.val - 1, before_lt t⟩ + 512 = start t := by
  show (t.val - 1) % 16 * 512 + 512 = t.val % 16 * 512
  omega

theorem rows_B (c : Dev nD) (t : Fin cfg0.N) (h0 : ¬ t.val % 16 = 0) :
    Rows (seq m c (batch t)) (start t) (X0_0 m c t) (outsAt0 m c (t.val - 1) (before_lt t)).2.1 where
  block r j := block_row m c t r j
  halo k j _ := by
    have e := start_before t h0
    rw [if_neg (by omega), ← batch_before t h0]
    exact (left_halo m c ⟨t.val - 1, before_lt t⟩ k j).trans (congrArg (fun n => seq m c (batch ⟨t.val - 1, before_lt t⟩) n j) (by omega))

theorem carry_A (c : Dev nD) (t : Fin cfg0.N) (hf : Finite m c) (h0 : t.val % 16 = 0) (j : Fin 512) :
    (outsAt0 m c t.val t.isLt).2.2 (ix2 0 j) = state (prm m c) (seq m c (batch t)) j (start t + 512) := by
  have e : start t = 0 := by unfold start; omega
  rw [outsAt0_A m c t h0]
  frame_out
  refine (canon_row _ _ j).trans ?_
  exact blockLast_at (prm m c) (seq m c (batch t)) (start t) (X0_0 m c t) haloA (iblk m c 2 t) (iblk m c 3 t) (iblk m c 4 t) (iblk m c 5 t) (iblk m c 6 t) (iblk m c 7 t) carryA
    (rows_A m c t h0) (staged m c t hf) (finite_conv m c _ hf) (fun j => by rw [carryA_at, e]; rfl) j

theorem carry_B (c : Dev nD) (t : Fin cfg0.N) (hf : Finite m c) (h0 : ¬ t.val % 16 = 0)
    (hc : ∀ j : Fin 512, (outsAt0 m c (t.val - 1) (before_lt t)).2.2 (ix2 0 j) = state (prm m c) (seq m c (batch t)) j (start t)) (j : Fin 512) :
    (outsAt0 m c t.val t.isLt).2.2 (ix2 0 j) = state (prm m c) (seq m c (batch t)) j (start t + 512) := by
  rw [outsAt0_B m c t h0]
  frame_out
  simp only [read_unread_whole]
  refine (written_row _ _ j).trans ?_
  exact blockLast_at (prm m c) (seq m c (batch t)) (start t) (X0_0 m c t) (outsAt0 m c (t.val - 1) (before_lt t)).2.1 (iblk m c 2 t) (iblk m c 3 t) (iblk m c 4 t) (iblk m c 5 t) (iblk m c 6 t) (iblk m c 7 t)
    (View.ld (outsAt0 m c (t.val - 1) (before_lt t)).2.2 firstRow)
    (rows_B m c t h0) (staged m c t hf) (finite_conv m c _ hf) (fun j => (ld_row _ j).trans (hc j)) j

theorem carry (c : Dev nD) (hf : Finite m c) : ∀ (n : ℕ) (hn : n < cfg0.N) (j : Fin 512),
    (outsAt0 m c n hn).2.2 (ix2 0 j) = state (prm m c) (seq m c (batch ⟨n, hn⟩)) j (start ⟨n, hn⟩ + 512)
  | 0, hn, j => carry_A m c ⟨0, hn⟩ hf rfl j
  | n + 1, hn, j => by
    by_cases h0 : (n + 1) % 16 = 0
    · exact carry_A m c ⟨n + 1, hn⟩ hf h0 j
    · refine carry_B m c ⟨n + 1, hn⟩ hf h0 (fun j => ?_) j
      have e := carry c hf n (Nat.lt_of_succ_lt hn) j
      have e1 := batch_before ⟨n + 1, hn⟩ h0
      have e2 := start_before ⟨n + 1, hn⟩ h0
      rw [← e1, ← e2]
      exact e

/-! ## The stored rows -/

theorem point_A (c : Dev nD) (t : Fin cfg0.N) (hf : Finite m c) (h0 : t.val % 16 = 0) (r j : Fin 512) :
    (outsAt0 m c t.val t.isLt).1 (ix2 r j)
      = unit (prm m c) (seq m c (batch t)) (A0 m c (ix2 (row t r) ⟨4608 + j.val, by omega⟩)) (start t + r.val) j := by
  have e : start t = 0 := by unfold start; omega
  rw [outsAt0_A m c t h0]
  frame_out
  refine (pay1_at (blockStates (X0_0 m c t) haloA (iblk m c 2 t) (iblk m c 3 t) (iblk m c 4 t) (iblk m c 5 t) (iblk m c 6 t) (iblk m c 7 t) carryA) (X0_1 m c t) r j).trans ?_
  rw [blockStates_at (prm m c) (seq m c (batch t)) (start t) _ _ _ _ _ _ _ _ carryA
    (rows_A m c t h0) (staged m c t hf) (finite_conv m c _ hf) (fun j => by rw [carryA_at, e]; rfl) r j, blk1]
  rfl

theorem point_B (c : Dev nD) (t : Fin cfg0.N) (hf : Finite m c) (h0 : ¬ t.val % 16 = 0) (r j : Fin 512) :
    (outsAt0 m c t.val t.isLt).1 (ix2 r j)
      = unit (prm m c) (seq m c (batch t)) (A0 m c (ix2 (row t r) ⟨4608 + j.val, by omega⟩)) (start t + r.val) j := by
  have hc : ∀ j : Fin 512, (outsAt0 m c (t.val - 1) (before_lt t)).2.2 (ix2 0 j) = state (prm m c) (seq m c (batch t)) j (start t) := fun j => by
    rw [← batch_before t h0, ← start_before t h0]
    exact carry m c hf (t.val - 1) (before_lt t) j
  rw [outsAt0_B m c t h0]
  frame_out
  simp only [read_unread_whole]
  refine (pay1_at (blockStates (X0_0 m c t) (outsAt0 m c (t.val - 1) (before_lt t)).2.1 (iblk m c 2 t) (iblk m c 3 t) (iblk m c 4 t) (iblk m c 5 t) (iblk m c 6 t) (iblk m c 7 t)
    (View.ld (outsAt0 m c (t.val - 1) (before_lt t)).2.2 firstRow)) (X0_1 m c t) r j).trans ?_
  rw [blockStates_at (prm m c) (seq m c (batch t)) (start t) _ _ _ _ _ _ _ _ (View.ld (outsAt0 m c (t.val - 1) (before_lt t)).2.2 firstRow)
    (rows_B m c t h0) (staged m c t hf) (finite_conv m c _ hf) (fun j => (ld_row _ j).trans (hc j)) r j, blk1]
  rfl

/-! ## The whole array -/

/-- The result array of the call, entry by entry. -/
def result (c : Dev nD) : FVec Ideal S16384x512 .f32 := fun i =>
  unit (prm m c) (seq m c ⟨(i 0).val / 8192, by have h : (i 0).val < 16384 := (i 0).isLt; omega⟩)
    (A0 m c (ix2 (i 0) ⟨4608 + (i 1).val, by have h : (i 1).val < 512 := (i 1).isLt; omega⟩)) ((i 0).val % 8192) (i 1)

/-- After the run the result buffer holds it. -/
theorem array_eq (c : Dev nD) (hf : Finite m c) : (dats m 0 c).arrAt 8 cfg0.N = result m c := by
  refine (dats m 0 c).arrAt_eq_of_covers 8 _ (by decide +kernel) fun t hw y => ?_
  blk_simp
  rw [after0_8]
  obtain ⟨r, j, rfl⟩ : ∃ (r : Fin 512) (j : Fin 512), y = ix2 r j := ⟨y 0, y 1, eq_ix2 y⟩
  have e : (win0_8.blk t).view.emb (ix2 r j) = ix2 (row t r) j := by
    unfold row
    blk_ext [idx t]
  rw [e]
  have ht := lt_of_lt_of_eq t.isLt N_0
  have e1 : batch t = ⟨(row t r).val / 8192, by have h := (row t r).isLt; omega⟩ := Fin.ext (by
    show t.val / 16 = (t.val * 512 + r.val) / 8192
    omega)
  have e2 : start t + r.val = (row t r).val % 8192 := by
    show t.val % 16 * 512 + r.val = (t.val * 512 + r.val) % 8192
    omega
  have hp : (outsAt0 m c t.val t.isLt).1 (ix2 r j)
      = unit (prm m c) (seq m c (batch t)) (A0 m c (ix2 (row t r) ⟨4608 + j.val, by omega⟩)) (start t + r.val) j := by
    by_cases h0 : t.val % 16 = 0
    · exact point_A m c t hf h0 r j
    · exact point_B m c t hf h0 r j
  rw [e1, e2] at hp
  exact hp

end Cert.LruIdeal.Value

end

end
-- ==== Proof.LruPre.lean ====
/- The precondition of the recurrent unit's claim, read entry by entry. -/
module

public import proofs.«01_k».proof.Defs
public import proofs.«01_k».proof.Proof.LruValue

@[expose] public section

set_option maxRecDepth 16384

noncomputable section

namespace Cert.LruPre

open Cert.Pre_finite_inputs Idealize.ShloMosaic Idealize.ShloMosaic.TcCoe

/-- The shape relations the precondition's operations take. -/
instance facts : Cert.Pre_finite_inputs.Facts where
  slices_S16384x5376_S16384x512_0_4096 := by decide
  bcast_S_S16384x512 := by decide
  slices_S4x4x512_S1x4x512_0_0_0 := by decide
  shapeCasts_S1x4x512_S4x512 := by decide
  bcast_S_S4x512 := by decide
  slices_S4x512_S1x512_0_0 := by decide
  shapeCasts_S1x512_S512 := by decide
  bcast_S_S512 := by decide
  slices_S4x8x64x64_S1x8x64x64_0_0_0_0 := by decide
  shapeCasts_S1x8x64x64_S8x64x64 := by decide
  bcast_S_S8x64x64 := by decide

open Cert.Pre_finite_inputs.Facts

/-- An array's entries compared with zero after each is taken from itself. -/
def zeroDiff {s : Shape} (h : S_.BroadcastsInDim s (![] : Fin 0 → Fin s.rank)) (v : FVec Ideal s .f32) : IVec s 1 :=
  cmpf .oeq (subf v v) (broadcastInDim s ![] h (constant S_ .f32 0x00000000#32))

theorem zeroDiff_at {s : Shape} (h : S_.BroadcastsInDim s (![] : Fin 0 → Fin s.rank)) (v : FVec Ideal s .f32) (i : s.Idx)
    (e : zeroDiff h v i = 1#1) : (v i - v i : EReal) = 0 := by
  have e' : BitVec.ofBool (decide ((v i - v i : EReal) = Ideal.ofBits .f32 0x00000000#32)) = 1#1 := e
  have z : Ideal.ofBits .f32 0x00000000#32 = 0 := by simp [Ideal.ofBits, Ideal.ieee]
  by_contra hne
  rw [z, decide_eq_false hne] at e'
  exact absurd e' (by decide)

variable (a0 : FVec Ideal S16384x5376 .f32) (a1 : FVec Ideal S4x4x512 .f32) (a2 : FVec Ideal S4x512 .f32) (a3 : FVec Ideal S4x8x64x64 .f32)

def rowsPart : FVec Ideal S16384x512 .f32 := extractStridedSlice S16384x512 ![0, 4096] a0 slices_S16384x5376_S16384x512_0_4096
def tapPart : FVec Ideal S4x512 .f32 := shapeCast S4x512 (extractStridedSlice S1x4x512 ![0, 0, 0] a1 slices_S4x4x512_S1x4x512_0_0_0) shapeCasts_S1x4x512_S4x512
def biasPart : FVec Ideal S512 .f32 := shapeCast S512 (extractStridedSlice S1x512 ![0, 0] a2 slices_S4x512_S1x512_0_0) shapeCasts_S1x512_S512
def gatePart : FVec Ideal S8x64x64 .f32 := shapeCast S8x64x64 (extractStridedSlice S1x8x64x64 ![0, 0, 0, 0] a3 slices_S4x8x64x64_S1x8x64x64_0_0_0_0) shapeCasts_S1x8x64x64_S8x64x64

theorem rowsPart_at (i : Fin 16384) (j : Fin 512) : rowsPart a0 (ix2 i j) = a0 (ix2 i ⟨4096 + j.val, by omega⟩) := by
  pointwise [rowsPart]

theorem tapPart_at (k : Fin 4) (j : Fin 512) : tapPart a1 (ix2 k j) = a1 (ix3 0 k j) := by
  pointwise [tapPart]

theorem biasPart_at (j : Fin 512) : biasPart a2 (ix1 j) = a2 (ix2 0 j) := by
  pointwise [biasPart]

theorem gatePart_at (h : Fin 8) (i k : Fin 64) : gatePart a3 (ix3 h i k) = a3 (ix4 0 h i k) := by
  pointwise [gatePart]

/-- Under the precondition the numbers the kernel splits are finite. -/
theorem finite (m : (ℓ : Loc Cert.LruIdeal.nD Cert.LruIdeal.τ Cert.LruIdeal.sig) → Buf (Elt Ideal) ℓ)
    (hp : Cert.Pre_LruIdeal_finite_inputs m) (c : Dev Cert.LruIdeal.nD) : Cert.LruIdeal.Value.Finite m c := by
  obtain ⟨h0, h1, h2, h3, h5⟩ := hp c
  refine ⟨fun i j => ?_, fun k j => ?_, fun j => ?_, fun h i k => ?_, fun h i k => ?_⟩
  · have e := zeroDiff_at bcast_S_S16384x512 (rowsPart (Cert.LruIdeal.Value.A0 m c)) (ix2 i j) (congrFun h0 (ix2 i j))
    rwa [rowsPart_at] at e
  · have e := zeroDiff_at bcast_S_S4x512 (tapPart (Cert.LruIdeal.Value.A1 m c)) (ix2 k j) (congrFun h1 (ix2 k j))
    rwa [tapPart_at] at e
  · have e := zeroDiff_at bcast_S_S512 (biasPart (Cert.LruIdeal.Value.A2 m c)) (ix1 j) (congrFun h2 (ix1 j))
    rwa [biasPart_at] at e
  · have e := zeroDiff_at bcast_S_S8x64x64 (gatePart (Cert.LruIdeal.Value.A3 m c)) (ix3 h i k) (congrFun h3 (ix3 h i k))
    rwa [gatePart_at] at e
  · have e := zeroDiff_at bcast_S_S8x64x64 (gatePart (Cert.LruIdeal.Value.A5 m c)) (ix3 h i k) (congrFun h5 (ix3 h i k))
    rwa [gatePart_at] at e

end Cert.LruPre

end

end
-- ==== Proof.LruClaim.lean ====
/- The recurrent unit's claim: the kernel's array and the reference's are the same function of the arguments. -/
module

public import proofs.«01_k».proof.Defs
public import proofs.«01_k».proof.Proof.Gen.LruIdeal
public import proofs.«01_k».proof.Proof.Gen.LruRefIdeal
public import proofs.«01_k».proof.Proof.LruTrip
public import proofs.«01_k».proof.Proof.LruPre

@[expose] public section

set_option maxRecDepth 16384

noncomputable section

namespace Cert.LruClaim

open Idealize.ShloMosaic Idealize.ShloMosaic.TcCoe Idealize.SL.Sem

theorem claim : Cert.algebraic_LruIdeal_LruRefIdeal_pre_finite_inputs (hLruIdeal := Cert.LruIdeal.Gen.facts)
    (hLruRefIdeal := Cert.LruRefIdeal.Gen.facts) (hPre_finite_inputs := Cert.LruPre.facts) := by
  intro m g m' g' hp hag
  refine ⟨fun c => Cert.LruIdeal.Value.result m c,
    (θ_run _ _ _).mono (fun r h c => ⟨(h c).1.trans (Cert.LruIdeal.Value.array_eq m c (Cert.LruPre.finite m hp c)), (h c).2⟩) (Cert.LruIdeal.Value.run_blocks m g),
    (θ_run _ _ _).mono (fun r h c => ⟨(h c).1.trans ?_, (h c).2⟩) (Cert.LruRefIdeal.Value.run m' g')⟩
  obtain ⟨h0, h1, h2, h3, h4, h5, h6, h7⟩ := hag c
  funext i
  obtain ⟨a, b, rfl⟩ : ∃ (a : Fin 16384) (b : Fin 512), i = ix2 a b := ⟨i 0, i 1, eq_ix2 i⟩
  refine (Cert.LruRefIdeal.Value.ref_at m' c a b).trans ?_
  unfold Cert.LruRefIdeal.Value.prm
  have e0 : Cert.LruRefIdeal.Value.A0 m' c = Cert.LruIdeal.Value.A0 m c := h0
  have e1 : Cert.LruRefIdeal.Value.A1 m' c = Cert.LruIdeal.Value.A1 m c := h1
  have e2 : Cert.LruRefIdeal.Value.A2 m' c = Cert.LruIdeal.Value.A2 m c := h2
  have e3 : Cert.LruRefIdeal.Value.A3 m' c = Cert.LruIdeal.Value.A3 m c := h3
  have e4 : Cert.LruRefIdeal.Value.A4 m' c = Cert.LruIdeal.Value.A4 m c := h4
  have e5 : Cert.LruRefIdeal.Value.A5 m' c = Cert.LruIdeal.Value.A5 m c := h5
  have e6 : Cert.LruRefIdeal.Value.A6 m' c = Cert.LruIdeal.Value.A6 m c := h6
  have e7 : Cert.LruRefIdeal.Value.A7 m' c = Cert.LruIdeal.Value.A7 m c := h7
  rw [e0, e1, e2, e3, e4, e5, e6, e7]
  rfl

end Cert.LruClaim

end

end
-- ==== Proof.GdnMath.lean ====
/- The gated delta rule over the reals: token by token, and a chunk of tokens at a time. -/
module

public import proofs.«01_k».proof.Proof.Scalar
public import Mathlib.Data.Matrix.Mul
public import Mathlib.Data.Matrix.Basic

@[expose] public section

noncomputable section

namespace Cert.GdnMath

open scoped BigOperators

/-! ## The inverse of a unit lower triangular matrix, by doubling its diagonal blocks -/

section Inverse

/-- Square matrices of a chunk. -/
abbrev Sq := Matrix (Fin 64) (Fin 64) ℝ

variable (M : Sq)

/-- The part of `M` that joins the two halves of a diagonal block of `2 ^ (l + 1)` rows. -/
def join (l : ℕ) : Sq := fun i j =>
  if j.val < i.val ∧ i.val / 2 ^ (l + 1) = j.val / 2 ^ (l + 1) ∧ i.val / 2 ^ l ≠ j.val / 2 ^ l then M i j else 0

/-- The strictly lower part of `M` inside the diagonal blocks of `2 ^ l` rows. -/
def inside (l : ℕ) : Sq := fun i j => if j.val < i.val ∧ i.val / 2 ^ l = j.val / 2 ^ l then M i j else 0

/-- The inverse inside the diagonal blocks, from block to block of twice the size. -/
def inv : ℕ → Sq
  | 0 => 1
  | l + 1 => inv l - inv l * join M l * inv l

theorem half (a l : ℕ) : a / 2 ^ (l + 1) = a / 2 ^ l / 2 := by
  rw [Nat.div_div_eq_div_mul, pow_succ]

theorem inside_zero : inside M 0 = 0 := by
  funext i j
  unfold inside
  rw [if_neg (by simp only [pow_zero, Nat.div_one]; omega)]
  rfl

theorem inside_succ (l : ℕ) : inside M (l + 1) = inside M l + join M l := by
  funext i j
  show inside M (l + 1) i j = inside M l i j + join M l i j
  unfold inside join
  simp only [half]
  by_cases h1 : j.val < i.val <;> by_cases h2 : i.val / 2 ^ l = j.val / 2 ^ l <;> by_cases h3 : i.val / 2 ^ l / 2 = j.val / 2 ^ l / 2 <;>
    simp [h1, h2, h3] <;> omega

/-- The inverse stays inside the diagonal blocks. -/
theorem inv_block (l : ℕ) (i j : Fin 64) (h : i.val / 2 ^ l ≠ j.val / 2 ^ l) : inv M l i j = 0 := by
  induction l generalizing i j with
  | zero =>
    have hne : i ≠ j := fun e => h (by rw [e])
    show (1 : Sq) i j = 0
    exact Matrix.one_apply_ne hne
  | succ l ih =>
    have hij : i.val / 2 ^ l ≠ j.val / 2 ^ l := fun e => h (by rw [half, half, e])
    show inv M l i j - (inv M l * join M l * inv M l) i j = 0
    rw [ih i j hij, Matrix.mul_apply, zero_sub, neg_eq_zero]
    refine Finset.sum_eq_zero fun k _ => ?_
    by_cases hk : k.val / 2 ^ l = j.val / 2 ^ l
    · rw [Matrix.mul_apply, Finset.sum_eq_zero, zero_mul]
      intro n _
      by_cases hn : i.val / 2 ^ l = n.val / 2 ^ l
      · have : join M l n k = 0 := by
          unfold join
          rw [if_neg]
          rintro ⟨_, e, _⟩
          rw [half, half] at e
          rw [half, half] at h
          omega
        rw [this, mul_zero]
      · rw [ih i n hn, zero_mul]
    · rw [ih k j hk, mul_zero]

/-- The joining part, taken twice through the blocks, is nothing. -/
theorem join_join (l : ℕ) : join M l * inv M l * join M l = 0 := by
  funext i j
  show (join M l * inv M l * join M l) i j = 0
  rw [Matrix.mul_apply]
  refine Finset.sum_eq_zero fun k _ => ?_
  rw [Matrix.mul_apply, Finset.sum_mul]
  refine Finset.sum_eq_zero fun n _ => ?_
  by_cases h1 : j.val < k.val ∧ k.val / 2 ^ (l + 1) = j.val / 2 ^ (l + 1) ∧ k.val / 2 ^ l ≠ j.val / 2 ^ l
  · by_cases h2 : n.val < i.val ∧ i.val / 2 ^ (l + 1) = n.val / 2 ^ (l + 1) ∧ i.val / 2 ^ l ≠ n.val / 2 ^ l
    · rw [inv_block M l n k, mul_zero, zero_mul]
      simp only [half] at h1 h2
      have e1 := Nat.div_le_div_right (c := 2 ^ l) h1.1.le
      have e2 := Nat.div_le_div_right (c := 2 ^ l) h2.1.le
      omega
    · have : join M l i n = 0 := if_neg h2
      rw [this, zero_mul, zero_mul]
  · have : join M l k j = 0 := if_neg h1
    rw [this, mul_zero]

/-- It inverts the unit lower triangular matrix inside the blocks. -/
theorem inv_mul (l : ℕ) : inv M l * (1 + inside M l) = 1 := by
  induction l with
  | zero => rw [inside_zero, add_zero, mul_one]; rfl
  | succ l ih =>
    rw [inside_succ, ← add_assoc]
    show (inv M l - inv M l * join M l * inv M l) * (1 + inside M l + join M l) = 1
    have e : inv M l * (1 + inside M l + join M l) = 1 + inv M l * join M l := by rw [mul_add, ih]
    have z : inv M l * join M l * (inv M l * join M l) = 0 := by
      rw [mul_assoc, ← mul_assoc (join M l), join_join, mul_zero]
    rw [sub_mul, mul_assoc (inv M l * join M l), e, mul_add, mul_one, z, add_zero, add_sub_cancel_right]

/-- The strictly lower part. -/
def low : Sq := fun i j => if j.val < i.val then M i j else 0

/-- Six doublings invert the whole chunk. -/
theorem inv_whole : inv M 6 * (1 + low M) = 1 := by
  have e : inside M 6 = low M := by
    funext i j
    unfold inside low
    have h1 : i.val / 2 ^ 6 = 0 := by have := i.isLt; omega
    have h2 : j.val / 2 ^ 6 = 0 := by have := j.isLt; omega
    rw [h1, h2]
    simp
  rw [← e]
  exact inv_mul M 6

end Inverse

/-! ## The rule -/

/-- One head's tokens: keys, values, queries, write strengths and logarithms of the decays. -/
structure Tokens where
  /-- The keys. -/
  k : ℕ → Fin 128 → ℝ
  /-- The values. -/
  v : ℕ → Fin 128 → ℝ
  /-- The queries. -/
  q : ℕ → Fin 128 → ℝ
  /-- The write strengths. -/
  b : ℕ → ℝ
  /-- The logarithms of the decays. -/
  g : ℕ → ℝ

variable (T : Tokens)

/-- What token `n` writes over the state `S`. -/
def wr (S : Fin 128 → Fin 128 → ℝ) (n : ℕ) (j : Fin 128) : ℝ := (T.v n j - ∑ i, T.k n i * (S i j * Real.exp (T.g n))) * T.b n

/-- The state after `n` tokens. -/
def state : ℕ → Fin 128 → Fin 128 → ℝ
  | 0 => fun _ _ => 0
  | n + 1 => fun i j => state n i j * Real.exp (T.g n) + T.k n i * wr T (state n) n j

/-- What token `n` reads. -/
def out (n : ℕ) (j : Fin 128) : ℝ := ∑ i, T.q n i * state T (n + 1) i j

/-! ## A chunk of tokens -/

/-- The logarithm of the decay over the first `m` tokens from `l`. -/
def span (l m : ℕ) : ℝ := ∑ t ∈ Finset.range m, T.g (l + t)

theorem span_succ (l m : ℕ) : span T l (m + 1) = span T l m + T.g (l + m) := Finset.sum_range_succ _ _

/-- What token `n` of the whole sequence writes. -/
def w (n : ℕ) (j : Fin 128) : ℝ := wr T (state T n) n j

/-- The state `m` tokens after `l`. -/
theorem state_after (l m : ℕ) (i j : Fin 128) :
    state T (l + m) i j = Real.exp (span T l m) * state T l i j
      + ∑ t ∈ Finset.range m, Real.exp (span T l m - span T l (t + 1)) * T.k (l + t) i * w T (l + t) j := by
  induction m with
  | zero => simp [span]
  | succ m ih =>
    show state T (l + m) i j * Real.exp (T.g (l + m)) + T.k (l + m) i * wr T (state T (l + m)) (l + m) j = _
    rw [ih, Finset.sum_range_succ, sub_self, Real.exp_zero, one_mul, span_succ, Real.exp_add, add_mul, Finset.sum_mul]
    have e : ∀ t, Real.exp (span T l m + T.g (l + m) - span T l (t + 1)) = Real.exp (span T l m - span T l (t + 1)) * Real.exp (T.g (l + m)) := fun t => by
      rw [← Real.exp_add]; congr 1; ring
    simp only [e]
    show _ + T.k (l + m) i * w T (l + m) j = _
    have e2 : ∀ t, Real.exp (span T l m - span T l (t + 1)) * Real.exp (T.g (l + m)) * T.k (l + t) i * w T (l + t) j
        = Real.exp (span T l m - span T l (t + 1)) * T.k (l + t) i * w T (l + t) j * Real.exp (T.g (l + m)) := fun t => by ring
    simp only [e2]
    ring

/-- The decay of token `j`'s write at token `i`. -/
def dec (l : ℕ) (i j : Fin 64) : ℝ := if j.val ≤ i.val then Real.exp (span T l (i.val + 1) - span T l (j.val + 1)) else 0

/-- How much of token `j`'s write token `i` finds along its key. -/
def mat (l : ℕ) : Sq := fun i j => if j.val < i.val then (∑ d, (T.k (l + i.val) d * T.b (l + i.val)) * T.k (l + j.val) d) * dec T l i j else 0

/-- The chunk's writes and their two right hand sides. -/
def writes (l : ℕ) : Matrix (Fin 64) (Fin 128) ℝ := fun i j => w T (l + i.val) j
/-- The values with their strengths. -/
def vb (l : ℕ) : Matrix (Fin 64) (Fin 128) ℝ := fun i j => T.v (l + i.val) j * T.b (l + i.val)
/-- The keys with their strengths and decays. -/
def kbe (l : ℕ) : Matrix (Fin 64) (Fin 128) ℝ := fun i j => T.k (l + i.val) j * T.b (l + i.val) * Real.exp (span T l (i.val + 1))
/-- The state before the chunk. -/
def before (l : ℕ) : Matrix (Fin 128) (Fin 128) ℝ := fun i j => state T l i j

theorem sum_lt (f : ℕ → ℝ) (i : Fin 64) : ∑ t ∈ Finset.range i.val, f t = ∑ t : Fin 64, if t.val < i.val then f t.val else 0 := by
  rw [Fin.sum_univ_eq_sum_range (fun t => if t < i.val then f t else 0), ← Finset.sum_filter]
  congr 1
  ext t
  simp only [Finset.mem_range, Finset.mem_filter]
  have := i.isLt
  omega

theorem sum_le (f : ℕ → ℝ) (i : Fin 64) : ∑ t ∈ Finset.range (i.val + 1), f t = ∑ t : Fin 64, if t.val ≤ i.val then f t.val else 0 := by
  rw [Fin.sum_univ_eq_sum_range (fun t => if t ≤ i.val then f t else 0), ← Finset.sum_filter]
  congr 1
  ext t
  simp only [Finset.mem_range, Finset.mem_filter]
  have := i.isLt
  omega

/-- The writes solve a unit lower triangular system. -/
theorem system (l : ℕ) : (1 + mat T l) * writes T l = vb T l - kbe T l * before T l := by
  rw [Matrix.add_mul, Matrix.one_mul]
  funext i j
  show writes T l i j + (mat T l * writes T l) i j = vb T l i j - (kbe T l * before T l) i j
  rw [Matrix.mul_apply, Matrix.mul_apply]
  unfold writes vb kbe before mat
  have e : w T (l + i.val) j = (T.v (l + i.val) j - ∑ d, T.k (l + i.val) d * (state T (l + i.val) d j * Real.exp (T.g (l + i.val)))) * T.b (l + i.val) := rfl
  rw [e]
  have h : ∀ d, state T (l + i.val) d j * Real.exp (T.g (l + i.val)) = Real.exp (span T l (i.val + 1)) * state T l d j
      + ∑ t : Fin 64, if t.val < i.val then dec T l i t * T.k (l + t.val) d * w T (l + t.val) j else 0 := fun d => by
    rw [state_after, sum_lt (fun t => Real.exp (span T l i.val - span T l (t + 1)) * T.k (l + t) d * w T (l + t) j), add_mul, Finset.sum_mul, span_succ, Real.exp_add]
    congr 1
    · ring
    · refine Finset.sum_congr rfl fun t _ => ?_
      by_cases ht : t.val < i.val
      · rw [if_pos ht, if_pos ht]
        unfold dec
        rw [if_pos ht.le, span_succ T l i.val]
        have : Real.exp (span T l i.val + T.g (l + i.val) - span T l (t.val + 1)) = Real.exp (span T l i.val - span T l (t.val + 1)) * Real.exp (T.g (l + i.val)) := by
          rw [← Real.exp_add]; congr 1; ring
        rw [this]
        ring
      · rw [if_neg ht, if_neg ht, zero_mul]
  simp only [h, mul_add, Finset.sum_add_distrib, Finset.mul_sum]
  rw [Finset.sum_comm (f := fun d (t : Fin 64) => T.k (l + i.val) d * (if t.val < i.val then dec T l i t * T.k (l + t.val) d * w T (l + t.val) j else 0))]
  have h2 : ∀ t : Fin 64, (if t.val < i.val then (∑ d, (T.k (l + i.val) d * T.b (l + i.val)) * T.k (l + t.val) d) * dec T l i t else 0) * w T (l + t.val) j
      = (∑ d, T.k (l + i.val) d * (if t.val < i.val then dec T l i t * T.k (l + t.val) d * w T (l + t.val) j else 0)) * T.b (l + i.val) := fun t => by
    by_cases ht : t.val < i.val
    · simp only [if_pos ht]
      rw [Finset.sum_mul, Finset.sum_mul, Finset.sum_mul]
      exact Finset.sum_congr rfl fun d _ => by ring
    · simp only [if_neg ht]
      simp
  simp only [h2]
  rw [← Finset.sum_mul]
  have h3 : ∑ d, T.k (l + i.val) d * T.b (l + i.val) * Real.exp (span T l (i.val + 1)) * state T l d j
      = (∑ d, T.k (l + i.val) d * (Real.exp (span T l (i.val + 1)) * state T l d j)) * T.b (l + i.val) := by
    rw [Finset.sum_mul]
    exact Finset.sum_congr rfl fun d _ => by ring
  rw [h3]
  ring

/-- So the writes are the inverse's products. -/
theorem writes_eq (l : ℕ) : writes T l = inv (mat T l) 6 * vb T l - inv (mat T l) 6 * kbe T l * before T l := by
  have h := inv_whole (mat T l)
  have e : low (mat T l) = mat T l := by
    funext i j
    unfold low mat
    split <;> rfl
  rw [e] at h
  rw [Matrix.mul_assoc, ← Matrix.mul_sub, ← system, ← Matrix.mul_assoc, h, Matrix.one_mul]

/-- What the chunk's token `i` reads. -/
theorem out_eq (l : ℕ) (i : Fin 64) (j : Fin 128) :
    out T (l + i.val) j = (∑ d, (T.q (l + i.val) d * Real.exp (span T l (i.val + 1))) * before T l d j)
      + ∑ t : Fin 64, (if t.val ≤ i.val then (∑ d, T.q (l + i.val) d * T.k (l + t.val) d) * dec T l i t else 0) * writes T l t j := by
  unfold out
  have h : ∀ d, state T (l + i.val + 1) d j = Real.exp (span T l (i.val + 1)) * state T l d j
      + ∑ t : Fin 64, if t.val ≤ i.val then dec T l i t * T.k (l + t.val) d * w T (l + t.val) j else 0 := fun d => by
    rw [add_assoc, state_after, sum_le (fun t => Real.exp (span T l (i.val + 1) - span T l (t + 1)) * T.k (l + t) d * w T (l + t) j)]
    congr 1
    refine Finset.sum_congr rfl fun t _ => ?_
    by_cases ht : t.val ≤ i.val
    · rw [if_pos ht, if_pos ht]
      unfold dec
      rw [if_pos ht]
    · rw [if_neg ht, if_neg ht]
  simp only [h, mul_add, Finset.sum_add_distrib, Finset.mul_sum]
  rw [Finset.sum_comm (f := fun d (t : Fin 64) => T.q (l + i.val) d * (if t.val ≤ i.val then dec T l i t * T.k (l + t.val) d * w T (l + t.val) j else 0))]
  congr 1
  · exact Finset.sum_congr rfl fun d _ => by unfold before; ring
  · refine Finset.sum_congr rfl fun t _ => ?_
    unfold writes
    by_cases ht : t.val ≤ i.val
    · simp only [if_pos ht]
      rw [Finset.sum_mul, Finset.sum_mul]
      exact Finset.sum_congr rfl fun d _ => by ring
    · simp only [if_neg ht]
      simp

/-- The state after the chunk. -/
theorem state_eq (l : ℕ) (i j : Fin 128) :
    state T (l + 64) i j = before T l i j * Real.exp (span T l 64)
      + ∑ t : Fin 64, (T.k (l + t.val) i * Real.exp (span T l 64 - span T l (t.val + 1))) * writes T l t j := by
  rw [state_after, ← Fin.sum_univ_eq_sum_range (fun t => Real.exp (span T l 64 - span T l (t + 1)) * T.k (l + t) i * w T (l + t) j)]
  unfold before writes
  rw [mul_comm (state T l i j)]
  exact congrArg _ (Finset.sum_congr rfl fun t _ => by ring)

end Cert.GdnMath

end

end
-- ==== Proof.GdnSpec.lean ====
/- The gated delta rule's mathematics at one entry: the causal convolution of four taps, each head's normalised queries and keys,
   its values, write strengths and decays, and the normalised, gated rows it stores. -/
module

public import proofs.«01_k».proof.Proof.LruMath
public import proofs.«01_k».proof.Proof.GdnMath

@[expose] public section

noncomputable section

namespace Cert.GdnSpec

open Idealize.ShloMosaic Cert.Scalar Cert.LruMath
open scoped BigOperators

/-! ## Real values -/

/-- A value that is a real number. -/
def Real' (x : EReal) : Prop := ∃ r : ℝ, x = (r : EReal)

theorem Real'.of_sub {x : EReal} (h : x - x = 0) : Real' x := exists_coe h

theorem Real'.eq {x : EReal} (h : Real' x) : x = ((x.toReal : ℝ) : EReal) := by
  obtain ⟨r, rfl⟩ := h
  rw [EReal.toReal_coe]

theorem Real'.add {x y : EReal} (hx : Real' x) (hy : Real' y) : Real' (x + y) := by
  obtain ⟨a, rfl⟩ := hx
  obtain ⟨b, rfl⟩ := hy
  exact ⟨a + b, (EReal.coe_add a b).symm⟩

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.neg {x : EReal} (hx : Real' x) : Real' (-x) := by
  obtain ⟨a, rfl⟩ := hx
  exact ⟨-a, (EReal.coe_neg a).symm⟩

theorem Real'.zero : Real' 0 := ⟨0, EReal.coe_zero.symm⟩

theorem Real'.exp {x : EReal} (hx : Real' x) : Real' (Ideal.exp x) := by
  obtain ⟨a, rfl⟩ := hx
  exact ⟨Real.exp a, Ideal.exp_coe a⟩

theorem Real'.logistic (x : EReal) : Real' (Ideal.logistic x) := by
  induction x using EReal.rec with
  | bot => exact ⟨0, by rw [Ideal.logistic_bot, EReal.coe_zero]⟩
  | top => exact ⟨1, by rw [Ideal.logistic_top, EReal.coe_one]⟩
  | coe r => exact ⟨_, Ideal.logistic_coe r⟩

theorem Real'.max {x y : EReal} (hx : Real' x) (hy : Real' y) : Real' (max x y) := by
  rcases max_choice x y with h | h <;> rw [h] <;> assumption

theorem Real'.softplus {x : EReal} (hx : Real' x) : Real' (softplus x) := by
  refine (hx.max .zero).add ?_
  obtain ⟨a, ha⟩ := (hx.max hx.neg).neg
  rw [ha, Ideal.exp_coe]
  unfold Ideal.log1p
  have hp := Real.exp_pos a
  rw [← EReal.coe_one, ← EReal.coe_add, Ideal.log_coe, if_neg (by linarith)]
  exact ⟨_, rfl⟩

theorem coe_sum {n : ℕ} (f : Fin n → ℝ) : (∑ i, ((f i : ℝ) : EReal)) = ((∑ i, f i : ℝ) : EReal) := by
  classical
  refine Finset.induction_on (Finset.univ : Finset (Fin n)) ?_ ?_
  · simp
  · intro a s ha ih
    rw [Finset.sum_insert ha, Finset.sum_insert ha, ih, EReal.coe_add]

theorem eps_word : Ideal.ofBits .f32 0x358637BD#32 = (((8796093 : ℝ) / 8796093022208 : ℝ) : EReal) := by
  simp [Ideal.ofBits, Ideal.ieee, -EReal.coe_mul]; norm_num

theorem Real'.word : Real' (Ideal.ofBits .f32 0x3DB504F3#32) := by
  simp only [Ideal.ofBits, Ideal.ieee]
  norm_num
  exact ⟨_, rfl⟩

/-- The sum of a row's squares with the small constant. -/
def squares (f : Fin 128 → EReal) : EReal := (∑ d, f d * f d) + Ideal.ofBits .f32 0x358637BD#32

theorem Real'.rsqrt_squares {f : Fin 128 → EReal} (hf : ∀ d, Real' (f d)) : Real' (Ideal.rsqrt (squares f)) := by
  choose g hg using hf
  have e : squares f = (((∑ d, g d * g d) + 8796093 / 8796093022208 : ℝ) : EReal) := by
    unfold squares
    rw [eps_word, EReal.coe_add, ← coe_sum]
    refine congrArg (· + _) (Finset.sum_congr rfl fun d _ => ?_)
    rw [hg d, EReal.coe_mul]
  have hp : 0 < (∑ d, g d * g d) + (8796093 : ℝ) / 8796093022208 :=
    add_pos_of_nonneg_of_pos (Finset.sum_nonneg fun d _ => mul_self_nonneg _) (by norm_num)
  rw [e, Ideal.rsqrt_coe, if_neg (by linarith), if_neg (by linarith)]
  exact ⟨_, rfl⟩

/-- Where a row holds no number but real ones and +∞, its normalised row is real: an infinite row is normalised to zero. -/
theorem Real'.normal {f : Fin 128 → EReal} (hf : ∀ d, Real' (f d) ∨ f d = ⊤) (d : Fin 128) : Real' (f d * Ideal.rsqrt (squares f)) := by
  by_cases h : ∀ d, Real' (f d)
  · exact (h d).mul (.rsqrt_squares h)
  · push Not at h
    obtain ⟨e, he⟩ := h
    have ht : f e = ⊤ := (hf e).resolve_left he
    have hn : ∀ d, 0 ≤ f d * f d := fun d => by
      rcases hf d with ⟨r, hr⟩ | hr
      · rw [hr, ← EReal.coe_mul]
        exact EReal.coe_nonneg.mpr (mul_self_nonneg r)
      · rw [hr, EReal.top_mul_top]
        exact le_top
    have hs : (∑ d, f d * f d) = ⊤ := by
      refine top_le_iff.mp ?_
      have hle := Finset.single_le_sum (f := fun d => f d * f d) (fun d _ => hn d) (Finset.mem_univ e)
      rwa [show f e * f e = ⊤ by rw [ht, EReal.top_mul_top]] at hle
    have hz : Ideal.rsqrt (squares f) = 0 := by
      unfold squares
      rw [hs, eps_word, EReal.top_add_coe]
      rfl
    rw [hz, mul_zero]
    exact .zero

/-! ## The layer -/

/-- The parameters: the taps, the decay's two parameters of each head, and the norm's weights. -/
structure Params where
  tap : Fin 4 → Fin 3072 → EReal
  alog : Fin 8 → EReal
  dtb : Fin 8 → EReal
  norm : Fin 128 → EReal

/-- One sequence: the rows to be convolved, and each head's two logits. -/
structure Rows where
  x : ℕ → Fin 3072 → EReal
  a : ℕ → Fin 8 → EReal
  b : ℕ → Fin 8 → EReal

/-- The row `3 - k` before row `n`, zero before the start. -/
def back (x : ℕ → Fin 3072 → EReal) (k n : ℕ) (j : Fin 3072) : EReal := if k + n < 3 then 0 else x (k + n - 3) j

/-- The causal convolution. -/
def conv (p : Params) (x : ℕ → Fin 3072 → EReal) (n : ℕ) (j : Fin 3072) : EReal :=
  back x 0 n j * p.tap 0 j + back x 1 n j * p.tap 1 j + back x 2 n j * p.tap 2 j + back x 3 n j * p.tap 3 j

/-- Its activation. -/
def act (p : Params) (x : ℕ → Fin 3072 → EReal) (n : ℕ) (j : Fin 3072) : EReal := conv p x n j * Ideal.logistic (conv p x n j)

/-- An activated entry is real or +∞: at −∞ the logistic function is zero. -/
theorem act_real_or (p : Params) (x : ℕ → Fin 3072 → EReal) (n : ℕ) (j : Fin 3072) : Real' (act p x n j) ∨ act p x n j = ⊤ := by
  unfold act
  generalize conv p x n j = y
  induction y using EReal.rec with
  | bot => exact .inl ⟨0, by rw [Ideal.logistic_bot, mul_zero, EReal.coe_zero]⟩
  | top => exact .inr (by rw [Ideal.logistic_top, mul_one])
  | coe r => exact .inl (Real'.mul ⟨r, rfl⟩ (.logistic _))

/-- Lane `d` of head `h` in third `s`. -/
def lane (s : Fin 3) (h : Fin 8) (d : Fin 128) : Fin 3072 := ⟨1024 * s.val + (128 * h.val + d.val), by omega⟩

variable (p : Params) (s : Rows) (h : Fin 8)

/-- The head's part of the activated row. -/
def part (t : Fin 3) (n : ℕ) (d : Fin 128) : EReal := act p s.x n (lane t h d)

def query (n : ℕ) (d : Fin 128) : EReal := part p s h 0 n d * Ideal.rsqrt (squares (part p s h 0 n)) * Ideal.ofBits .f32 0x3DB504F3#32

def key (n : ℕ) (d : Fin 128) : EReal := part p s h 1 n d * Ideal.rsqrt (squares (part p s h 1 n))

def value (n : ℕ) (d : Fin 128) : EReal := part p s h 2 n d

def strength (n : ℕ) : EReal := Ideal.logistic (s.b n h)

def rate (n : ℕ) : EReal := -(Ideal.exp (p.alog h)) * softplus (s.a n h + p.dtb h)

/-- The head's tokens, as real numbers. -/
def tokens : GdnMath.Tokens where
  k n d := (key p s h n d).toReal
  v n d := (value p s h n d).toReal
  q n d := (query p s h n d).toReal
  b n := (strength s h n).toReal
  g n := (rate p s h n).toReal

/-- The stored row: normalised by its root mean square, scaled and gated. -/
def store (o : Fin 128 → EReal) (g z : EReal) (d : Fin 128) : EReal :=
  o d * Ideal.rsqrt (Ideal.div (∑ k, o k * o k) (Ideal.ofBits .f32 0x43000000#32) + Ideal.ofBits .f32 0x358637BD#32) * g * (z * Ideal.logistic z)

/-- The layer's result at row `n`. -/
def result (z : EReal) (n : ℕ) (d : Fin 128) : EReal :=
  store (fun d => ((GdnMath.out (tokens p s h) n d : ℝ) : EReal)) (p.norm d) z d

/-- What of the input has to be real: the values' columns and taps, and what the decays are made of. -/
structure Finite : Prop where
  tap : ∀ k j, 2048 ≤ j.val → Real' (p.tap k j)
  alog : ∀ h, Real' (p.alog h)
  dtb : ∀ h, Real' (p.dtb h)
  x : ∀ n j, 2048 ≤ j.val → Real' (s.x n j)
  a : ∀ n h, Real' (s.a n h)

variable {p s}

theorem Finite.value (hf : Finite p s) (n : ℕ) (d : Fin 128) : value p s h n d = (((tokens p s h).v n d : ℝ) : EReal) := by
  have hl : 2048 ≤ (lane 2 h d).val := by
    show 2048 ≤ 1024 * 2 + (128 * h.val + d.val)
    omega
  have hb : ∀ k, Real' (back s.x k n (lane 2 h d)) := fun k => by
    unfold back
    split
    · exact .zero
    · exact hf.x _ _ hl
  have ht : ∀ k, Real' (p.tap k (lane 2 h d)) := fun k => hf.tap k _ hl
  refine Real'.eq (Real'.mul ?_ (.logistic _))
  exact ((((hb _).mul (ht _)).add ((hb _).mul (ht _))).add ((hb _).mul (ht _))).add ((hb _).mul (ht _))

theorem query_eq (n : ℕ) (d : Fin 128) : query p s h n d = (((tokens p s h).q n d : ℝ) : EReal) :=
  Real'.eq ((Real'.normal (fun _ => act_real_or _ _ _ _) d).mul .word)

theorem key_eq (n : ℕ) (d : Fin 128) : key p s h n d = (((tokens p s h).k n d : ℝ) : EReal) :=
  Real'.eq (Real'.normal (fun _ => act_real_or _ _ _ _) d)

theorem Finite.query (_ : Finite p s) (n : ℕ) (d : Fin 128) : query p s h n d = (((tokens p s h).q n d : ℝ) : EReal) := query_eq h n d

theorem Finite.key (_ : Finite p s) (n : ℕ) (d : Fin 128) : key p s h n d = (((tokens p s h).k n d : ℝ) : EReal) := key_eq h n d

variable (p) in
theorem strength_eq (n : ℕ) : strength s h n = (((tokens p s h).b n : ℝ) : EReal) := Real'.eq (.logistic _)

theorem Finite.rate (hf : Finite p s) (n : ℕ) : rate p s h n = (((tokens p s h).g n : ℝ) : EReal) :=
  Real'.eq ((hf.alog h).exp.neg.mul ((hf.a n h).add (hf.dtb h)).softplus)

end Cert.GdnSpec

end

end
-- ==== Proof.GdnRef.lean ====
/- The delta rule's reference: what it computes before its loop, read at one entry. -/
module

public import proofs.«01_k».proof.Proof.Gen.GdnRefIdeal.Run
public import proofs.«01_k».proof.Proof.Gen.GdnRefIdeal.Step
public import proofs.«01_k».proof.Proof.GdnSpec
public import Idealize.ShloMosaic.Lib.Claim

@[expose] public section

set_option maxRecDepth 16384

noncomputable section

namespace Cert.GdnRefIdeal.Value

open Cert.GdnRefIdeal Cert.GdnRefIdeal.Gen Idealize.ShloMosaic Idealize.ShloMosaic.TcCoe Idealize.SL.Sem Idealize.ShloMosaic.StableHlo
open Cert.Scalar Cert.LruMath Cert.GdnSpec
open scoped BigOperators

variable (P : FVec Ideal S16384x5376 .f32) (C : FVec Ideal S4x4x3072 .f32) (L D : FVec Ideal S4x8 .f32)

/-- The parameters of the arguments. -/
def params (C : FVec Ideal S4x4x3072 .f32) (L D : FVec Ideal S4x8 .f32) (N : FVec Ideal S4x128 .f32) : Params where
  tap k j := C (ix3 0 k j)
  alog h := L (ix2 0 h)
  dtb h := D (ix2 0 h)
  norm d := N (ix2 0 d)

/-- The rows of one batch. -/
def rows (P : FVec Ideal S16384x5376 .f32) (b : Fin 2) : Rows where
  x n j := if h : n < 8192 then P (ix2 ⟨b.val * 8192 + n, by omega⟩ ⟨j.val, by omega⟩) else 0
  a n k := if h : n < 8192 then P (ix2 ⟨b.val * 8192 + n, by omega⟩ ⟨5120 + k.val, by omega⟩) else 0
  b n k := if h : n < 8192 then P (ix2 ⟨b.val * 8192 + n, by omega⟩ ⟨5128 + k.val, by omega⟩) else 0

theorem padded_at (b : Fin 2) (k : Fin 4) (l : Fin 8192) (j : Fin 3072) :
    (Step.A_main_v2 (F := Ideal) P C L D : FVec Ideal S2x8195x3072 .f32) (ix3 b ⟨k.val + l.val, by omega⟩ j) = back (rows P b).x k.val l.val j := by
  unfold back rows
  pointwise [Step.A_main_v2, Step.A_main_v1, Step.A_main_v0, Step.K_main_call0_v0, Step.K_main_c]
  by_cases h : k.val + l.val < 3
  · rw [if_pos h, dif_neg (by omega)]
    show (((0#32 : BitVec 32).toInt : ℝ) : EReal) = 0
    simp
  · rw [if_neg h, dif_pos (by omega), dif_pos (by omega)]

variable (N : FVec Ideal S4x128 .f32)

theorem conv_at (b : Fin 2) (l : Fin 8192) (j : Fin 3072) :
    (Step.A_main_v31 (F := Ideal) P C L D : FVec Ideal S2x8192x3072 .f32) (ix3 b l j) = conv (params C L D N) (rows P b).x l.val j := by
  have e : (Step.A_main_v31 (F := Ideal) P C L D : FVec Ideal S2x8192x3072 .f32) (ix3 b l j) = (Step.A_main_v2 (F := Ideal) P C L D : FVec Ideal S2x8195x3072 .f32) (ix3 b ⟨l.val, by omega⟩ j) * C (ix3 0 0 j) + (Step.A_main_v2 (F := Ideal) P C L D : FVec Ideal S2x8195x3072 .f32) (ix3 b ⟨1 + l.val, by omega⟩ j) * C (ix3 0 1 j)
      + (Step.A_main_v2 (F := Ideal) P C L D : FVec Ideal S2x8195x3072 .f32) (ix3 b ⟨2 + l.val, by omega⟩ j) * C (ix3 0 2 j) + (Step.A_main_v2 (F := Ideal) P C L D : FVec Ideal S2x8195x3072 .f32) (ix3 b ⟨3 + l.val, by omega⟩ j) * C (ix3 0 3 j) := by
    pointwise [Step.A_main_v31, Step.A_main_v30, Step.A_main_v29, Step.A_main_v28, Step.A_main_v27, Step.A_main_v26, Step.A_main_v25, Step.A_main_v24, Step.A_main_v23, Step.A_main_v22, Step.A_main_v21, Step.A_main_v20, Step.A_main_v19, Step.A_main_v18, Step.A_main_v17, Step.A_main_v16, Step.A_main_v15, Step.A_main_v14, Step.A_main_v13, Step.A_main_v12, Step.A_main_v11, Step.A_main_v10, Step.A_main_v9, Step.A_main_v8, Step.A_main_v7, Step.A_main_v6, Step.A_main_v5, Step.A_main_v4, Step.A_main_v3]
  rw [e]
  have h := padded_at P C L D b
  have h0 := h 0 l j
  have h1 := h 1 l j
  have h2 := h 2 l j
  have h3 := h 3 l j
  simp only [Fin.val_zero, Nat.zero_add] at h0
  exact congrArg₂ (· + ·) (congrArg₂ (· + ·) (congrArg₂ (· + ·) (congrArg (· * _) h0) (congrArg (· * _) h1)) (congrArg (· * _) h2)) (congrArg (· * _) h3)

theorem act_at (b : Fin 2) (l : Fin 8192) (j : Fin 3072) :
    (Step.A_main_v32 (F := Ideal) P C L D : FVec Ideal S2x8192x3072 .f32) (ix3 b l j) = act (params C L D N) (rows P b).x l.val j := by
  pointwise [Step.A_main_v32, Step.A_main_call1_v5, Step.A_main_call1_v3, Step.A_main_call1_v1, Step.A_main_call1_v0, Step.K_main_call1_v4, Step.K_main_call1_v2, Step.K_main_call1_cst, Step.K_main_call1_cst_0]
  rw [conv_at P C L D N]
  rfl

theorem q_part (b : Fin 2) (l : Fin 8192) (h : Fin 8) (d : Fin 128) :
    (Step.A_main_v35 (F := Ideal) P C L D : FVec Ideal S2x8192x8x128 .f32) (ix4 b l h d) = part (params C L D N) (rows P b) h 0 l.val d := by
  pointwise [Step.A_main_v35, Step.A_main_v34, Step.A_main_v33]
  rw [act_at P C L D N]
  unfold part lane
  exact congrArg _ (Fin.ext (by simp; try omega))

theorem k_part (b : Fin 2) (l : Fin 8192) (h : Fin 8) (d : Fin 128) :
    (Step.A_main_v47 (F := Ideal) P C L D : FVec Ideal S2x8192x8x128 .f32) (ix4 b l h d) = part (params C L D N) (rows P b) h 1 l.val d := by
  pointwise [Step.A_main_v47, Step.A_main_v46, Step.A_main_v33]
  rw [act_at P C L D N]
  unfold part lane
  exact congrArg _ (Fin.ext (by simp; try omega))

theorem v_part (b : Fin 2) (l : Fin 8192) (h : Fin 8) (d : Fin 128) :
    (Step.A_main_v57 (F := Ideal) P C L D : FVec Ideal S2x8192x8x128 .f32) (ix4 b l h d) = part (params C L D N) (rows P b) h 2 l.val d := by
  pointwise [Step.A_main_v57, Step.A_main_v56, Step.A_main_v33]
  rw [act_at P C L D N]
  unfold part lane
  exact congrArg _ (Fin.ext (by simp; try omega))

/-- Rows over the root of their sum of squares. -/
def normal (Y : FVec Ideal S2x8192x8x128 .f32) : FVec Ideal S2x8192x8x128 .f32 :=
  mulf Y (broadcastInDim S2x8192x8x128 ![0, 1, 2, 3] bcast_S2x8192x8x1_S2x8192x8x128_0_1_2_3 (Host.rsqrt (addf
    (broadcastInDim S2x8192x8x1 ![0, 1, 2] bcast_S2x8192x8_S2x8192x8x1_0_1_2 (Host.reduceAdd (mulf Y Y) (constant S_ .f32 0x00000000#32) reducesTo_S2x8192x8x128_S2x8192x8_d3 h_S_))
    (broadcastInDim S2x8192x8x1 ![] bcast_S_S2x8192x8x1 (constant S_ .f32 0x358637BD#32)))))

theorem normal_at (Y : FVec Ideal S2x8192x8x128 .f32) (b : Fin 2) (l : Fin 8192) (h : Fin 8) (d : Fin 128) :
    normal Y (ix4 b l h d) = Y (ix4 b l h d) * Ideal.rsqrt (squares fun d => Y (ix4 b l h d)) := by
  pointwise [normal]
  rfl

/-- Queries and keys token by token. -/
def tokensQ (Y : FVec Ideal S2x8192x8x128 .f32) : FVec Ideal S8192x2x8x128 .f32 :=
  transpose S8192x2x8x128 [1, 0, 2, 3] (mulf (normal Y) (broadcastInDim S2x8192x8x128 ![] bcast_S_S2x8192x8x128 (constant S_ .f32 0x3DB504F3#32))) transposes_S2x8192x8x128_S8192x2x8x128_1_0_2_3

def tokensK (Y : FVec Ideal S2x8192x8x128 .f32) : FVec Ideal S8192x2x8x128 .f32 :=
  transpose S8192x2x8x128 [1, 0, 2, 3] (normal Y) transposes_S2x8192x8x128_S8192x2x8x128_1_0_2_3

theorem tokensQ_at (Y : FVec Ideal S2x8192x8x128 .f32) (b : Fin 2) (l : Fin 8192) (h : Fin 8) (d : Fin 128) :
    tokensQ Y (ix4 l b h d) = normal Y (ix4 b l h d) * Ideal.ofBits .f32 0x3DB504F3#32 := by
  pointwise [tokensQ]

theorem tokensK_at (Y : FVec Ideal S2x8192x8x128 .f32) (b : Fin 2) (l : Fin 8192) (h : Fin 8) (d : Fin 128) :
    tokensK Y (ix4 l b h d) = normal Y (ix4 b l h d) := by
  pointwise [tokensK]

theorem tokensQ_eq : Step.A_main_v81 (F := Ideal) P C L D = tokensQ (Step.A_main_v35 (F := Ideal) P C L D) := by
  unfold Step.A_main_v81 Step.A_main_v45 Step.A_main_v43 Step.A_main_v42 Step.A_main_v41 Step.A_main_v40 Step.A_main_v38 Step.A_main_v37 Step.A_main_v36
  generalize Step.A_main_v35 (F := Ideal) P C L D = Y
  rfl

theorem tokensK_eq : Step.A_main_v82 (F := Ideal) P C L D = tokensK (Step.A_main_v47 (F := Ideal) P C L D) := by
  unfold Step.A_main_v82 Step.A_main_v55 Step.A_main_v54 Step.A_main_v53 Step.A_main_v52 Step.A_main_v50 Step.A_main_v49 Step.A_main_v48
  generalize Step.A_main_v47 (F := Ideal) P C L D = Y
  rfl

/-- The queries of a token, -/
theorem query_at (b : Fin 2) (l : Fin 8192) (h : Fin 8) (d : Fin 128) :
    (Step.A_main_v81 (F := Ideal) P C L D : FVec Ideal S8192x2x8x128 .f32) (ix4 l b h d) = query (params C L D N) (rows P b) h l.val d := by
  rw [tokensQ_eq, tokensQ_at, normal_at]
  unfold query
  have e : (fun d => (Step.A_main_v35 (F := Ideal) P C L D : FVec Ideal S2x8192x8x128 .f32) (ix4 b l h d)) = part (params C L D N) (rows P b) h 0 l.val :=
    funext fun d => q_part P C L D N b l h d
  rw [e]
  exact congrArg (· * _ * _) (q_part P C L D N b l h d)

/-- its keys, -/
theorem key_at (b : Fin 2) (l : Fin 8192) (h : Fin 8) (d : Fin 128) :
    (Step.A_main_v82 (F := Ideal) P C L D : FVec Ideal S8192x2x8x128 .f32) (ix4 l b h d) = key (params C L D N) (rows P b) h l.val d := by
  rw [tokensK_eq, tokensK_at, normal_at]
  unfold key
  have e : (fun d => (Step.A_main_v47 (F := Ideal) P C L D : FVec Ideal S2x8192x8x128 .f32) (ix4 b l h d)) = part (params C L D N) (rows P b) h 1 l.val :=
    funext fun d => k_part P C L D N b l h d
  rw [e]
  exact congrArg (· * _) (k_part P C L D N b l h d)

/-- its values, -/
theorem value_at (b : Fin 2) (l : Fin 8192) (h : Fin 8) (d : Fin 128) :
    (Step.A_main_v83 (F := Ideal) P C L D : FVec Ideal S8192x2x8x128 .f32) (ix4 l b h d) = value (params C L D N) (rows P b) h l.val d := by
  pointwise [Step.A_main_v83]
  rw [v_part P C L D N]
  rfl

/-- its write strengths -/
theorem strength_at (b : Fin 2) (l : Fin 8192) (h : Fin 8) :
    (Step.A_main_v85 (F := Ideal) P C L D : FVec Ideal S8192x2x8 .f32) (ix3 l b h) = strength (rows P b) h l.val := by
  pointwise [Step.A_main_v85, Step.A_main_v65, Step.A_main_v63, Step.A_main_v61, Step.A_main_v60, Step.A_main_v59, Step.A_main_v0, Step.K_main_v62, Step.K_main_v64, Step.K_main_cst_4, Step.K_main_cst_5]
  unfold strength rows
  simp only [l.isLt, dif_pos]
  rfl

/-- and its decays. -/
theorem decay_at (b : Fin 2) (l : Fin 8192) (h : Fin 8) :
    (Step.A_main_v84 (F := Ideal) P C L D : FVec Ideal S8192x2x8 .f32) (ix3 l b h) = Ideal.exp (rate (params C L D N) (rows P b) h l.val) := by
  pointwise [Step.A_main_v84, Step.A_main_v79, Step.A_main_v78, Step.A_main_v77, Step.A_main_v76, Step.A_main_v75, Step.A_main_v74, Step.A_main_v73, Step.A_main_v72, Step.A_main_v71, Step.A_main_v70, Step.A_main_v69, Step.A_main_v68, Step.A_main_v67, Step.A_main_v66, Step.A_main_v58, Step.A_main_v0, Step.A_main_call2_v1, Step.A_main_call2_v3, Step.A_main_call2_v4, Step.A_main_call2_v6, Step.A_main_call2_v7, Step.A_main_call2_v8, Step.A_main_call2_v9, Step.A_main_call2_v10, Step.A_main_call2_v11, Step.K_main_call2_v0, Step.K_main_call2_v2, Step.K_main_call2_v5, Step.K_main_call2_cst]
  rw [if_neg (fun h => h rfl)]
  unfold rate rows params softplus
  simp only [l.isLt, dif_pos, sub_zero]
  rfl

end Cert.GdnRefIdeal.Value

end

end
-- ==== Proof.GdnTrip.lean ====
/- The delta rule's reference: its loop, trip by trip. -/
module

public import proofs.«01_k».proof.Proof.GdnRef

@[expose] public section

set_option maxRecDepth 16384

noncomputable section

namespace Cert.GdnRefIdeal.Value

open Cert.GdnRefIdeal Cert.GdnRefIdeal.Gen Idealize.ShloMosaic Idealize.ShloMosaic.TcCoe Idealize.SL.Sem Idealize.ShloMosaic.StableHlo
open Cert.Scalar Cert.LruMath Cert.GdnSpec
open scoped BigOperators

theorem start_at (j : ℕ) (hj : j < 8192) : (BitVec.ofNat 32 j).toInt = (j : Int) := by
  rw [BitVec.toInt_eq_toNat_cond, BitVec.toNat_ofNat]
  omega

/-- Where trip `j` reads and writes rows of heads: its own, -/
def start4 (j : ℕ) : Fin 4 → Int := fun k =>
  ((![constantI S_ 32 (BitVec.ofNat 32 j), constantI S_ 32 0#32, constantI S_ 32 0#32, constantI S_ 32 0#32] : Fin 4 → IVec S_ 32) k (Shape.Idx.first h_S_)).toInt

/-- and rows of numbers. -/
def start3 (j : ℕ) : Fin 3 → Int := fun k =>
  ((![constantI S_ 32 (BitVec.ofNat 32 j), constantI S_ 32 0#32, constantI S_ 32 0#32] : Fin 3 → IVec S_ 32) k (Shape.Idx.first h_S_)).toInt

theorem clamp4_0 (ht : S1x2x8x128.rank = S8192x2x8x128.rank) (j : ℕ) (hj : j < 8192) : Host.clampedStart S8192x2x8x128 S1x2x8x128 ht (start4 j) 0 = j :=
  Host.clampedStart_of_le ht (start4 j) 0 j (start_at j hj) (by show j + 1 ≤ 8192; omega)
theorem clamp4_1 (ht : S1x2x8x128.rank = S8192x2x8x128.rank) (j : ℕ) : Host.clampedStart S8192x2x8x128 S1x2x8x128 ht (start4 j) 1 = 0 :=
  Host.clampedStart_of_le ht (start4 j) 1 0 rfl (by show 0 + 2 ≤ 2; omega)
theorem clamp4_2 (ht : S1x2x8x128.rank = S8192x2x8x128.rank) (j : ℕ) : Host.clampedStart S8192x2x8x128 S1x2x8x128 ht (start4 j) 2 = 0 :=
  Host.clampedStart_of_le ht (start4 j) 2 0 rfl (by show 0 + 8 ≤ 8; omega)
theorem clamp4_3 (ht : S1x2x8x128.rank = S8192x2x8x128.rank) (j : ℕ) : Host.clampedStart S8192x2x8x128 S1x2x8x128 ht (start4 j) 3 = 0 :=
  Host.clampedStart_of_le ht (start4 j) 3 0 rfl (by show 0 + 128 ≤ 128; omega)
theorem clamp3_0 (ht : S1x2x8.rank = S8192x2x8.rank) (j : ℕ) (hj : j < 8192) : Host.clampedStart S8192x2x8 S1x2x8 ht (start3 j) 0 = j :=
  Host.clampedStart_of_le ht (start3 j) 0 j (start_at j hj) (by show j + 1 ≤ 8192; omega)
theorem clamp3_1 (ht : S1x2x8.rank = S8192x2x8.rank) (j : ℕ) : Host.clampedStart S8192x2x8 S1x2x8 ht (start3 j) 1 = 0 :=
  Host.clampedStart_of_le ht (start3 j) 1 0 rfl (by show 0 + 2 ≤ 2; omega)
theorem clamp3_2 (ht : S1x2x8.rank = S8192x2x8.rank) (j : ℕ) : Host.clampedStart S8192x2x8 S1x2x8 ht (start3 j) 2 = 0 :=
  Host.clampedStart_of_le ht (start3 j) 2 0 rfl (by show 0 + 8 ≤ 8; omega)

/-- One token of an array of heads' rows, -/
def cut4 (A : FVec Ideal S8192x2x8x128 .f32) (j : ℕ) : FVec Ideal S2x8x128 .f32 :=
  shapeCast S2x8x128 (Host.dynamicSlice S1x2x8x128 A (start4 j) sliceFits_S8192x2x8x128_S1x2x8x128) shapeCasts_S1x2x8x128_S2x8x128

/-- and of their numbers. -/
def cut3 (A : FVec Ideal S8192x2x8 .f32) (j : ℕ) : FVec Ideal S2x8 .f32 :=
  shapeCast S2x8 (Host.dynamicSlice S1x2x8 A (start3 j) sliceFits_S8192x2x8_S1x2x8) shapeCasts_S1x2x8_S2x8

theorem cut4_at (A : FVec Ideal S8192x2x8x128 .f32) (j : ℕ) (hj : j < 8192) (b : Fin 2) (h : Fin 8) (d : Fin 128) :
    cut4 A j (ix3 b h d) = A (ix4 ⟨j, hj⟩ b h d) := by
  pointwise [cut4]
  simp only [clamp4_0 _ j hj, clamp4_1, clamp4_2, clamp4_3, Nat.zero_add]

theorem cut3_at (A : FVec Ideal S8192x2x8 .f32) (j : ℕ) (hj : j < 8192) (b : Fin 2) (h : Fin 8) :
    cut3 A j (ix2 b h) = A (ix3 ⟨j, hj⟩ b h) := by
  pointwise [cut3]
  simp only [clamp3_0 _ j hj, clamp3_1, clamp3_2, Nat.zero_add]

/-- The array of reads with one token's replaced. -/
def put4 (Y : FVec Ideal S8192x2x8x128 .f32) (H : FVec Ideal S2x8x128 .f32) (j : ℕ) : FVec Ideal S8192x2x8x128 .f32 :=
  Host.dynamicUpdateSlice Y (broadcastInDim S1x2x8x128 ![1, 2, 3] bcast_S2x8x128_S1x2x8x128_1_2_3 H) (start4 j) updateFits_S8192x2x8x128_S1x2x8x128

theorem put4_at (Y : FVec Ideal S8192x2x8x128 .f32) (H : FVec Ideal S2x8x128 .f32) (j : ℕ) (hj : j < 8192) (l : Fin 8192) (b : Fin 2) (h : Fin 8) (d : Fin 128) :
    put4 Y H j (ix4 l b h d) = if l.val = j then H (ix3 b h d) else Y (ix4 l b h d) := by
  pointwise [put4]
  simp only [clamp4_0 _ j hj, clamp4_1, clamp4_2, clamp4_3, Nat.sub_zero, Nat.zero_le, and_true]
  by_cases e : l.val = j
  · rw [if_pos e, dif_pos (by omega)]
  · rw [if_neg e, dif_neg (by omega)]

/-! ## One trip -/

/-- The state decayed, -/
def faded (S : FVec Ideal S2x8x128x128 .f32) (G : FVec Ideal S2x8 .f32) : FVec Ideal S2x8x128x128 .f32 :=
  mulf S (broadcastInDim S2x8x128x128 ![0, 1, 2, 3] bcast_S2x8x1x1_S2x8x128x128_0_1_2_3 (broadcastInDim S2x8x1x1 ![0, 1] bcast_S2x8_S2x8x1x1_0_1 G))

/-- read along a row, -/
def along (K : FVec Ideal S2x8x128 .f32) (S : FVec Ideal S2x8x128x128 .f32) : FVec Ideal S2x8x128 .f32 :=
  Host.reduceAdd (mulf (broadcastInDim S2x8x128x128 ![0, 1, 2, 3] bcast_S2x8x128x1_S2x8x128x128_0_1_2_3 (broadcastInDim S2x8x128x1 ![0, 1, 2] bcast_S2x8x128_S2x8x128x1_0_1_2 K)) S)
    (constant S_ .f32 0x00000000#32) reducesTo_S2x8x128x128_S2x8x128_d2 h_S_

/-- and written along it. -/
def written (S : FVec Ideal S2x8x128x128 .f32) (K V : FVec Ideal S2x8x128 .f32) (B : FVec Ideal S2x8 .f32) : FVec Ideal S2x8x128x128 .f32 :=
  addf S (mulf (broadcastInDim S2x8x128x128 ![0, 1, 2, 3] bcast_S2x8x128x1_S2x8x128x128_0_1_2_3 (broadcastInDim S2x8x128x1 ![0, 1, 2] bcast_S2x8x128_S2x8x128x1_0_1_2 K))
    (broadcastInDim S2x8x128x128 ![0, 1, 2, 3] bcast_S2x8x1x128_S2x8x128x128_0_1_2_3 (broadcastInDim S2x8x1x128 ![0, 1, 3] bcast_S2x8x128_S2x8x1x128_0_1_3
      (mulf (subf V (along K S)) (broadcastInDim S2x8x128 ![0, 1, 2] bcast_S2x8x1_S2x8x128_0_1_2 (broadcastInDim S2x8x1 ![0, 1] bcast_S2x8_S2x8x1_0_1 B))))))

theorem faded_at (S : FVec Ideal S2x8x128x128 .f32) (G : FVec Ideal S2x8 .f32) (b : Fin 2) (h : Fin 8) (i k : Fin 128) :
    faded S G (ix4 b h i k) = S (ix4 b h i k) * G (ix2 b h) := by
  pointwise [faded]

theorem along_at (K : FVec Ideal S2x8x128 .f32) (S : FVec Ideal S2x8x128x128 .f32) (b : Fin 2) (h : Fin 8) (k : Fin 128) :
    along K S (ix3 b h k) = ∑ i, K (ix3 b h i) * S (ix4 b h i k) := by
  pointwise [along]

theorem written_at (S : FVec Ideal S2x8x128x128 .f32) (K V : FVec Ideal S2x8x128 .f32) (B : FVec Ideal S2x8 .f32) (b : Fin 2) (h : Fin 8) (i k : Fin 128) :
    written S K V B (ix4 b h i k) = S (ix4 b h i k) + K (ix3 b h i) * ((V (ix3 b h k) - along K S (ix3 b h k)) * B (ix2 b h)) := by
  pointwise [written]

/-- The arrays hold each head's tokens. -/
structure Hold (Q K W : FVec Ideal S8192x2x8x128 .f32) (G B : FVec Ideal S8192x2x8 .f32) (T : Fin 2 → Fin 8 → GdnMath.Tokens) : Prop where
  q : ∀ (n : Fin 8192) b h d, Q (ix4 n b h d) = (((T b h).q n.val d : ℝ) : EReal)
  k : ∀ (n : Fin 8192) b h d, K (ix4 n b h d) = (((T b h).k n.val d : ℝ) : EReal)
  v : ∀ (n : Fin 8192) b h d, W (ix4 n b h d) = (((T b h).v n.val d : ℝ) : EReal)
  g : ∀ (n : Fin 8192) b h, G (ix3 n b h) = ((Real.exp ((T b h).g n.val) : ℝ) : EReal)
  b : ∀ (n : Fin 8192) b h, B (ix3 n b h) = (((T b h).b n.val : ℝ) : EReal)

variable {Q K W : FVec Ideal S8192x2x8x128 .f32} {G B : FVec Ideal S8192x2x8 .f32} {T : Fin 2 → Fin 8 → GdnMath.Tokens}

/-- The state one trip makes. -/
def next (S : FVec Ideal S2x8x128x128 .f32) (K W : FVec Ideal S8192x2x8x128 .f32) (G B : FVec Ideal S8192x2x8 .f32) (j : ℕ) : FVec Ideal S2x8x128x128 .f32 :=
  written (faded S (cut3 G j)) (cut4 K j) (cut4 W j) (cut3 B j)

theorem next_at (hH : Hold Q K W G B T) (S : FVec Ideal S2x8x128x128 .f32) (j : ℕ) (hj : j < 8192) (b : Fin 2) (h : Fin 8)
    (hS : ∀ i k, S (ix4 b h i k) = ((GdnMath.state (T b h) j i k : ℝ) : EReal)) (i k : Fin 128) :
    next S K W G B j (ix4 b h i k) = ((GdnMath.state (T b h) (j + 1) i k : ℝ) : EReal) := by
  unfold next
  rw [written_at, along_at]
  simp only [faded_at, cut4_at _ j hj, cut3_at _ j hj, hH.k, hH.v, hH.g, hH.b, hS, ← EReal.coe_mul, coe_sum, ← EReal.coe_sub, ← EReal.coe_add]
  rfl

/-- What it reads. -/
def reads (Q : FVec Ideal S8192x2x8x128 .f32) (S : FVec Ideal S2x8x128x128 .f32) (j : ℕ) : FVec Ideal S2x8x128 .f32 := along (cut4 Q j) S

theorem reads_at (hH : Hold Q K W G B T) (S : FVec Ideal S2x8x128x128 .f32) (j : ℕ) (hj : j < 8192) (b : Fin 2) (h : Fin 8)
    (hS : ∀ i k, S (ix4 b h i k) = ((GdnMath.state (T b h) (j + 1) i k : ℝ) : EReal)) (k : Fin 128) :
    reads Q S j (ix3 b h k) = ((GdnMath.out (T b h) j k : ℝ) : EReal) := by
  unfold reads
  rw [along_at]
  simp only [cut4_at _ j hj, hH.q, hS, ← EReal.coe_mul, coe_sum]
  rfl

/-! ## The loop -/

/-- What the loop's values are before trip `j`. -/
structure Before (Q K W : FVec Ideal S8192x2x8x128 .f32) (G B : FVec Ideal S8192x2x8 .f32) (T : Fin 2 → Fin 8 → GdnMath.Tokens) (j : ℕ) (V : Valuation τ sig (Elt Ideal)) : Prop where
  q : V (Proc.devRef .tc main_v87_0) = Q
  k : V (Proc.devRef .tc main_v87_1) = K
  v : V (Proc.devRef .tc main_v87_2) = W
  g : V (Proc.devRef .tc main_v87_3) = G
  b : V (Proc.devRef .tc main_v87_4) = B
  trip : V (Proc.devRef .tc main_v87_5) = constantI S_ 32 (BitVec.ofNat 32 j)
  now : ∀ b h i k, (V (Proc.devRef .tc main_v87_6) : FVec Ideal S2x8x128x128 .f32) (ix4 b h i k) = ((GdnMath.state (T b h) j i k : ℝ) : EReal)
  past : ∀ (l : Fin 8192) b h k, l.val < j → (V (Proc.devRef .tc main_v87_7) : FVec Ideal S8192x2x8x128 .f32) (ix4 l b h k) = ((GdnMath.out (T b h) l.val k : ℝ) : EReal)

theorem made {j : ℕ} {V : Valuation τ sig (Elt Ideal)} (h : Before Q K W G B T j V) :
    res_main_while0b_v129 V = next (V (Proc.devRef .tc main_v87_6)) K W G B j := by
  unfold res_main_while0b_v129 res_main_while0b_v115 res_main_while0b_v109
  rw [h.k, h.v, h.g, h.b, h.trip]
  rfl

theorem stored {j : ℕ} {V : Valuation τ sig (Elt Ideal)} (h : Before Q K W G B T j V) :
    step_main_v87_7 V = put4 (V (Proc.devRef .tc main_v87_7)) (reads Q (next (V (Proc.devRef .tc main_v87_6)) K W G B j) j) j := by
  unfold step_main_v87_7
  rw [made h, h.q, h.trip]
  rfl

/-- One trip. -/
theorem Before.trip_next {j : ℕ} {V : Valuation τ sig (Elt Ideal)} (h : Before Q K W G B T j V) (hH : Hold Q K W G B T) (hj : j < 8192) :
    Before Q K W G B T (j + 1) (STEP V) where
  q := (STEP_main_v87_0 V).trans h.q
  k := (STEP_main_v87_1 V).trans h.k
  v := (STEP_main_v87_2 V).trans h.v
  g := (STEP_main_v87_3 V).trans h.g
  b := (STEP_main_v87_4 V).trans h.b
  trip := by
    rw [STEP_main_v87_5]
    unfold step_main_v87_5
    rw [h.trip]
    funext i
    show BitVec.ofNat 32 j + 1#32 = BitVec.ofNat 32 (j + 1)
    rw [BitVec.ofNat_add]
  now := fun b k i d => by
    rw [STEP_main_v87_6]
    have e : step_main_v87_6 V = next (V (Proc.devRef .tc main_v87_6)) K W G B j := made h
    rw [e]
    exact next_at hH _ j hj b k (h.now b k) i d
  past := fun l b k d hl => by
    rw [STEP_main_v87_7, stored h]
    refine (put4_at _ _ j hj l b k d).trans ?_
    by_cases e : l.val = j
    · rw [if_pos e, e]
      exact reads_at hH _ j hj b k (next_at hH _ j hj b k (h.now b k)) d
    · rw [if_neg e]
      exact h.past l b k d (by omega)

/-- All trips up to `j`. -/
theorem Before.iterate {V : Valuation τ sig (Elt Ideal)} (h : Before Q K W G B T 0 V) (hH : Hold Q K W G B T) : ∀ j, j ≤ 8192 → Before Q K W G B T j (STEP^[j] V)
  | 0, _ => h
  | j + 1, hj => by
    rw [Function.iterate_succ_apply']
    exact (Before.iterate h hH j (by omega)).trip_next hH (by omega)

section Generic

variable {F : FTy → Type} [FloatOps F] (M : (ℓ : Loc nD τ sig) → Buf (Elt F) ℓ) (d : Dev nD)

set_option maxRecDepth 65536 in
set_option maxHeartbeats 1000000 in
theorem entry_q : entryContents preI M d (Proc.devRef .tc main_v87_0) = Step.A_main_v81 (M ((d.tc : Thread nD τ).loc main_arg0)) (M ((d.tc : Thread nD τ).loc main_arg1)) (M ((d.tc : Thread nD τ).loc main_arg2)) (M ((d.tc : Thread nD τ).loc main_arg3)) := by
  (simp only [entryContents, afterL_cons, afterL_nil]; after_reads_simp); rfl

set_option maxRecDepth 65536 in
set_option maxHeartbeats 1000000 in
theorem entry_k : entryContents preI M d (Proc.devRef .tc main_v87_1) = Step.A_main_v82 (M ((d.tc : Thread nD τ).loc main_arg0)) (M ((d.tc : Thread nD τ).loc main_arg1)) (M ((d.tc : Thread nD τ).loc main_arg2)) (M ((d.tc : Thread nD τ).loc main_arg3)) := by
  (simp only [entryContents, afterL_cons, afterL_nil]; after_reads_simp); rfl

set_option maxRecDepth 65536 in
set_option maxHeartbeats 1000000 in
theorem entry_v : entryContents preI M d (Proc.devRef .tc main_v87_2) = Step.A_main_v83 (M ((d.tc : Thread nD τ).loc main_arg0)) (M ((d.tc : Thread nD τ).loc main_arg1)) (M ((d.tc : Thread nD τ).loc main_arg2)) (M ((d.tc : Thread nD τ).loc main_arg3)) := by
  (simp only [entryContents, afterL_cons, afterL_nil]; after_reads_simp); rfl

set_option maxRecDepth 65536 in
set_option maxHeartbeats 1000000 in
theorem entry_g : entryContents preI M d (Proc.devRef .tc main_v87_3) = Step.A_main_v84 (M ((d.tc : Thread nD τ).loc main_arg0)) (M ((d.tc : Thread nD τ).loc main_arg1)) (M ((d.tc : Thread nD τ).loc main_arg2)) (M ((d.tc : Thread nD τ).loc main_arg3)) := by
  (simp only [entryContents, afterL_cons, afterL_nil]; after_reads_simp); rfl

set_option maxRecDepth 65536 in
set_option maxHeartbeats 1000000 in
theorem entry_b : entryContents preI M d (Proc.devRef .tc main_v87_4) = Step.A_main_v85 (M ((d.tc : Thread nD τ).loc main_arg0)) (M ((d.tc : Thread nD τ).loc main_arg1)) (M ((d.tc : Thread nD τ).loc main_arg2)) (M ((d.tc : Thread nD τ).loc main_arg3)) := by
  (simp only [entryContents, afterL_cons, afterL_nil]; after_reads_simp); rfl

theorem entry_state : entryContents preI M d (Proc.devRef .tc main_v87_6) = Step.K_main_v80 := by
  (simp only [entryContents, afterL_cons, afterL_nil]; after_reads_simp); rfl

theorem entry_trip : entryContents preI M d (Proc.devRef .tc main_v87_5) = constantI S_ 32 (BitVec.ofNat 32 0) := by
  (simp only [entryContents, afterL_cons, afterL_nil]; after_reads_simp); rfl

end Generic

end Cert.GdnRefIdeal.Value

end

end
-- ==== Proof.GdnRead.lean ====
/- The delta rule's reference: its result, read at one entry. -/
module

public import proofs.«01_k».proof.Proof.GdnTrip

@[expose] public section

set_option maxRecDepth 16384

noncomputable section

namespace Cert.GdnRefIdeal.Value

open Cert.GdnRefIdeal Cert.GdnRefIdeal.Gen Idealize.ShloMosaic Idealize.ShloMosaic.TcCoe Idealize.SL.Sem Idealize.ShloMosaic.StableHlo
open Cert.Scalar Cert.LruMath Cert.GdnSpec
open scoped BigOperators

variable (m : (ℓ : Loc nD τ sig) → Buf (Elt Ideal) ℓ) (c : Dev nD)

/-- The projected rows, -/
abbrev A0 : FVec Ideal S16384x5376 .f32 := m ((c.tc : Thread nD τ).loc main_arg0)
/-- the taps, -/
abbrev A1 : FVec Ideal S4x4x3072 .f32 := m ((c.tc : Thread nD τ).loc main_arg1)
/-- the decay's rate -/
abbrev A2 : FVec Ideal S4x8 .f32 := m ((c.tc : Thread nD τ).loc main_arg2)
/-- and shift, -/
abbrev A3 : FVec Ideal S4x8 .f32 := m ((c.tc : Thread nD τ).loc main_arg3)
/-- and the norm's weights. -/
abbrev A4 : FVec Ideal S4x128 .f32 := m ((c.tc : Thread nD τ).loc main_arg4)

/-- The parameters of the memory, -/
abbrev prm : Params := params (A1 m c) (A2 m c) (A3 m c) (A4 m c)

/-- and each head's tokens. -/
abbrev toks (b : Fin 2) (h : Fin 8) : GdnMath.Tokens := tokens (prm m c) (rows (A0 m c) b) h

/-- The loop's arrays hold them. -/
theorem hold (hf : ∀ b, Finite (prm m c) (rows (A0 m c) b)) :
    Hold (Step.A_main_v81 (F := Ideal) (A0 m c) (A1 m c) (A2 m c) (A3 m c)) (Step.A_main_v82 (F := Ideal) (A0 m c) (A1 m c) (A2 m c) (A3 m c))
      (Step.A_main_v83 (F := Ideal) (A0 m c) (A1 m c) (A2 m c) (A3 m c)) (Step.A_main_v84 (F := Ideal) (A0 m c) (A1 m c) (A2 m c) (A3 m c))
      (Step.A_main_v85 (F := Ideal) (A0 m c) (A1 m c) (A2 m c) (A3 m c)) (toks m c) where
  q n b h d := (query_at _ _ _ _ (A4 m c) b n h d).trans ((hf b).query h n.val d)
  k n b h d := (key_at _ _ _ _ (A4 m c) b n h d).trans ((hf b).key h n.val d)
  v n b h d := (value_at _ _ _ _ (A4 m c) b n h d).trans ((hf b).value h n.val d)
  g n b h := (decay_at _ _ _ _ (A4 m c) b n h).trans (by rw [(hf b).rate h n.val, Ideal.exp_coe])
  b n b h := (strength_at _ _ _ _ b n h).trans (strength_eq (prm m c) h n.val)

/-- Before the first trip. -/
theorem entry : Before (Step.A_main_v81 (F := Ideal) (A0 m c) (A1 m c) (A2 m c) (A3 m c)) (Step.A_main_v82 (F := Ideal) (A0 m c) (A1 m c) (A2 m c) (A3 m c))
      (Step.A_main_v83 (F := Ideal) (A0 m c) (A1 m c) (A2 m c) (A3 m c)) (Step.A_main_v84 (F := Ideal) (A0 m c) (A1 m c) (A2 m c) (A3 m c))
      (Step.A_main_v85 (F := Ideal) (A0 m c) (A1 m c) (A2 m c) (A3 m c)) (toks m c) 0 (entryContents preI m c) where
  q := entry_q m c
  k := entry_k m c
  v := entry_v m c
  g := entry_g m c
  b := entry_b m c
  trip := entry_trip m c
  now := fun b h i k => by
    rw [entry_state]
    pointwise [Step.K_main_v80, Step.K_main_cst_6]
    rfl
  past := fun l b h k hl => absurd hl (Nat.not_lt_zero _)

/-- The rows read, normalised, scaled and gated. -/
def normed (Y : FVec Ideal S8192x2x8x128 .f32) (N : FVec Ideal S4x128 .f32) (P : FVec Ideal S16384x5376 .f32) : FVec Ideal S16384x1024 .f32 :=
  mulf (shapeCast _ (mulf (mulf (transpose S2x8192x8x128 [1, 0, 2, 3] Y transposes_S8192x2x8x128_S2x8192x8x128_1_0_2_3) (broadcastInDim S2x8192x8x128 ![0, 1, 2, 3] bcast_S2x8192x8x1_S2x8192x8x128_0_1_2_3 (Host.rsqrt (addf (Host.divf (broadcastInDim S2x8192x8x1 ![0, 1, 2] bcast_S2x8192x8_S2x8192x8x1_0_1_2 (Host.reduceAdd (mulf (transpose S2x8192x8x128 [1, 0, 2, 3] Y transposes_S8192x2x8x128_S2x8192x8x128_1_0_2_3) (transpose S2x8192x8x128 [1, 0, 2, 3] Y transposes_S8192x2x8x128_S2x8192x8x128_1_0_2_3)) (constant S_ .f32 0x00000000#32) reducesTo_S2x8192x8x128_S2x8192x8_d3 h_S_)) (broadcastInDim S2x8192x8x1 ![] bcast_S_S2x8192x8x1 (constant S_ .f32 0x43000000#32))) (broadcastInDim S2x8192x8x1 ![] bcast_S_S2x8192x8x1 (constant S_ .f32 0x358637BD#32)))))) (broadcastInDim S2x8192x8x128 ![0, 1, 2, 3] bcast_S1x1x1x128_S2x8192x8x128_0_1_2_3 (broadcastInDim S1x1x1x128 ![3] bcast_S128_S1x1x1x128_3 (shapeCast _ (extractStridedSlice S1x128 ![0, 0] N slices_S4x128_S1x128_0_0) shapeCasts_S1x128_S128)))) shapeCasts_S2x8192x8x128_S16384x1024) (mulf (extractStridedSlice S16384x1024 ![0, 3072] P slices_S16384x5376_S16384x1024_0_3072) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 3072] P slices_S16384x5376_S16384x1024_0_3072))))))

theorem normed_eq (V : Valuation τ sig (Elt Ideal)) :
    out_main_v107 V = normed (V (Proc.devRef .tc main_v87_7)) (V (Proc.devRef .tc main_arg4)) (V (Proc.devRef .tc main_arg0)) := rfl

theorem normed_at (Y : FVec Ideal S8192x2x8x128 .f32) (N : FVec Ideal S4x128 .f32) (P : FVec Ideal S16384x5376 .f32) (i : Fin 16384) (j : Fin 1024) :
    normed Y N P (ix2 i j) = store (fun d => Y (ix4 ⟨i.val % 8192, by omega⟩ ⟨i.val / 8192, by omega⟩ ⟨j.val / 128, by omega⟩ d)) (N (ix2 0 ⟨j.val % 128, by omega⟩))
      (P (ix2 i ⟨3072 + j.val, by omega⟩)) ⟨j.val % 128, by omega⟩ := by
  pointwise [normed]
  rfl

/-- The result at one entry. -/
theorem ref_at (hf : ∀ b, Finite (prm m c) (rows (A0 m c) b)) (i : Fin 16384) (j : Fin 1024) :
    out_main_v107 (STEP^[8192] (entryContents preI m c)) (ix2 i j)
      = result (prm m c) (rows (A0 m c) ⟨i.val / 8192, by omega⟩) ⟨j.val / 128, by omega⟩ (A0 m c (ix2 i ⟨3072 + j.val, by omega⟩)) (i.val % 8192) ⟨j.val % 128, by omega⟩ := by
  have h := (entry m c).iterate (hold m c hf) 8192 (le_refl _)
  rw [normed_eq, iter_main_arg0, iter_main_arg4, normed_at]
  unfold result
  refine congrArg (fun o => store o _ _ _) (funext fun d => ?_)
  exact h.past ⟨i.val % 8192, by omega⟩ ⟨i.val / 8192, by omega⟩ ⟨j.val / 128, by omega⟩ d (by show i.val % 8192 < 8192; omega)

end Cert.GdnRefIdeal.Value

end

end
-- ==== Proof.GdnChunk.lean ====
/- The delta-rule kernel's own computation on one chunk of one head, as functions of the vectors it reads. -/
module

public import proofs.«01_k».proof.Proof.Gen.GdnIdeal.Value

@[expose] public section

set_option maxRecDepth 16384

noncomputable section

namespace Cert.GdnIdeal.Value

open Cert.GdnIdeal Cert.GdnIdeal.Gen Idealize.ShloMosaic Idealize.ShloMosaic.TcCoe Idealize.SL.Sem

variable {F : FTy → Type} [FloatOps F]

/-! ## The masks of a chunk -/

abbrev rowsOf : IVec S64x64 32 := iota .tc S64x64 32 [0] iota_S64x64_d0_w32
abbrev colsOf : IVec S64x64 32 := iota .tc S64x64 32 [1] iota_S64x64_d1_w32

/-- On or below the diagonal, -/
def lowerM : IVec S64x64 1 := cmpi .sge rowsOf colsOf

/-- and strictly below it. -/
def strictM : IVec S64x64 1 := cmpi .sgt rowsOf colsOf

def eyeM : FVec F S64x64 .f32 :=
  select (cmpi .eq rowsOf colsOf) (broadcast S64x64 (Scalar.ofBits .f32 0x3F800000#32 : F .f32)) (broadcast S64x64 (Scalar.ofBits .f32 0x00000000#32 : F .f32))

/-- Strictly below the diagonal in one block of two to the `a`. -/
def sameM (a : BitVec 32) : IVec S64x64 1 :=
  andi strictM (cmpi .eq (shrsi rowsOf (broadcast S64x64 a)) (shrsi colsOf (broadcast S64x64 a)))

/-- In one block of two to the `a` and in different ones of two to the `b`. -/
def joinM (a b : BitVec 32) : IVec S64x64 1 :=
  andi (sameM a) (cmpi .ne (shrsi rowsOf (broadcast S64x64 b)) (shrsi colsOf (broadcast S64x64 b)))

/-- The entries under a mask, zero elsewhere. -/
def under (k : IVec S64x64 1) (M : FVec F S64x64 .f32) : FVec F S64x64 .f32 :=
  select k M (broadcast S64x64 (Scalar.ofBits .f32 0x00000000#32 : F .f32))

/-! ## Products -/

def mm (A B : FVec F S64x64 .f32) : FVec F S64x64 .f32 :=
  matmul dot_S64x64_S64x64_S64x64_1_0_0_1_n_n none (truncf .bf16 A bitsLt_bf16_f32) (truncf .bf16 B bitsLt_bf16_f32) (constant S64x64 .f32 0x00000000#32)

def mmT (A B : FVec F S64x128 .f32) : FVec F S64x64 .f32 :=
  matmul dot_S64x128_S64x128_S64x64_1_1_0_0_n_n none (truncf .bf16 A bitsLt_bf16_f32) (truncf .bf16 B bitsLt_bf16_f32) (constant S64x64 .f32 0x00000000#32)

def mmS (A : FVec F S64x128 .f32) (B : FVec F S128x128 .f32) : FVec F S64x128 .f32 :=
  matmul dot_S64x128_S128x128_S64x128_1_0_0_1_n_n none (truncf .bf16 A bitsLt_bf16_f32) (truncf .bf16 B bitsLt_bf16_f32) (constant S64x128 .f32 0x00000000#32)

def mmW (A : FVec F S64x64 .f32) (B : FVec F S64x256 .f32) : FVec F S64x256 .f32 :=
  matmul dot_S64x64_S64x256_S64x256_1_0_0_1_n_n none (truncf .bf16 A bitsLt_bf16_f32) (truncf .bf16 B bitsLt_bf16_f32) (constant S64x256 .f32 0x00000000#32)

def mmV (A : FVec F S64x64 .f32) (B : FVec F S64x128 .f32) : FVec F S64x128 .f32 :=
  matmul dot_S64x64_S64x128_S64x128_1_0_0_1_n_n none (truncf .bf16 A bitsLt_bf16_f32) (truncf .bf16 B bitsLt_bf16_f32) (constant S64x128 .f32 0x00000000#32)

def mmK (A B : FVec F S64x128 .f32) : FVec F S128x128 .f32 :=
  matmul dot_S64x128_S64x128_S128x128_0_0_1_1_n_n none (truncf .bf16 A bitsLt_bf16_f32) (truncf .bf16 B bitsLt_bf16_f32) (constant S128x128 .f32 0x00000000#32)

/-! ## One head's rows of the block -/

/-- One over the root of each row's sum of squares. -/
def scaleOf (x : FVec F S128x128 .f32) : FVec F S128x1 .f32 :=
  rsqrt (addf (shapeCast S128x1 (multiReduction .add [1] S128 (mulf x x) 0x00000000#32 reduces_S128x128_S128 (.inl rfl) rfl) shapeCasts_S128_S128x1)
    (broadcast S128x1 (Scalar.ofBits .f32 0x358637BD#32 : F .f32)))

def unitK (x : FVec F S128x128 .f32) : FVec F S128x128 .f32 :=
  mulf x (broadcastTo S128x128 (scaleOf x) broadcasts_S128x1_S128x128)

def unitQ (x : FVec F S128x128 .f32) : FVec F S128x128 .f32 :=
  mulf x (broadcastTo S128x128 (mulf (scaleOf x) (broadcast S128x1 (Scalar.ofBits .f32 0x3DB504F3#32 : F .f32))) broadcasts_S128x1_S128x128)

/-! ## The chunk -/

/-- What a chunk of one head reads: the normalised queries and keys, the values, the write strengths, the summed decays (down and across). -/
structure Chunk (F : FTy → Type) where
  q : FVec F S64x128 .f32
  k : FVec F S64x128 .f32
  v : FVec F S64x128 .f32
  b : FVec F S64x1 .f32
  g : FVec F S64x1 .f32
  gt : FVec F S1x64 .f32

namespace Chunk

variable (C : Chunk F)

def strength : FVec F S64x128 .f32 := broadcastTo S64x128 (shapeCast S64x1 C.b shapeCasts_S64x1_S64x1) broadcasts_S64x1_S64x128

def grown : FVec F S64x128 .f32 := broadcastTo S64x128 (shapeCast S64x1 (exp C.g) shapeCasts_S64x1_S64x1) broadcasts_S64x1_S64x128

def decays : FVec F S64x64 .f32 :=
  exp (select lowerM (subf (broadcastTo S64x64 C.g broadcasts_S64x1_S64x64) (broadcastTo S64x64 C.gt broadcasts_S1x64_S64x64))
    (broadcast S64x64 (Scalar.ofBits .f32 0xFF800000#32 : F .f32)))

def kb : FVec F S64x128 .f32 := mulf C.k C.strength

def low : FVec F S64x64 .f32 := under strictM (mulf (mmT C.kb C.k) C.decays)

end Chunk

/-- The unit triangular inverse of blocks of two, -/
def inv1 (M : FVec F S64x64 .f32) : FVec F S64x64 .f32 := subf eyeM (under (sameM 1#32) M)

/-- and a doubling of the blocks. -/
def invStep (k : IVec S64x64 1) (M X : FVec F S64x64 .f32) : FVec F S64x64 .f32 := subf X (mm (mm X (under k M)) X)

def inv6 (M : FVec F S64x64 .f32) : FVec F S64x64 .f32 :=
  invStep (joinM 6#32 5#32) M (invStep (joinM 5#32 4#32) M (invStep (joinM 4#32 3#32) M (invStep (joinM 3#32 2#32) M (invStep (joinM 2#32 1#32) M (inv1 M)))))

namespace Chunk

variable (C : Chunk F)

def solved : FVec F S64x256 .f32 :=
  mmW (inv6 C.low) (concatenate S64x256 1 [⟨S64x128, mulf C.v C.strength⟩, ⟨S64x128, mulf C.kb C.grown⟩] concatenates_S64x128_S64x128_S64x256_d1)

def wrote (S : FVec F S128x128 .f32) : FVec F S64x128 .f32 :=
  subf (extractStridedSlice S64x128 ![0, 0] C.solved slices_S64x256_o0_0_S64x128)
    (mmS (extractStridedSlice S64x128 ![0, 128] C.solved slices_S64x256_o0_128_S64x128) S)

def read (S : FVec F S128x128 .f32) : FVec F S64x128 .f32 :=
  addf (mmS (mulf C.q C.grown) S) (mmV (under lowerM (mulf (mmT C.q C.k) C.decays)) (C.wrote S))

def last : FVec F S1x1 .f32 := extractStridedSlice S1x1 ![63, 0] C.g slices_S64x1_o63_0_S1x1

def next (S : FVec F S128x128 .f32) : FVec F S128x128 .f32 :=
  addf (mulf S (broadcastTo S128x128 (exp C.last) broadcasts_S1x1_S128x128))
    (mmK (mulf C.k (broadcastTo S64x128 (exp (subf (broadcastTo S64x1 C.last broadcasts_S1x1_S64x1) C.g)) broadcasts_S64x1_S64x128)) (C.wrote S))

end Chunk

/-- The rows stored for a chunk: the root-mean-square-normalised rows read, gated. -/
def gated (o z : FVec F S64x128 .f32) (n : FVec F S1x128 .f32) : FVec F S64x128 .f32 :=
  mulf (mulf (mulf o (broadcastTo S64x128 (rsqrt (addf (divf (shapeCast S64x1 (multiReduction .add [1] S64 (mulf o o) 0x00000000#32 reduces_S64x128_S64 (.inl rfl) rfl) shapeCasts_S64_S64x1)
        (broadcast S64x1 (Scalar.ofBits .f32 0x43000000#32 : F .f32))) (broadcast S64x1 (Scalar.ofBits .f32 0x358637BD#32 : F .f32)))) broadcasts_S64x1_S64x128))
      (broadcastTo S64x128 n broadcasts_S1x128_S64x128))
    (mulf z (addf (mulf (broadcast S64x128 (Scalar.ofBits .f32 0x3F000000#32 : F .f32)) (tanh (mulf (broadcast S64x128 (Scalar.ofBits .f32 0x3F000000#32 : F .f32)) z)))
      (broadcast S64x128 (Scalar.ofBits .f32 0x3F000000#32 : F .f32))))

/-! ## The chunks of a block -/

/-- Where the slices of a chunk lie: rows from `r`, columns from `o`, head `n`. -/
structure Cut (r o n : ℕ) : Prop where
  head : S128x1024.Slices ![0, o] S128x128
  rows : S128x128.Slices ![r, 0] S64x128
  block : S128x1024.Slices ![r, o] S64x128
  col : S128x128.Slices ![r, n] S64x1
  strength : S128x128.Slices ![r, 8 + n] S64x1
  line : S128x128.Slices ![n, r] S1x64

/-- The vectors a point of the grid works from: the three convolved blocks, the strengths, the summed decays, the gate and the norm's weights. -/
structure Block (F : FTy → Type) where
  q : FVec F S128x1024 .f32
  k : FVec F S128x1024 .f32
  v : FVec F S128x1024 .f32
  b : FVec F S128x128 .f32
  g : FVec F S128x128 .f32
  z : FVec F S128x1024 .f32
  n : FVec F S1x128 .f32

def Block.chunk (B : Block F) {r o n : ℕ} (c : Cut r o n) : Chunk F where
  q := extractStridedSlice S64x128 ![r, 0] (unitQ (extractStridedSlice S128x128 ![0, o] B.q c.head)) c.rows
  k := extractStridedSlice S64x128 ![r, 0] (unitK (extractStridedSlice S128x128 ![0, o] B.k c.head)) c.rows
  v := extractStridedSlice S64x128 ![r, o] B.v c.block
  b := extractStridedSlice S64x1 ![r, 8 + n] B.b c.strength
  g := extractStridedSlice S64x1 ![r, n] B.g c.col
  gt := extractStridedSlice S1x64 ![n, r] (transpose S128x128 [1, 0] B.g transposes_S128x128_p1_0_S128x128) c.line

/-- The stored rows of a chunk met with state `S`. -/
def Block.stored (B : Block F) {r o n : ℕ} (c : Cut r o n) (S : FVec F S128x128 .f32) : FVec F S64x128 .f32 :=
  gated ((B.chunk c).read S) (extractStridedSlice S64x128 ![r, o] B.z c.block) B.n

/-- The block of a point from what it loads. -/
def blockOf (X0 X1 X2 X3 : FVec F S128x1024 .f32) (AB : FVec F S128x128 .f32) (H0 H1 H2 : FVec F S8x1024 .f32) (T0 T1 T2 : FVec F S1x4x1024 .f32)
    (AL DT NG : FVec F S1x1x128 .f32) : Block F where
  q := k0_pay9 (k0_pay6 X0 H0 T0) (k0_pay8 X0 H0 T0)
  k := k0_pay11 X1 H1 T1
  v := k0_pay13 X2 H2 T2
  b := k0_pay14 AB
  g := k0_pay17 k0_pay15 (k0_pay16 AB AL DT)
  z := X3
  n := k0_pay30 NG

/-- Chunk `r` of head `n`. -/
theorem cut (r : Fin 2) (n : Fin 8) : Cut (64 * r.val) (128 * n.val) n.val := by
  constructor <;> revert r n <;> decide

theorem inside (r : Fin 2) (n : Fin 8) : ∀ a, (![64 * r.val, 128 * n.val] : Fin 2 → ℕ) a + S64x128.size a ≤ S128x1024.size a := by
  revert r n; decide

theorem insideS (n : Fin 8) : ∀ a, (![n.val, 0, 0] : Fin 3 → ℕ) a + S1x128x128.size a ≤ S8x128x128.size a := by
  revert n; decide

/-- The rectangle a chunk's rows are stored in, -/
abbrev place (r : Fin 2) (n : Fin 8) : Rect S128x1024 := Rect.unit (s := S128x1024) ![64 * r.val, 128 * n.val] S64x128.size (inside r n)

/-- and the one of a head's state. -/
abbrev placeS (n : Fin 8) : Rect S8x128x128 := Rect.unit (s := S8x128x128) ![n.val, 0, 0] S1x128x128.size (insideS n)

namespace Block

variable (B : Block F) (S : Fin 8 → FVec F S128x128 .f32)

/-- The state after a block's first chunk, -/
def middle (n : Fin 8) : FVec F S128x128 .f32 := (B.chunk (cut 0 n)).next (S n)

/-- and after its second. -/
def final (n : Fin 8) : FVec F S128x128 .f32 := (B.chunk (cut 1 n)).next (B.middle S n)

def upper (n : Fin 8) : View.Piece (Elt F) S128x1024 .f32 := ⟨place 0 n, B.stored (cut 0 n) (S n)⟩

def under (n : Fin 8) : View.Piece (Elt F) S128x1024 .f32 := ⟨place 1 n, B.stored (cut 1 n) (B.middle S n)⟩

/-- The block's stores, the last first. -/
def stores : List (View.Piece (Elt F) S128x1024 .f32) :=
  [B.under S 7, B.under S 6, B.under S 5, B.under S 4, B.under S 3, B.under S 2, B.under S 1, B.under S 0,
    B.upper S 7, B.upper S 6, B.upper S 5, B.upper S 4, B.upper S 3, B.upper S 2, B.upper S 1, B.upper S 0]

def kept (n : Fin 8) : View.Piece (Elt F) S8x128x128 .f32 := ⟨placeS n, shapeCast S1x128x128 (B.final S n) shapeCasts_S128x128_S1x128x128⟩

/-- The states' stores, the last first. -/
def keeps : List (View.Piece (Elt F) S8x128x128 .f32) :=
  [B.kept S 7, B.kept S 6, B.kept S 5, B.kept S 4, B.kept S 3, B.kept S 2, B.kept S 1, B.kept S 0]

end Block

end Cert.GdnIdeal.Value

end

end
-- ==== Proof.GdnStores.lean ====
/- What a point of the delta-rule kernel's grid leaves: the stored rows and states are the chunks' own. -/
module

public import proofs.«01_k».proof.Proof.GdnChunk
public import proofs.«01_k».proof.Proof.Scalar
public import Idealize.ShloMosaic.Lib.Pipeline.ValueKit
public import Idealize.ShloMosaic.Lib.Pipeline.ReadBack
public import Idealize.ShloMosaic.Lib.WritesUnit

@[expose] public section

set_option maxRecDepth 65536

noncomputable section

namespace Cert.GdnIdeal.Value

open Cert.GdnIdeal Cert.GdnIdeal.Gen Idealize.ShloMosaic Idealize.ShloMosaic.TcCoe Idealize.SL.Sem

variable (m : (ℓ : Loc nD τ sig) → Buf (Elt Ideal) ℓ)

abbrev zeroState : View.Piece (Elt Ideal) S8x128x128 .f32 := ⟨Rect.unit ![0, 0, 0] ![8, 128, 128] inb_S8x128x128_S8x128x128_0_0_0, k0_pay2 (F := Ideal)⟩

def stateA (n : Fin 8) : FVec Ideal S128x128 .f32 :=
  shapeCast S128x128 ((View.whole cc0_scratch0).readCov (Val := Elt Ideal) [zeroState] (placeS n).toLoadRect : S1x128x128.Idx → Elt Ideal .f32) shapeCasts_S1x128x128_S128x128

def stateB (Z : FVec Ideal S8x128x128 .f32) (n : Fin 8) : FVec Ideal S128x128 .f32 :=
  shapeCast S128x128 (View.ld (Val := Elt Ideal) (e' := .f32) Z (placeS n) : S1x128x128.Idx → Elt Ideal .f32) shapeCasts_S1x128x128_S128x128

def blockA (c : Dev nD) (t : Fin cfg0.N) : Block Ideal :=
  blockOf (F := Ideal) (X0_0 m c t) (X0_1 m c t) (X0_2 m c t) (X0_3 m c t) (iblk m c 4 t) (k0_pay3 (F := Ideal)) (k0_pay4 (F := Ideal)) (k0_pay5 (F := Ideal))
    (iblk m c 5 t) (iblk m c 6 t) (iblk m c 7 t) (iblk m c 8 t) (iblk m c 9 t) (iblk m c 10 t)

theorem before_lt (t : Fin cfg0.N) : t.val - 1 < cfg0.N := Nat.lt_of_le_of_lt (Nat.sub_le _ _) t.isLt

def blockB (c : Dev nD) (t : Fin cfg0.N) : Block Ideal :=
  blockOf (F := Ideal) (X0_0 m c t) (X0_1 m c t) (X0_2 m c t) (X0_3 m c t) (iblk m c 4 t) (outsAt0 m c (t.val - 1) (before_lt t)).2.2.1 (outsAt0 m c (t.val - 1) (before_lt t)).2.2.2.1 (outsAt0 m c (t.val - 1) (before_lt t)).2.2.2.2
    (iblk m c 5 t) (iblk m c 6 t) (iblk m c 7 t) (iblk m c 8 t) (iblk m c 9 t) (iblk m c 10 t)

theorem stored_A (c : Dev nD) (t : Fin cfg0.N) (h0 : t.val % 64 = 0) :
    (outsAt0 m c t.val t.isLt).1 = View.canon ((blockA m c t).stores (F := Ideal) stateA) := by
  rw [outsAt0_A m c t h0]
  frame_out
  rfl

theorem stored_B (c : Dev nD) (t : Fin cfg0.N) (h0 : ¬ t.val % 64 = 0) :
    (outsAt0 m c t.val t.isLt).1 = View.canon ((blockB m c t).stores (F := Ideal) (stateB (outsAt0 m c (t.val - 1) (before_lt t)).2.1)) := by
  rw [outsAt0_B m c t h0]
  frame_out
  simp only [read_unread_whole]
  rfl

theorem kept_A (c : Dev nD) (t : Fin cfg0.N) (h0 : t.val % 64 = 0) :
    (outsAt0 m c t.val t.isLt).2.1 = View.canon ((blockA m c t).keeps (F := Ideal) stateA ++ [zeroState]) := by
  rw [outsAt0_A m c t h0]
  frame_out
  rfl

theorem kept_B (c : Dev nD) (t : Fin cfg0.N) (h0 : ¬ t.val % 64 = 0) :
    (outsAt0 m c t.val t.isLt).2.1 = View.canon ((blockB m c t).keeps (F := Ideal) (stateB (outsAt0 m c (t.val - 1) (before_lt t)).2.1)) := by
  rw [outsAt0_B m c t h0]
  frame_out
  simp only [read_unread_whole]
  rfl

theorem halo_q (c : Dev nD) (t : Fin cfg0.N) : (outsAt0 m c t.val t.isLt).2.2.1 = k0_pay7 (F := Ideal) (X0_0 m c t) := by
  by_cases h0 : t.val % 64 = 0
  · rw [outsAt0_A m c t h0]
    frame_out
  · rw [outsAt0_B m c t h0]
    frame_out

theorem halo_k (c : Dev nD) (t : Fin cfg0.N) : (outsAt0 m c t.val t.isLt).2.2.2.1 = k0_pay10 (F := Ideal) (X0_1 m c t) := by
  by_cases h0 : t.val % 64 = 0
  · rw [outsAt0_A m c t h0]
    frame_out
  · rw [outsAt0_B m c t h0]
    frame_out

theorem halo_v (c : Dev nD) (t : Fin cfg0.N) : (outsAt0 m c t.val t.isLt).2.2.2.2 = k0_pay12 (F := Ideal) (X0_2 m c t) := by
  by_cases h0 : t.val % 64 = 0
  · rw [outsAt0_A m c t h0]
    frame_out
  · rw [outsAt0_B m c t h0]
    frame_out

end Cert.GdnIdeal.Value

end

end
-- ==== Proof.GdnGates.lean ====
/- The delta-rule kernel's vectors before its chunks, at an entry: the activated rows, the strengths and the summed decays. -/
module

public import proofs.«01_k».proof.Proof.GdnChunk
public import proofs.«01_k».proof.Proof.GdnSpec

@[expose] public section

set_option maxRecDepth 16384

noncomputable section

namespace Cert.GdnIdeal.Value

open Cert.GdnIdeal Cert.GdnIdeal.Gen Idealize.ShloMosaic Idealize.ShloMosaic.TcCoe Idealize.SL.Sem
open Cert.Scalar Cert.LruMath Cert.GdnSpec
open scoped BigOperators

variable (p : Params) (x : ℕ → Fin 3072 → EReal) (s : Fin 3) (l : ℕ)
variable (X : FVec Ideal S128x1024 .f32) (H : FVec Ideal S8x1024 .f32) (CW : FVec Ideal S1x4x1024 .f32)

/-- Column `j` of third `s`. -/
abbrev col (s : Fin 3) (j : Fin 1024) : Fin 3072 := ⟨1024 * s.val + j.val, by omega⟩

/-- The block's rows are a third of rows `l`, `l + 1`, … of the sequence, and the halo's last three rows those of the three before them. -/
structure Third : Prop where
  block : ∀ (r : Fin 128) (j : Fin 1024), X (ix2 r j) = x (l + r.val) (col s j)
  halo : ∀ (k : Fin 8) (j : Fin 1024), 5 ≤ k.val → H (ix2 k j) = if l + k.val < 8 then 0 else x (l + k.val - 8) (col s j)
  tap : ∀ (k : Fin 4) (j : Fin 1024), CW (ix3 0 k j) = p.tap k (col s j)

/-- The row `n` above row `r` of the block under its halo. -/
theorem above (h : Third p x s l X H CW) (r : Fin 128) (j : Fin 1024) (n : ℕ) (hs : n ≤ 3)
    (h1 : (8 + r.val + 136 - n) % 136 < 8 → (8 + r.val + 136 - n) % 136 < 8) (h2 : ¬ (8 + r.val + 136 - n) % 136 < 8 → (8 + r.val + 136 - n) % 136 - 8 < 128) :
    (if h : (8 + r.val + 136 - n) % 136 < 8 then H (ix2 ⟨(8 + r.val + 136 - n) % 136, h1 h⟩ j)
      else X (ix2 ⟨(8 + r.val + 136 - n) % 136 - 8, h2 h⟩ j)) = back x (3 - n) (l + r.val) (col s j) := by
  have hr := r.isLt
  unfold back
  by_cases hk : (8 + r.val + 136 - n) % 136 < 8
  · rw [dif_pos hk, h.halo _ _ (by show 5 ≤ (8 + r.val + 136 - n) % 136; omega)]
    show (if l + (8 + r.val + 136 - n) % 136 < 8 then 0 else x (l + (8 + r.val + 136 - n) % 136 - 8) (col s j)) = _
    have e : (8 + r.val + 136 - n) % 136 = 8 + r.val - n := by omega
    rw [e]
    by_cases hc : l + (8 + r.val - n) < 8
    · rw [if_pos hc, if_pos (by omega)]
    · rw [if_neg hc, if_neg (by omega)]
      exact congrArg (fun n => x n (col s j)) (by omega)
  · rw [dif_neg hk, h.block, if_neg (by omega)]
    exact congrArg (fun n => x n (col s j)) (by show l + ((8 + r.val + 136 - n) % 136 - 8) = _; omega)

/-- The convolved row. -/
theorem pay6_at (h : Third p x s l X H CW) (r : Fin 128) (j : Fin 1024) :
    k0_pay6 (F := Ideal) X H CW (ix2 r j) = conv p x (l + r.val) (col s j) := by
  pointwise [k0_pay6]
  rw [above p x s l X H CW h r j 1 (by decide) id, above p x s l X H CW h r j 2 (by decide) id, above p x s l X H CW h r j 3 (by decide) id, h.block r j, h.tap, h.tap, h.tap, h.tap]
  have e : back x 3 (l + r.val) (col s j) = x (l + r.val) (col s j) := by
    unfold back
    rw [if_neg (by omega)]
    exact congrArg (fun n => x n (col s j)) (by omega)
  unfold conv
  rw [e]
  show p.tap 3 (col s j) * x (l + r.val) (col s j) + p.tap 2 (col s j) * back x 2 (l + r.val) (col s j) + p.tap 1 (col s j) * back x 1 (l + r.val) (col s j) + p.tap 0 (col s j) * back x 0 (l + r.val) (col s j) = _
  ac_rfl

/-- The activated queries, -/
theorem actQ_at (h : Third p x s l X H CW) (r : Fin 128) (j : Fin 1024) :
    k0_pay9 (F := Ideal) (k0_pay6 X H CW) (k0_pay8 X H CW) (ix2 r j) = act p x (l + r.val) (col s j) := by
  pointwise [k0_pay9, k0_pay8]
  rw [pay6_at p x s l X H CW h]
  exact congrArg _ (half_tanh _)

theorem pay11_eq : k0_pay11 (F := Ideal) X H CW = k0_pay9 (k0_pay6 X H CW) (k0_pay8 X H CW) := rfl

theorem pay13_eq : k0_pay13 (F := Ideal) X H CW = k0_pay9 (k0_pay6 X H CW) (k0_pay8 X H CW) := rfl

/-- the strengths, -/
theorem strength_at (AB : FVec Ideal S128x128 .f32) (r j : Fin 128) : k0_pay14 (F := Ideal) AB (ix2 r j) = Ideal.logistic (AB (ix2 r j)) := by
  pointwise [k0_pay14]
  exact half_tanh _

/-- The rate of the decay at one entry of the block. -/
def rateV (AB : FVec Ideal S128x128 .f32) (AL DT : FVec Ideal S1x1x128 .f32) (j : Fin 128) (r : ℕ) : EReal :=
  if h : r < 128 then -(Ideal.exp (AL (ix3 0 0 j))) * softplus (AB (ix2 ⟨r, h⟩ j) + DT (ix3 0 0 j)) else 0

/-- The sum of the last `w` values of a chunk up to `r`. -/
def win (f : ℕ → EReal) (w r : ℕ) : EReal := ∑ t ∈ Finset.range (min w (r % 64 + 1)), f (r - t)

theorem win_step (f : ℕ → EReal) (w r : ℕ) (hw : w ≤ 32) (hr : r < 128) :
    win f w r + (if w ≤ r % 64 then win f w (r - w) else 0) = win f (2 * w) r := by
  unfold win
  by_cases h : w ≤ r % 64
  · have e1 : (r - w) % 64 = r % 64 - w := by omega
    have e2 : min w (r % 64 + 1) = w := by omega
    have e3 : min (2 * w) (r % 64 + 1) = w + min w (r % 64 - w + 1) := by omega
    rw [if_pos h, e1, e2, e3, Finset.sum_range_add]
    exact congrArg _ (Finset.sum_congr rfl fun t _ => congrArg f (by omega))
  · rw [if_neg h, add_zero]
    have e : min w (r % 64 + 1) = min (2 * w) (r % 64 + 1) := by omega
    rw [e]

theorem mask_at (w : Fin 33) (r : Fin 128) : IntOp.cmpi CmpIPredicate.sge (IntOp.andi (BitVec.ofNat 32 r.val) 63#32) (BitVec.ofNat 32 w.val) = if w.val ≤ r.val % 64 then 1#1 else 0#1 := by
  revert w r
  decide +kernel

/-- Every value, and the one `w` rows above it in the same chunk. -/
def addV (w : BitVec 32) (G : FVec Ideal S128x128 .f32) : FVec Ideal S128x128 .f32 :=
  addf G (select (cmpi .sge k0_pay15 (broadcast S128x128 w)) (dynamicRotate 0 w none G rotates_S128x128_d0) (broadcast S128x128 (Scalar.ofBits .f32 0x00000000#32 : Ideal .f32)))

theorem added (f : ℕ → EReal) (w : ℕ) (hw : w ≤ 32) (g : ∀ n : ℕ, n < 128 → EReal) (hg : ∀ n hn, g n hn = win f w n) (r : Fin 128) :
    g r.val r.isLt + Scalar.select (IntOp.cmpi CmpIPredicate.sge (IntOp.andi (BitVec.ofNat 32 r.val) 63#32) (BitVec.ofNat 32 w)) (g ((r.val + 128 - w) % 128) (Nat.mod_lt _ (by decide))) 0
      = win f (2 * w) r.val := by
  rw [← win_step f w r.val hw r.isLt, hg, hg, mask_at ⟨w, by omega⟩ r]
  refine congrArg _ ?_
  by_cases h : w ≤ r.val % 64
  · rw [if_pos h, if_pos h]
    have e : (r.val + 128 - w) % 128 = r.val - w := by omega
    rw [e]
    rfl
  · rw [if_neg h, if_neg h]
    rfl

theorem add1_at (G : FVec Ideal S128x128 .f32) (f : ℕ → EReal) (j : Fin 128) (h : ∀ r : Fin 128, G (ix2 r j) = win f 1 r.val) (r : Fin 128) :
    addV 1#32 G (ix2 r j) = win f 2 r.val := by
  pointwise [addV, k0_pay15]
  exact added f 1 (by decide) (fun n hn => G (ix2 ⟨n, hn⟩ j)) (fun n hn => h ⟨n, hn⟩) r

theorem add2_at (G : FVec Ideal S128x128 .f32) (f : ℕ → EReal) (j : Fin 128) (h : ∀ r : Fin 128, G (ix2 r j) = win f 2 r.val) (r : Fin 128) :
    addV 2#32 G (ix2 r j) = win f 4 r.val := by
  pointwise [addV, k0_pay15]
  exact added f 2 (by decide) (fun n hn => G (ix2 ⟨n, hn⟩ j)) (fun n hn => h ⟨n, hn⟩) r

theorem add4_at (G : FVec Ideal S128x128 .f32) (f : ℕ → EReal) (j : Fin 128) (h : ∀ r : Fin 128, G (ix2 r j) = win f 4 r.val) (r : Fin 128) :
    addV 4#32 G (ix2 r j) = win f 8 r.val := by
  pointwise [addV, k0_pay15]
  exact added f 4 (by decide) (fun n hn => G (ix2 ⟨n, hn⟩ j)) (fun n hn => h ⟨n, hn⟩) r

theorem add8_at (G : FVec Ideal S128x128 .f32) (f : ℕ → EReal) (j : Fin 128) (h : ∀ r : Fin 128, G (ix2 r j) = win f 8 r.val) (r : Fin 128) :
    addV 8#32 G (ix2 r j) = win f 16 r.val := by
  pointwise [addV, k0_pay15]
  exact added f 8 (by decide) (fun n hn => G (ix2 ⟨n, hn⟩ j)) (fun n hn => h ⟨n, hn⟩) r

theorem add16_at (G : FVec Ideal S128x128 .f32) (f : ℕ → EReal) (j : Fin 128) (h : ∀ r : Fin 128, G (ix2 r j) = win f 16 r.val) (r : Fin 128) :
    addV 16#32 G (ix2 r j) = win f 32 r.val := by
  pointwise [addV, k0_pay15]
  exact added f 16 (by decide) (fun n hn => G (ix2 ⟨n, hn⟩ j)) (fun n hn => h ⟨n, hn⟩) r

theorem add32_at (G : FVec Ideal S128x128 .f32) (f : ℕ → EReal) (j : Fin 128) (h : ∀ r : Fin 128, G (ix2 r j) = win f 32 r.val) (r : Fin 128) :
    addV 32#32 G (ix2 r j) = win f 64 r.val := by
  pointwise [addV, k0_pay15]
  exact added f 32 (by decide) (fun n hn => G (ix2 ⟨n, hn⟩ j)) (fun n hn => h ⟨n, hn⟩) r

/-- The rates of a block. -/
def ratesV (AB : FVec Ideal S128x128 .f32) (AL DT : FVec Ideal S1x1x128 .f32) : FVec Ideal S128x128 .f32 :=
  let u := addf AB (broadcastTo S128x128 (shapeCast S1x128 DT shapeCasts_S1x1x128_S1x128) broadcasts_S1x128_S128x128)
  let z := broadcast S128x128 (Scalar.ofBits .f32 0x00000000#32 : Ideal .f32)
  mulf (broadcastTo S128x128 (subf (broadcast S1x128 (Scalar.ofBits .f32 0x00000000#32 : Ideal .f32)) (exp (shapeCast S1x128 AL shapeCasts_S1x1x128_S1x128))) broadcasts_S1x128_S128x128)
    (addf (maximumf u z) (log1p (exp (subf z (absf u)))))

theorem ratesV_at (AB : FVec Ideal S128x128 .f32) (AL DT : FVec Ideal S1x1x128 .f32) (r j : Fin 128) :
    ratesV AB AL DT (ix2 r j) = win (rateV AB AL DT j) 1 r.val := by
  pointwise [ratesV]
  unfold win
  have e : min 1 (r.val % 64 + 1) = 1 := by omega
  rw [e, Finset.sum_range_one, Nat.sub_zero]
  unfold rateV softplus
  rw [dif_pos r.isLt]
  simp only [zero_sub]
  rfl

/-- and the summed rates of each chunk. -/
theorem sums_at (AB : FVec Ideal S128x128 .f32) (AL DT : FVec Ideal S1x1x128 .f32) (r j : Fin 128) :
    k0_pay17 (F := Ideal) k0_pay15 (k0_pay16 AB AL DT) (ix2 r j) = win (rateV AB AL DT j) 64 r.val := by
  have e : k0_pay17 (F := Ideal) k0_pay15 (k0_pay16 AB AL DT) = addV 32#32 (addV 16#32 (addV 8#32 (addV 4#32 (addV 2#32 (addV 1#32 (ratesV AB AL DT)))))) := rfl
  rw [e]
  exact add32_at _ _ j (add16_at _ _ j (add8_at _ _ j (add4_at _ _ j (add2_at _ _ j (add1_at _ _ j (fun r => ratesV_at AB AL DT r j)))))) r

/-- They are the tokens' spans. -/
theorem win_span (T : GdnMath.Tokens) (l : ℕ) (f : ℕ → EReal) (hf : ∀ n, n < 128 → f n = ((T.g (l + n) : ℝ) : EReal)) (a : Fin 2) (i : Fin 64) :
    win f 64 (64 * a.val + i.val) = ((GdnMath.span T (l + 64 * a.val) (i.val + 1) : ℝ) : EReal) := by
  have ha := a.isLt
  have hi := i.isLt
  unfold win GdnMath.span
  have e : min 64 ((64 * a.val + i.val) % 64 + 1) = i.val + 1 := by omega
  rw [e, ← Finset.sum_range_reflect, ← Fin.sum_univ_eq_sum_range, ← Fin.sum_univ_eq_sum_range, ← coe_sum]
  refine Finset.sum_congr rfl fun t _ => ?_
  have ht := t.isLt
  rw [hf _ (by omega)]
  exact congrArg (fun n => ((T.g n : ℝ) : EReal)) (by omega)

end Cert.GdnIdeal.Value

end

end
-- ==== Proof.GdnRows.lean ====
/- The blocks the delta-rule kernel's grid stages: rows of the projected sequences and the parameters. -/
module

public import proofs.«01_k».proof.Proof.GdnStores
public import proofs.«01_k».proof.Proof.GdnGates
public import Idealize.ShloMosaic.Lib.Claim

@[expose] public section

set_option maxRecDepth 16384

noncomputable section

namespace Cert.GdnIdeal.Value

open Cert.GdnIdeal Cert.GdnIdeal.Gen Idealize.ShloMosaic Idealize.ShloMosaic.TcCoe Idealize.SL.Sem
open Cert.Scalar Cert.LruMath Cert.GdnSpec
open scoped BigOperators

variable (m : (ℓ : Loc nD τ sig) → Buf (Elt Ideal) ℓ)

/-- The projected rows, -/
abbrev A0 (c : Dev nD) : FVec Ideal S16384x5376 .f32 := m ((c.tc : Thread nD τ).loc main_arg0)
/-- the taps, -/
abbrev A1 (c : Dev nD) : FVec Ideal S4x4x3072 .f32 := m ((c.tc : Thread nD τ).loc main_arg1)
/-- the decay's rate -/
abbrev A2 (c : Dev nD) : FVec Ideal S4x8 .f32 := m ((c.tc : Thread nD τ).loc main_arg2)
/-- and shift, -/
abbrev A3 (c : Dev nD) : FVec Ideal S4x8 .f32 := m ((c.tc : Thread nD τ).loc main_arg3)
/-- and the norm's weights. -/
abbrev A4 (c : Dev nD) : FVec Ideal S4x128 .f32 := m ((c.tc : Thread nD τ).loc main_arg4)

/-- The windows' block indices at a point of the grid. -/
theorem idx : ∀ t : Fin cfg0.N, win0_0.index t = ![t.val, 0] ∧ win0_1.index t = ![t.val, 1] ∧ win0_2.index t = ![t.val, 2] ∧ win0_3.index t = ![t.val, 3]
    ∧ win0_4.index t = ![t.val, 40] ∧ win0_5.index t = ![0, 0, 0] ∧ win0_6.index t = ![0, 0, 1] ∧ win0_7.index t = ![0, 0, 2]
    ∧ win0_8.index t = ![0, 0, 0] ∧ win0_9.index t = ![0, 0, 0] ∧ win0_10.index t = ![0, 0, 0] ∧ win0_11.index t = ![t.val, 0] :=
  (by decide +kernel : ∀ t : Fin grid0.N, _)

/-- Row `r` of the block of point `t`. -/
def row (t : Fin cfg0.N) (r : Fin 128) : Fin 16384 :=
  ⟨t.val * 128 + r.val, by have h := lt_of_lt_of_eq t.isLt N_0; omega⟩

theorem blk0 (c : Dev nD) (t : Fin cfg0.N) (r : Fin 128) (j : Fin 1024) :
    (X0_0 m c t : FVec Ideal S128x1024 .f32) (ix2 r j) = A0 m c (ix2 (row t r) ⟨0 + j.val, by omega⟩) := by
  unfold X0_0 Pipeline.Window.fill
  rw [dif_pos (moved0_0 t _)]
  unfold row iblk
  entry_read
  blk_point [idx t]

theorem blk1 (c : Dev nD) (t : Fin cfg0.N) (r : Fin 128) (j : Fin 1024) :
    (X0_1 m c t : FVec Ideal S128x1024 .f32) (ix2 r j) = A0 m c (ix2 (row t r) ⟨1024 + j.val, by omega⟩) := by
  unfold X0_1 Pipeline.Window.fill
  rw [dif_pos (moved0_1 t _)]
  unfold row iblk
  entry_read
  blk_point [idx t]

theorem blk2 (c : Dev nD) (t : Fin cfg0.N) (r : Fin 128) (j : Fin 1024) :
    (X0_2 m c t : FVec Ideal S128x1024 .f32) (ix2 r j) = A0 m c (ix2 (row t r) ⟨2048 + j.val, by omega⟩) := by
  unfold X0_2 Pipeline.Window.fill
  rw [dif_pos (moved0_2 t _)]
  unfold row iblk
  entry_read
  blk_point [idx t]

theorem blk3 (c : Dev nD) (t : Fin cfg0.N) (r : Fin 128) (j : Fin 1024) :
    (X0_3 m c t : FVec Ideal S128x1024 .f32) (ix2 r j) = A0 m c (ix2 (row t r) ⟨3072 + j.val, by omega⟩) := by
  unfold X0_3 Pipeline.Window.fill
  rw [dif_pos (moved0_3 t _)]
  unfold row iblk
  entry_read
  blk_point [idx t]

theorem blk4 (c : Dev nD) (t : Fin cfg0.N) (r j : Fin 128) :
    (iblk m c 4 t : FVec Ideal S128x128 .f32) (ix2 r j) = A0 m c (ix2 (row t r) ⟨5120 + j.val, by omega⟩) := by
  unfold row iblk
  entry_read
  blk_point [idx t]

theorem blk5 (c : Dev nD) (t : Fin cfg0.N) (k : Fin 4) (j : Fin 1024) :
    (iblk m c 5 t : FVec Ideal S1x4x1024 .f32) (ix3 0 k j) = A1 m c (ix3 0 k ⟨0 + j.val, by omega⟩) := by
  unfold iblk
  entry_read
  blk_point [idx t]

theorem blk6 (c : Dev nD) (t : Fin cfg0.N) (k : Fin 4) (j : Fin 1024) :
    (iblk m c 6 t : FVec Ideal S1x4x1024 .f32) (ix3 0 k j) = A1 m c (ix3 0 k ⟨1024 + j.val, by omega⟩) := by
  unfold iblk
  entry_read
  blk_point [idx t]

theorem blk7 (c : Dev nD) (t : Fin cfg0.N) (k : Fin 4) (j : Fin 1024) :
    (iblk m c 7 t : FVec Ideal S1x4x1024 .f32) (ix3 0 k j) = A1 m c (ix3 0 k ⟨2048 + j.val, by omega⟩) := by
  unfold iblk
  entry_read
  blk_point [idx t]

/-- A parameter of the heads, twice and then zeros. -/
def lanes {F : FTy → Type} [FloatOps F] (L : FVec F S4x8 .f32) : FVec F S4x1x128 .f32 :=
  concatenate S4x1x128 2 [⟨S4x1x8, (shapeCast S4x1x8 L shapeCasts_S4x8_S4x1x8 : FVec F S4x1x8 .f32)⟩, ⟨S4x1x8, (shapeCast S4x1x8 L shapeCasts_S4x8_S4x1x8 : FVec F S4x1x8 .f32)⟩,
    ⟨S4x1x112, (broadcastInDim S4x1x112 ![] bcast_S_S4x1x112 (constant S_ .f32 0x00000000#32) : FVec F S4x1x112 .f32)⟩] concatenates_S4x1x8_S4x1x8_S4x1x112_S4x1x128_d2

section Generic

variable {F : FTy → Type} [FloatOps F] (M : (ℓ : Loc nD τ sig) → Buf (Elt F) ℓ)

theorem lanes_a (c : Dev nD) : V M c main_v2 = lanes (F := F) (M ((c.tc : Thread nD τ).loc main_arg2)) := by
  rfl

theorem lanes_d (c : Dev nD) : V M c main_v5 = lanes (F := F) (M ((c.tc : Thread nD τ).loc main_arg3)) := by
  rfl

end Generic

theorem lanes_at (L : FVec Ideal S4x8 .f32) (h : Fin 8) : lanes L (ix3 0 0 ⟨h.val, by omega⟩) = L (ix2 0 h) := by
  pointwise [lanes]

theorem blk8 (c : Dev nD) (t : Fin cfg0.N) (j : Fin 128) : (iblk m c 8 t : FVec Ideal S1x1x128 .f32) (ix3 0 0 j) = lanes (A2 m c) (ix3 0 0 j) := by
  have e : (win0_8.blk t).view.emb (ix3 0 0 j) = ix3 0 0 j := by blk_ext [idx t]
  have e' : (iblk m c 8 t : FVec Ideal S1x1x128 .f32) (ix3 0 0 j) = V m c main_v2 ((win0_8.blk t).view.emb (ix3 0 0 j)) := rfl
  rw [e', e, lanes_a]

theorem blk9 (c : Dev nD) (t : Fin cfg0.N) (j : Fin 128) : (iblk m c 9 t : FVec Ideal S1x1x128 .f32) (ix3 0 0 j) = lanes (A3 m c) (ix3 0 0 j) := by
  have e : (win0_9.blk t).view.emb (ix3 0 0 j) = ix3 0 0 j := by blk_ext [idx t]
  have e' : (iblk m c 9 t : FVec Ideal S1x1x128 .f32) (ix3 0 0 j) = V m c main_v5 ((win0_9.blk t).view.emb (ix3 0 0 j)) := rfl
  rw [e', e, lanes_d]

theorem blk10 (c : Dev nD) (t : Fin cfg0.N) (j : Fin 128) : (iblk m c 10 t : FVec Ideal S1x1x128 .f32) (ix3 0 0 j) = A4 m c (ix2 0 j) := by
  unfold iblk
  entry_read
  blk_simp [idx t]
  pointwise
  blk_point [idx t]

/-! ## The rows and the parameters -/

/-- The call's parameters: those of its first layer. -/
def prm (c : Dev nD) : Params where
  tap k j := A1 m c (ix3 0 k j)
  alog h := A2 m c (ix2 0 h)
  dtb h := A3 m c (ix2 0 h)
  norm d := A4 m c (ix2 0 d)

/-- Sequence `b`, zero past its end. -/
def seq (c : Dev nD) (b : Fin 2) : Rows where
  x n j := if h : n < 8192 then A0 m c (ix2 ⟨b.val * 8192 + n, by omega⟩ ⟨j.val, by omega⟩) else 0
  a n k := if h : n < 8192 then A0 m c (ix2 ⟨b.val * 8192 + n, by omega⟩ ⟨5120 + k.val, by omega⟩) else 0
  b n k := if h : n < 8192 then A0 m c (ix2 ⟨b.val * 8192 + n, by omega⟩ ⟨5128 + k.val, by omega⟩) else 0

/-- The sequence of point `t` -/
def batch (t : Fin cfg0.N) : Fin 2 := ⟨t.val / 64, by have h := lt_of_lt_of_eq t.isLt N_0; omega⟩

/-- and the row it begins at. -/
def start (t : Fin cfg0.N) : ℕ := t.val % 64 * 128

theorem start_lt (t : Fin cfg0.N) (r : Fin 128) : start t + r.val < 8192 := by
  unfold start
  omega

theorem row_eq (t : Fin cfg0.N) (r : Fin 128) : row t r = ⟨(batch t).val * 8192 + (start t + r.val), by have := start_lt t r; omega⟩ :=
  Fin.ext (by show t.val * 128 + r.val = t.val / 64 * 8192 + (t.val % 64 * 128 + r.val); omega)

theorem rows_x (c : Dev nD) (t : Fin cfg0.N) (r : Fin 128) (j : Fin 3072) :
    A0 m c (ix2 (row t r) ⟨j.val, by omega⟩) = (seq m c (batch t)).x (start t + r.val) j := by
  rw [row_eq]
  refine Eq.trans ?_ (dif_pos (start_lt t r)).symm
  rfl

theorem rows_a (c : Dev nD) (t : Fin cfg0.N) (r : Fin 128) (h : Fin 8) :
    (iblk m c 4 t : FVec Ideal S128x128 .f32) (ix2 r ⟨h.val, by omega⟩) = (seq m c (batch t)).a (start t + r.val) h := by
  rw [blk4, row_eq]
  refine Eq.trans ?_ (dif_pos (start_lt t r)).symm
  rfl

theorem rows_b (c : Dev nD) (t : Fin cfg0.N) (r : Fin 128) (h : Fin 8) :
    (iblk m c 4 t : FVec Ideal S128x128 .f32) (ix2 r ⟨8 + h.val, by omega⟩) = (seq m c (batch t)).b (start t + r.val) h := by
  rw [blk4, row_eq]
  refine Eq.trans ?_ (dif_pos (start_lt t r)).symm
  exact congrArg (fun k => A0 m c (ix2 _ k)) (Fin.ext (by show 5120 + (8 + h.val) = 5128 + h.val; omega))

theorem block_q (c : Dev nD) (t : Fin cfg0.N) (r : Fin 128) (j : Fin 1024) :
    (X0_0 m c t : FVec Ideal S128x1024 .f32) (ix2 r j) = (seq m c (batch t)).x (start t + r.val) (col 0 j) := by
  rw [blk0, ← rows_x]
  exact congrArg (fun k => A0 m c (ix2 _ k)) (Fin.ext (by show 0 + j.val = 1024 * 0 + j.val; omega))

theorem tap_q (c : Dev nD) (t : Fin cfg0.N) (k : Fin 4) (j : Fin 1024) :
    (iblk m c 5 t : FVec Ideal S1x4x1024 .f32) (ix3 0 k j) = (prm m c).tap k (col 0 j) := by
  rw [blk5]
  exact congrArg (fun j => A1 m c (ix3 0 k j)) (Fin.ext (by show 0 + j.val = 1024 * 0 + j.val; omega))

theorem block_k (c : Dev nD) (t : Fin cfg0.N) (r : Fin 128) (j : Fin 1024) :
    (X0_1 m c t : FVec Ideal S128x1024 .f32) (ix2 r j) = (seq m c (batch t)).x (start t + r.val) (col 1 j) := by
  rw [blk1, ← rows_x]
  exact congrArg (fun k => A0 m c (ix2 _ k)) (Fin.ext (by show 1024 + j.val = 1024 * 1 + j.val; omega))

theorem tap_k (c : Dev nD) (t : Fin cfg0.N) (k : Fin 4) (j : Fin 1024) :
    (iblk m c 6 t : FVec Ideal S1x4x1024 .f32) (ix3 0 k j) = (prm m c).tap k (col 1 j) := by
  rw [blk6]
  exact congrArg (fun j => A1 m c (ix3 0 k j)) (Fin.ext (by show 1024 + j.val = 1024 * 1 + j.val; omega))

theorem block_v (c : Dev nD) (t : Fin cfg0.N) (r : Fin 128) (j : Fin 1024) :
    (X0_2 m c t : FVec Ideal S128x1024 .f32) (ix2 r j) = (seq m c (batch t)).x (start t + r.val) (col 2 j) := by
  rw [blk2, ← rows_x]
  exact congrArg (fun k => A0 m c (ix2 _ k)) (Fin.ext (by show 2048 + j.val = 1024 * 2 + j.val; omega))

theorem tap_v (c : Dev nD) (t : Fin cfg0.N) (k : Fin 4) (j : Fin 1024) :
    (iblk m c 7 t : FVec Ideal S1x4x1024 .f32) (ix3 0 k j) = (prm m c).tap k (col 2 j) := by
  rw [blk7]
  exact congrArg (fun j => A1 m c (ix3 0 k j)) (Fin.ext (by show 2048 + j.val = 1024 * 2 + j.val; omega))

end Cert.GdnIdeal.Value

end

end
-- ==== Proof.GdnSolve.lean ====
/- One chunk of the delta-rule kernel at an entry: over real values it is the chunk of the delta rule. -/
module

public import proofs.«01_k».proof.Proof.GdnChunk
public import proofs.«01_k».proof.Proof.GdnSpec

@[expose] public section

set_option maxRecDepth 16384

noncomputable section

namespace Cert.GdnIdeal.Value

open Cert.GdnIdeal Cert.GdnIdeal.Gen Idealize.ShloMosaic Idealize.ShloMosaic.TcCoe Idealize.SL.Sem
open Cert.Scalar Cert.LruMath Cert.GdnSpec
open scoped BigOperators

theorem dot_coe {n : ℕ} (f g : Fin n → ℝ) : (∑ i, ((f i : ℝ) : EReal) * ((g i : ℝ) : EReal)) = ((∑ i, f i * g i : ℝ) : EReal) := by
  rw [← coe_sum]
  exact Finset.sum_congr rfl fun i _ => (EReal.coe_mul _ _).symm

/-- A vector of a matrix's real entries. -/
def Is (A : FVec Ideal S64x64 .f32) (a : GdnMath.Sq) : Prop := ∀ i j : Fin 64, A (ix2 i j) = ((a i j : ℝ) : EReal)

theorem Is.mul {A B : FVec Ideal S64x64 .f32} {a b : GdnMath.Sq} (hA : Is A a) (hB : Is B b) : Is (mm A B) (a * b) := fun i j => by
  pointwise [mm]
  simp only [hA i, hB _ j, dot_coe]
  rw [Matrix.mul_apply]

theorem Is.sub {A B : FVec Ideal S64x64 .f32} {a b : GdnMath.Sq} (hA : Is A a) (hB : Is B b) : Is (subf A B) (a - b) := fun i j => by
  pointwise
  rw [hA i j, hB i j]
  exact (EReal.coe_sub _ _).symm

/-! ## The masks -/

theorem lower_at (i j : Fin 64) : lowerM (ix2 i j) = if j.val ≤ i.val then 1#1 else 0#1 := by
  pointwise [lowerM]
  exact (by decide +kernel : ∀ i j : Fin 64, IntOp.cmpi CmpIPredicate.sge (BitVec.ofNat 32 i.val) (BitVec.ofNat 32 j.val) = if j.val ≤ i.val then 1#1 else 0#1) i j

theorem strict_at (i j : Fin 64) : strictM (ix2 i j) = if j.val < i.val then 1#1 else 0#1 := by
  pointwise [strictM]
  exact (by decide +kernel : ∀ i j : Fin 64, IntOp.cmpi CmpIPredicate.sgt (BitVec.ofNat 32 i.val) (BitVec.ofNat 32 j.val) = if j.val < i.val then 1#1 else 0#1) i j

/-- In one block of two to the `a`, below the diagonal. -/
abbrev sameW (a : BitVec 32) (i j : Fin 64) : BitVec 1 :=
  IntOp.andi (IntOp.cmpi CmpIPredicate.sgt (BitVec.ofNat 32 i.val) (BitVec.ofNat 32 j.val))
    (IntOp.cmpi CmpIPredicate.eq (IntOp.shrsi ArithUnit.vector (BitVec.ofNat 32 i.val) a) (IntOp.shrsi ArithUnit.vector (BitVec.ofNat 32 j.val) a))

abbrev joinW (a b : BitVec 32) (i j : Fin 64) : BitVec 1 :=
  IntOp.andi (sameW a i j) (IntOp.cmpi CmpIPredicate.ne (IntOp.shrsi ArithUnit.vector (BitVec.ofNat 32 i.val) b) (IntOp.shrsi ArithUnit.vector (BitVec.ofNat 32 j.val) b))

/-- The mask of `GdnMath.join`. -/
def Joins (l : ℕ) (i j : Fin 64) : Prop := j.val < i.val ∧ i.val / 2 ^ (l + 1) = j.val / 2 ^ (l + 1) ∧ i.val / 2 ^ l ≠ j.val / 2 ^ l

instance (l : ℕ) (i j : Fin 64) : Decidable (Joins l i j) := inferInstanceAs (Decidable (_ ∧ _))

theorem under_at (k : IVec S64x64 1) (M : FVec Ideal S64x64 .f32) (i j : Fin 64) (P : Prop) [Decidable P] (h : k (ix2 i j) = if P then 1#1 else 0#1) :
    under k M (ix2 i j) = if P then M (ix2 i j) else 0 := by
  have e : under k M (ix2 i j) = Scalar.select (k (ix2 i j)) (M (ix2 i j)) 0 := by pointwise [under]
  rw [e, h]
  by_cases hp : P
  · rw [if_pos hp, if_pos hp]; rfl
  · rw [if_neg hp, if_neg hp]; rfl

theorem Is.join {M : FVec Ideal S64x64 .f32} {m : GdnMath.Sq} (h : Is M m) (k : IVec S64x64 1) (l : ℕ)
    (hk : ∀ i j : Fin 64, k (ix2 i j) = if Joins l i j then 1#1 else 0#1) : Is (under k M) (GdnMath.join m l) := fun i j => by
  rw [under_at k M i j _ (hk i j), h i j]
  show _ = (((if Joins l i j then m i j else 0) : ℝ) : EReal)
  split <;> simp

theorem join1 (i j : Fin 64) : joinM 2#32 1#32 (ix2 i j) = if Joins 1 i j then 1#1 else 0#1 := by
  pointwise [joinM, sameM, strictM]
  exact (by decide +kernel : ∀ i j : Fin 64, joinW 2#32 1#32 i j = if Joins 1 i j then 1#1 else 0#1) i j

theorem join2 (i j : Fin 64) : joinM 3#32 2#32 (ix2 i j) = if Joins 2 i j then 1#1 else 0#1 := by
  pointwise [joinM, sameM, strictM]
  exact (by decide +kernel : ∀ i j : Fin 64, joinW 3#32 2#32 i j = if Joins 2 i j then 1#1 else 0#1) i j

theorem join3 (i j : Fin 64) : joinM 4#32 3#32 (ix2 i j) = if Joins 3 i j then 1#1 else 0#1 := by
  pointwise [joinM, sameM, strictM]
  exact (by decide +kernel : ∀ i j : Fin 64, joinW 4#32 3#32 i j = if Joins 3 i j then 1#1 else 0#1) i j

theorem join4 (i j : Fin 64) : joinM 5#32 4#32 (ix2 i j) = if Joins 4 i j then 1#1 else 0#1 := by
  pointwise [joinM, sameM, strictM]
  exact (by decide +kernel : ∀ i j : Fin 64, joinW 5#32 4#32 i j = if Joins 4 i j then 1#1 else 0#1) i j

theorem join5 (i j : Fin 64) : joinM 6#32 5#32 (ix2 i j) = if Joins 5 i j then 1#1 else 0#1 := by
  pointwise [joinM, sameM, strictM]
  exact (by decide +kernel : ∀ i j : Fin 64, joinW 6#32 5#32 i j = if Joins 5 i j then 1#1 else 0#1) i j

theorem same1 (i j : Fin 64) : sameM 1#32 (ix2 i j) = if Joins 0 i j then 1#1 else 0#1 := by
  pointwise [sameM, strictM]
  exact (by decide +kernel : ∀ i j : Fin 64, sameW 1#32 i j = if Joins 0 i j then 1#1 else 0#1) i j

theorem eye_is : Is eyeM 1 := fun i j => by
  pointwise [eyeM]
  rw [(by decide +kernel : ∀ i j : Fin 64, IntOp.cmpi CmpIPredicate.eq (BitVec.ofNat 32 i.val) (BitVec.ofNat 32 j.val) = if i = j then 1#1 else 0#1) i j, Matrix.one_apply]
  by_cases h : i = j
  · rw [if_pos h, if_pos h]; rfl
  · rw [if_neg h, if_neg h]; rfl

/-! ## The inverse -/

theorem Is.step {M X : FVec Ideal S64x64 .f32} {m : GdnMath.Sq} (l : ℕ) (h : Is M m) (hX : Is X (GdnMath.inv m l)) (k : IVec S64x64 1)
    (hk : ∀ i j : Fin 64, k (ix2 i j) = if Joins l i j then 1#1 else 0#1) : Is (invStep k M X) (GdnMath.inv m (l + 1)) :=
  hX.sub ((hX.mul (h.join k l hk)).mul hX)

theorem Is.inv {M : FVec Ideal S64x64 .f32} {m : GdnMath.Sq} (h : Is M m) : Is (inv6 M) (GdnMath.inv m 6) := by
  have h1 : Is (inv1 M) (GdnMath.inv m 1) := by
    have e : GdnMath.inv m 1 = 1 - GdnMath.join m 0 := by
      show (1 : GdnMath.Sq) - 1 * GdnMath.join m 0 * 1 = _
      rw [Matrix.one_mul, Matrix.mul_one]
    rw [e]
    exact eye_is.sub (h.join _ 0 same1)
  exact .step 5 h (.step 4 h (.step 3 h (.step 2 h (.step 1 h h1 _ join1) _ join2) _ join3) _ join4) _ join5

/-! ## The chunk -/

/-- The chunk's vectors hold the tokens from `l` on. -/
structure Holds (C : Chunk Ideal) (T : GdnMath.Tokens) (l : ℕ) : Prop where
  q : ∀ (i : Fin 64) (d : Fin 128), C.q (ix2 i d) = ((T.q (l + i.val) d : ℝ) : EReal)
  k : ∀ (i : Fin 64) (d : Fin 128), C.k (ix2 i d) = ((T.k (l + i.val) d : ℝ) : EReal)
  v : ∀ (i : Fin 64) (d : Fin 128), C.v (ix2 i d) = ((T.v (l + i.val) d : ℝ) : EReal)
  b : ∀ i : Fin 64, C.b (ix2 i 0) = ((T.b (l + i.val) : ℝ) : EReal)
  g : ∀ i : Fin 64, C.g (ix2 i 0) = ((GdnMath.span T l (i.val + 1) : ℝ) : EReal)
  gt : ∀ i : Fin 64, C.gt (ix2 0 i) = ((GdnMath.span T l (i.val + 1) : ℝ) : EReal)

variable {C : Chunk Ideal} {T : GdnMath.Tokens} {l : ℕ}

theorem bot_word : Ideal.ofBits .f32 0xFF800000#32 = ⊥ := by
  simp [Ideal.ofBits, Ideal.ieee]

theorem Holds.decays (h : Holds C T l) (i j : Fin 64) : C.decays (ix2 i j) = ((GdnMath.dec T l i j : ℝ) : EReal) := by
  have e : C.decays (ix2 i j) = Ideal.exp (Scalar.select (lowerM (ix2 i j)) (C.g (ix2 i 0) - C.gt (ix2 0 j)) (Ideal.ofBits .f32 0xFF800000#32)) := by
    pointwise [Chunk.decays]
  rw [e, lower_at, h.g, h.gt]
  unfold GdnMath.dec
  by_cases hp : j.val ≤ i.val
  · rw [if_pos hp, if_pos hp, ← Ideal.exp_coe, EReal.coe_sub]
    rfl
  · rw [if_neg hp, if_neg hp]
    show Ideal.exp (Ideal.ofBits .f32 0xFF800000#32) = _
    rw [bot_word]
    rfl

theorem Holds.kb (h : Holds C T l) (i : Fin 64) (d : Fin 128) : C.kb (ix2 i d) = ((T.k (l + i.val) d * T.b (l + i.val) : ℝ) : EReal) := by
  pointwise [Chunk.kb, Chunk.strength]
  rw [h.k, h.b, EReal.coe_mul]

theorem grown_at (h : Holds C T l) (i : Fin 64) (d : Fin 128) : C.grown (ix2 i d) = ((Real.exp (GdnMath.span T l (i.val + 1)) : ℝ) : EReal) := by
  pointwise [Chunk.grown]
  rw [h.g, Ideal.exp_coe]

theorem Holds.low (h : Holds C T l) : Is C.low (GdnMath.mat T l) := fun i j => by
  unfold Chunk.low
  rw [under_at _ _ i j _ (strict_at i j)]
  have e : mulf (mmT C.kb C.k) C.decays (ix2 i j) = (∑ d, C.kb (ix2 i d) * C.k (ix2 j d)) * C.decays (ix2 i j) := by
    pointwise [mmT]
  rw [e, h.decays]
  simp only [h.kb, h.k, dot_coe]
  rw [← EReal.coe_mul]
  unfold GdnMath.mat
  split
  · rfl
  · exact EReal.coe_zero.symm

theorem Holds.solved_v (h : Holds C T l) (i : Fin 64) (j : Fin 128) :
    C.solved (ix2 i ⟨j.val, by omega⟩) = (((GdnMath.inv (GdnMath.mat T l) 6 * GdnMath.vb T l) i j : ℝ) : EReal) := by
  have e : C.solved (ix2 i ⟨j.val, by omega⟩) = ∑ x, inv6 C.low (ix2 i x) * (C.v (ix2 x j) * C.b (ix2 x 0)) := by
    pointwise [Chunk.solved, mmW, Chunk.strength]
  rw [e]
  simp only [h.v, h.b, h.low.inv i, ← EReal.coe_mul, coe_sum]
  rw [Matrix.mul_apply]
  rfl

theorem Holds.solved_k (h : Holds C T l) (i : Fin 64) (j : Fin 128) :
    C.solved (ix2 i ⟨128 + j.val, by omega⟩) = (((GdnMath.inv (GdnMath.mat T l) 6 * GdnMath.kbe T l) i j : ℝ) : EReal) := by
  have e : C.solved (ix2 i ⟨128 + j.val, by omega⟩) = ∑ x, inv6 C.low (ix2 i x) * (C.kb (ix2 x j) * C.grown (ix2 x j)) := by
    pointwise [Chunk.solved, mmW]
  rw [e]
  simp only [h.kb, grown_at h, h.low.inv i, ← EReal.coe_mul, coe_sum]
  rw [Matrix.mul_apply]
  rfl

variable {S : FVec Ideal S128x128 .f32} (hS : ∀ i j : Fin 128, S (ix2 i j) = ((GdnMath.state T l i j : ℝ) : EReal))
include hS

theorem Holds.wrote (h : Holds C T l) (i : Fin 64) (j : Fin 128) : C.wrote S (ix2 i j) = ((GdnMath.writes T l i j : ℝ) : EReal) := by
  have e : C.wrote S (ix2 i j) = C.solved (ix2 i ⟨j.val, by omega⟩) - ∑ d : Fin 128, C.solved (ix2 i ⟨128 + d.val, by omega⟩) * S (ix2 d j) := by
    pointwise [Chunk.wrote, mmS]
  rw [e, h.solved_v]
  simp only [h.solved_k, hS, dot_coe]
  rw [GdnMath.writes_eq, ← EReal.coe_sub]
  rfl

theorem Holds.read (h : Holds C T l) (i : Fin 64) (j : Fin 128) : C.read S (ix2 i j) = ((GdnMath.out T (l + i.val) j : ℝ) : EReal) := by
  have e : C.read S (ix2 i j) = (∑ d, (C.q (ix2 i d) * C.grown (ix2 i d)) * S (ix2 d j))
      + ∑ t, under lowerM (mulf (mmT C.q C.k) C.decays) (ix2 i t) * C.wrote S (ix2 t j) := by
    pointwise [Chunk.read, mmS, mmV]
  have e2 : ∀ t : Fin 64, under lowerM (mulf (mmT C.q C.k) C.decays) (ix2 i t)
      = (((if t.val ≤ i.val then (∑ d, T.q (l + i.val) d * T.k (l + t.val) d) * GdnMath.dec T l i t else 0) : ℝ) : EReal) := fun t => by
    rw [under_at _ _ i t _ (lower_at i t)]
    have e3 : mulf (mmT C.q C.k) C.decays (ix2 i t) = (∑ d, C.q (ix2 i d) * C.k (ix2 t d)) * C.decays (ix2 i t) := by
      pointwise [mmT]
    rw [e3, h.decays]
    simp only [h.q, h.k, dot_coe]
    rw [← EReal.coe_mul]
    split
    · rfl
    · exact EReal.coe_zero.symm
  rw [e]
  simp only [e2, h.wrote hS, h.q, grown_at h, hS, ← EReal.coe_mul, coe_sum]
  rw [← EReal.coe_add, GdnMath.out_eq]
  rfl

theorem Holds.next (h : Holds C T l) (i j : Fin 128) : C.next S (ix2 i j) = ((GdnMath.state T (l + 64) i j : ℝ) : EReal) := by
  have e : C.next S (ix2 i j) = S (ix2 i j) * Ideal.exp (C.g (ix2 63 0)) + ∑ x, C.k (ix2 x i) * Ideal.exp (C.g (ix2 63 0) - C.g (ix2 x 0)) * C.wrote S (ix2 x j) := by
    pointwise [Chunk.next, mmK, Chunk.last]
  rw [e]
  simp only [h.wrote hS, h.k, h.g, hS, ← EReal.coe_sub, Ideal.exp_coe, ← EReal.coe_mul, coe_sum]
  rw [← EReal.coe_add, GdnMath.state_eq]
  rfl

end Cert.GdnIdeal.Value

end

end
-- ==== Proof.GdnHeads.lean ====
/- A block of the delta-rule kernel that holds its tokens: its chunks' states and stored rows. -/
module

public import proofs.«01_k».proof.Proof.GdnSolve
public import proofs.«01_k».proof.Proof.GdnGates

@[expose] public section

set_option maxRecDepth 16384

noncomputable section

namespace Cert.GdnIdeal.Value

open Cert.GdnIdeal Cert.GdnIdeal.Gen Idealize.ShloMosaic Idealize.ShloMosaic.TcCoe Idealize.SL.Sem
open Cert.Scalar Cert.LruMath Cert.GdnSpec
open scoped BigOperators

/-! ## The scaled rows -/

theorem unitK_at (x : FVec Ideal S128x128 .f32) (i d : Fin 128) : unitK (F := Ideal) x (ix2 i d) = x (ix2 i d) * Ideal.rsqrt (squares fun d => x (ix2 i d)) := by
  pointwise [unitK, scaleOf]
  rfl

theorem unitQ_at (x : FVec Ideal S128x128 .f32) (i d : Fin 128) :
    unitQ (F := Ideal) x (ix2 i d) = x (ix2 i d) * Ideal.rsqrt (squares fun d => x (ix2 i d)) * Ideal.ofBits .f32 0x3DB504F3#32 := by
  pointwise [unitQ, scaleOf]
  exact (mul_assoc _ _ _).symm

theorem gated_at (o z : FVec Ideal S64x128 .f32) (n : FVec Ideal S1x128 .f32) (i : Fin 64) (d : Fin 128) :
    gated (F := Ideal) o z n (ix2 i d) = store (fun d => o (ix2 i d)) (n (ix2 0 d)) (z (ix2 i d)) d := by
  pointwise [gated]
  unfold store
  rw [half_tanh]

/-! ## The chunks' vectors, sliced -/

variable (B : Block Ideal) (a : Fin 2) (n : Fin 8)

theorem chunk_q (i : Fin 64) (d : Fin 128) :
    (B.chunk (cut a n)).q (ix2 i d) = unitQ (extractStridedSlice S128x128 ![0, 128 * n.val] B.q (cut a n).head) (ix2 ⟨64 * a.val + i.val, by omega⟩ d) := by
  pointwise [Block.chunk]

theorem chunk_k (i : Fin 64) (d : Fin 128) :
    (B.chunk (cut a n)).k (ix2 i d) = unitK (extractStridedSlice S128x128 ![0, 128 * n.val] B.k (cut a n).head) (ix2 ⟨64 * a.val + i.val, by omega⟩ d) := by
  pointwise [Block.chunk]

theorem head_at (X : FVec Ideal S128x1024 .f32) (h : S128x1024.Slices ![0, 128 * n.val] S128x128) (r d : Fin 128) :
    extractStridedSlice S128x128 ![0, 128 * n.val] X h (ix2 r d) = X (ix2 r ⟨128 * n.val + d.val, by omega⟩) := by
  pointwise

theorem chunk_v (i : Fin 64) (d : Fin 128) :
    (B.chunk (cut a n)).v (ix2 i d) = B.v (ix2 ⟨64 * a.val + i.val, by omega⟩ ⟨128 * n.val + d.val, by omega⟩) := by
  pointwise [Block.chunk]

theorem chunk_b (i : Fin 64) : (B.chunk (cut a n)).b (ix2 i 0) = B.b (ix2 ⟨64 * a.val + i.val, by omega⟩ ⟨8 + n.val, by omega⟩) := by
  pointwise [Block.chunk]

theorem chunk_g (i : Fin 64) : (B.chunk (cut a n)).g (ix2 i 0) = B.g (ix2 ⟨64 * a.val + i.val, by omega⟩ ⟨n.val, by omega⟩) := by
  pointwise [Block.chunk]

theorem chunk_gt (i : Fin 64) : (B.chunk (cut a n)).gt (ix2 0 i) = B.g (ix2 ⟨64 * a.val + i.val, by omega⟩ ⟨n.val, by omega⟩) := by
  pointwise [Block.chunk]

theorem gate_at (X : FVec Ideal S128x1024 .f32) (h : S128x1024.Slices ![64 * a.val, 128 * n.val] S64x128) (i : Fin 64) (d : Fin 128) :
    extractStridedSlice S64x128 ![64 * a.val, 128 * n.val] X h (ix2 i d) = X (ix2 ⟨64 * a.val + i.val, by omega⟩ ⟨128 * n.val + d.val, by omega⟩) := by
  pointwise

/-! ## The tokens of a block -/

/-- The block's vectors are those of rows `l`, `l + 1`, … of a sequence. -/
structure Good (B : Block Ideal) (p : Params) (s : Rows) (l : ℕ) : Prop where
  finite : Finite p s
  q : ∀ (r : Fin 128) (j : Fin 1024), B.q (ix2 r j) = act p s.x (l + r.val) (col 0 j)
  k : ∀ (r : Fin 128) (j : Fin 1024), B.k (ix2 r j) = act p s.x (l + r.val) (col 1 j)
  v : ∀ (r : Fin 128) (j : Fin 1024), B.v (ix2 r j) = act p s.x (l + r.val) (col 2 j)
  b : ∀ (r : Fin 128) (h : Fin 8), B.b (ix2 r ⟨8 + h.val, by omega⟩) = strength s h (l + r.val)
  g : ∀ (a : Fin 2) (i : Fin 64) (h : Fin 8), B.g (ix2 ⟨64 * a.val + i.val, by omega⟩ ⟨h.val, by omega⟩)
    = ((GdnMath.span (tokens p s h) (l + 64 * a.val) (i.val + 1) : ℝ) : EReal)

variable {B} {p : Params} {s : Rows} {l : ℕ}

/-- Then its chunks hold the tokens. -/
theorem Good.holds (h : Good B p s l) (a : Fin 2) (n : Fin 8) : Holds (B.chunk (cut a n)) (tokens p s n) (l + 64 * a.val) where
  q i d := by
    rw [chunk_q, unitQ_at, Nat.add_assoc, ← h.finite.query]
    simp only [head_at, h.q]
    rfl
  k i d := by
    rw [chunk_k, unitK_at, Nat.add_assoc, ← h.finite.key]
    simp only [head_at, h.k]
    rfl
  v i d := by
    rw [chunk_v, Nat.add_assoc, ← h.finite.value, h.v]
    rfl
  b i := by
    rw [chunk_b, Nat.add_assoc, ← strength_eq p, h.b]
  g i := by
    rw [chunk_g, h.g]
  gt i := by
    rw [chunk_gt, h.g]

variable {S : Fin 8 → FVec Ideal S128x128 .f32} (hS : ∀ n i j, S n (ix2 i j) = ((GdnMath.state (tokens p s n) l i j : ℝ) : EReal))
include hS

theorem Good.middle (h : Good B p s l) (n : Fin 8) (i j : Fin 128) : B.middle S n (ix2 i j) = ((GdnMath.state (tokens p s n) (l + 64) i j : ℝ) : EReal) :=
  Holds.next (fun i j => hS n i j) (h.holds 0 n) i j

theorem Good.final (h : Good B p s l) (n : Fin 8) (i j : Fin 128) : B.final S n (ix2 i j) = ((GdnMath.state (tokens p s n) (l + 128) i j : ℝ) : EReal) :=
  Holds.next (fun i j => h.middle hS n i j) (h.holds 1 n) i j

theorem Good.upper (h : Good B p s l) (n : Fin 8) (i : Fin 64) (d : Fin 128) :
    B.stored (cut 0 n) (S n) (ix2 i d) = store (fun d => ((GdnMath.out (tokens p s n) (l + (64 * 0 + i.val)) d : ℝ) : EReal)) (B.n (ix2 0 d))
      (B.z (ix2 ⟨64 * 0 + i.val, by omega⟩ ⟨128 * n.val + d.val, by omega⟩)) d := by
  unfold Block.stored
  rw [gated_at]
  have e := fun d => Holds.read (fun i j => hS n i j) (h.holds 0 n) i d
  simp only [e]
  refine congrArg₂ (fun o z => store o _ z d) (funext fun d => ?_) (gate_at 0 n B.z _ i d)
  exact congrArg (fun n' => ((GdnMath.out (tokens p s n) n' d : ℝ) : EReal)) (by show l + 64 * 0 + i.val = l + (64 * 0 + i.val); omega)

theorem Good.under (h : Good B p s l) (n : Fin 8) (i : Fin 64) (d : Fin 128) :
    B.stored (cut 1 n) (B.middle S n) (ix2 i d) = store (fun d => ((GdnMath.out (tokens p s n) (l + (64 * 1 + i.val)) d : ℝ) : EReal)) (B.n (ix2 0 d))
      (B.z (ix2 ⟨64 * 1 + i.val, by omega⟩ ⟨128 * n.val + d.val, by omega⟩)) d := by
  unfold Block.stored
  rw [gated_at]
  have e := fun d => Holds.read (fun i j => h.middle hS n i j) (h.holds 1 n) i d
  simp only [e]
  refine congrArg₂ (fun o z => store o _ z d) (funext fun d => ?_) (gate_at 1 n B.z _ i d)
  exact congrArg (fun n' => ((GdnMath.out (tokens p s n) n' d : ℝ) : EReal)) (by show l + 64 * 1 + i.val = l + (64 * 1 + i.val); omega)

omit hS

/-! ## The lists of stores -/

theorem place_emb (a : Fin 2) (n : Fin 8) (i : Fin 64) (d : Fin 128) :
    (place a n).emb (ix2 i d : S64x128.Idx) = (ix2 (⟨64 * a.val + i.val, by omega⟩ : Fin 128) (⟨128 * n.val + d.val, by omega⟩ : Fin 1024) : S128x1024.Idx) := by
  funext k
  refine Fin.ext ?_
  fin_cases k
  · show 64 * a.val + 1 * i.val = 64 * a.val + i.val
    omega
  · show 128 * n.val + 1 * d.val = 128 * n.val + d.val
    omega

theorem placeS_emb (n : Fin 8) (i j : Fin 128) : (placeS n).emb (ix3 (0 : Fin 1) i j : S1x128x128.Idx) = (ix3 n i j : S8x128x128.Idx) := by
  funext k
  refine Fin.ext ?_
  fin_cases k
  · show n.val + 1 * 0 = n.val
    omega
  · show 0 + 1 * i.val = i.val
    omega
  · show 0 + 1 * j.val = j.val
    omega

theorem mem_place (r : Fin 128) (j : Fin 1024) :
    (ix2 r j : S128x1024.Idx) ∈ (place ⟨r.val / 64, by omega⟩ ⟨j.val / 128, by omega⟩).set := by
  have e := place_emb ⟨r.val / 64, by omega⟩ ⟨j.val / 128, by omega⟩ ⟨r.val % 64, by omega⟩ ⟨j.val % 128, by omega⟩
  have e1 : (⟨64 * (r.val / 64) + r.val % 64, by omega⟩ : Fin 128) = r := Fin.ext (by show 64 * (r.val / 64) + r.val % 64 = r.val; omega)
  have e2 : (⟨128 * (j.val / 128) + j.val % 128, by omega⟩ : Fin 1024) = j := Fin.ext (by show 128 * (j.val / 128) + j.val % 128 = j.val; omega)
  rw [e1, e2] at e
  rw [← e]
  exact (place _ _).idx_mem _

theorem mem_placeS (n : Fin 8) (i j : Fin 128) : (ix3 n i j : S8x128x128.Idx) ∈ (placeS n).set := by
  rw [← placeS_emb n i j]
  exact (placeS n).idx_mem _

theorem mem_low {α : Type} (f g : Fin 8 → α) (n : Fin 8) : f n ∈ [g 7, g 6, g 5, g 4, g 3, g 2, g 1, g 0, f 7, f 6, f 5, f 4, f 3, f 2, f 1, f 0] := by
  fin_cases n <;> simp

theorem mem_high {α : Type} (f g : Fin 8 → α) (n : Fin 8) : g n ∈ [g 7, g 6, g 5, g 4, g 3, g 2, g 1, g 0, f 7, f 6, f 5, f 4, f 3, f 2, f 1, f 0] := by
  fin_cases n <;> simp

theorem mem_kept {α : Type} (f : Fin 8 → α) (n : Fin 8) : f n ∈ [f 7, f 6, f 5, f 4, f 3, f 2, f 1, f 0] := by
  fin_cases n <;> simp

theorem lifted_at (S : FVec Ideal S128x128 .f32) (i j : Fin 128) : shapeCast S1x128x128 S shapeCasts_S128x128_S1x128x128 (ix3 0 i j) = S (ix2 i j) := by
  pointwise

/-- What is stored under one placing is what any such list holds. -/
theorem stores_at (S : Fin 8 → FVec Ideal S128x128 .f32) (G : S128x1024.Idx → EReal)
    (hu : ∀ n i d, B.stored (cut 0 n) (S n) (ix2 i d) = G ((place 0 n).emb (ix2 i d : S64x128.Idx)))
    (hv : ∀ n i d, B.stored (cut 1 n) (B.middle S n) (ix2 i d) = G ((place 1 n).emb (ix2 i d : S64x128.Idx))) (r : Fin 128) (j : Fin 1024) :
    View.canon (Val := Elt Ideal) (s := S128x1024) (e := .f32) (B.stores S) (ix2 r j) = G (ix2 r j) := by
  have hu' : ∀ n x, (B.upper S n).2 x = G ((B.upper S n).1.emb x) := fun n x => by
    obtain ⟨i, d, rfl⟩ : ∃ (i : Fin 64) (d : Fin 128), x = (ix2 i d : S64x128.Idx) := ⟨x 0, x 1, eq_ix2 x⟩
    exact hu n i d
  have hv' : ∀ n x, (B.under S n).2 x = G ((B.under S n).1.emb x) := fun n x => by
    obtain ⟨i, d, rfl⟩ : ∃ (i : Fin 64) (d : Fin 128), x = (ix2 i d : S64x128.Idx) := ⟨x 0, x 1, eq_ix2 x⟩
    exact hv n i d
  refine View.canon_apply_of_pieces (Val := Elt Ideal) (S := S128x1024) (e := .f32) G (B.stores S) ?_ (ix2 r j) ?_
  · intro p hp
    simp only [Block.stores, List.mem_cons, List.not_mem_nil, or_false] at hp
    rcases hp with rfl | rfl | rfl | rfl | rfl | rfl | rfl | rfl | rfl | rfl | rfl | rfl | rfl | rfl | rfl | rfl
    exacts [hv' 7, hv' 6, hv' 5, hv' 4, hv' 3, hv' 2, hv' 1, hv' 0, hu' 7, hu' 6, hu' 5, hu' 4, hu' 3, hu' 2, hu' 1, hu' 0]
  · have hm := mem_place r j
    by_cases h : r.val < 64
    · have e : (⟨r.val / 64, by omega⟩ : Fin 2) = 0 := Fin.ext (by show r.val / 64 = 0; omega)
      rw [e] at hm
      exact ⟨_, mem_low (B.upper S) (B.under S) _, hm⟩
    · have e : (⟨r.val / 64, by omega⟩ : Fin 2) = 1 := Fin.ext (by show r.val / 64 = 1; omega)
      rw [e] at hm
      exact ⟨_, mem_high (B.upper S) (B.under S) _, hm⟩

/-- The same of the states, -/
theorem keeps_at (S : Fin 8 → FVec Ideal S128x128 .f32) (G : S8x128x128.Idx → EReal)
    (hk : ∀ n i j, B.final S n (ix2 i j) = G (ix3 n i j)) (n : Fin 8) (i j : Fin 128) :
    View.canon (Val := Elt Ideal) (s := S8x128x128) (e := .f32) (B.keeps S) (ix3 n i j) = G (ix3 n i j) := by
  have hk' : ∀ n x, (B.kept S n).2 x = G ((B.kept S n).1.emb x) := fun n x => by
    obtain ⟨z, i, j, rfl⟩ : ∃ (z : Fin 1) (i j : Fin 128), x = (ix3 z i j : S1x128x128.Idx) := ⟨x 0, x 1, x 2, eq_ix3 x⟩
    have z0 : z = 0 := Subsingleton.elim _ _
    subst z0
    refine Eq.trans ?_ ((hk n i j).trans (congrArg G (placeS_emb n i j).symm))
    exact lifted_at (B.final S n) i j
  refine View.canon_apply_of_pieces (Val := Elt Ideal) (S := S8x128x128) (e := .f32) G (B.keeps S) ?_ (ix3 n i j) ⟨_, mem_kept (B.kept S) n, mem_placeS n i j⟩
  intro p hp
  simp only [Block.keeps, List.mem_cons, List.not_mem_nil, or_false] at hp
  rcases hp with rfl | rfl | rfl | rfl | rfl | rfl | rfl | rfl
  exacts [hk' 7, hk' 6, hk' 5, hk' 4, hk' 3, hk' 2, hk' 1, hk' 0]

/-- whatever was stored before. -/
theorem canon_append {s : Shape} {e : EltTy} (L M : List (View.Piece (Elt Ideal) s e)) (y : s.Idx) (h : ∃ p ∈ L, y ∈ p.1.set) :
    View.canon (L ++ M) y = View.canon L y := by
  induction L with
  | nil => exact absurd h.choose_spec.1 List.not_mem_nil
  | cons p L ih =>
    by_cases hp : y ∈ p.1.set
    · obtain ⟨x, rfl⟩ := p.1.exists_idx_of_mem hp
      exact (View.canon_cons_emb p.1 p.2 (L ++ M) x).trans (View.canon_cons_emb p.1 p.2 L x).symm
    · rw [List.cons_append, View.canon_cons_of_not_mem p (L ++ M) hp, View.canon_cons_of_not_mem p L hp]
      obtain ⟨q, hq, hy⟩ := h
      rcases List.mem_cons.mp hq with rfl | hq
      · exact absurd hy hp
      · exact ih ⟨q, hq, hy⟩

end Cert.GdnIdeal.Value

end

end
-- ==== Proof.GdnValue.lean ====
/- The delta-rule kernel's result array: its blocks, its carried states, point by point, and what is stored. -/
module

public import proofs.«01_k».proof.Proof.GdnRows
public import proofs.«01_k».proof.Proof.GdnHeads

@[expose] public section

set_option maxRecDepth 16384

noncomputable section

namespace Cert.GdnIdeal.Value

open Cert.GdnIdeal Cert.GdnIdeal.Gen Idealize.ShloMosaic Idealize.ShloMosaic.TcCoe Idealize.SL.Sem
open Cert.Scalar Cert.LruMath Cert.GdnSpec
open scoped BigOperators

variable (m : (ℓ : Loc nD τ sig) → Buf (Elt Ideal) ℓ)

/-! ## The blocks -/

theorem batch_before (t : Fin cfg0.N) (h0 : ¬ t.val % 64 = 0) : batch ⟨t.val - 1, before_lt t⟩ = batch t :=
  Fin.ext (by show (t.val - 1) / 64 = t.val / 64; omega)

theorem start_before (t : Fin cfg0.N) (h0 : ¬ t.val % 64 = 0) : start ⟨t.val - 1, before_lt t⟩ + 128 = start t := by
  show (t.val - 1) % 64 * 128 + 128 = t.val % 64 * 128
  omega

theorem last_q (X : FVec Ideal S128x1024 .f32) (k : Fin 8) (j : Fin 1024) : k0_pay7 (F := Ideal) X (ix2 k j) = X (ix2 ⟨120 + k.val, by omega⟩ j) := by
  pointwise [k0_pay7]

theorem none_q (k : Fin 8) (j : Fin 1024) : k0_pay3 (F := Ideal) (ix2 k j) = 0 := by
  pointwise [k0_pay3]

theorem third_qA (c : Dev nD) (t : Fin cfg0.N) (h0 : t.val % 64 = 0) :
    Third (prm m c) (seq m c (batch t)).x 0 (start t) (X0_0 m c t) (k0_pay3 (F := Ideal)) (iblk m c 5 t) where
  block r j := block_q m c t r j
  halo k j _ := by
    have e : start t = 0 := by unfold start; omega
    rw [none_q, e, if_pos (by omega)]
  tap k j := tap_q m c t k j

theorem third_qB (c : Dev nD) (t : Fin cfg0.N) (h0 : ¬ t.val % 64 = 0) :
    Third (prm m c) (seq m c (batch t)).x 0 (start t) (X0_0 m c t) (outsAt0 m c (t.val - 1) (before_lt t)).2.2.1 (iblk m c 5 t) where
  block r j := block_q m c t r j
  halo k j _ := by
    have e := start_before t h0
    have hk := k.isLt
    rw [if_neg (by omega), halo_q m c ⟨t.val - 1, before_lt t⟩, last_q, block_q, batch_before t h0]
    exact congrArg (fun n => (seq m c (batch t)).x n (col 0 j)) (by show start ⟨t.val - 1, before_lt t⟩ + (120 + k.val) = start t + k.val - 8; omega)
  tap k j := tap_q m c t k j

theorem last_k (X : FVec Ideal S128x1024 .f32) (k : Fin 8) (j : Fin 1024) : k0_pay10 (F := Ideal) X (ix2 k j) = X (ix2 ⟨120 + k.val, by omega⟩ j) := by
  pointwise [k0_pay10]

theorem none_k (k : Fin 8) (j : Fin 1024) : k0_pay4 (F := Ideal) (ix2 k j) = 0 := by
  pointwise [k0_pay4]

theorem third_kA (c : Dev nD) (t : Fin cfg0.N) (h0 : t.val % 64 = 0) :
    Third (prm m c) (seq m c (batch t)).x 1 (start t) (X0_1 m c t) (k0_pay4 (F := Ideal)) (iblk m c 6 t) where
  block r j := block_k m c t r j
  halo k j _ := by
    have e : start t = 0 := by unfold start; omega
    rw [none_k, e, if_pos (by omega)]
  tap k j := tap_k m c t k j

theorem third_kB (c : Dev nD) (t : Fin cfg0.N) (h0 : ¬ t.val % 64 = 0) :
    Third (prm m c) (seq m c (batch t)).x 1 (start t) (X0_1 m c t) (outsAt0 m c (t.val - 1) (before_lt t)).2.2.2.1 (iblk m c 6 t) where
  block r j := block_k m c t r j
  halo k j _ := by
    have e := start_before t h0
    have hk := k.isLt
    rw [if_neg (by omega), halo_k m c ⟨t.val - 1, before_lt t⟩, last_k, block_k, batch_before t h0]
    exact congrArg (fun n => (seq m c (batch t)).x n (col 1 j)) (by show start ⟨t.val - 1, before_lt t⟩ + (120 + k.val) = start t + k.val - 8; omega)
  tap k j := tap_k m c t k j

theorem last_v (X : FVec Ideal S128x1024 .f32) (k : Fin 8) (j : Fin 1024) : k0_pay12 (F := Ideal) X (ix2 k j) = X (ix2 ⟨120 + k.val, by omega⟩ j) := by
  pointwise [k0_pay12]

theorem none_v (k : Fin 8) (j : Fin 1024) : k0_pay5 (F := Ideal) (ix2 k j) = 0 := by
  pointwise [k0_pay5]

theorem third_vA (c : Dev nD) (t : Fin cfg0.N) (h0 : t.val % 64 = 0) :
    Third (prm m c) (seq m c (batch t)).x 2 (start t) (X0_2 m c t) (k0_pay5 (F := Ideal)) (iblk m c 7 t) where
  block r j := block_v m c t r j
  halo k j _ := by
    have e : start t = 0 := by unfold start; omega
    rw [none_v, e, if_pos (by omega)]
  tap k j := tap_v m c t k j

theorem third_vB (c : Dev nD) (t : Fin cfg0.N) (h0 : ¬ t.val % 64 = 0) :
    Third (prm m c) (seq m c (batch t)).x 2 (start t) (X0_2 m c t) (outsAt0 m c (t.val - 1) (before_lt t)).2.2.2.2 (iblk m c 7 t) where
  block r j := block_v m c t r j
  halo k j _ := by
    have e := start_before t h0
    have hk := k.isLt
    rw [if_neg (by omega), halo_v m c ⟨t.val - 1, before_lt t⟩, last_v, block_v, batch_before t h0]
    exact congrArg (fun n => (seq m c (batch t)).x n (col 2 j)) (by show start ⟨t.val - 1, before_lt t⟩ + (120 + k.val) = start t + k.val - 8; omega)
  tap k j := tap_v m c t k j

/-- The summed rates of a block are its tokens' spans. -/
theorem spans (c : Dev nD) (t : Fin cfg0.N) (hf : Finite (prm m c) (seq m c (batch t))) (a : Fin 2) (i : Fin 64) (h : Fin 8) :
    k0_pay17 (F := Ideal) k0_pay15 (k0_pay16 (iblk m c 4 t) (iblk m c 8 t) (iblk m c 9 t)) (ix2 ⟨64 * a.val + i.val, by omega⟩ ⟨h.val, by omega⟩)
      = ((GdnMath.span (tokens (prm m c) (seq m c (batch t)) h) (start t + 64 * a.val) (i.val + 1) : ℝ) : EReal) := by
  rw [sums_at]
  refine win_span _ (start t) _ (fun n hn => ?_) a i
  unfold rateV
  rw [dif_pos hn, ← hf.rate]
  have ea := rows_a m c t ⟨n, hn⟩ h
  have e8 := (blk8 m c t ⟨h.val, by omega⟩).trans (lanes_at _ h)
  have e9 := (blk9 m c t ⟨h.val, by omega⟩).trans (lanes_at _ h)
  rw [ea, e8, e9]
  rfl

/-- The block of a point holds the rows it stages, -/
theorem good (c : Dev nD) (t : Fin cfg0.N) (hf : Finite (prm m c) (seq m c (batch t))) (H0 H1 H2 : FVec Ideal S8x1024 .f32)
    (h0 : Third (prm m c) (seq m c (batch t)).x 0 (start t) (X0_0 m c t) H0 (iblk m c 5 t))
    (h1 : Third (prm m c) (seq m c (batch t)).x 1 (start t) (X0_1 m c t) H1 (iblk m c 6 t))
    (h2 : Third (prm m c) (seq m c (batch t)).x 2 (start t) (X0_2 m c t) H2 (iblk m c 7 t)) :
    Good (blockOf (F := Ideal) (X0_0 m c t) (X0_1 m c t) (X0_2 m c t) (X0_3 m c t) (iblk m c 4 t) H0 H1 H2 (iblk m c 5 t) (iblk m c 6 t) (iblk m c 7 t) (iblk m c 8 t) (iblk m c 9 t) (iblk m c 10 t))
      (prm m c) (seq m c (batch t)) (start t) where
  finite := hf
  q r j := actQ_at _ _ _ _ _ _ _ h0 r j
  k r j := (congrFun (pay11_eq _ _ _) _).trans (actQ_at _ _ _ _ _ _ _ h1 r j)
  v r j := (congrFun (pay13_eq _ _ _) _).trans (actQ_at _ _ _ _ _ _ _ h2 r j)
  b r h := (strength_at _ r _).trans (congrArg _ (rows_b m c t r h))
  g a i h := spans m c t hf a i h

/-- at the start of a sequence -/
theorem good_A (c : Dev nD) (t : Fin cfg0.N) (hf : Finite (prm m c) (seq m c (batch t))) (h0 : t.val % 64 = 0) :
    Good (blockA m c t) (prm m c) (seq m c (batch t)) (start t) :=
  good m c t hf _ _ _ (third_qA m c t h0) (third_kA m c t h0) (third_vA m c t h0)

/-- and within it. -/
theorem good_B (c : Dev nD) (t : Fin cfg0.N) (hf : Finite (prm m c) (seq m c (batch t))) (h0 : ¬ t.val % 64 = 0) :
    Good (blockB m c t) (prm m c) (seq m c (batch t)) (start t) :=
  good m c t hf _ _ _ (third_qB m c t h0) (third_kB m c t h0) (third_vB m c t h0)

/-! ## The states -/

theorem dropped_at (S : FVec Ideal S1x128x128 .f32) (i j : Fin 128) : shapeCast S128x128 S shapeCasts_S1x128x128_S128x128 (ix2 i j) = S (ix3 0 i j) := by
  pointwise

theorem stateA_at (n : Fin 8) (i j : Fin 128) : stateA n (ix2 i j) = 0 := by
  have e : stateA n (ix2 i j) = ((View.whole cc0_scratch0).readCov (Val := Elt Ideal) [zeroState] (placeS n).toLoadRect : S1x128x128.Idx → Elt Ideal .f32) (ix3 0 i j) := by
    unfold stateA
    exact dropped_at _ i j
  rw [e, View.readCov_eq_canon']
  have e2 := View.canon_cons_unit_lit (Val := Elt Ideal) (S := S8x128x128) (e := .f32) (off := ![0, 0, 0]) inb_S8x128x128_S8x128x128_0_0_0 (k0_pay2 (F := Ideal)) [] (by decide)
  show View.canon (Val := Elt Ideal) (s := S8x128x128) (e := .f32) [zeroState] ((placeS n).emb _) = _
  rw [placeS_emb]
  refine (congrFun e2 _).trans ?_
  pointwise [k0_pay2]

theorem stateB_at (Z : FVec Ideal S8x128x128 .f32) (n : Fin 8) (i j : Fin 128) : stateB Z n (ix2 i j) = Z (ix3 n i j) := by
  unfold stateB
  refine (dropped_at _ i j).trans ?_
  rw [← placeS_emb n i j]
  rfl

/-- The states of a sequence's heads, one array. -/
def states (p : Params) (s : Rows) (l : ℕ) : FVec Ideal S8x128x128 .f32 := fun y => ((GdnMath.state (tokens p s (y 0)) l (y 1) (y 2) : ℝ) : EReal)

theorem states_A (c : Dev nD) (t : Fin cfg0.N) (h0 : t.val % 64 = 0) (n : Fin 8) (i j : Fin 128) :
    stateA n (ix2 i j) = ((GdnMath.state (tokens (prm m c) (seq m c (batch t)) n) (start t) i j : ℝ) : EReal) := by
  have e : start t = 0 := by unfold start; omega
  rw [stateA_at, e]
  rfl

theorem carry_A (c : Dev nD) (t : Fin cfg0.N) (hf : Finite (prm m c) (seq m c (batch t))) (h0 : t.val % 64 = 0) (n : Fin 8) (i j : Fin 128) :
    (outsAt0 m c t.val t.isLt).2.1 (ix3 n i j) = ((GdnMath.state (tokens (prm m c) (seq m c (batch t)) n) (start t + 128) i j : ℝ) : EReal) := by
  rw [kept_A m c t h0]
  refine (canon_append _ _ _ ⟨_, mem_kept ((blockA m c t).kept stateA) n, mem_placeS n i j⟩).trans ?_
  exact keeps_at stateA (states (prm m c) (seq m c (batch t)) (start t + 128)) (fun n i j => (good_A m c t hf h0).final (states_A m c t h0) n i j) n i j

theorem carry_B (c : Dev nD) (t : Fin cfg0.N) (hf : Finite (prm m c) (seq m c (batch t))) (h0 : ¬ t.val % 64 = 0)
    (hc : ∀ n i j, (outsAt0 m c (t.val - 1) (before_lt t)).2.1 (ix3 n i j) = ((GdnMath.state (tokens (prm m c) (seq m c (batch t)) n) (start t) i j : ℝ) : EReal)) (n : Fin 8) (i j : Fin 128) :
    (outsAt0 m c t.val t.isLt).2.1 (ix3 n i j) = ((GdnMath.state (tokens (prm m c) (seq m c (batch t)) n) (start t + 128) i j : ℝ) : EReal) := by
  rw [kept_B m c t h0]
  exact keeps_at _ (states (prm m c) (seq m c (batch t)) (start t + 128))
    (fun n i j => (good_B m c t hf h0).final (fun n i j => (stateB_at _ n i j).trans (hc n i j)) n i j) n i j

/-- The states left by every point. -/
theorem carry (c : Dev nD) (hf : ∀ b, Finite (prm m c) (seq m c b)) : ∀ (n : ℕ) (hn : n < cfg0.N) (h : Fin 8) (i j : Fin 128),
    (outsAt0 m c n hn).2.1 (ix3 h i j) = ((GdnMath.state (tokens (prm m c) (seq m c (batch ⟨n, hn⟩)) h) (start ⟨n, hn⟩ + 128) i j : ℝ) : EReal)
  | 0, hn, h, i, j => carry_A m c ⟨0, hn⟩ (hf _) rfl h i j
  | n + 1, hn, h, i, j => by
    by_cases h0 : (n + 1) % 64 = 0
    · exact carry_A m c ⟨n + 1, hn⟩ (hf _) h0 h i j
    · refine carry_B m c ⟨n + 1, hn⟩ (hf _) h0 (fun h i j => ?_) h i j
      have e := carry c hf n (Nat.lt_of_succ_lt hn) h i j
      have e1 := batch_before ⟨n + 1, hn⟩ h0
      have e2 := start_before ⟨n + 1, hn⟩ h0
      rw [← e1, ← e2]
      exact e

/-! ## The stored rows -/

/-- The norm's weights as the block has them. -/
theorem weights_at (NG : FVec Ideal S1x1x128 .f32) (d : Fin 128) : k0_pay30 (F := Ideal) NG (ix2 0 d) = NG (ix3 0 0 d) := by
  pointwise [k0_pay30]

/-- What point `t` stores. -/
def tile (c : Dev nD) (t : Fin cfg0.N) : S128x1024.Idx → EReal := fun y =>
  GdnSpec.result (prm m c) (seq m c (batch t)) ⟨(y 1).val / 128, by have h : (y 1).val < 1024 := (y 1).isLt; omega⟩ ((X0_3 m c t : FVec Ideal S128x1024 .f32) y) (start t + (y 0).val)
    ⟨(y 1).val % 128, Nat.mod_lt _ (by decide)⟩

theorem tile_at (c : Dev nD) (t : Fin cfg0.N) (a : Fin 2) (n : Fin 8) (i : Fin 64) (d : Fin 128) :
    tile m c t ((place a n).emb (ix2 i d : S64x128.Idx)) = store (fun d => ((GdnMath.out (tokens (prm m c) (seq m c (batch t)) n) (start t + (64 * a.val + i.val)) d : ℝ) : EReal))
      (k0_pay30 (F := Ideal) (iblk m c 10 t) (ix2 0 d)) ((X0_3 m c t : FVec Ideal S128x1024 .f32) (ix2 ⟨64 * a.val + i.val, by omega⟩ ⟨128 * n.val + d.val, by omega⟩)) d := by
  rw [place_emb, weights_at, blk10]
  have e1 : (⟨(128 * n.val + d.val) / 128, by omega⟩ : Fin 8) = n := Fin.ext (by show (128 * n.val + d.val) / 128 = n.val; omega)
  have e2 : (⟨(128 * n.val + d.val) % 128, Nat.mod_lt _ (by decide)⟩ : Fin 128) = d := Fin.ext (by show (128 * n.val + d.val) % 128 = d.val; omega)
  show GdnSpec.result (prm m c) (seq m c (batch t)) ⟨(128 * n.val + d.val) / 128, by omega⟩ _ (start t + (64 * a.val + i.val)) ⟨(128 * n.val + d.val) % 128, Nat.mod_lt _ (by decide)⟩ = _
  rw [e1, e2]
  rfl

theorem point_A (c : Dev nD) (t : Fin cfg0.N) (hf : Finite (prm m c) (seq m c (batch t))) (h0 : t.val % 64 = 0) (r : Fin 128) (j : Fin 1024) :
    (outsAt0 m c t.val t.isLt).1 (ix2 r j) = tile m c t (ix2 r j) := by
  rw [stored_A m c t h0]
  exact stores_at stateA (tile m c t) (fun n i d => ((good_A m c t hf h0).upper (states_A m c t h0) n i d).trans (tile_at m c t 0 n i d).symm)
    (fun n i d => ((good_A m c t hf h0).under (states_A m c t h0) n i d).trans (tile_at m c t 1 n i d).symm) r j

theorem point_B (c : Dev nD) (t : Fin cfg0.N) (hf : ∀ b, Finite (prm m c) (seq m c b)) (h0 : ¬ t.val % 64 = 0) (r : Fin 128) (j : Fin 1024) :
    (outsAt0 m c t.val t.isLt).1 (ix2 r j) = tile m c t (ix2 r j) := by
  have hc : ∀ n i j, stateB (outsAt0 m c (t.val - 1) (before_lt t)).2.1 n (ix2 i j) = ((GdnMath.state (tokens (prm m c) (seq m c (batch t)) n) (start t) i j : ℝ) : EReal) := fun n i j => by
    rw [stateB_at, ← batch_before t h0, ← start_before t h0]
    exact carry m c hf (t.val - 1) (before_lt t) n i j
  rw [stored_B m c t h0]
  exact stores_at _ (tile m c t) (fun n i d => ((good_B m c t (hf _) h0).upper hc n i d).trans (tile_at m c t 0 n i d).symm)
    (fun n i d => ((good_B m c t (hf _) h0).under hc n i d).trans (tile_at m c t 1 n i d).symm) r j

/-! ## The whole array -/

/-- The result array of the call, entry by entry. -/
def result (c : Dev nD) : FVec Ideal S16384x1024 .f32 := fun i =>
  GdnSpec.result (prm m c) (seq m c ⟨(i 0).val / 8192, by have h : (i 0).val < 16384 := (i 0).isLt; omega⟩) ⟨(i 1).val / 128, by have h : (i 1).val < 1024 := (i 1).isLt; omega⟩
    (A0 m c (ix2 (i 0) ⟨3072 + (i 1).val, by have h : (i 1).val < 1024 := (i 1).isLt; omega⟩)) ((i 0).val % 8192) ⟨(i 1).val % 128, Nat.mod_lt _ (by decide)⟩

/-- After the run the result buffer holds it. -/
theorem array_eq (c : Dev nD) (hf : ∀ b, Finite (prm m c) (seq m c b)) : (dats m 0 c).arrAt 11 cfg0.N = result m c := by
  refine (dats m 0 c).arrAt_eq_of_covers 11 _ (by decide +kernel) fun t hw y => ?_
  blk_simp
  rw [after0_11]
  obtain ⟨r, j, rfl⟩ : ∃ (r : Fin 128) (j : Fin 1024), y = ix2 r j := ⟨y 0, y 1, eq_ix2 y⟩
  have e : (win0_11.blk t).view.emb (ix2 r j) = ix2 (row t r) j := by
    unfold row
    blk_ext [idx t]
  rw [e]
  have ht := lt_of_lt_of_eq t.isLt N_0
  have e1 : batch t = ⟨(row t r).val / 8192, by have h := (row t r).isLt; omega⟩ := Fin.ext (by
    show t.val / 64 = (t.val * 128 + r.val) / 8192
    omega)
  have e2 : start t + r.val = (row t r).val % 8192 := by
    show t.val % 64 * 128 + r.val = (t.val * 128 + r.val) % 8192
    omega
  have hp : (outsAt0 m c t.val t.isLt).1 (ix2 r j) = GdnSpec.result (prm m c) (seq m c (batch t)) ⟨j.val / 128, by omega⟩ (A0 m c (ix2 (row t r) ⟨3072 + j.val, by omega⟩)) (start t + r.val)
      ⟨j.val % 128, Nat.mod_lt _ (by decide)⟩ := by
    rw [← blk3]
    by_cases h0 : t.val % 64 = 0
    · exact point_A m c t (hf _) h0 r j
    · exact point_B m c t hf h0 r j
  rw [e1, e2] at hp
  exact hp

end Cert.GdnIdeal.Value

end

end
-- ==== Proof.GdnPre.lean ====
/- The precondition of the delta rule's claim, read entry by entry. -/
module

public import proofs.«01_k».proof.Defs
public import proofs.«01_k».proof.Proof.GdnValue

@[expose] public section

set_option maxRecDepth 16384

noncomputable section

namespace Cert.GdnPre

open Cert.Pre_finite_tokens Idealize.ShloMosaic Idealize.ShloMosaic.TcCoe Cert.GdnSpec

/-- The shape relations the precondition's operations take. -/
instance facts : Cert.Pre_finite_tokens.Facts where
  slices_S16384x5376_S16384x1024_0_2048 := by decide
  slices_S16384x5376_S16384x8_0_5120 := by decide
  slices_S4x4x3072_S1x4x3072_0_0_0 := by decide
  shapeCasts_S1x4x3072_S4x3072 := by decide
  slices_S4x3072_S4x1024_0_2048 := by decide
  slices_S4x8_S1x8_0_0 := by decide
  shapeCasts_S1x8_S8 := by decide
  bcast_S_S16384x1024 := by decide
  bcast_S_S16384x8 := by decide
  bcast_S_S4x1024 := by decide
  bcast_S_S8 := by decide

open Cert.Pre_finite_tokens.Facts

/-- Which entries are zero when taken from themselves. -/
def unmoved {s : Shape} (h : S_.BroadcastsInDim s (![] : Fin 0 → Fin s.rank)) (v : FVec Ideal s .f32) : IVec s 1 :=
  cmpf .oeq (subf v v) (broadcastInDim s ![] h (constant S_ .f32 0x00000000#32))

theorem unmoved_at {s : Shape} (h : S_.BroadcastsInDim s (![] : Fin 0 → Fin s.rank)) (v : FVec Ideal s .f32) (i : s.Idx)
    (e : unmoved h v i = 1#1) : Real' (v i) := by
  refine Real'.of_sub ?_
  have e' : BitVec.ofBool (decide ((v i - v i : EReal) = Ideal.ofBits .f32 0x00000000#32)) = 1#1 := e
  have z : Ideal.ofBits .f32 0x00000000#32 = 0 := by simp [Ideal.ofBits, Ideal.ieee]
  by_contra hne
  rw [z, decide_eq_false hne] at e'
  exact absurd e' (by decide)

variable (a0 : FVec Ideal S16384x5376 .f32) (a1 : FVec Ideal S4x4x3072 .f32) (a2 : FVec Ideal S4x8 .f32)

def valuePart : FVec Ideal S16384x1024 .f32 := extractStridedSlice S16384x1024 ![0, 2048] a0 slices_S16384x5376_S16384x1024_0_2048
def decayPart : FVec Ideal S16384x8 .f32 := extractStridedSlice S16384x8 ![0, 5120] a0 slices_S16384x5376_S16384x8_0_5120
def tapsPart : FVec Ideal S4x1024 .f32 :=
  extractStridedSlice S4x1024 ![0, 2048] (shapeCast S4x3072 (extractStridedSlice S1x4x3072 ![0, 0, 0] a1 slices_S4x4x3072_S1x4x3072_0_0_0) shapeCasts_S1x4x3072_S4x3072) slices_S4x3072_S4x1024_0_2048
def headPart : FVec Ideal S8 .f32 := shapeCast S8 (extractStridedSlice S1x8 ![0, 0] a2 slices_S4x8_S1x8_0_0) shapeCasts_S1x8_S8

theorem valuePart_at (i : Fin 16384) (j : Fin 1024) : valuePart a0 (ix2 i j) = a0 (ix2 i ⟨2048 + j.val, by omega⟩) := by
  pointwise [valuePart]

theorem decayPart_at (i : Fin 16384) (h : Fin 8) : decayPart a0 (ix2 i h) = a0 (ix2 i ⟨5120 + h.val, by omega⟩) := by
  pointwise [decayPart]

theorem tapsPart_at (k : Fin 4) (j : Fin 1024) : tapsPart a1 (ix2 k j) = a1 (ix3 0 k ⟨2048 + j.val, by omega⟩) := by
  pointwise [tapsPart]

theorem headPart_at (h : Fin 8) : headPart a2 (ix1 h) = a2 (ix2 0 h) := by
  pointwise [headPart]

/-- The lane of the values' column `d`. -/
def valueLane (d : Fin 1024) : Fin 3072 := ⟨2048 + d.val, by omega⟩

/-- A lane from 2048 on is one of the values' lanes. -/
theorem of_values (j : Fin 3072) (hj : 2048 ≤ j.val) : ∃ d : Fin 1024, j = valueLane d :=
  ⟨⟨j.val - 2048, by omega⟩, Fin.ext (by dsimp only [valueLane]; omega)⟩

/-- Under the precondition the numbers the delta rule works from are real. -/
theorem finite (m : (ℓ : Loc Cert.GdnIdeal.nD Cert.GdnIdeal.τ Cert.GdnIdeal.sig) → Buf (Elt Ideal) ℓ)
    (hp : Cert.Pre_GdnIdeal_finite_tokens m) (c : Dev Cert.GdnIdeal.nD) (b : Fin 2) :
    Finite (Cert.GdnIdeal.Value.prm m c) (Cert.GdnIdeal.Value.seq m c b) := by
  obtain ⟨h0, h1, h2, h3, h4⟩ := hp c
  have hx : ∀ (i : Fin 16384) (j : Fin 1024), Real' (Cert.GdnIdeal.Value.A0 m c (ix2 i ⟨2048 + j.val, by omega⟩)) := fun i j => by
    have e := unmoved_at bcast_S_S16384x1024 (valuePart (Cert.GdnIdeal.Value.A0 m c)) (ix2 i j) (congrFun h0 (ix2 i j))
    rwa [valuePart_at] at e
  have ha : ∀ (i : Fin 16384) (h : Fin 8), Real' (Cert.GdnIdeal.Value.A0 m c (ix2 i ⟨5120 + h.val, by omega⟩)) := fun i h => by
    have e := unmoved_at bcast_S_S16384x8 (decayPart (Cert.GdnIdeal.Value.A0 m c)) (ix2 i h) (congrFun h1 (ix2 i h))
    rwa [decayPart_at] at e
  refine ⟨fun k j hj => ?_, fun h => ?_, fun h => ?_, fun n j hj => ?_, fun n h => ?_⟩
  · obtain ⟨d, rfl⟩ := of_values j hj
    have e := unmoved_at bcast_S_S4x1024 (tapsPart (Cert.GdnIdeal.Value.A1 m c)) (ix2 k d) (congrFun h2 (ix2 k d))
    rw [tapsPart_at] at e
    exact e
  · have e := unmoved_at bcast_S_S8 (headPart (Cert.GdnIdeal.Value.A2 m c)) (ix1 h) (congrFun h3 (ix1 h))
    rwa [headPart_at] at e
  · have e := unmoved_at bcast_S_S8 (headPart (Cert.GdnIdeal.Value.A3 m c)) (ix1 h) (congrFun h4 (ix1 h))
    rwa [headPart_at] at e
  · obtain ⟨d, rfl⟩ := of_values j hj
    unfold Cert.GdnIdeal.Value.seq
    dsimp only
    split
    · exact hx _ d
    · exact .zero
  · unfold Cert.GdnIdeal.Value.seq
    dsimp only
    split
    · exact ha _ _
    · exact .zero

end Cert.GdnPre

end

end
-- ==== Proof.GdnClaim.lean ====
/- The delta rule's claim: the kernel's array and the reference's are the same function of the arguments. -/
module

public import proofs.«01_k».proof.Defs
public import proofs.«01_k».proof.Proof.Gen.GdnIdeal
public import proofs.«01_k».proof.Proof.Gen.GdnRefIdeal
public import proofs.«01_k».proof.Proof.GdnRead
public import proofs.«01_k».proof.Proof.GdnPre

@[expose] public section

set_option maxRecDepth 16384

noncomputable section

namespace Cert.GdnClaim

open Idealize.ShloMosaic Idealize.ShloMosaic.TcCoe Idealize.SL.Sem

theorem claim : Cert.algebraic_GdnIdeal_GdnRefIdeal_pre_finite_tokens (hGdnIdeal := Cert.GdnIdeal.Gen.facts)
    (hGdnRefIdeal := Cert.GdnRefIdeal.Gen.facts) (hPre_finite_tokens := Cert.GdnPre.facts) := by
  intro m g m' g' hp hag
  refine ⟨fun c => Cert.GdnIdeal.Value.result m c,
    (θ_run _ _ _).mono (fun r h c => ⟨(h c).1.trans (Cert.GdnIdeal.Value.array_eq m c (Cert.GdnPre.finite m hp c)), (h c).2⟩) (Cert.GdnIdeal.Value.run_blocks m g),
    (θ_run _ _ _).mono (fun r h c => ⟨(h c).1.trans ?_, (h c).2⟩) (Cert.GdnRefIdeal.Value.run m' g')⟩
  obtain ⟨h0, h1, h2, h3, h4⟩ := hag c
  have e0 : Cert.GdnRefIdeal.Value.A0 m' c = Cert.GdnIdeal.Value.A0 m c := h0
  have e1 : Cert.GdnRefIdeal.Value.A1 m' c = Cert.GdnIdeal.Value.A1 m c := h1
  have e2 : Cert.GdnRefIdeal.Value.A2 m' c = Cert.GdnIdeal.Value.A2 m c := h2
  have e3 : Cert.GdnRefIdeal.Value.A3 m' c = Cert.GdnIdeal.Value.A3 m c := h3
  have e4 : Cert.GdnRefIdeal.Value.A4 m' c = Cert.GdnIdeal.Value.A4 m c := h4
  have ep : Cert.GdnRefIdeal.Value.prm m' c = Cert.GdnIdeal.Value.prm m c := by
    unfold Cert.GdnRefIdeal.Value.prm
    rw [e1, e2, e3, e4]
    rfl
  have er : ∀ b, Cert.GdnRefIdeal.Value.rows (Cert.GdnRefIdeal.Value.A0 m' c) b = Cert.GdnIdeal.Value.seq m c b := fun b => by
    rw [e0]
    rfl
  have hf : ∀ b, Cert.GdnSpec.Finite (Cert.GdnRefIdeal.Value.prm m' c) (Cert.GdnRefIdeal.Value.rows (Cert.GdnRefIdeal.Value.A0 m' c) b) := fun b => by
    rw [ep, er]
    exact Cert.GdnPre.finite m hp c b
  funext i
  obtain ⟨a, b, rfl⟩ : ∃ (a : Fin 16384) (b : Fin 1024), i = ix2 a b := ⟨i 0, i 1, eq_ix2 i⟩
  refine (Cert.GdnRefIdeal.Value.ref_at m' c hf a b).trans ?_
  rw [ep, er, e0]
  rfl

end Cert.GdnClaim

end

end
-- ==== Proof.FfnSpec.lean ====
/- The feed-forward call's mathematics at one entry: the SwiGLU hidden unit, the half-weighted residual sum over the
   5632 hidden units, and its layer normalisation. -/
module

public import proofs.«01_k».proof.Proof.Scalar

@[expose] public section

noncomputable section

namespace Cert.FfnSpec

open Idealize.ShloMosaic Cert.Scalar
open scoped BigOperators

/-- One hidden unit of the SwiGLU: `silu(x·g) · (x·u)` for a row `x` and the unit's gate and up columns. -/
def hiddenUnit (x wg wu : Fin 2048 → EReal) : EReal :=
  (∑ k, x k * wg k) * Ideal.logistic (∑ k, x k * wg k) * ∑ k, x k * wu k

/-- The residual sum at one column: `α·x + ½ · ∑ hidden · down`. -/
def preNorm (x : Fin 2048 → EReal) (wg wu : Fin 2048 → Fin 5632 → EReal) (wd : Fin 5632 → Fin 2048 → EReal)
    (j : Fin 2048) : EReal :=
  Ideal.ofBits .f32 0x3FD744FD#32 * x j
    + Ideal.ofBits .f32 0x3F000000#32 * ∑ l, hiddenUnit x (fun k => wg k l) (fun k => wu k l) * wd l j

/-- The call's result for one row at one column. -/
def ffn (x : Fin 2048 → EReal) (wg wu : Fin 2048 → Fin 5632 → EReal) (wd : Fin 5632 → Fin 2048 → EReal)
    (g b : EReal) (j : Fin 2048) : EReal :=
  layerNorm (preNorm x wg wu wd) g b j

end Cert.FfnSpec

end

end
-- ==== Proof.FfnRef.lean ====
/- The feed-forward reference read at one entry. -/
module

public import proofs.«01_k».proof.Proof.Gen.FfnRefIdeal.Run
public import proofs.«01_k».proof.Proof.FfnSpec
public import Idealize.ShloMosaic.Lib.Claim

@[expose] public section

set_option maxRecDepth 16384

noncomputable section

namespace Cert.FfnRefIdeal.Value

open Cert.FfnRefIdeal Cert.FfnRefIdeal.Gen Idealize.ShloMosaic Idealize.ShloMosaic.TcCoe Idealize.SL.Sem
open Cert.Scalar Cert.FfnSpec
open scoped BigOperators

/-- The product of the rows with one of the two input weights' first layer. -/
def inDot (X : FVec Ideal S16384x2048 .f32) (W : FVec Ideal S4x2048x5632 .f32) : FVec Ideal S16384x5632 .f32 :=
  Host.dotGeneral dot_S16384x2048_S2048x5632_S16384x5632_1_0_0_1_n_n none X
    (shapeCast _ (extractStridedSlice S1x2048x5632 ![0, 0, 0] W slices_S4x2048x5632_S1x2048x5632_0_0_0) shapeCasts_S1x2048x5632_S2048x5632)

/-- The hidden units. -/
def hid (X : FVec Ideal S16384x2048 .f32) (Wg Wu : FVec Ideal S4x2048x5632 .f32) : FVec Ideal S16384x5632 .f32 :=
  mulf (mulf (inDot X Wg) (Host.divf (broadcastInDim S16384x5632 ![] bcast_S_S16384x5632 (constant S_ .f32 0x3F800000#32))
    (addf (broadcastInDim S16384x5632 ![] bcast_S_S16384x5632 (constant S_ .f32 0x3F800000#32)) (Host.exp (Host.negf (inDot X Wg)))))) (inDot X Wu)

/-- The residual sum. -/
def pre (X : FVec Ideal S16384x2048 .f32) (Wg Wu : FVec Ideal S4x2048x5632 .f32) (Wd : FVec Ideal S4x5632x2048 .f32) : FVec Ideal S16384x2048 .f32 :=
  addf (mulf (broadcastInDim S16384x2048 ![] bcast_S_S16384x2048 (constant S_ .f32 0x3FD744FD#32)) X)
    (mulf (broadcastInDim S16384x2048 ![] bcast_S_S16384x2048 (constant S_ .f32 0x3F000000#32))
      (Host.dotGeneral dot_S16384x5632_S5632x2048_S16384x2048_1_0_0_1_n_n none (hid X Wg Wu)
        (shapeCast _ (extractStridedSlice S1x5632x2048 ![0, 0, 0] Wd slices_S4x5632x2048_S1x5632x2048_0_0_0) shapeCasts_S1x5632x2048_S5632x2048)))

/-- The row means of an array, as a column. -/
def meanCol (U : FVec Ideal S16384x2048 .f32) : FVec Ideal S16384x1 .f32 :=
  Host.divf (broadcastInDim S16384x1 ![0] bcast_S16384_S16384x1_0 (Host.reduceAdd U (constant S_ .f32 0x00000000#32) reducesTo_S16384x2048_S16384_d1 h_S_))
    (broadcastInDim S16384x1 ![] bcast_S_S16384x1 (constant S_ .f32 0x45000000#32))

/-- The rows centred. -/
def centre (U : FVec Ideal S16384x2048 .f32) : FVec Ideal S16384x2048 .f32 :=
  subf U (broadcastInDim S16384x2048 ![0, 1] bcast_S16384x1_S16384x2048_0_1 (meanCol U))

/-- The layer normalisation of every row. -/
def norm (U : FVec Ideal S16384x2048 .f32) (G B : FVec Ideal S4x2048 .f32) : FVec Ideal S16384x2048 .f32 :=
  addf (mulf (mulf (centre U) (broadcastInDim S16384x2048 ![0, 1] bcast_S16384x1_S16384x2048_0_1
      (Host.rsqrt (addf (meanCol (mulf (centre U) (centre U))) (broadcastInDim S16384x1 ![] bcast_S_S16384x1 (constant S_ .f32 0x3727C5AC#32))))))
      (broadcastInDim S16384x2048 ![0, 1] bcast_S1x2048_S16384x2048_0_1 (broadcastInDim S1x2048 ![1] bcast_S2048_S1x2048_1
        (shapeCast _ (extractStridedSlice S1x2048 ![0, 0] G slices_S4x2048_S1x2048_0_0) shapeCasts_S1x2048_S2048))))
    (broadcastInDim S16384x2048 ![0, 1] bcast_S1x2048_S16384x2048_0_1 (broadcastInDim S1x2048 ![1] bcast_S2048_S1x2048_1
      (shapeCast _ (extractStridedSlice S1x2048 ![0, 0] B slices_S4x2048_S1x2048_0_0) shapeCasts_S1x2048_S2048)))

theorem inDot_at (X : FVec Ideal S16384x2048 .f32) (W : FVec Ideal S4x2048x5632 .f32) (i : Fin 16384) (l : Fin 5632) :
    inDot X W (ix2 i l) = ∑ k : Fin 2048, X (ix2 i k) * W (ix3 0 k l) := by
  pointwise [inDot]

theorem hid_at (X : FVec Ideal S16384x2048 .f32) (Wg Wu : FVec Ideal S4x2048x5632 .f32) (i : Fin 16384) (l : Fin 5632) :
    hid X Wg Wu (ix2 i l) = hiddenUnit (fun k => X (ix2 i k)) (fun k => Wg (ix3 0 k l)) (fun k => Wu (ix3 0 k l)) := by
  pointwise [hid, inDot_at, hiddenUnit]
  rfl

theorem pre_at (X : FVec Ideal S16384x2048 .f32) (Wg Wu : FVec Ideal S4x2048x5632 .f32) (Wd : FVec Ideal S4x5632x2048 .f32) (i : Fin 16384) (j : Fin 2048) :
    pre X Wg Wu Wd (ix2 i j) = preNorm (fun k => X (ix2 i k)) (fun k l => Wg (ix3 0 k l)) (fun k l => Wu (ix3 0 k l)) (fun l j => Wd (ix3 0 l j)) j := by
  pointwise [pre, hid_at, preNorm]

theorem norm_at (U : FVec Ideal S16384x2048 .f32) (G B : FVec Ideal S4x2048 .f32) (i : Fin 16384) (j : Fin 2048) :
    norm U G B (ix2 i j) = layerNorm (fun k => U (ix2 i k)) (G (ix2 0 j)) (B (ix2 0 j)) j := by
  pointwise [norm, centre, meanCol, layerNorm, mean]

/-- The reference's result at one entry. -/
theorem ref_at (m : (ℓ : Loc nD τ sig) → Buf (Elt Ideal) ℓ) (c : Dev nD) (i : Fin 16384) (j : Fin 2048) :
    res_out0 m c (ix2 i j) = ffn
      (fun k => (m ((c.tc : Thread nD τ).loc main_arg0) : FVec Ideal S16384x2048 .f32) (ix2 i k))
      (fun k l => (m ((c.tc : Thread nD τ).loc main_arg1) : FVec Ideal S4x2048x5632 .f32) (ix3 0 k l))
      (fun k l => (m ((c.tc : Thread nD τ).loc main_arg2) : FVec Ideal S4x2048x5632 .f32) (ix3 0 k l))
      (fun l j => (m ((c.tc : Thread nD τ).loc main_arg3) : FVec Ideal S4x5632x2048 .f32) (ix3 0 l j))
      ((m ((c.tc : Thread nD τ).loc main_arg4) : FVec Ideal S4x2048 .f32) (ix2 0 j))
      ((m ((c.tc : Thread nD τ).loc main_arg5) : FVec Ideal S4x2048 .f32) (ix2 0 j)) j := by
  have e : res_out0 m c = norm (pre (m ((c.tc : Thread nD τ).loc main_arg0)) (m ((c.tc : Thread nD τ).loc main_arg1))
      (m ((c.tc : Thread nD τ).loc main_arg2)) (m ((c.tc : Thread nD τ).loc main_arg3)))
      (m ((c.tc : Thread nD τ).loc main_arg4)) (m ((c.tc : Thread nD τ).loc main_arg5)) := rfl
  rw [e, norm_at]
  unfold ffn
  congr 1
  funext k
  exact pre_at _ _ _ _ i k

end Cert.FfnRefIdeal.Value

end

end
-- ==== Proof.FfnValue.lean ====
/- The feed-forward kernel's result array: what the accumulator holds after each point of a row block's sweep over the
   hidden units, and the normalised rows the last point of the sweep stores. -/
module

public import proofs.«01_k».proof.Proof.Gen.FfnIdeal.Value
public import proofs.«01_k».proof.Proof.FfnSpec
public import Idealize.ShloMosaic.Lib.Pipeline.ValueKit
public import Idealize.ShloMosaic.Lib.Pipeline.ReadBack
public import Idealize.ShloMosaic.Lib.Claim

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)
open Cert.Scalar Cert.FfnSpec
open scoped BigOperators

/-! ## The stored vectors at an entry -/

/-- The carried block is the row block itself. -/
theorem pay1_at (v : FVec Ideal S1024x2048 .f32) (r : Fin 1024) (k : Fin 2048) :
    k0_pay1 (F := Ideal) v (ix2 r k) = v (ix2 r k) := by
  pointwise [k0_pay1]

/-- The accumulator begins at 2α times the row block. -/
theorem pay2_at (v : FVec Ideal S1024x2048 .f32) (r : Fin 1024) (k : Fin 2048) :
    k0_pay2 (F := Ideal) v (ix2 r k) = Ideal.ofBits .f32 0x405744FD#32 * v (ix2 r k) := by
  pointwise [k0_pay2]

/-- Each point adds the products of its 256 hidden units with their down rows. -/
theorem pay3_at (x : FVec Ideal S1024x2048 .bf16) (g u : FVec Ideal S1x2048x256 .bf16) (acc : FVec Ideal S1024x2048 .f32)
    (d : FVec Ideal S1x256x2048 .bf16) (r : Fin 1024) (j : Fin 2048) :
    k0_pay3 (F := Ideal) x g u acc d (ix2 r j) = acc (ix2 r j)
      + ∑ l : Fin 256, hiddenUnit (fun k => x (ix2 r k)) (fun k => g (ix3 0 k l)) (fun k => u (ix3 0 k l)) * d (ix3 0 l j) := by
  pointwise [k0_pay3, half_tanh, hiddenUnit]

/-- The last point stores the normalised half of the accumulator. -/
theorem pay4_at (acc : FVec Ideal S1024x2048 .f32) (g b : FVec Ideal S1x1x2048 .f32) (r : Fin 1024) (j : Fin 2048) :
    k0_pay4 (F := Ideal) acc g b (ix2 r j)
      = layerNorm (fun k => Ideal.ofBits .f32 0x3F000000#32 * acc (ix2 r k)) (g (ix3 0 0 j)) (b (ix3 0 0 j)) j := by
  pointwise [k0_pay4, layerNorm, mean]

/-- The windows' block indices at a point of the grid. -/
theorem idx : ∀ t : Fin cfg0.N, win0_0.index t = ![t.val / 22, 0] ∧ win0_1.index t = ![0, 0, t.val % 22]
    ∧ win0_2.index t = ![0, 0, t.val % 22] ∧ win0_3.index t = ![0, t.val % 22, 0] ∧ win0_4.index t = ![0, 0, 0]
    ∧ win0_5.index t = ![0, 0, 0] ∧ win0_6.index t = ![t.val / 22, 0] :=
  (by decide +kernel : ∀ t : Fin grid0.N, _)

variable (m : (ℓ : Loc nD τ sig) → Buf (Elt Ideal) ℓ)

/-! ## The staged blocks as entries of the arguments -/

/-- Row `r` of the row block of point `t`. -/
def row (t : Fin cfg0.N) (r : Fin 1024) : Fin 16384 :=
  ⟨t.val / 22 * 1024 + r.val, by have h := lt_of_lt_of_eq t.isLt N_0; omega⟩

/-- Unit `l` of the 256 hidden units of point `t`. -/
def unit (t : Fin cfg0.N) (l : Fin 256) : Fin 5632 :=
  ⟨t.val % 22 * 256 + l.val, by omega⟩

theorem blk0 (c : Dev nD) (t : Fin cfg0.N) (r : Fin 1024) (k : Fin 2048) :
    (iblk m c 0 t : FVec Ideal S1024x2048 .f32) (ix2 r k)
      = (m ((c.tc : Thread nD τ).loc main_arg0) : FVec Ideal S16384x2048 .f32) (ix2 (row t r) k) := by
  unfold row iblk
  entry_read
  blk_point [idx t]

theorem blk1 (c : Dev nD) (t : Fin cfg0.N) (k : Fin 2048) (l : Fin 256) :
    (iblk m c 1 t : FVec Ideal S1x2048x256 .bf16) (ix3 0 k l)
      = (m ((c.tc : Thread nD τ).loc main_arg1) : FVec Ideal S4x2048x5632 .f32) (ix3 0 k (unit t l)) := by
  unfold unit
  unfold iblk
  entry_read
  blk_point [idx t]

theorem blk2 (c : Dev nD) (t : Fin cfg0.N) (k : Fin 2048) (l : Fin 256) :
    (iblk m c 2 t : FVec Ideal S1x2048x256 .bf16) (ix3 0 k l)
      = (m ((c.tc : Thread nD τ).loc main_arg2) : FVec Ideal S4x2048x5632 .f32) (ix3 0 k (unit t l)) := by
  unfold unit
  unfold iblk
  entry_read
  blk_point [idx t]

theorem blk3 (c : Dev nD) (t : Fin cfg0.N) (l : Fin 256) (j : Fin 2048) :
    (iblk m c 3 t : FVec Ideal S1x256x2048 .bf16) (ix3 0 l j)
      = (m ((c.tc : Thread nD τ).loc main_arg3) : FVec Ideal S4x5632x2048 .f32) (ix3 0 (unit t l) j) := by
  unfold unit
  unfold iblk
  entry_read
  blk_point [idx t]

theorem blk4 (c : Dev nD) (t : Fin cfg0.N) (j : Fin 2048) :
    (iblk m c 4 t : FVec Ideal S1x1x2048 .f32) (ix3 0 0 j)
      = (m ((c.tc : Thread nD τ).loc main_arg4) : FVec Ideal S4x2048 .f32) (ix2 0 j) := by
  unfold iblk
  entry_read
  blk_simp [idx t]
  pointwise
  blk_point [idx t]

theorem blk5 (c : Dev nD) (t : Fin cfg0.N) (j : Fin 2048) :
    (iblk m c 5 t : FVec Ideal S1x1x2048 .f32) (ix3 0 0 j)
      = (m ((c.tc : Thread nD τ).loc main_arg5) : FVec Ideal S4x2048 .f32) (ix2 0 j) := by
  unfold iblk
  entry_read
  blk_simp [idx t]
  pointwise
  blk_point [idx t]

/-! ## The sweep over the hidden units -/

/-- The arguments as arrays: the rows, -/
abbrev A0 (c : Dev nD) : FVec Ideal S16384x2048 .f32 := m ((c.tc : Thread nD τ).loc main_arg0)
/-- the gate weights, -/
abbrev A1 (c : Dev nD) : FVec Ideal S4x2048x5632 .f32 := m ((c.tc : Thread nD τ).loc main_arg1)
/-- the up weights, -/
abbrev A2 (c : Dev nD) : FVec Ideal S4x2048x5632 .f32 := m ((c.tc : Thread nD τ).loc main_arg2)
/-- and the down weights. -/
abbrev A3 (c : Dev nD) : FVec Ideal S4x5632x2048 .f32 := m ((c.tc : Thread nD τ).loc main_arg3)

/-- What hidden unit `l` adds to row `i` at column `j`. -/
def unitTerm (c : Dev nD) (i : Fin 16384) (j : Fin 2048) (l : Fin 5632) : EReal :=
  hiddenUnit (fun k => A0 m c (ix2 i k)) (fun k => A1 m c (ix3 0 k l)) (fun k => A2 m c (ix3 0 k l)) * A3 m c (ix3 0 l j)

/-- The same at a number, nothing past the last unit. -/
def term (c : Dev nD) (i : Fin 16384) (j : Fin 2048) (l : ℕ) : EReal :=
  if h : l < 5632 then unitTerm m c i j ⟨l, h⟩ else 0

/-- What a point adds is the run of its 256 units' terms. -/
theorem point_sum (c : Dev nD) (t : Fin cfg0.N) (r : Fin 1024) (j : Fin 2048) :
    (∑ l : Fin 256, hiddenUnit (fun k => A0 m c (ix2 (row t r) k)) (fun k => A1 m c (ix3 0 k (unit t l)))
        (fun k => A2 m c (ix3 0 k (unit t l))) * A3 m c (ix3 0 (unit t l) j))
      = ∑ l ∈ Finset.range 256, term m c (row t r) j (t.val % 22 * 256 + l) := by
  rw [Finset.sum_range]
  refine Finset.sum_congr rfl fun l _ => ?_
  have h : t.val % 22 * 256 + l.val < 5632 := (unit t l).isLt
  unfold term
  rw [dif_pos h]
  rfl

/-- The first point of a sweep. -/
theorem first (c : Dev nD) (t : Fin cfg0.N) (h0 : t.val % 22 = 0) (r : Fin 1024) (j : Fin 2048) :
    (outsAt0 m c t.val t.isLt).1 (ix2 r j) = Ideal.ofBits .f32 0x405744FD#32 * A0 m c (ix2 (row t r) j)
        + ∑ l ∈ Finset.range 256, term m c (row t r) j (t.val % 22 * 256 + l)
      ∧ (outsAt0 m c t.val t.isLt).2 (ix2 r j) = A0 m c (ix2 (row t r) j) := by
  have h1 : ¬t.val % 22 = 21 := by omega
  constructor
  · rw [outsAt0_A m c t h0 h1, ← point_sum]
    frame_out
    rw [pay3_at, pay2_at]
    simp only [pay1_at]
    simp only [blk0, blk1, blk2, blk3]
  · rw [outsAt0_A m c t h0 h1]
    frame_out
    rw [pay1_at, blk0]

/-- A point inside a sweep adds its units and keeps the carried rows. -/
theorem inner (c : Dev nD) (t : Fin cfg0.N) (h0 : ¬t.val % 22 = 0) (h1 : ¬t.val % 22 = 21)
    (hx : ∀ (r : Fin 1024) (k : Fin 2048), (outsAt0 m c (t.val - 1) (Nat.lt_of_le_of_lt (Nat.sub_le _ _) t.isLt)).2 (ix2 r k) = A0 m c (ix2 (row t r) k))
    (r : Fin 1024) (j : Fin 2048) :
    (outsAt0 m c t.val t.isLt).1 (ix2 r j)
        = (outsAt0 m c (t.val - 1) (Nat.lt_of_le_of_lt (Nat.sub_le _ _) t.isLt)).1 (ix2 r j)
          + ∑ l ∈ Finset.range 256, term m c (row t r) j (t.val % 22 * 256 + l)
      ∧ (outsAt0 m c t.val t.isLt).2 (ix2 r j) = A0 m c (ix2 (row t r) j) := by
  constructor
  · rw [outsAt0_B m c t h0 h1, ← point_sum]
    frame_out
    rw [pay3_at]
    simp only [read_unread_whole]
    simp only [hx, blk1, blk2, blk3]
  · rw [outsAt0_B m c t h0 h1]
    exact hx r j

/-- After each point but the last of a sweep: the accumulator, and the carried rows. -/
theorem sweep (c : Dev nD) : ∀ (n : ℕ) (hn : n < cfg0.N), n % 22 ≤ 20 → ∀ (r : Fin 1024) (j : Fin 2048),
    (outsAt0 m c n hn).1 (ix2 r j) = Ideal.ofBits .f32 0x405744FD#32 * A0 m c (ix2 (row ⟨n, hn⟩ r) j)
        + ∑ l ∈ Finset.range (n % 22 * 256 + 256), term m c (row ⟨n, hn⟩ r) j l
      ∧ (outsAt0 m c n hn).2 (ix2 r j) = A0 m c (ix2 (row ⟨n, hn⟩ r) j) := by
  intro n
  induction n with
  | zero =>
    intro hn _ r j
    have h := first m c ⟨0, hn⟩ rfl r j
    simpa using h
  | succ n ih =>
    intro hn hle r j
    by_cases h0 : (n + 1) % 22 = 0
    · have h := first m c ⟨n + 1, hn⟩ h0 r j
      simpa [h0] using h
    · have hn' : n < cfg0.N := by omega
      have hrow : ∀ r, row ⟨n, hn'⟩ r = row ⟨n + 1, hn⟩ r := fun r => by
        unfold row; congr 3; show n / 22 = (n + 1) / 22; omega
      have hp := ih hn' (by omega)
      have h := inner m c ⟨n + 1, hn⟩ h0 (show ¬(n + 1) % 22 = 21 by omega)
        (fun r k => ((hp r k).2).trans (by rw [hrow])) r j
      refine ⟨h.1.trans ?_, h.2⟩
      have e : n % 22 * 256 + 256 = (n + 1) % 22 * 256 := by omega
      refine (congrArg (· + _) ((hp r j).1)).trans ?_
      rw [hrow, add_assoc, e, ← Finset.sum_range_add]

/-- The runs of all points together are the sum over the hidden units. -/
theorem all_units (c : Dev nD) (i : Fin 16384) (j : Fin 2048) :
    ∑ l ∈ Finset.range (21 * 256 + 256), term m c i j l = ∑ l : Fin 5632, unitTerm m c i j l := by
  rw [Finset.sum_range]
  refine Finset.sum_congr rfl fun l _ => ?_
  unfold term
  rw [dif_pos l.isLt]

/-- The last point of a sweep stores the normalised residual sum. -/
theorem last (c : Dev nD) (t : Fin cfg0.N) (h1 : t.val % 22 = 21) (r : Fin 1024) (j : Fin 2048) :
    (outsAt0 m c t.val t.isLt).1 (ix2 r j)
      = ffn (fun k => A0 m c (ix2 (row t r) k)) (fun k l => A1 m c (ix3 0 k l)) (fun k l => A2 m c (ix3 0 k l))
          (fun l j => A3 m c (ix3 0 l j))
          ((m ((c.tc : Thread nD τ).loc main_arg4) : FVec Ideal S4x2048 .f32) (ix2 0 j))
          ((m ((c.tc : Thread nD τ).loc main_arg5) : FVec Ideal S4x2048 .f32) (ix2 0 j)) j := by
  have h0 : ¬t.val % 22 = 0 := by omega
  have hn' : t.val - 1 < cfg0.N := Nat.lt_of_le_of_lt (Nat.sub_le _ _) t.isLt
  have hrow : ∀ r, row ⟨t.val - 1, hn'⟩ r = row t r := fun r => by
    unfold row; congr 3; show (t.val - 1) / 22 = t.val / 22; omega
  have hp := sweep m c (t.val - 1) hn' (by omega)
  simp only [hrow] at hp
  rw [outsAt0_C m c t h0 h1]
  frame_out
  rw [pay4_at]
  simp only [pay3_at, read_unread_whole]
  simp only [(hp _ _).1, (hp _ _).2, blk1, blk2, blk3, blk4, blk5, point_sum]
  unfold ffn
  congr 1
  funext k
  have e : (t.val - 1) % 22 * 256 + 256 = t.val % 22 * 256 := by omega
  rw [add_assoc, e, ← Finset.sum_range_add, half_acc, h1]
  refine congrArg (fun s => Ideal.ofBits .f32 0x3FD744FD#32 * A0 m c (ix2 (row t r) k) + Ideal.ofBits .f32 0x3F000000#32 * s) ?_
  exact all_units m c (row t r) k

/-! ## The whole array -/

/-- The result array of the call, entry by entry. -/
def result (c : Dev nD) : FVec Ideal S16384x2048 .f32 := fun i =>
  ffn (fun k => A0 m c (ix2 (i 0) k)) (fun k l => A1 m c (ix3 0 k l)) (fun k l => A2 m c (ix3 0 k l))
    (fun l j => A3 m c (ix3 0 l j))
    ((m ((c.tc : Thread nD τ).loc main_arg4) : FVec Ideal S4x2048 .f32) (ix2 0 (i 1)))
    ((m ((c.tc : Thread nD τ).loc main_arg5) : FVec Ideal S4x2048 .f32) (ix2 0 (i 1))) (i 1)

/-- After the run the result buffer holds it. -/
theorem array_eq (c : Dev nD) : (dats m 0 c).arrAt 6 cfg0.N = result m c := by
  refine (dats m 0 c).arrAt_eq_of_covers 6 _ (by decide +kernel) fun t hf y => ?_
  have h1 : t.val % 22 = 21 := (flush0_6 t).mp hf
  blk_simp
  rw [after0_6]
  obtain ⟨r, j, rfl⟩ : ∃ (r : Fin 1024) (j : Fin 2048), y = ix2 r j := ⟨y 0, y 1, eq_ix2 y⟩
  have e : (win0_6.blk t).view.emb (ix2 r j) = ix2 (row t r) j := by
    unfold row
    blk_ext [idx t]
  rw [e]
  exact last m c t h1 r j

end Cert.FfnIdeal.Value

end

end
-- ==== Proof.FfnClaim.lean ====
/- The feed-forward claim: the kernel's array and the reference's are the same function of the arguments. -/
module

public import proofs.«01_k».proof.Defs
public import proofs.«01_k».proof.Proof.Gen.FfnIdeal
public import proofs.«01_k».proof.Proof.Gen.FfnRefIdeal
public import proofs.«01_k».proof.Proof.FfnRef
public import proofs.«01_k».proof.Proof.FfnValue

@[expose] public section

set_option maxRecDepth 16384

noncomputable section

namespace Cert.FfnClaim

open Idealize.ShloMosaic Idealize.ShloMosaic.TcCoe Idealize.SL.Sem

theorem claim : Cert.algebraic_FfnIdeal_FfnRefIdeal (hFfnIdeal := Cert.FfnIdeal.Gen.facts) (hFfnRefIdeal := Cert.FfnRefIdeal.Gen.facts) := by
  intro m g m' g' _ hag
  refine ⟨fun c => Cert.FfnIdeal.Value.result m c,
    (θ_run _ _ _).mono (fun r h c => ⟨(h c).1.trans (Cert.FfnIdeal.Value.array_eq m c), (h c).2⟩) (Cert.FfnIdeal.Value.run_blocks m g),
    (θ_run _ _ _).mono (fun r h c => ⟨(h c).1.trans ?_, (h c).2⟩) (Cert.FfnRefIdeal.Value.run m' g')⟩
  obtain ⟨h0, h1, h2, h3, h4, h5⟩ := hag c
  funext i
  obtain ⟨a, b, rfl⟩ : ∃ (a : Fin 16384) (b : Fin 2048), i = ix2 a b := ⟨i 0, i 1, eq_ix2 i⟩
  refine (Cert.FfnRefIdeal.Value.ref_at m' c a b).trans ?_
  rw [h0, h1, h2, h3, h4, h5]
  rfl

end Cert.FfnClaim

end

end
-- ==== Proof.OutRef.lean ====
/- The output reference read at one entry. -/
module

public import proofs.«01_k».proof.Proof.Gen.OutProjRefIdeal.Run
public import proofs.«01_k».proof.Proof.OutSpec
public import Idealize.ShloMosaic.Lib.Claim

@[expose] public section

set_option maxRecDepth 16384

noncomputable section

namespace Cert.OutProjRefIdeal.Value

open Cert.OutProjRefIdeal Cert.OutProjRefIdeal.Gen Idealize.ShloMosaic Idealize.ShloMosaic.TcCoe Idealize.SL.Sem
open Cert.Scalar Cert.OutSpec
open scoped BigOperators

/-- The first branch with its channel groups side by side. -/
def side (S : FVec Ideal S4x16384x128 .f32) : FVec Ideal S16384x512 .f32 :=
  shapeCast _ (transpose S16384x4x128 [1, 0, 2] S transposes_S4x16384x128_S16384x4x128_1_0_2) shapeCasts_S16384x4x128_S16384x512

/-- Its activation. -/
def act (V : FVec Ideal S16384x512 .f32) : FVec Ideal S16384x512 .f32 :=
  mulf V (mulf (broadcastInDim S16384x512 ![] bcast_S_S16384x512 (constant S_ .f32 0x3F000000#32))
    (addf (broadcastInDim S16384x512 ![] bcast_S_S16384x512 (constant S_ .f32 0x3F800000#32))
      (Host.tanh (mulf (broadcastInDim S16384x512 ![] bcast_S_S16384x512 (constant S_ .f32 0x3F4C422A#32))
        (addf V (mulf (broadcastInDim S16384x512 ![] bcast_S_S16384x512 (constant S_ .f32 0x3D372713#32)) (mulf (mulf V V) V)))))))

/-- The gate's argument. -/
def gateArg (Y : FVec Ideal S16384x512 .f32) (W : FVec Ideal S4x512x512 .f32) (B : FVec Ideal S4x512 .f32) : FVec Ideal S16384x512 .f32 :=
  addf (Host.dotGeneral dot_S16384x512_S512x512_S16384x512_1_0_0_1_n_n none Y
      (shapeCast _ (extractStridedSlice S1x512x512 ![0, 0, 0] W slices_S4x512x512_S1x512x512_0_0_0) shapeCasts_S1x512x512_S512x512))
    (broadcastInDim S16384x512 ![0, 1] bcast_S1x512_S16384x512_0_1 (broadcastInDim S1x512 ![1] bcast_S512_S1x512_1
      (shapeCast _ (extractStridedSlice S1x512 ![0, 0] B slices_S4x512_S1x512_0_0) shapeCasts_S1x512_S512)))

/-- The gated branch. -/
def glu (Y : FVec Ideal S16384x512 .f32) (W : FVec Ideal S4x512x512 .f32) (B : FVec Ideal S4x512 .f32) : FVec Ideal S16384x512 .f32 :=
  mulf Y (Host.divf (broadcastInDim S16384x512 ![] bcast_S_S16384x512 (constant S_ .f32 0x3F800000#32))
    (addf (broadcastInDim S16384x512 ![] bcast_S_S16384x512 (constant S_ .f32 0x3F800000#32)) (Host.exp (Host.negf (gateArg Y W B)))))

/-- The residual sum. -/
def pre (X : FVec Ideal S16384x2048 .f32) (Y : FVec Ideal S16384x512 .f32) (G : FVec Ideal S16384x1024 .f32) (L : FVec Ideal S16384x512 .f32)
    (W : FVec Ideal S4x2048x2048 .f32) : FVec Ideal S16384x2048 .f32 :=
  addf (mulf (broadcastInDim S16384x2048 ![] bcast_S_S16384x2048 (constant S_ .f32 0x3FD744FD#32)) X)
    (Host.dotGeneral dot_S16384x2048_S2048x2048_S16384x2048_1_0_0_1_n_n none
      (concatenate S16384x2048 1 [⟨S16384x512, Y⟩, ⟨S16384x1024, G⟩, ⟨S16384x512, L⟩] concatenates_S16384x512_S16384x1024_S16384x512_S16384x2048_d1)
      (shapeCast _ (extractStridedSlice S1x2048x2048 ![0, 0, 0] W slices_S4x2048x2048_S1x2048x2048_0_0_0) shapeCasts_S1x2048x2048_S2048x2048))

/-- The row means of an array, as a column. -/
def meanCol (U : FVec Ideal S16384x2048 .f32) : FVec Ideal S16384x1 .f32 :=
  Host.divf (broadcastInDim S16384x1 ![0] bcast_S16384_S16384x1_0 (Host.reduceAdd U (constant S_ .f32 0x00000000#32) reducesTo_S16384x2048_S16384_d1 h_S_))
    (broadcastInDim S16384x1 ![] bcast_S_S16384x1 (constant S_ .f32 0x45000000#32))

/-- The rows centred. -/
def centre (U : FVec Ideal S16384x2048 .f32) : FVec Ideal S16384x2048 .f32 :=
  subf U (broadcastInDim S16384x2048 ![0, 1] bcast_S16384x1_S16384x2048_0_1 (meanCol U))

/-- The layer normalisation of every row. -/
def norm (U : FVec Ideal S16384x2048 .f32) (G B : FVec Ideal S4x2048 .f32) : FVec Ideal S16384x2048 .f32 :=
  addf (mulf (mulf (centre U) (broadcastInDim S16384x2048 ![0, 1] bcast_S16384x1_S16384x2048_0_1
      (Host.rsqrt (addf (meanCol (mulf (centre U) (centre U))) (broadcastInDim S16384x1 ![] bcast_S_S16384x1 (constant S_ .f32 0x3727C5AC#32))))))
      (broadcastInDim S16384x2048 ![0, 1] bcast_S1x2048_S16384x2048_0_1 (broadcastInDim S1x2048 ![1] bcast_S2048_S1x2048_1
        (shapeCast _ (extractStridedSlice S1x2048 ![0, 0] G slices_S4x2048_S1x2048_0_0) shapeCasts_S1x2048_S2048))))
    (broadcastInDim S16384x2048 ![0, 1] bcast_S1x2048_S16384x2048_0_1 (broadcastInDim S1x2048 ![1] bcast_S2048_S1x2048_1
      (shapeCast _ (extractStridedSlice S1x2048 ![0, 0] B slices_S4x2048_S1x2048_0_0) shapeCasts_S1x2048_S2048)))

theorem side_at (S : FVec Ideal S4x16384x128 .f32) (i : Fin 16384) (k : Fin 512) :
    side S (ix2 i k) = S (ix3 ⟨k.val / 128, by omega⟩ i ⟨k.val % 128, by omega⟩) := by
  pointwise [side]

theorem act_at (V : FVec Ideal S16384x512 .f32) (i : Fin 16384) (k : Fin 512) : act V (ix2 i k) = gelu (V (ix2 i k)) := by
  pointwise [act, gelu]

theorem glu_at (Y : FVec Ideal S16384x512 .f32) (W : FVec Ideal S4x512x512 .f32) (B : FVec Ideal S4x512 .f32) (i : Fin 16384) (k : Fin 512) :
    glu Y W B (ix2 i k) = gated (fun k => Y (ix2 i k)) (fun l => W (ix3 0 l k)) (B (ix2 0 k)) k := by
  pointwise [glu, gateArg, gated]
  rfl

theorem pre_at (X : FVec Ideal S16384x2048 .f32) (Y : FVec Ideal S16384x512 .f32) (G : FVec Ideal S16384x1024 .f32) (L : FVec Ideal S16384x512 .f32)
    (W : FVec Ideal S4x2048x2048 .f32) (i : Fin 16384) (j : Fin 2048) :
    pre X Y G L W (ix2 i j) = preNorm (X (ix2 i j)) (fun k => Y (ix2 i k)) (fun k => G (ix2 i ⟨k.val, by omega⟩)) (fun k => G (ix2 i ⟨512 + k.val, by omega⟩))
      (fun k => L (ix2 i k)) (fun k => W (ix3 0 ⟨k.val, by omega⟩ j)) (fun k => W (ix3 0 ⟨512 + k.val, by omega⟩ j))
      (fun k => W (ix3 0 ⟨1024 + k.val, by omega⟩ j)) (fun k => W (ix3 0 ⟨1536 + k.val, by omega⟩ j)) := by
  pointwise [pre, preNorm]
  rw [sum_runs]
  refine congrArg₂ (· + ·) rfl (congrArg₂ (· + ·) (congrArg₂ (· + ·) (congrArg₂ (· + ·) ?_ ?_) ?_) ?_) <;>
    refine Finset.sum_congr rfl fun k _ => ?_
  · rw [dif_pos (show k.val < 512 by omega)]
  · rw [dif_neg (show ¬512 + k.val < 512 by omega), dif_pos (show 512 + k.val - 512 < 1024 by omega)]
    have e : 512 + k.val - 512 = k.val := by omega
    simp only [e]
  · rw [dif_neg (show ¬1024 + k.val < 512 by omega), dif_pos (show 1024 + k.val - 512 < 1024 by omega)]
    have e : 1024 + k.val - 512 = 512 + k.val := by omega
    simp only [e]
  · rw [dif_neg (show ¬1536 + k.val < 512 by omega), dif_neg (show ¬1536 + k.val - 512 < 1024 by omega)]
    have e : 1536 + k.val - 512 - 1024 = k.val := by omega
    simp only [e]

theorem norm_at (U : FVec Ideal S16384x2048 .f32) (G B : FVec Ideal S4x2048 .f32) (i : Fin 16384) (j : Fin 2048) :
    norm U G B (ix2 i j) = layerNorm (fun k => U (ix2 i k)) (G (ix2 0 j)) (B (ix2 0 j)) j := by
  pointwise [norm, centre, meanCol, layerNorm, mean]

/-- The run's composed term in these steps. -/
theorem res_eq (m : (ℓ : Loc nD τ sig) → Buf (Elt Ideal) ℓ) (c : Dev nD) :
    res_out0 m c = norm (pre (m ((c.tc : Thread nD τ).loc main_arg0))
      (glu (act (side (m ((c.tc : Thread nD τ).loc main_arg1)))) (m ((c.tc : Thread nD τ).loc main_arg4)) (m ((c.tc : Thread nD τ).loc main_arg5)))
      (m ((c.tc : Thread nD τ).loc main_arg2)) (m ((c.tc : Thread nD τ).loc main_arg3)) (m ((c.tc : Thread nD τ).loc main_arg6)))
      (m ((c.tc : Thread nD τ).loc main_arg7)) (m ((c.tc : Thread nD τ).loc main_arg8)) := rfl

/-- The reference's result at one entry. -/
theorem ref_at (m : (ℓ : Loc nD τ sig) → Buf (Elt Ideal) ℓ) (c : Dev nD) (i : Fin 16384) (j : Fin 2048) :
    res_out0 m c (ix2 i j) = outProj
      (fun k => (m ((c.tc : Thread nD τ).loc main_arg0) : FVec Ideal S16384x2048 .f32) (ix2 i k))
      (fun o l => (m ((c.tc : Thread nD τ).loc main_arg1) : FVec Ideal S4x16384x128 .f32) (ix3 o i l))
      (fun k => (m ((c.tc : Thread nD τ).loc main_arg2) : FVec Ideal S16384x1024 .f32) (ix2 i k))
      (fun k => (m ((c.tc : Thread nD τ).loc main_arg3) : FVec Ideal S16384x512 .f32) (ix2 i k))
      (fun l k => (m ((c.tc : Thread nD τ).loc main_arg4) : FVec Ideal S4x512x512 .f32) (ix3 0 l k))
      (fun k => (m ((c.tc : Thread nD τ).loc main_arg5) : FVec Ideal S4x512 .f32) (ix2 0 k))
      (fun l j => (m ((c.tc : Thread nD τ).loc main_arg6) : FVec Ideal S4x2048x2048 .f32) (ix3 0 l j))
      ((m ((c.tc : Thread nD τ).loc main_arg7) : FVec Ideal S4x2048 .f32) (ix2 0 j))
      ((m ((c.tc : Thread nD τ).loc main_arg8) : FVec Ideal S4x2048 .f32) (ix2 0 j)) j := by
  rw [res_eq, norm_at]
  simp only [pre_at, glu_at, act_at, side_at]
  rfl

end Cert.OutProjRefIdeal.Value

end

end
-- ==== Proof.OutValue.lean ====
/- The output kernel's result array: every grid point stores the normalised residual sum of its 512 rows. -/
module

public import proofs.«01_k».proof.Proof.Gen.OutProjIdeal.Value
public import proofs.«01_k».proof.Proof.OutSpec
public import Idealize.ShloMosaic.Lib.Pipeline.ValueKit
public import Idealize.ShloMosaic.Lib.Claim

@[expose] public section

set_option maxRecDepth 16384

noncomputable section

namespace Cert.OutProjIdeal.Value

open Cert.OutProjIdeal Cert.OutProjIdeal.Gen Idealize.ShloMosaic Idealize.ShloMosaic.TcCoe Idealize.SL.Sem
open Idealize.ShloMosaic.Pipeline (Dat)
open Cert.Scalar Cert.OutSpec
open scoped BigOperators

/-! ## The stored vectors at an entry -/

/-- The activated block from its four channel groups. -/
theorem pay2_at (s0 s1 s2 s3 : FVec Ideal S1x512x128 .f32) (f : Fin 4 → Fin 128 → EReal) (r : Fin 512)
    (h0 : ∀ l : Fin 128, s0 (ix3 0 r l) = f 0 l) (h1 : ∀ l : Fin 128, s1 (ix3 0 r l) = f 1 l)
    (h2 : ∀ l : Fin 128, s2 (ix3 0 r l) = f 2 l) (h3 : ∀ l : Fin 128, s3 (ix3 0 r l) = f 3 l) (k : Fin 512) :
    k0_pay2 (F := Ideal) s0 s1 s2 s3 (ix2 r k) = activated f k := by
  pointwise [k0_pay2, h0, h1, h2, h3]
  simp only [gelu_half]
  unfold activated
  congr 1
  by_cases c0 : k.val < 128
  · simp only [dif_pos c0]
    congr 1 <;> apply Fin.ext <;> simp <;> omega
  · by_cases c1 : k.val - 128 < 128
    · simp only [dif_neg c0, dif_pos c1]
      congr 1 <;> apply Fin.ext <;> simp <;> omega
    · by_cases c2 : k.val - 128 - 128 < 128
      · simp only [dif_neg c0, dif_neg c1, dif_pos c2]
        congr 1 <;> apply Fin.ext <;> simp <;> omega
      · simp only [dif_neg c0, dif_neg c1, dif_neg c2]
        congr 1 <;> apply Fin.ext <;> simp <;> omega

/-- The hyperbolic tangent of half the gate's argument. -/
theorem pay3_at (s0 s1 s2 s3 : FVec Ideal S1x512x128 .f32) (w : FVec Ideal S1x512x512 .bf16) (b : FVec Ideal S1x1x512 .f32) (r k : Fin 512) :
    k0_pay3 (F := Ideal) s0 s1 s2 s3 w b (ix2 r k) = Ideal.tanh (Ideal.ofBits .f32 0x3F000000#32 *
      ((∑ l : Fin 512, k0_pay2 (F := Ideal) s0 s1 s2 s3 (ix2 r l) * w (ix3 0 l k)) + b (ix3 0 0 k))) := by
  pointwise [k0_pay3]

/-- The residual sum. -/
theorem pay5_at (y h q : FVec Ideal S512x512 .f32) (w0 : FVec Ideal S1x512x2048 .bf16) (g0 : FVec Ideal S512x512 .f32)
    (w1 : FVec Ideal S1x512x2048 .bf16) (g1 : FVec Ideal S512x512 .f32) (w2 : FVec Ideal S1x512x2048 .bf16)
    (l : FVec Ideal S512x512 .f32) (w3 : FVec Ideal S1x512x2048 .bf16) (x : FVec Ideal S512x2048 .f32) (r : Fin 512) (j : Fin 2048) :
    k0_pay5 (F := Ideal) y h q w0 g0 w1 g1 w2 l w3 x (ix2 r j) = preNorm (x (ix2 r j))
      (fun k => y (ix2 r k) * (q (ix2 r k) * h (ix2 r k) + Ideal.ofBits .f32 0x3F000000#32))
      (fun k => g0 (ix2 r k)) (fun k => g1 (ix2 r k)) (fun k => l (ix2 r k))
      (fun k => w0 (ix3 0 k j)) (fun k => w1 (ix3 0 k j)) (fun k => w2 (ix3 0 k j)) (fun k => w3 (ix3 0 k j)) := by
  pointwise [k0_pay5, preNorm]

/-- The normalised rows. -/
theorem pay1_at (u : FVec Ideal S512x2048 .f32) (g b : FVec Ideal S1x1x2048 .f32) (r : Fin 512) (j : Fin 2048) :
    k0_pay1 (F := Ideal) u g b (ix2 r j) = layerNorm (fun k => u (ix2 r k)) (g (ix3 0 0 j)) (b (ix3 0 0 j)) j := by
  pointwise [k0_pay1, layerNorm, mean]

/-- The constant half. -/
theorem pay4_at (r k : Fin 512) : k0_pay4 (F := Ideal) (ix2 r k) = Ideal.ofBits .f32 0x3F000000#32 := by
  pointwise [k0_pay4]

/-- The windows' block indices at a point of the grid. -/
theorem idx : ∀ t : Fin cfg0.N, win0_0.index t = ![t.val, 0] ∧ win0_1.index t = ![0, t.val, 0]
    ∧ win0_2.index t = ![t.val, 0] ∧ win0_3.index t = ![t.val, 1] ∧ win0_4.index t = ![t.val, 0]
    ∧ win0_5.index t = ![0, 0, 0] ∧ win0_6.index t = ![0, 0, 0] ∧ win0_7.index t = ![0, 0, 0] ∧ win0_8.index t = ![0, 1, 0]
    ∧ win0_9.index t = ![0, 2, 0] ∧ win0_10.index t = ![0, 3, 0] ∧ win0_11.index t = ![0, 0, 0] ∧ win0_12.index t = ![0, 0, 0]
    ∧ win0_13.index t = ![t.val, 0] :=
  (by decide +kernel : ∀ t : Fin grid0.N, _)

variable (m : (ℓ : Loc nD τ sig) → Buf (Elt Ideal) ℓ)

/-! ## The staged blocks as entries of the arguments -/

/-- Row `r` of the row block of point `t`. -/
def row (t : Fin cfg0.N) (r : Fin 512) : Fin 16384 :=
  ⟨t.val * 512 + r.val, by have h := lt_of_lt_of_eq t.isLt N_0; omega⟩

/-- Argument 0: the rows. -/
abbrev A0 (c : Dev nD) : FVec Ideal S16384x2048 .f32 := m ((c.tc : Thread nD τ).loc main_arg0)
/-- Argument 1: the first branch. -/
abbrev A1 (c : Dev nD) : FVec Ideal S4x16384x128 .f32 := m ((c.tc : Thread nD τ).loc main_arg1)
/-- Argument 2: the second branch. -/
abbrev A2 (c : Dev nD) : FVec Ideal S16384x1024 .f32 := m ((c.tc : Thread nD τ).loc main_arg2)
/-- Argument 3: the third branch. -/
abbrev A3 (c : Dev nD) : FVec Ideal S16384x512 .f32 := m ((c.tc : Thread nD τ).loc main_arg3)
/-- Argument 4: the gate weights. -/
abbrev A4 (c : Dev nD) : FVec Ideal S4x512x512 .f32 := m ((c.tc : Thread nD τ).loc main_arg4)
/-- Argument 5: the gate bias. -/
abbrev A5 (c : Dev nD) : FVec Ideal S4x512 .f32 := m ((c.tc : Thread nD τ).loc main_arg5)
/-- Argument 6: the output weights. -/
abbrev A6 (c : Dev nD) : FVec Ideal S4x2048x2048 .f32 := m ((c.tc : Thread nD τ).loc main_arg6)
/-- Argument 7: the scale. -/
abbrev A7 (c : Dev nD) : FVec Ideal S4x2048 .f32 := m ((c.tc : Thread nD τ).loc main_arg7)
/-- Argument 8: the shift. -/
abbrev A8 (c : Dev nD) : FVec Ideal S4x2048 .f32 := m ((c.tc : Thread nD τ).loc main_arg8)

theorem blk0 (c : Dev nD) (t : Fin cfg0.N) (r : Fin 512) (k : Fin 2048) :
    (iblk m c 0 t : FVec Ideal S512x2048 .f32) (ix2 r k) = A0 m c (ix2 (row t r) k) := by
  unfold A0 row iblk
  entry_read
  blk_point [idx t]

theorem blk1 (c : Dev nD) (t : Fin cfg0.N) (o : Fin 4) (r : Fin 512) (l : Fin 128) :
    (iblk m c 1 t : FVec Ideal S4x512x128 .f32) (ix3 o r l) = A1 m c (ix3 o (row t r) l) := by
  unfold A1 row iblk
  entry_read
  blk_point [idx t]

theorem blk2 (c : Dev nD) (t : Fin cfg0.N) (r k : Fin 512) :
    (iblk m c 2 t : FVec Ideal S512x512 .f32) (ix2 r k) = A2 m c (ix2 (row t r) ⟨k.val, by omega⟩) := by
  unfold A2 row iblk
  entry_read
  blk_point [idx t]

theorem blk3 (c : Dev nD) (t : Fin cfg0.N) (r k : Fin 512) :
    (iblk m c 3 t : FVec Ideal S512x512 .f32) (ix2 r k) = A2 m c (ix2 (row t r) ⟨512 + k.val, by omega⟩) := by
  unfold A2 row iblk
  entry_read
  blk_point [idx t]

theorem blk4 (c : Dev nD) (t : Fin cfg0.N) (r k : Fin 512) :
    (iblk m c 4 t : FVec Ideal S512x512 .f32) (ix2 r k) = A3 m c (ix2 (row t r) k) := by
  unfold A3 row iblk
  entry_read
  blk_point [idx t]

theorem blk5 (c : Dev nD) (t : Fin cfg0.N) (l k : Fin 512) :
    (iblk m c 5 t : FVec Ideal S1x512x512 .bf16) (ix3 0 l k) = A4 m c (ix3 0 l k) := by
  unfold A4 iblk
  entry_read
  blk_point [idx t]

theorem blk6 (c : Dev nD) (t : Fin cfg0.N) (k : Fin 512) :
    (iblk m c 6 t : FVec Ideal S1x1x512 .f32) (ix3 0 0 k) = A5 m c (ix2 0 k) := by
  unfold A5 iblk
  entry_read
  blk_simp [idx t]
  pointwise
  blk_point [idx t]

theorem blk7 (c : Dev nD) (t : Fin cfg0.N) (k : Fin 512) (j : Fin 2048) :
    (iblk m c 7 t : FVec Ideal S1x512x2048 .bf16) (ix3 0 k j) = A6 m c (ix3 0 ⟨k.val, by omega⟩ j) := by
  unfold A6 iblk
  entry_read
  blk_point [idx t]

theorem blk8 (c : Dev nD) (t : Fin cfg0.N) (k : Fin 512) (j : Fin 2048) :
    (iblk m c 8 t : FVec Ideal S1x512x2048 .bf16) (ix3 0 k j) = A6 m c (ix3 0 ⟨512 + k.val, by omega⟩ j) := by
  unfold A6 iblk
  entry_read
  blk_point [idx t]

theorem blk9 (c : Dev nD) (t : Fin cfg0.N) (k : Fin 512) (j : Fin 2048) :
    (iblk m c 9 t : FVec Ideal S1x512x2048 .bf16) (ix3 0 k j) = A6 m c (ix3 0 ⟨1024 + k.val, by omega⟩ j) := by
  unfold A6 iblk
  entry_read
  blk_point [idx t]

theorem blk10 (c : Dev nD) (t : Fin cfg0.N) (k : Fin 512) (j : Fin 2048) :
    (iblk m c 10 t : FVec Ideal S1x512x2048 .bf16) (ix3 0 k j) = A6 m c (ix3 0 ⟨1536 + k.val, by omega⟩ j) := by
  unfold A6 iblk
  entry_read
  blk_point [idx t]

theorem blk11 (c : Dev nD) (t : Fin cfg0.N) (j : Fin 2048) :
    (iblk m c 11 t : FVec Ideal S1x1x2048 .f32) (ix3 0 0 j) = A7 m c (ix2 0 j) := by
  unfold A7 iblk
  entry_read
  blk_simp [idx t]
  pointwise
  blk_point [idx t]

theorem blk12 (c : Dev nD) (t : Fin cfg0.N) (j : Fin 2048) :
    (iblk m c 12 t : FVec Ideal S1x1x2048 .f32) (ix3 0 0 j) = A8 m c (ix2 0 j) := by
  unfold A8 iblk
  entry_read
  blk_simp [idx t]
  pointwise
  blk_point [idx t]

/-! ## The whole array -/

/-- The result array of the call, entry by entry. -/
def result (c : Dev nD) : FVec Ideal S16384x2048 .f32 := fun i =>
  outProj (fun k => A0 m c (ix2 (i 0) k)) (fun o l => A1 m c (ix3 o (i 0) l)) (fun k => A2 m c (ix2 (i 0) k)) (fun k => A3 m c (ix2 (i 0) k))
    (fun l k => A4 m c (ix3 0 l k)) (fun k => A5 m c (ix2 0 k)) (fun l j => A6 m c (ix3 0 l j)) (A7 m c (ix2 0 (i 1))) (A8 m c (ix2 0 (i 1))) (i 1)

/-- What a point stores, from its four channel groups. -/
theorem core (c : Dev nD) (t : Fin cfg0.N) (r : Fin 512) (j : Fin 2048) (s0 s1 s2 s3 : FVec Ideal S1x512x128 .f32)
    (h0 : ∀ l : Fin 128, s0 (ix3 0 r l) = A1 m c (ix3 0 (row t r) l)) (h1 : ∀ l : Fin 128, s1 (ix3 0 r l) = A1 m c (ix3 1 (row t r) l))
    (h2 : ∀ l : Fin 128, s2 (ix3 0 r l) = A1 m c (ix3 2 (row t r) l)) (h3 : ∀ l : Fin 128, s3 (ix3 0 r l) = A1 m c (ix3 3 (row t r) l)) :
    k0_pay1 (F := Ideal) (k0_pay5 (F := Ideal) (k0_pay2 (F := Ideal) s0 s1 s2 s3) (k0_pay3 (F := Ideal) s0 s1 s2 s3 (iblk m c 5 t) (iblk m c 6 t))
        (k0_pay4 (F := Ideal)) (iblk m c 7 t) (iblk m c 2 t) (iblk m c 8 t) (iblk m c 3 t) (iblk m c 9 t) (iblk m c 4 t)
        (iblk m c 10 t) (iblk m c 0 t)) (iblk m c 11 t) (iblk m c 12 t) (ix2 r j) = result m c (ix2 (row t r) j) := by
  rw [pay1_at]
  simp only [pay5_at, pay4_at, pay3_at, half_tanh,
    pay2_at s0 s1 s2 s3 (fun o l => A1 m c (ix3 o (row t r) l)) r h0 h1 h2 h3,
    blk0, blk2, blk3, blk4, blk5, blk6, blk7, blk8, blk9, blk10, blk11, blk12]
  rfl

/-- What a point stores. -/
theorem point (c : Dev nD) (t : Fin cfg0.N) (r : Fin 512) (j : Fin 2048) :
    out0_13 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (ix2 r j) = result m c (ix2 (row t r) j) := by
  frame_out
  refine core m c t r j _ _ _ _ (fun l => ?_) (fun l => ?_) (fun l => ?_) (fun l => ?_)
  · pointwise
    exact blk1 m c t 0 r l
  · pointwise
    exact blk1 m c t 1 r l
  · pointwise
    exact blk1 m c t 2 r l
  · pointwise
    exact blk1 m c t 3 r l

/-- After the run the result buffer holds it. -/
theorem array_eq (c : Dev nD) : (dats m 0 c).arrAt 13 cfg0.N = result m c := by
  refine (dats m 0 c).arrAt_eq_of_covers 13 _ (by decide +kernel) fun t hf y => ?_
  blk_simp
  rw [after0_13]
  obtain ⟨r, j, rfl⟩ : ∃ (r : Fin 512) (j : Fin 2048), y = ix2 r j := ⟨y 0, y 1, eq_ix2 y⟩
  have e : (win0_13.blk t).view.emb (ix2 r j) = ix2 (row t r) j := by
    unfold row
    blk_ext [idx t]
  rw [e]
  exact point m c t r j

end Cert.OutProjIdeal.Value

end

end
-- ==== Proof.OutClaim.lean ====
/- The output claim: the kernel's array and the reference's are the same function of the arguments. -/
module

public import proofs.«01_k».proof.Defs
public import proofs.«01_k».proof.Proof.Gen.OutProjIdeal
public import proofs.«01_k».proof.Proof.Gen.OutProjRefIdeal
public import proofs.«01_k».proof.Proof.OutRef
public import proofs.«01_k».proof.Proof.OutValue

@[expose] public section

set_option maxRecDepth 16384

noncomputable section

namespace Cert.OutClaim

open Idealize.ShloMosaic Idealize.ShloMosaic.TcCoe Idealize.SL.Sem

theorem claim : Cert.algebraic_OutProjIdeal_OutProjRefIdeal (hOutProjIdeal := Cert.OutProjIdeal.Gen.facts) (hOutProjRefIdeal := Cert.OutProjRefIdeal.Gen.facts) := by
  intro m g m' g' _ hag
  refine ⟨fun c => Cert.OutProjIdeal.Value.result m c,
    (θ_run _ _ _).mono (fun r h c => ⟨(h c).1.trans (Cert.OutProjIdeal.Value.array_eq m c), (h c).2⟩) (Cert.OutProjIdeal.Value.run_blocks m g),
    (θ_run _ _ _).mono (fun r h c => ⟨(h c).1.trans ?_, (h c).2⟩) (Cert.OutProjRefIdeal.Value.run m' g')⟩
  obtain ⟨h0, h1, h2, h3, h4, h5, h6, h7, h8⟩ := hag c
  funext i
  obtain ⟨a, b, rfl⟩ : ∃ (a : Fin 16384) (b : Fin 2048), i = ix2 a b := ⟨i 0, i 1, eq_ix2 i⟩
  refine (Cert.OutProjRefIdeal.Value.ref_at m' c a b).trans ?_
  rw [h0, h1, h2, h3, h4, h5, h6, h7, h8]
  rfl

end Cert.OutClaim

end

end
-- ==== Proof.ProjSpec.lean ====
/- The input projection's mathematics at one entry: the weight columns in the order of the first result, and the two products. -/
module

public import Idealize.ShloMosaic.Lib.Pointwise
public import Idealize.ShloMosaic.Lib.Pointwise.Sums

@[expose] public section

noncomputable section

namespace Cert.ProjSpec

open Idealize.ShloMosaic
open scoped BigOperators

/-- A row of the weights with its columns in the order of the first result: the 4096 columns from 512, the last 1024,
    the 16 between them, and zeros. -/
def ordered (w : Fin 5648 → EReal) (j : Fin 5376) : EReal :=
  if h0 : j.val < 4096 then w ⟨512 + j.val, by omega⟩
  else if h1 : j.val < 5120 then w ⟨528 + j.val, by omega⟩
  else if h2 : j.val < 5136 then w ⟨j.val - 512, by omega⟩
  else 0

/-- The first result at one entry. -/
def first (x : Fin 2048 → EReal) (w : Fin 2048 → Fin 5648 → EReal) (j : Fin 5376) : EReal :=
  ∑ k, x k * ordered (w k) j

/-- The second result at one entry: lane `l` of channel group `o`. -/
def second (x : Fin 2048 → EReal) (w : Fin 2048 → Fin 5648 → EReal) (o : Fin 4) (l : Fin 128) : EReal :=
  ∑ k, x k * w k ⟨o.val * 128 + l.val, by omega⟩

/-- The first result at one entry, the columns chosen before the sum. -/
theorem first_eq (x : Fin 2048 → EReal) (w : Fin 2048 → Fin 5648 → EReal) (j : Fin 5376) :
    first x w j = if h0 : j.val < 4096 then ∑ k, x k * w k ⟨512 + j.val, by omega⟩
      else if h1 : j.val < 5120 then ∑ k, x k * w k ⟨528 + j.val, by omega⟩
      else if h2 : j.val < 5136 then ∑ k, x k * w k ⟨j.val - 512, by omega⟩
      else 0 := by
  unfold first ordered
  split
  · rfl
  · split
    · rfl
    · split
      · rfl
      · simp only [mul_zero, Finset.sum_const_zero]

end Cert.ProjSpec

end

end
-- ==== Proof.ProjRef.lean ====
/- The input projection's reference read at one entry. -/
module

public import proofs.«01_k».proof.Proof.Gen.InProjRefIdeal.Run
public import proofs.«01_k».proof.Proof.ProjSpec
public import Idealize.ShloMosaic.Lib.Claim

@[expose] public section

set_option maxRecDepth 16384

noncomputable section

namespace Cert.InProjRefIdeal.Value

open Cert.InProjRefIdeal Cert.InProjRefIdeal.Gen Idealize.ShloMosaic Idealize.ShloMosaic.TcCoe Idealize.SL.Sem
open Cert.ProjSpec
open scoped BigOperators

/-- The whole product. -/
def product (X : FVec Ideal S16384x2048 .f32) (W : FVec Ideal S4x2048x5648 .f32) : FVec Ideal S16384x5648 .f32 :=
  Host.dotGeneral dot_S16384x2048_S2048x5648_S16384x5648_1_0_0_1_n_n none X
    (shapeCast _ (extractStridedSlice S1x2048x5648 ![0, 0, 0] W slices_S4x2048x5648_S1x2048x5648_0_0_0) shapeCasts_S1x2048x5648_S2048x5648)

/-- Its columns in the order of the first result. -/
def reorder (P : FVec Ideal S16384x5648 .f32) : FVec Ideal S16384x5376 .f32 :=
  concatenate S16384x5376 1 [⟨S16384x4096, extractStridedSlice S16384x4096 ![0, 512] P slices_S16384x5648_S16384x4096_0_512⟩,
    ⟨S16384x1024, extractStridedSlice S16384x1024 ![0, 4624] P slices_S16384x5648_S16384x1024_0_4624⟩,
    ⟨S16384x16, extractStridedSlice S16384x16 ![0, 4608] P slices_S16384x5648_S16384x16_0_4608⟩,
    ⟨S16384x240, broadcastInDim S16384x240 ![] bcast_S_S16384x240 (constant S_ .f32 0x00000000#32)⟩]
    concatenates_S16384x4096_S16384x1024_S16384x16_S16384x240_S16384x5376_d1

/-- Its first 512 columns in four channel groups. -/
def groups (P : FVec Ideal S16384x5648 .f32) : FVec Ideal S4x16384x128 .f32 :=
  transpose S4x16384x128 [1, 0, 2] (shapeCast _ (extractStridedSlice S16384x512 ![0, 0] P slices_S16384x5648_S16384x512_0_0)
    shapeCasts_S16384x512_S16384x4x128) transposes_S16384x4x128_S4x16384x128_1_0_2

theorem product_at (X : FVec Ideal S16384x2048 .f32) (W : FVec Ideal S4x2048x5648 .f32) (i : Fin 16384) (c : Fin 5648) :
    product X W (ix2 i c) = ∑ k : Fin 2048, X (ix2 i k) * W (ix3 0 k c) := by
  pointwise [product]

theorem reorder_at (P : FVec Ideal S16384x5648 .f32) (i : Fin 16384) (j : Fin 5376) :
    reorder P (ix2 i j) = if h0 : j.val < 4096 then P (ix2 i ⟨512 + j.val, by omega⟩)
      else if h1 : j.val < 5120 then P (ix2 i ⟨528 + j.val, by omega⟩)
      else if h2 : j.val < 5136 then P (ix2 i ⟨j.val - 512, by omega⟩)
      else 0 := by
  pointwise [reorder]
  by_cases h0 : j.val < 4096
  · rw [dif_pos h0, dif_pos h0]
  · rw [dif_neg h0, dif_neg h0]
    by_cases h1 : j.val < 5120
    · rw [dif_pos (show j.val - 4096 < 1024 by omega), dif_pos h1]
      exact congrArg P (congrArg (ix2 i) (Fin.ext (show 4624 + (j.val - 4096) = 528 + j.val by omega)))
    · rw [dif_neg (show ¬j.val - 4096 < 1024 by omega), dif_neg h1]
      by_cases h2 : j.val < 5136
      · rw [dif_pos (show j.val - 4096 - 1024 < 16 by omega), dif_pos h2]
        exact congrArg P (congrArg (ix2 i) (Fin.ext (show 4608 + (j.val - 4096 - 1024) = j.val - 512 by omega)))
      · rw [dif_neg (show ¬j.val - 4096 - 1024 < 16 by omega), dif_neg h2]

theorem groups_at (P : FVec Ideal S16384x5648 .f32) (o : Fin 4) (i : Fin 16384) (l : Fin 128) :
    groups P (ix3 o i l) = P (ix2 i ⟨o.val * 128 + l.val, by omega⟩) := by
  pointwise [groups]

/-- The first result at one entry. -/
theorem first_at (X : FVec Ideal S16384x2048 .f32) (W : FVec Ideal S4x2048x5648 .f32) (i : Fin 16384) (j : Fin 5376) :
    reorder (product X W) (ix2 i j) = first (fun k => X (ix2 i k)) (fun k c => W (ix3 0 k c)) j := by
  rw [reorder_at, first_eq]
  simp only [product_at]

/-- The second result at one entry. -/
theorem second_at (X : FVec Ideal S16384x2048 .f32) (W : FVec Ideal S4x2048x5648 .f32) (o : Fin 4) (i : Fin 16384) (l : Fin 128) :
    groups (product X W) (ix3 o i l) = second (fun k => X (ix2 i k)) (fun k c => W (ix3 0 k c)) o l := by
  rw [groups_at, product_at]
  rfl

/-- The run's results are these two arrays. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = reorder (product (m ((c.tc : Thread nD τ).loc main_arg0)) (m ((c.tc : Thread nD τ).loc main_arg1)))
      ∧ r.2.mem ((c.tc : Thread nD τ).loc main_v10) = groups (product (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans rfl, (h c).2.1.trans rfl, (h c).2.2⟩) (run m ρ)

end Cert.InProjRefIdeal.Value

end

end
-- ==== Proof.ProjRunIdeal.lean ====
/- The input projection's body at one grid point: what it leaves in its buffers, at any number type. -/
module

public import proofs.«01_k».proof.Proof.Gen.InProjIdeal.Frame
public import Idealize.ShloMosaic.Lib.VecWindow
public import Idealize.ShloMosaic.Lib.Pipeline.Value
public import Idealize.ShloMosaic.Lib.Pipeline.ValueKit
public import Idealize.ShloMosaic.Lib.WritesUnit

@[expose] public section

set_option maxRecDepth 16384

noncomputable section

namespace Cert.InProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Cert.InProjIdeal Cert.InProjIdeal.Gen

variable {F : FTy → Type} [FloatOps F]

local notation "𝕄" => MT nD τ sig Unit (Elt F) ℕ (UR sig nD τ) ℕ

/-- The row block rounded to bf16, as the scratch keeps it. -/
def keep (x0 : Vec F S1024x2048 .f32) : Vec F S1024x2048 .bf16 := truncf .bf16 x0 Facts₀.bitsLt_bf16_f32

/-- The product of the kept rows with one block of columns. -/
def cols (k : Vec F S1024x2048 .bf16) (x1 : Vec F S1x2048x768 .bf16) : Vec F S1024x768 .f32 :=
  matmul dot_S1024x2048_S2048x768_S1024x768_1_0_0_1_n_n none k
    (shapeCast S2048x768 x1 Facts₀.shapeCasts_S1x2048x768_S2048x768) (constant S1024x768 .f32 0x00000000#32)

/-- The product of the kept rows with the 512 columns of the second result. -/
def wide (k : Vec F S1024x2048 .bf16) (x2 : Vec F S1x2048x512 .bf16) : Vec F S1024x512 .f32 :=
  matmul dot_S1024x2048_S2048x512_S1024x512_1_0_0_1_n_n none k
    (shapeCast S2048x512 x2 Facts₀.shapeCasts_S1x2048x512_S2048x512) (constant S1024x512 .f32 0x00000000#32)

/-- The 512 columns as four blocks of 128. -/
def parts (w : Vec F S1024x512 .f32) : Vec F S4x1024x128 .f32 := fun y =>
  w (ix2 ⟨(y 1).val, (y 1).isLt⟩ ⟨(y 0).val * 128 + (y 2).val, by
    have h0 : (y 0).val < 4 := (y 0).isLt
    have h2 : (y 2).val < 128 := (y 2).isLt
    omega⟩)

/-- Four stores, one for each of the leading coordinate's values, read back. -/
theorem stored_four (v : View sig .tc .vmem S4x1024x128 .f32) (f : v.ty.Contents (Elt F)) (W : Vec F S4x1024x128 .f32)
    (i0 i1 i2 i3) (p0 p1 p2 p3 : Vec F S1x1024x128 .f32)
    (h0 : ∀ r l, p0 (ix3 0 r l) = W (ix3 0 r l)) (h1 : ∀ r l, p1 (ix3 0 r l) = W (ix3 1 r l))
    (h2 : ∀ r l, p2 (ix3 0 r l) = W (ix3 2 r l)) (h3 : ∀ r l, p3 (ix3 0 r l) = W (ix3 3 r l)) :
    v.read (Elt F) (v.writes (Elt F) f
      [⟨Rect.unit ![3, 0, 0] S1x1024x128.size i3, p3⟩, ⟨Rect.unit ![2, 0, 0] S1x1024x128.size i2, p2⟩,
       ⟨Rect.unit ![1, 0, 0] S1x1024x128.size i1, p1⟩, ⟨Rect.unit ![0, 0, 0] S1x1024x128.size i0, p0⟩]) = W := by
  funext y
  obtain ⟨o, r, l, rfl⟩ : ∃ (o : Fin 4) (r : Fin 1024) (l : Fin 128), y = ix3 o r l := ⟨y 0, y 1, y 2, eq_ix3 y⟩
  let x0 : S1x1024x128.Idx := ix3 0 r l
  match o with
  | 0 =>
    rw [View.read_writes_cons_unit_of_not_mem v f _ _ _ _ rfl (0 : Fin 3) (Or.inl (show (0 : ℕ) < 3 by omega))]
    rw [View.read_writes_cons_unit_of_not_mem v f _ _ _ _ rfl (0 : Fin 3) (Or.inl (show (0 : ℕ) < 2 by omega))]
    rw [View.read_writes_cons_unit_of_not_mem v f _ _ _ _ rfl (0 : Fin 3) (Or.inl (show (0 : ℕ) < 1 by omega))]
    rw [View.read_writes_cons_unit_of_mem (size := S1x1024x128.size) v f _ _ _ _ x0 rfl (by intro a; fin_cases a <;> simp [x0, ix3])]
    exact h0 r l
  | 1 =>
    rw [View.read_writes_cons_unit_of_not_mem v f _ _ _ _ rfl (0 : Fin 3) (Or.inl (show (1 : ℕ) < 3 by omega))]
    rw [View.read_writes_cons_unit_of_not_mem v f _ _ _ _ rfl (0 : Fin 3) (Or.inl (show (1 : ℕ) < 2 by omega))]
    rw [View.read_writes_cons_unit_of_mem (size := S1x1024x128.size) v f _ _ _ _ x0 rfl (by intro a; fin_cases a <;> simp [x0, ix3])]
    exact h1 r l
  | 2 =>
    rw [View.read_writes_cons_unit_of_not_mem v f _ _ _ _ rfl (0 : Fin 3) (Or.inl (show (2 : ℕ) < 3 by omega))]
    rw [View.read_writes_cons_unit_of_mem (size := S1x1024x128.size) v f _ _ _ _ x0 rfl (by intro a; fin_cases a <;> simp [x0, ix3])]
    exact h2 r l
  | 3 =>
    rw [View.read_writes_cons_unit_of_mem (size := S1x1024x128.size) v f _ _ _ _ x0 rfl (by intro a; fin_cases a <;> simp [x0, ix3])]
    exact h3 r l

/-- One store's payload at an entry. -/
theorem part_at (w : Vec F S1024x512 .f32) (o : Fin 4) (off : Fin 2 → ℕ) (ho : off = ![0, o.val * 128]) (s) (c) (r : Fin 1024) (l : Fin 128) :
    shapeCast S1x1024x128 (extractStridedSlice S1024x128 off w s) c (ix3 0 r l) = parts w (ix3 o r l) := by
  subst ho
  pointwise []
  exact congrArg w (congrArg (ix2 r) (Fin.ext (by simp [ix3])))

/-- At a row block's first point the branch is taken. -/
theorem runA (c : Dev nD) (i : grid0.Coords)
    (arg2 : Memref sig .tc .vmem S1024x2048 .f32) (harg2 : arg2.IsWhole) (arg3 : Memref sig .tc .vmem S1x2048x768 .bf16) (harg3 : arg3.IsWhole)
    (arg4 : Memref sig .tc .vmem S1x2048x512 .bf16) (harg4 : arg4.IsWhole) (arg5 : Memref sig .tc .vmem S1024x768 .f32) (harg5 : arg5.IsWhole)
    (arg6 : Memref sig .tc .vmem S4x1024x128 .f32) (harg6 : arg6.IsWhole) (arg7 : Memref sig .tc .vmem S1024x2048 .bf16) (harg7 : arg7.IsWhole)
    (hc : k0_cond1 i = 1#1) (x0 : Vec F S1024x2048 .f32) (x1 : Vec F S1x2048x768 .bf16) (x2 : Vec F S1x2048x512 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (cols (keep x0) x1)
            ∗ owns (c : Thread nD τ) arg6 fullShare (parts (wide (keep x0) x2))
            ∗ owns (c : Thread nD τ) arg7 fullShare (keep x0)) -∗ K ⟨⟩))
      ⊢ wp frame (wpE (defs₀ (F := F)) Variants.none c none) E
          (cc0_in_proj i arg2 harg2 arg3 harg3 arg4 harg4 arg5 harg5 arg6 harg6 arg7 harg7) K := by
  unfold cc0_in_proj owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    unfold runA.sl.v6 runA.sl.v3 runA.sl.v5 runA.sl.H5_1 runA.sl.v12 runA.sl.v9 runA.sl.cst
    rw [View.readCov_full, shapeCast_self]
    rw [View.readAt_full, View.readAt_full, hf0, hf1]
    rfl
  isplitl [H4]
  · iexists _; isplitr
    swap; · iexact H4
    ipureintro
    unfold runA.sl.v31 runA.sl.v28 runA.sl.v27 runA.sl.v24 runA.sl.v23 runA.sl.v20 runA.sl.v19 runA.sl.v16
      runA.sl.v15 runA.sl.v14 runA.sl.v9 runA.sl.cst_14
    rw [View.readAt_full, View.readAt_full, hf0, hf2]
    exact stored_four _ _ (parts (wide (keep x0) x2)) _ _ _ _ _ _ _ _ (part_at _ 0 _ rfl _ _) (part_at _ 1 _ rfl _ _)
      (part_at _ 2 _ rfl _ _) (part_at _ 3 _ rfl _ _)
  iexists _; isplitr
  swap; · iexact H5
  ipureintro
  refine (View.read_writes_full _ _ _ _ _).trans ?_
  unfold runA.sl.v12 runA.sl.v9
  rw [shapeCast_self, View.readAt_full, hf0]
  rfl

/-- At the other points it is not: the second result's buffer and the kept rows stay. -/
theorem runB (c : Dev nD) (i : grid0.Coords)
    (arg2 : Memref sig .tc .vmem S1024x2048 .f32) (harg2 : arg2.IsWhole) (arg3 : Memref sig .tc .vmem S1x2048x768 .bf16) (harg3 : arg3.IsWhole)
    (arg4 : Memref sig .tc .vmem S1x2048x512 .bf16) (harg4 : arg4.IsWhole) (arg5 : Memref sig .tc .vmem S1024x768 .f32) (harg5 : arg5.IsWhole)
    (arg6 : Memref sig .tc .vmem S4x1024x128 .f32) (harg6 : arg6.IsWhole) (arg7 : Memref sig .tc .vmem S1024x2048 .bf16) (harg7 : arg7.IsWhole)
    (hc : ¬k0_cond1 i = 1#1) (x0 : Vec F S1024x2048 .f32) (x1 : Vec F S1x2048x768 .bf16) (x2 : Vec F S1x2048x512 .bf16)
    (x4 : Vec F S4x1024x128 .f32) (k : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare k
        ∗ (iprop(owns (c : Thread nD τ) arg2 fullShare x0 ∗ owns (c : Thread nD τ) arg3 fullShare x1 ∗ owns (c : Thread nD τ) arg4 fullShare x2
            ∗ owns (c : Thread nD τ) arg5 fullShare (cols k x1)
            ∗ owns (c : Thread nD τ) arg6 fullShare x4
            ∗ owns (c : Thread nD τ) arg7 fullShare k) -∗ K ⟨⟩))
      ⊢ wp frame (wpE (defs₀ (F := F)) Variants.none c none) E
          (cc0_in_proj i arg2 harg2 arg3 harg3 arg4 harg4 arg5 harg5 arg6 harg6 arg7 harg7) K := by
  unfold cc0_in_proj owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg2.eq_unread hf0; obtain rfl := harg3.eq_unread hf1; obtain rfl := harg4.eq_unread hf2
  obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    unfold runB.sl.v6 runB.sl.v5 runB.sl.cst
    rw [View.readAt_full, View.readAt_full, hf5, hf1]
    rfl
  isplitl [H4]
  · iexists _; isplitr; · ipureintro; exact harg6.read_unread _
    iexact H4
  iexists _; isplitr; · ipureintro; exact harg7.read_unread _
  iexact H5

end Cert.InProjIdeal.Body

end

end
-- ==== Proof.ProjFrameIdeal.lean ====
/- The input projection's run: the second result's block is computed at a row block's first point and kept
   to its last, so the run carries it, with the rounded rows, from point to point. At any number type. -/
module

public import proofs.«01_k».proof.Proof.ProjRunIdeal
public import Idealize.ShloMosaic.Lib.Pipeline.TableIdle

@[expose] public section

set_option maxRecDepth 16384

noncomputable section

namespace Cert.InProjIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.InProjIdeal Cert.InProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The branch is taken at the first of every seven points. -/
theorem cond_iff (t : Fin cfg0.N) : k0_cond1 (grid0.coords t) = 1#1 ↔ t.val % 7 = 0 := by
  have ht : t.val < 112 := Nat.lt_of_lt_of_eq t.isLt N_0
  have e1 : (grid0.coords t 1).val = t.val / 1 % 7 := Pipeline.Grid.coords_val t 1 (by decide) rfl
  simp only [k0_cond1, e1]
  word_cmp

/-- The second result's window is idle where the branch is not taken. -/
theorem idle_iff (t : Fin cfg0.N) : cfg0.idle 4 (cfg0.grid.coords t) = true ↔ ¬t.val % 7 = 0 := by
  rw [← cond_iff t]
  show (!(k0_cond1 (grid0.coords t) == 1#1)) = true ↔ _
  simp

/-- Its buffer holds nothing of its own exactly at a row block's first point. -/
theorem fresh_of (n : ℕ) (hn : n < cfg0.N) (h : ¬n % 7 = 0) : cfg0.fresh 4 n = false := by
  induction n with
  | zero => exact absurd (Nat.zero_mod 7) h
  | succ n ih =>
    have hn' : n < cfg0.N := by omega
    rw [Cfg.fresh_succ cfg0 4 n hn']
    have hf : (cfg0.win 4).flush ⟨n, hn'⟩ = false :=
      Bool.eq_false_iff.mpr fun hh => by have := (flush0_4 _).mp hh; dsimp only at this; omega
    rw [hf, Bool.false_or]
    by_cases h0 : n % 7 = 0
    · have hi : cfg0.idle 4 (cfg0.grid.coords ⟨n, hn'⟩) = false :=
        Bool.eq_false_iff.mpr fun hh => (idle_iff ⟨n, hn'⟩).mp hh h0
      rw [hi, Bool.false_and]
    · rw [ih hn' h0, Bool.and_false]

/-! ## What is carried -/

/-- What a row block's first point computes: the rounded rows and the second result's block. -/
def start (c : Dev nD) (t : Fin cfg0.N) : Vec F S1024x2048 .bf16 × Vec F S4x1024x128 .f32 :=
  (keep (iblk m c 0 t), parts (wide (keep (iblk m c 0 t)) (iblk m c 2 t)))

/-- What the points carry. -/
def carried (c : Dev nD) : (n : ℕ) → n < cfg0.N → Vec F S1024x2048 .bf16 × Vec F S4x1024x128 .f32
  | 0, h => start m c ⟨0, h⟩
  | n + 1, h => if (n + 1) % 7 = 0 then start m c ⟨n + 1, h⟩ else carried c n (Nat.lt_of_succ_lt h)

theorem carried_first (c : Dev nD) (t : Fin cfg0.N) (h : t.val % 7 = 0) : carried m c t.val t.isLt = start m c t := by
  obtain ⟨n, hn⟩ := t
  cases n with
  | zero => rfl
  | succ n => exact if_pos h

theorem carried_next (c : Dev nD) (t : Fin cfg0.N) (h : ¬t.val % 7 = 0) :
    carried m c t.val t.isLt = carried m c (t.val - 1) (Nat.lt_of_le_of_lt (Nat.sub_le _ _) t.isLt) := by
  obtain ⟨n, hn⟩ := t
  cases n with
  | zero => exact absurd (Nat.zero_mod 7) h
  | succ n => exact if_neg h

/-- The scratch. -/
abbrev scr : Memref sig .tc .vmem S1024x2048 .bf16 := Memref.whole cc0_scratch0

theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The invariant before point `n`: after the first point the scratch holds the carried rows. -/
def Inv (c : Dev nD) : (n : ℕ) → n ≤ cfg0.N → sProp 𝕄
  | 0, _ => Pipeline.ΦA spec0 c
  | n + 1, hn => iprop(owns (c : Thread nD τ) scr fullShare (carried m c n hn).1 ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(owns (c : Thread nD τ) scr fullShare (carried m c n hn).1 ∗ (∃ r, prngReg c r)) := rfl

theorem Inv_pos (c : Dev nD) (n : ℕ) (h : n ≤ cfg0.N) (hz : n ≠ 0) :
    Inv m c n h = iprop(owns (c : Thread nD τ) scr fullShare (carried m c (n - 1) (by omega)).1 ∗ (∃ r, prngReg c r)) := by
  cases n with
  | zero => exact absurd rfl hz
  | succ n => rfl

/-- The run's data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => cols (carried m c t.val t.isLt).1 (iblk m c 1 t)
    | ⟨4, _⟩ => (carried m c t.val t.isLt).2
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = cols (carried m c t.val t.isLt).1 (iblk m c 1 t) := by dsimp only [dats]
theorem after_4 (c : Dev nD) (t : Fin cfg0.N) : (dats m 0 c).after 4 t = (carried m c t.val t.isLt).2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Away from a row block's first point the second result's buffer is found as it is left. -/
theorem before_4 (c : Dev nD) (t : Fin cfg0.N) (h : ¬t.val % 7 = 0) (d) :
    (dats m 0 c).before 4 t d = (carried m c t.val t.isLt).2 := by
  rw [Dat.before_out_traj (dats m 0 c) 4 rfl (fun _ _ => rfl) (fun s hs hi _ => by
      rw [after_4, after_4, carried_next m c s ((idle_iff s).mp hi)]) t.val t rfl d,
    fresh_of t.val t.isLt h, if_neg Bool.false_ne_true, after_4, carried_next m c t h]

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    after_0, after_1, after_2, after_3, after_4]
  rw [show (dats m 0 c).Φ t.succ = Inv m c (t.val + 1) t.isLt from rfl, Inv_succ]
  have hN : t.val < 112 := lt_of_lt_of_eq t.isLt (show cfg0.N = 112 from N_0)
  by_cases h0 : t.val % 7 = 0
  · have e1 : (carried m c t.val t.isLt).1 = keep (iblk m c 0 t) := by rw [carried_first m c t h0]; rfl
    have e2 : (carried m c t.val t.isLt).2 = parts (wide (keep (iblk m c 0 t)) (iblk m c 2 t)) := by
      rw [carried_first m c t h0]; rfl
    rw [e1, e2, Inv_castSucc m c t]
    have hscr : Inv m c t.val (Nat.le_of_lt t.isLt) ⊢ (iprop((∃ d, owns (c : Thread nD τ) scr fullShare d) ∗ (∃ r, prngReg c r)) : sProp 𝕄) := by
      by_cases hz : t.val = 0
      · rw [Inv_zero m c _ _ hz, PhiA_eq]
      · rw [Inv_pos m c _ _ hz]
        iintro ⟨HS, Hg⟩
        isplitl [HS]
        · iexists _; iexact HS
        iexact Hg
    refine BIBase.Entails.trans (BIClass.sep_mono hscr (Entails.refl _)) ?_
    iintro ⟨⟨HS, Hg⟩, Ho, ⟨%d0, H0⟩, ⟨%d1, H1⟩, ⟨%d2, H2⟩, ⟨%d3, H3⟩, ⟨%d4, H4⟩⟩
    iapply (runA c (grid0.coords t) _ _ _ _ _ _ _ _ _ _ _ _ ((cond_iff t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · have hz : t.val ≠ 0 := fun hz => h0 (by rw [hz])
    rw [Inv_castSucc m c t, Inv_pos m c _ _ hz, ← carried_next m c t h0]
    simp only [before_4 m c t h0]
    iintro ⟨⟨HS, Hg⟩, Ho, ⟨%d0, H0⟩, ⟨%d1, H1⟩, ⟨%d2, H2⟩, ⟨%d3, H3⟩, ⟨%d4, H4⟩⟩
    iapply (runB c (grid0.coords t) _ _ _ _ _ _ _ _ _ _ _ _ (fun h => h0 ((cond_iff t).mp h)) (iblk m c 0 t) (iblk m c 1 t) (iblk m c 2 t) _ _ Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

theorem defs_row (t : Fin cfg0.N) : defs₀ (F := F) .tc cfg0.body (cfg0.bodyArgs t (cfg0.slots t)) = bodyAt0 t := by
  unfold defs₀; rw [Defs.onTc_tc]

/-- What the loop asks back of the second result's buffer, from its contents. -/
theorem give_back (c : Dev nD) (t : Fin cfg0.N) :
    owns (c : Thread nD τ) (st0_4 t) fullShare ((dats m 0 c).after 4 t) ⊢
      (match cfg0.idle 4 (cfg0.grid.coords t) with
        | true => match (cfg0.win 4).flush t with
          | false => iprop(∃ d, owns (c : Thread nD τ) (st0_4 t) fullShare ((dats m 0 c).before 4 t d))
          | true => owns (c : Thread nD τ) (st0_4 t) fullShare ((dats m 0 c).after 4 t)
        | false => owns (c : Thread nD τ) (st0_4 t) fullShare ((dats m 0 c).after 4 t) : sProp 𝕄) := by
  cases hi : cfg0.idle 4 (cfg0.grid.coords t) with
  | false => exact Entails.refl _
  | true =>
    cases hf : (cfg0.win 4).flush t with
    | true => exact Entails.refl _
    | false =>
      simp only [before_4 m c t ((idle_iff t).mp hi), after_4]
      iintro H
      iexists (carried m c t.val t.isLt).2
      iexact H

/-- What the loop asks back. -/
def bodyBack (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (match cfg0.idle 4 (cfg0.grid.coords t) with
        | true => match (cfg0.win 4).flush t with
          | false => iprop(∃ d, owns (c : Thread nD τ) (st0_4 t) fullShare ((dats m 0 c).before 4 t d))
          | true => owns (c : Thread nD τ) (st0_4 t) fullShare ((dats m 0 c).after 4 t)
        | false => owns (c : Thread nD τ) (st0_4 t) fullShare ((dats m 0 c).after 4 t)))

theorem body_obligation (c : Dev nD) : BodyObligation (dats (F := F) m 0 c) (defs₀ (F := F)) Variants.none () Set.univ := fun t => by
  rw [bigSep_W0, bigSep_W0, defs_row]
  refine triple_restated (sound_body m c t) rfl .rfl fun _ => ?_
  have h : bodyPost m c t ⊢ bodyBack m c t := by
    unfold bodyPost bodyBack
    iintro ⟨HI, Ho, H0, H1, H2, H3, H4⟩
    isplitl [HI]; · iexact HI
    isplitl [Ho]; · iexact Ho
    isplitl [H0]; · iexact H0
    isplitl [H1]; · iexact H1
    isplitl [H2]; · iexact H2
    isplitl [H3]; · iexact H3
    iapply (give_back m c t)
    iexact H4
  exact h

theorem hin (c : Dev nD) : Pipeline.ΦA spec0 c ⊢ (dats m 0 c).Φ 0 := by
  rw [show (dats m 0 c).Φ 0 = Inv m c 0 (Nat.zero_le _) from rfl, Inv_zero m c 0 _ rfl]
  try exact Entails.refl _

theorem hout (c : Dev nD) : (dats m 0 c).Φ (Fin.last cfg0.N) ⊢ Pipeline.ΦA spec0 c := by
  have hN : cfg0.N = 112 := N_0
  rw [show (dats m 0 c).Φ (Fin.last cfg0.N) = Inv m c (Fin.last cfg0.N).val (Nat.le_of_lt_succ (Fin.last cfg0.N).isLt) from rfl,
    Inv_pos m c _ _ (by rw [Fin.val_last]; omega), PhiA_eq]
  iintro ⟨HS, Hg⟩
  isplitl [HS]
  · iexists _; iexact HS
  iexact Hg

/-! ## The run and the frame -/

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run ends with each window's array at what the carried contents give. -/
theorem run : θ_run defs (onTc (τ := τ) (main (F := F))) (s₀ m ρ) (Pipeline.FramePost cfgs (dats m) 0 (V m)) :=
  (θ_run defs _ _).mono (fun _ h => h.1) (run_quiescent m ρ)

/-- Every run ends, with the argument arrays unchanged and every counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.InProjIdeal.Body

end

end
-- ==== Proof.ProjValue.lean ====
/- The input projection's two result arrays: every grid point stores the product of its 1024 rows with its 768 columns, and the
   first point of every row block also the 512 columns of the second result. -/
module

public import proofs.«01_k».proof.Proof.ProjFrameIdeal
public import proofs.«01_k».proof.Proof.ProjSpec
public import Idealize.ShloMosaic.Lib.Pipeline.ValueKit
public import Idealize.ShloMosaic.Lib.Claim

@[expose] public section

set_option maxRecDepth 16384

noncomputable section

namespace Cert.InProjIdeal.Value

open Cert.InProjIdeal Cert.InProjIdeal.Gen Cert.InProjIdeal.Body Idealize.ShloMosaic Idealize.ShloMosaic.TcCoe Idealize.SL.Sem
open Idealize.ShloMosaic.Pipeline (Dat)
open Cert.ProjSpec
open scoped BigOperators

/-! ## The stored vectors at an entry -/

theorem cols_at (x0 : FVec Ideal S1024x2048 .f32) (x1 : FVec Ideal S1x2048x768 .bf16) (r : Fin 1024) (j : Fin 768) :
    cols (F := Ideal) (keep x0) x1 (ix2 r j) = ∑ k : Fin 2048, x0 (ix2 r k) * x1 (ix3 0 k j) := by
  pointwise [cols, keep]

theorem wide_at (x0 : FVec Ideal S1024x2048 .f32) (x2 : FVec Ideal S1x2048x512 .bf16) (r : Fin 1024) (j : Fin 512) :
    wide (F := Ideal) (keep x0) x2 (ix2 r j) = ∑ k : Fin 2048, x0 (ix2 r k) * x2 (ix3 0 k j) := by
  pointwise [wide, keep]

/-! ## The weights as the call is given them -/

/-- The weights with their columns in the call's order. -/
def packed (W : FVec Ideal S4x2048x5648 .f32) : FVec Ideal S4x2048x6144 .f32 :=
  concatenate S4x2048x6144 2 [⟨S4x2048x5120, concatenate S4x2048x5120 2
      [⟨S4x2048x4096, extractStridedSlice S4x2048x4096 ![0, 0, 512] W slices_S4x2048x5648_S4x2048x4096_0_0_512⟩,
       ⟨S4x2048x1024, extractStridedSlice S4x2048x1024 ![0, 0, 4624] W slices_S4x2048x5648_S4x2048x1024_0_0_4624⟩]
      concatenates_S4x2048x4096_S4x2048x1024_S4x2048x5120_d2⟩,
    ⟨S4x2048x8, extractStridedSlice S4x2048x8 ![0, 0, 4608] W slices_S4x2048x5648_S4x2048x8_0_0_4608⟩,
    ⟨S4x2048x8, extractStridedSlice S4x2048x8 ![0, 0, 4616] W slices_S4x2048x5648_S4x2048x8_0_0_4616⟩,
    ⟨S4x2048x112, broadcastInDim S4x2048x112 ![] bcast_S_S4x2048x112 (constant S_ .f32 0x00000000#32)⟩,
    ⟨S4x2048x384, broadcastInDim S4x2048x384 ![] bcast_S_S4x2048x384 (constant S_ .f32 0x00000000#32)⟩,
    ⟨S4x2048x512, extractStridedSlice S4x2048x512 ![0, 0, 0] W slices_S4x2048x5648_S4x2048x512_0_0_0⟩]
    concatenates_S4x2048x5120_S4x2048x8_S4x2048x8_S4x2048x112_S4x2048x384_S4x2048x512_S4x2048x6144_d2

/-- The first 5376 columns are those of the first result. -/
theorem packed_ordered (W : FVec Ideal S4x2048x5648 .f32) (k : Fin 2048) (j : Fin 5376) :
    packed W (ix3 0 k ⟨j.val, by omega⟩) = ordered (fun c => W (ix3 0 k c)) j := by
  pointwise [packed, ordered]
  by_cases h0 : j.val < 4096
  · rw [dif_pos (show j.val < 5120 by omega), dif_pos h0, dif_pos h0]
  · rw [dif_neg h0]
    by_cases h1 : j.val < 5120
    · rw [dif_pos h1, dif_neg h0, dif_pos h1]
      exact congrArg W (congrArg (ix3 0 k) (Fin.ext (show 4624 + (j.val - 4096) = 528 + j.val by omega)))
    · rw [dif_neg h1, dif_neg h1]
      by_cases h2 : j.val - 5120 < 8
      · rw [dif_pos h2, dif_pos (show j.val < 5136 by omega)]
        exact congrArg W (congrArg (ix3 0 k) (Fin.ext (show 4608 + (j.val - 5120) = j.val - 512 by omega)))
      · rw [dif_neg h2]
        by_cases h3 : j.val < 5136
        · rw [dif_pos (show j.val - 5120 - 8 < 8 by omega), dif_pos h3]
          exact congrArg W (congrArg (ix3 0 k) (Fin.ext (show 4616 + (j.val - 5120 - 8) = j.val - 512 by omega)))
        · rw [dif_neg (show ¬j.val - 5120 - 8 < 8 by omega), dif_neg h3]
          by_cases h4 : j.val - 5120 - 8 - 8 < 112
          · rw [dif_pos h4]
          · rw [dif_neg h4, dif_pos (show j.val - 5120 - 8 - 8 - 112 < 384 by omega)]

/-- The last 512 are the second result's. -/
theorem packed_last (W : FVec Ideal S4x2048x5648 .f32) (k : Fin 2048) (l : Fin 512) :
    packed W (ix3 0 k ⟨5632 + l.val, by omega⟩) = W (ix3 0 k ⟨l.val, by omega⟩) := by
  pointwise [packed]
  rw [dif_neg (show ¬5632 + l.val < 5120 by omega), dif_neg (show ¬5632 + l.val - 5120 < 8 by omega),
    dif_neg (show ¬5632 + l.val - 5120 - 8 < 8 by omega), dif_neg (show ¬5632 + l.val - 5120 - 8 - 8 < 112 by omega),
    dif_neg (show ¬5632 + l.val - 5120 - 8 - 8 - 112 < 384 by omega)]
  exact congrArg W (congrArg (ix3 0 k) (Fin.ext (show 5632 + l.val - 5120 - 8 - 8 - 112 - 384 = l.val by omega)))

/-- The windows' block indices at a point of the grid. -/
theorem idx : ∀ t : Fin cfg0.N, win0_0.index t = ![t.val / 7, 0] ∧ win0_1.index t = ![0, 0, t.val % 7]
    ∧ win0_2.index t = ![0, 0, 11] ∧ win0_3.index t = ![t.val / 7, t.val % 7] ∧ win0_4.index t = ![0, t.val / 7, 0] :=
  (by decide +kernel : ∀ t : Fin grid0.N, _)

variable (m : (ℓ : Loc nD τ sig) → Buf (Elt Ideal) ℓ)

/-! ## The staged blocks as entries of the arguments -/

/-- Row `r` of the row block of point `t`. -/
def row (t : Fin cfg0.N) (r : Fin 1024) : Fin 16384 :=
  ⟨t.val / 7 * 1024 + r.val, by have h := lt_of_lt_of_eq t.isLt N_0; omega⟩

/-- Column `j` of the column block of point `t`. -/
def col (t : Fin cfg0.N) (j : Fin 768) : Fin 5376 :=
  ⟨t.val % 7 * 768 + j.val, by omega⟩

/-- Argument 0: the rows. -/
abbrev A0 (c : Dev nD) : FVec Ideal S16384x2048 .f32 := m ((c.tc : Thread nD τ).loc main_arg0)
/-- Argument 1: the weights. -/
abbrev A1 (c : Dev nD) : FVec Ideal S4x2048x5648 .f32 := m ((c.tc : Thread nD τ).loc main_arg1)

theorem blk0 (c : Dev nD) (t : Fin cfg0.N) (r : Fin 1024) (k : Fin 2048) :
    (iblk m c 0 t : FVec Ideal S1024x2048 .f32) (ix2 r k) = A0 m c (ix2 (row t r) k) := by
  unfold A0 row iblk
  entry_read
  blk_point [idx t]

/-- The call finds the weights in its own column order. -/
theorem weights (c : Dev nD) : (V m c main_v9 : FVec Ideal S4x2048x6144 .bf16) = packed (A1 m c) := by
  show StableHlo.after hostOps0 (fun b => m (c, b)) (Proc.devRef .tc main_v9) = _
  after_results <;> rfl

theorem blk1 (c : Dev nD) (t : Fin cfg0.N) (k : Fin 2048) (j : Fin 768) :
    (iblk m c 1 t : FVec Ideal S1x2048x768 .bf16) (ix3 0 k j) = ordered (fun n => A1 m c (ix3 0 k n)) (col t j) := by
  rw [← packed_ordered, ← weights m c]
  have e : (win0_1.blk t).view.emb (ix3 0 k j) = ix3 0 k ⟨t.val % 7 * 768 + j.val, by omega⟩ := by blk_ext [idx t]
  exact congrArg (V m c main_v9) e

theorem blk2 (c : Dev nD) (t : Fin cfg0.N) (k : Fin 2048) (l : Fin 512) :
    (iblk m c 2 t : FVec Ideal S1x2048x512 .bf16) (ix3 0 k l) = A1 m c (ix3 0 k ⟨l.val, by omega⟩) := by
  rw [← packed_last (A1 m c) k l, ← weights m c]
  have e : (win0_2.blk t).view.emb (ix3 0 k l) = ix3 0 k ⟨5632 + l.val, by omega⟩ := by blk_ext [idx t]
  exact congrArg (V m c main_v9) e

/-! ## What is carried, over the extended reals -/

/-- The rows block of a point is that of the point before it in the same row block. -/
theorem blk0_prev (c : Dev nD) (t s : Fin cfg0.N) (h : s.val / 7 = t.val / 7) :
    (iblk m c 0 s : FVec Ideal S1024x2048 .f32) = iblk m c 0 t := by
  funext y
  obtain ⟨r, k, rfl⟩ : ∃ (r : Fin 1024) (k : Fin 2048), y = ix2 r k := ⟨y 0, y 1, eq_ix2 y⟩
  rw [blk0, blk0]
  unfold row
  simp only [h]

theorem blk2_prev (c : Dev nD) (t s : Fin cfg0.N) :
    (iblk m c 2 s : FVec Ideal S1x2048x512 .bf16) = iblk m c 2 t := by
  funext y
  obtain ⟨o, k, l, rfl⟩ : ∃ (o : Fin 1) (k : Fin 2048) (l : Fin 512), y = ix3 o k l := ⟨y 0, y 1, y 2, eq_ix3 y⟩
  obtain rfl : o = 0 := Subsingleton.elim _ _
  rw [blk2, blk2]

/-- Every point carries what its own blocks give. -/
theorem carried_eq (c : Dev nD) : ∀ (n : ℕ) (hn : n < cfg0.N), carried m c n hn = start m c ⟨n, hn⟩
  | 0, hn => rfl
  | n + 1, hn => by
    by_cases h : (n + 1) % 7 = 0
    · exact carried_first m c ⟨n + 1, hn⟩ h
    · refine (carried_next m c ⟨n + 1, hn⟩ h).trans ((carried_eq c n (Nat.lt_of_succ_lt hn)).trans ?_)
      unfold start
      rw [blk0_prev m c ⟨n + 1, hn⟩ ⟨n, Nat.lt_of_succ_lt hn⟩ (show n / 7 = (n + 1) / 7 by omega), blk2_prev m c ⟨n + 1, hn⟩ ⟨n, Nat.lt_of_succ_lt hn⟩]

/-! ## The whole arrays -/

/-- The first result array. -/
def result0 (c : Dev nD) : FVec Ideal S16384x5376 .f32 := fun i =>
  first (fun k => A0 m c (ix2 (i 0) k)) (fun k n => A1 m c (ix3 0 k n)) (i 1)

/-- The second result array. -/
def result1 (c : Dev nD) : FVec Ideal S4x16384x128 .f32 := fun i =>
  second (fun k => A0 m c (ix2 (i 1) k)) (fun k n => A1 m c (ix3 0 k n)) (i 0) (i 2)

/-- After the run the first result buffer holds its array. -/
theorem array0_eq (c : Dev nD) : (dats m 0 c).arrAt 3 cfg0.N = result0 m c := by
  refine (dats m 0 c).arrAt_eq_of_covers 3 _ (by decide +kernel) fun t hf y => ?_
  blk_simp
  rw [after_3, carried_eq]
  obtain ⟨r, j, rfl⟩ : ∃ (r : Fin 1024) (j : Fin 768), y = ix2 r j := ⟨y 0, y 1, eq_ix2 y⟩
  have e : (win0_3.blk t).view.emb (ix2 r j) = ix2 (row t r) (col t j) := by
    unfold row col
    blk_ext [idx t]
  rw [e]
  refine (cols_at _ _ r j).trans ?_
  simp only [blk0, blk1]
  rfl

/-- After the run the second result buffer holds its array. -/
theorem array1_eq (c : Dev nD) : (dats m 0 c).arrAt 4 cfg0.N = result1 m c := by
  refine (dats m 0 c).arrAt_eq_of_covers 4 _ (by decide +kernel) fun t hf y => ?_
  blk_simp
  rw [after_4, carried_eq]
  obtain ⟨o, r, l, rfl⟩ : ∃ (o : Fin 4) (r : Fin 1024) (l : Fin 128), y = ix3 o r l := ⟨y 0, y 1, y 2, eq_ix3 y⟩
  have e : (win0_4.blk t).view.emb (ix3 o r l) = ix3 o (row t r) l := by
    unfold row
    blk_ext [idx t]
  rw [e]
  refine (wide_at _ _ r ⟨o.val * 128 + l.val, by omega⟩).trans ?_
  simp only [blk0, blk2]
  rfl

/-- The run, its results named. -/
theorem run_arrays (g : Dev nD → PrngReg) : θ_run defs (onTc (τ := τ) (main (F := Ideal))) ⟨m, fun _ => 0, g⟩ fun r => ∀ c : Dev nD,
      r.2.mem ((c.tc : Thread nD τ).loc main_v10_0) = result0 m c
      ∧ r.2.mem ((c.tc : Thread nD τ).loc main_v10_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h.1 c).1 3).trans (array0_eq m c), ((h.1 c).1 4).trans (array1_eq m c), h.2.1 c⟩)
    (θ_run_and (run m g) (frame_holds m g))

end Cert.InProjIdeal.Value

end

end
-- ==== Proof.ProjClaim.lean ====
/- The input projection's claim: the kernel's two arrays and the reference's are the same functions of the arguments. -/
module

public import proofs.«01_k».proof.Defs
public import proofs.«01_k».proof.Proof.Gen.InProjIdeal
public import proofs.«01_k».proof.Proof.Gen.InProjRefIdeal
public import proofs.«01_k».proof.Proof.ProjRef
public import proofs.«01_k».proof.Proof.ProjValue

@[expose] public section

set_option maxRecDepth 16384

noncomputable section

namespace Cert.ProjClaim

open Idealize.ShloMosaic Idealize.ShloMosaic.TcCoe Idealize.SL.Sem

theorem claim : Cert.algebraic_InProjIdeal_InProjRefIdeal (hInProjIdeal := Cert.InProjIdeal.Gen.facts) (hInProjRefIdeal := Cert.InProjRefIdeal.Gen.facts) := by
  intro m g m' g' _ hag
  refine ⟨fun c => Cert.InProjIdeal.Value.result0 m c, fun c => Cert.InProjIdeal.Value.result1 m c,
    Cert.InProjIdeal.Value.run_arrays m g,
    (θ_run _ _ _).mono (fun r h c => ⟨(h c).1.trans ?_, (h c).2.1.trans ?_, (h c).2.2⟩) (Cert.InProjRefIdeal.Value.run_results m' g')⟩
  · obtain ⟨h0, h1⟩ := hag c
    funext i
    obtain ⟨a, b, rfl⟩ : ∃ (a : Fin 16384) (b : Fin 5376), i = ix2 a b := ⟨i 0, i 1, eq_ix2 i⟩
    rw [h0, h1]
    exact Cert.InProjRefIdeal.Value.first_at _ _ a b
  · obtain ⟨h0, h1⟩ := hag c
    funext i
    obtain ⟨o, a, l, rfl⟩ : ∃ (o : Fin 4) (a : Fin 16384) (l : Fin 128), i = ix3 o a l := ⟨i 0, i 1, i 2, eq_ix3 i⟩
    rw [h0, h1]
    exact Cert.InProjRefIdeal.Value.second_at _ _ o a l

end Cert.ProjClaim

end

end
-- ==== Proof.lean ====
/- The certificate: the frames are the generated ones but the input projection's, which is proved with the values in the modules
   imported here. -/
module

public import proofs.«01_k».proof.Defs
public import proofs.«01_k».proof.Proof.Gen.Ffn
public import proofs.«01_k».proof.Proof.Gen.FfnIdeal
public import proofs.«01_k».proof.Proof.Gen.FfnRefIdeal
public import proofs.«01_k».proof.Proof.Gen.OutProj
public import proofs.«01_k».proof.Proof.Gen.OutProjIdeal
public import proofs.«01_k».proof.Proof.Gen.OutProjRefIdeal
public import proofs.«01_k».proof.Proof.Gen.Ffn.Frame
public import proofs.«01_k».proof.Proof.Gen.OutProj.Frame
public import proofs.«01_k».proof.Proof.Gen.FfnIdeal.Value
public import proofs.«01_k».proof.Proof.Gen.OutProjIdeal.Value
public import proofs.«01_k».proof.Proof.Gen.FfnRefIdeal.Run
public import proofs.«01_k».proof.Proof.Gen.OutProjRefIdeal.Run
public import proofs.«01_k».proof.Proof.Gen.Lru
public import proofs.«01_k».proof.Proof.Gen.LruIdeal
public import proofs.«01_k».proof.Proof.Gen.LruRefIdeal
public import proofs.«01_k».proof.Proof.Gen.Lru.Frame
public import proofs.«01_k».proof.Proof.Gen.LruIdeal.Value
public import proofs.«01_k».proof.Proof.Gen.LruRefIdeal.Run
public import proofs.«01_k».proof.Proof.Gen.LruRefIdeal.Step
public import proofs.«01_k».proof.Proof.Gen.InProj
public import proofs.«01_k».proof.Proof.Gen.InProjIdeal
public import proofs.«01_k».proof.Proof.Gen.InProjRefIdeal
public import proofs.«01_k».proof.Proof.Gen.InProj.Frame
public import proofs.«01_k».proof.Proof.Gen.InProjIdeal.Frame
public import proofs.«01_k».proof.Proof.Gen.InProjRefIdeal.Run
public import proofs.«01_k».proof.Proof.Gen.Gdn
public import proofs.«01_k».proof.Proof.Gen.GdnIdeal
public import proofs.«01_k».proof.Proof.Gen.GdnRefIdeal
public import proofs.«01_k».proof.Proof.Gen.Gdn.Frame
public import proofs.«01_k».proof.Proof.Gen.GdnIdeal.Value
public import proofs.«01_k».proof.Proof.Gen.GdnRefIdeal.Run
public import proofs.«01_k».proof.Proof.Gen.GdnRefIdeal.Step
public import proofs.«01_k».proof.Proof.LruClaim
public import proofs.«01_k».proof.Proof.GdnClaim
public import proofs.«01_k».proof.Proof.FfnClaim
public import proofs.«01_k».proof.Proof.OutClaim
public import proofs.«01_k».proof.Proof.ProjFrame
public import proofs.«01_k».proof.Proof.ProjClaim

@[expose] public section

open Idealize.ShloMosaic

namespace Cert.Proof

/-- The reference of the recurrent unit ends with its arguments unchanged; it declares no semaphore. -/
theorem frame_lruRef : Cert.quiescent_LruRefIdeal := fun m g _ =>
  (θ_run _ _ _).mono (fun r h => ⟨fun c => (h c).2, sem_eq_zero_of_no_sems (by decide) r.2⟩)
    (Cert.LruRefIdeal.Value.run m g)

/-- The same, where the precondition holds. -/
theorem frame_lruRef_pre : Cert.quiescent_LruRefIdeal_pre_finite_inputs (hPre_finite_inputs := Cert.LruPre.facts) := fun m g _ =>
  (θ_run _ _ _).mono (fun r h => ⟨fun c => (h c).2, sem_eq_zero_of_no_sems (by decide) r.2⟩)
    (Cert.LruRefIdeal.Value.run m g)

/-- The reference of the feed-forward call ends with its arguments unchanged; it declares no semaphore. -/
theorem frame_ffnRef : Cert.quiescent_FfnRefIdeal := fun m g _ =>
  (θ_run _ _ _).mono (fun r h => ⟨fun c => (h c).2, sem_eq_zero_of_no_sems (by decide) r.2⟩)
    (Cert.FfnRefIdeal.Value.run m g)

/-- The reference of the input projection ends with its arguments unchanged; it declares no semaphore. -/
theorem frame_inProjRef : Cert.quiescent_InProjRefIdeal := fun m g _ =>
  (θ_run _ _ _).mono (fun r h => ⟨fun c => (h c).2.2, sem_eq_zero_of_no_sems (by decide) r.2⟩)
    (Cert.InProjRefIdeal.Value.run_results m g)

/-- The reference of the delta rule ends with its arguments unchanged; it declares no semaphore. -/
theorem frame_gdnRef : Cert.quiescent_GdnRefIdeal := fun m g _ =>
  (θ_run _ _ _).mono (fun r h => ⟨fun c => (h c).2, sem_eq_zero_of_no_sems (by decide) r.2⟩)
    (Cert.GdnRefIdeal.Value.run m g)

/-- The same, where the precondition holds. -/
theorem frame_gdnRef_pre : Cert.quiescent_GdnRefIdeal_pre_finite_tokens (hPre_finite_tokens := Cert.GdnPre.facts) := fun m g _ =>
  (θ_run _ _ _).mono (fun r h => ⟨fun c => (h c).2, sem_eq_zero_of_no_sems (by decide) r.2⟩)
    (Cert.GdnRefIdeal.Value.run m g)

/-- The reference of the output call ends with its arguments unchanged; it declares no semaphore. -/
theorem frame_outProjRef : Cert.quiescent_OutProjRefIdeal := fun m g _ =>
  (θ_run _ _ _).mono (fun r h => ⟨fun c => (h c).2, sem_eq_zero_of_no_sems (by decide) r.2⟩)
    (Cert.OutProjRefIdeal.Value.run m g)

/-- Every claim of the certificate. -/
theorem claim : Cert.Claim :=
  ⟨Cert.Lru.Gen.facts, Cert.LruIdeal.Gen.facts, Cert.LruRefIdeal.Gen.facts,
   Cert.Ffn.Gen.facts, Cert.FfnIdeal.Gen.facts, Cert.FfnRefIdeal.Gen.facts,
   Cert.InProj.Gen.facts, Cert.InProjIdeal.Gen.facts, Cert.InProjRefIdeal.Gen.facts,
   Cert.Gdn.Gen.facts, Cert.GdnIdeal.Gen.facts, Cert.GdnRefIdeal.Gen.facts,
   Cert.OutProj.Gen.facts, Cert.OutProjIdeal.Gen.facts, Cert.OutProjRefIdeal.Gen.facts, Cert.LruPre.facts, Cert.GdnPre.facts,
   fun m ρ _ => Cert.Lru.Gen.frame m ρ, fun m ρ _ => Cert.LruIdeal.Gen.frame m ρ, fun m ρ _ => Cert.LruIdeal.Gen.frame m ρ,
   frame_lruRef, frame_lruRef_pre,
   fun m ρ _ => Cert.Ffn.Gen.frame m ρ, fun m ρ _ => Cert.FfnIdeal.Gen.frame m ρ, frame_ffnRef,
   fun m ρ _ => Cert.InProj.Body.frame_holds m ρ, fun m ρ _ => Cert.InProjIdeal.Body.frame_holds m ρ, frame_inProjRef,
   fun m ρ _ => Cert.Gdn.Gen.frame m ρ, fun m ρ _ => Cert.GdnIdeal.Gen.frame m ρ, fun m ρ _ => Cert.GdnIdeal.Gen.frame m ρ,
   frame_gdnRef, frame_gdnRef_pre,
   fun m ρ _ => Cert.OutProj.Gen.frame m ρ, fun m ρ _ => Cert.OutProjIdeal.Gen.frame m ρ, frame_outProjRef,
   trivial, Cert.LruClaim.claim, trivial, Cert.FfnClaim.claim, trivial, Cert.ProjClaim.claim, trivial, Cert.GdnClaim.claim, trivial, Cert.OutClaim.claim⟩

end Cert.Proof

end
